-- ==== Defs.lean ====
def Pre_Dil4 (m : (ℓ : Loc Cert.Dil4.nD Cert.Dil4.τ Cert.Dil4.sig) → Buf (Elt Bits) ℓ) : Prop :=
  True

def Pre_Dil4Ideal (m : (ℓ : Loc Cert.Dil4Ideal.nD Cert.Dil4Ideal.τ Cert.Dil4Ideal.sig) → Buf (Elt Ideal) ℓ) : Prop :=
  True

def Pre_Dil4Ideal_finite [hPre_finite : Cert.Pre_finite.Facts] (m : (ℓ : Loc Cert.Dil4Ideal.nD Cert.Dil4Ideal.τ Cert.Dil4Ideal.sig) → Buf (Elt Ideal) ℓ) : Prop :=
  ∀ c : Dev Cert.Dil4Ideal.nD,
    (Cert.Pre_finite.fn (F := Ideal) (m ((c.tc : Thread Cert.Dil4Ideal.nD Cert.Dil4Ideal.τ).loc Cert.Dil4Ideal.main_arg0))) = (fun _ => 1#1)

def Pre_Dil4RefIdeal (m : (ℓ : Loc Cert.Dil4RefIdeal.nD Cert.Dil4RefIdeal.τ Cert.Dil4RefIdeal.sig) → Buf (Elt Ideal) ℓ) : Prop :=
  True

def Pre_Dil4RefIdeal_finite [hPre_finite : Cert.Pre_finite.Facts] (m : (ℓ : Loc Cert.Dil4RefIdeal.nD Cert.Dil4RefIdeal.τ Cert.Dil4RefIdeal.sig) → Buf (Elt Ideal) ℓ) : Prop :=
  ∀ c : Dev Cert.Dil4RefIdeal.nD,
    (Cert.Pre_finite.fn (F := Ideal) (m ((c.tc : Thread Cert.Dil4RefIdeal.nD Cert.Dil4RefIdeal.τ).loc Cert.Dil4RefIdeal.main_arg0))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Phase4 (m : (ℓ : Loc Cert.Phase4.nD Cert.Phase4.τ Cert.Phase4.sig) → Buf (Elt Bits) ℓ) : Prop :=
  True

def Pre_Phase4Ideal (m : (ℓ : Loc Cert.Phase4Ideal.nD Cert.Phase4Ideal.τ Cert.Phase4Ideal.sig) → Buf (Elt Ideal) ℓ) : Prop :=
  True

def Pre_Phase4RefIdeal (m : (ℓ : Loc Cert.Phase4RefIdeal.nD Cert.Phase4RefIdeal.τ Cert.Phase4RefIdeal.sig) → Buf (Elt Ideal) ℓ) : Prop :=
  True

def Pre_Phase16 (m : (ℓ : Loc Cert.Phase16.nD Cert.Phase16.τ Cert.Phase16.sig) → Buf (Elt Bits) ℓ) : Prop :=
  True

def Pre_Phase16Ideal (m : (ℓ : Loc Cert.Phase16Ideal.nD Cert.Phase16Ideal.τ Cert.Phase16Ideal.sig) → Buf (Elt Ideal) ℓ) : Prop :=
  True

def Pre_Phase16RefIdeal (m : (ℓ : Loc Cert.Phase16RefIdeal.nD Cert.Phase16RefIdeal.τ Cert.Phase16RefIdeal.sig) → Buf (Elt Ideal) ℓ) : Prop :=
  True

def Pre_Dil16 (m : (ℓ : Loc Cert.Dil16.nD Cert.Dil16.τ Cert.Dil16.sig) → Buf (Elt Bits) ℓ) : Prop :=
  True

def Pre_Dil16Ideal (m : (ℓ : Loc Cert.Dil16Ideal.nD Cert.Dil16Ideal.τ Cert.Dil16Ideal.sig) → Buf (Elt Ideal) ℓ) : Prop :=
  True

def Pre_Dil16Ideal_finite16 [hPre_finite16 : Cert.Pre_finite16.Facts] (m : (ℓ : Loc Cert.Dil16Ideal.nD Cert.Dil16Ideal.τ Cert.Dil16Ideal.sig) → Buf (Elt Ideal) ℓ) : Prop :=
  ∀ c : Dev Cert.Dil16Ideal.nD,
    (Cert.Pre_finite16.fn (F := Ideal) (m ((c.tc : Thread Cert.Dil16Ideal.nD Cert.Dil16Ideal.τ).loc Cert.Dil16Ideal.main_arg0))) = (fun _ => 1#1)

def Pre_Dil16RefIdeal (m : (ℓ : Loc Cert.Dil16RefIdeal.nD Cert.Dil16RefIdeal.τ Cert.Dil16RefIdeal.sig) → Buf (Elt Ideal) ℓ) : Prop :=
  True

def Pre_Dil16RefIdeal_finite16 [hPre_finite16 : Cert.Pre_finite16.Facts] (m : (ℓ : Loc Cert.Dil16RefIdeal.nD Cert.Dil16RefIdeal.τ Cert.Dil16RefIdeal.sig) → Buf (Elt Ideal) ℓ) : Prop :=
  ∀ c : Dev Cert.Dil16RefIdeal.nD,
    (Cert.Pre_finite16.fn (F := Ideal) (m ((c.tc : Thread Cert.Dil16RefIdeal.nD Cert.Dil16RefIdeal.τ).loc Cert.Dil16RefIdeal.main_arg0))) = (fun _ => 1#1)

def Pre_Dil1 (m : (ℓ : Loc Cert.Dil1.nD Cert.Dil1.τ Cert.Dil1.sig) → Buf (Elt Bits) ℓ) : Prop :=
  True

def Pre_Dil1Ideal (m : (ℓ : Loc Cert.Dil1Ideal.nD Cert.Dil1Ideal.τ Cert.Dil1Ideal.sig) → Buf (Elt Ideal) ℓ) : Prop :=
  True

def Pre_Dil1Ideal_finite1 [hPre_finite1 : Cert.Pre_finite1.Facts] (m : (ℓ : Loc Cert.Dil1Ideal.nD Cert.Dil1Ideal.τ Cert.Dil1Ideal.sig) → Buf (Elt Ideal) ℓ) : Prop :=
  ∀ c : Dev Cert.Dil1Ideal.nD,
    (Cert.Pre_finite1.fn (F := Ideal) (m ((c.tc : Thread Cert.Dil1Ideal.nD Cert.Dil1Ideal.τ).loc Cert.Dil1Ideal.main_arg0)) (m ((c.tc : Thread Cert.Dil1Ideal.nD Cert.Dil1Ideal.τ).loc Cert.Dil1Ideal.main_arg1))) = (fun _ => 1#1)

def Pre_Dil1RefIdeal (m : (ℓ : Loc Cert.Dil1RefIdeal.nD Cert.Dil1RefIdeal.τ Cert.Dil1RefIdeal.sig) → Buf (Elt Ideal) ℓ) : Prop :=
  True

def Pre_Dil1RefIdeal_finite1 [hPre_finite1 : Cert.Pre_finite1.Facts] (m : (ℓ : Loc Cert.Dil1RefIdeal.nD Cert.Dil1RefIdeal.τ Cert.Dil1RefIdeal.sig) → Buf (Elt Ideal) ℓ) : Prop :=
  ∀ c : Dev Cert.Dil1RefIdeal.nD,
    (Cert.Pre_finite1.fn (F := Ideal) (m ((c.tc : Thread Cert.Dil1RefIdeal.nD Cert.Dil1RefIdeal.τ).loc Cert.Dil1RefIdeal.main_arg0)) (m ((c.tc : Thread Cert.Dil1RefIdeal.nD Cert.Dil1RefIdeal.τ).loc Cert.Dil1RefIdeal.main_arg1))) = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Dil4 [hDil4 : Cert.Dil4.Facts] : Prop :=
  ∀ (m : (ℓ : Loc Cert.Dil4.nD Cert.Dil4.τ Cert.Dil4.sig) → Buf (Elt Bits) ℓ) (g : Dev Cert.Dil4.nD → PrngReg), Pre_Dil4 m →
    θ_run (Cert.Dil4.defs (F := Bits)) (onTc (τ := Cert.Dil4.τ) (Cert.Dil4.main (F := Bits))) ⟨m, fun _ => 0, g⟩ (fun r => (∀ c : Dev Cert.Dil4.nD,
      r.2.mem ((c.tc : Thread Cert.Dil4.nD Cert.Dil4.τ).loc Cert.Dil4.main_arg0) = m ((c.tc : Thread Cert.Dil4.nD Cert.Dil4.τ).loc Cert.Dil4.main_arg0))
      ∧ r.2.sem = fun _ => 0)

def quiescent_Dil4Ideal [hDil4Ideal : Cert.Dil4Ideal.Facts] : Prop :=
  ∀ (m : (ℓ : Loc Cert.Dil4Ideal.nD Cert.Dil4Ideal.τ Cert.Dil4Ideal.sig) → Buf (Elt Ideal) ℓ) (g : Dev Cert.Dil4Ideal.nD → PrngReg), Pre_Dil4Ideal m →
    θ_run (Cert.Dil4Ideal.defs (F := Ideal)) (onTc (τ := Cert.Dil4Ideal.τ) (Cert.Dil4Ideal.main (F := Ideal))) ⟨m, fun _ => 0, g⟩ (fun r => (∀ c : Dev Cert.Dil4Ideal.nD,
      r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0))
      ∧ r.2.sem = fun _ => 0)

def quiescent_Dil4Ideal_pre_finite [hDil4Ideal : Cert.Dil4Ideal.Facts] [hPre_finite : Cert.Pre_finite.Facts] : Prop :=
  ∀ (m : (ℓ : Loc Cert.Dil4Ideal.nD Cert.Dil4Ideal.τ Cert.Dil4Ideal.sig) → Buf (Elt Ideal) ℓ) (g : Dev Cert.Dil4Ideal.nD → PrngReg), Pre_Dil4Ideal_finite m →
    θ_run (Cert.Dil4Ideal.defs (F := Ideal)) (onTc (τ := Cert.Dil4Ideal.τ) (Cert.Dil4Ideal.main (F := Ideal))) ⟨m, fun _ => 0, g⟩ (fun r => (∀ c : Dev Cert.Dil4Ideal.nD,
      r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0))
      ∧ r.2.sem = fun _ => 0)

def quiescent_Dil4RefIdeal [hDil4RefIdeal : Cert.Dil4RefIdeal.Facts] : Prop :=
  ∀ (m : (ℓ : Loc Cert.Dil4RefIdeal.nD Cert.Dil4RefIdeal.τ Cert.Dil4RefIdeal.sig) → Buf (Elt Ideal) ℓ) (g : Dev Cert.Dil4RefIdeal.nD → PrngReg), Pre_Dil4RefIdeal m →
    θ_run (Cert.Dil4RefIdeal.defs (F := Ideal)) (onTc (τ := Cert.Dil4RefIdeal.τ) (Cert.Dil4RefIdeal.main (F := Ideal))) ⟨m, fun _ => 0, g⟩ (fun r => (∀ c : Dev Cert.Dil4RefIdeal.nD,
      r.2.mem ((c.tc : Thread Cert.Dil4RefIdeal.nD Cert.Dil4RefIdeal.τ).loc Cert.Dil4RefIdeal.main_arg0) = m ((c.tc : Thread Cert.Dil4RefIdeal.nD Cert.Dil4RefIdeal.τ).loc Cert.Dil4RefIdeal.main_arg0))
      ∧ r.2.sem = fun _ => 0)

def quiescent_Dil4RefIdeal_pre_finite [hDil4RefIdeal : Cert.Dil4RefIdeal.Facts] [hPre_finite : Cert.Pre_finite.Facts] : Prop :=
  ∀ (m : (ℓ : Loc Cert.Dil4RefIdeal.nD Cert.Dil4RefIdeal.τ Cert.Dil4RefIdeal.sig) → Buf (Elt Ideal) ℓ) (g : Dev Cert.Dil4RefIdeal.nD → PrngReg), Pre_Dil4RefIdeal_finite m →
    θ_run (Cert.Dil4RefIdeal.defs (F := Ideal)) (onTc (τ := Cert.Dil4RefIdeal.τ) (Cert.Dil4RefIdeal.main (F := Ideal))) ⟨m, fun _ => 0, g⟩ (fun r => (∀ c : Dev Cert.Dil4RefIdeal.nD,
      r.2.mem ((c.tc : Thread Cert.Dil4RefIdeal.nD Cert.Dil4RefIdeal.τ).loc Cert.Dil4RefIdeal.main_arg0) = m ((c.tc : Thread Cert.Dil4RefIdeal.nD Cert.Dil4RefIdeal.τ).loc Cert.Dil4RefIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Phase4 [hPhase4 : Cert.Phase4.Facts] : Prop :=
  ∀ (m : (ℓ : Loc Cert.Phase4.nD Cert.Phase4.τ Cert.Phase4.sig) → Buf (Elt Bits) ℓ) (g : Dev Cert.Phase4.nD → PrngReg), Pre_Phase4 m →
    θ_run (Cert.Phase4.defs (F := Bits)) (onTc (τ := Cert.Phase4.τ) (Cert.Phase4.main (F := Bits))) ⟨m, fun _ => 0, g⟩ (fun r => (∀ c : Dev Cert.Phase4.nD,
      r.2.mem ((c.tc : Thread Cert.Phase4.nD Cert.Phase4.τ).loc Cert.Phase4.main_arg0) = m ((c.tc : Thread Cert.Phase4.nD Cert.Phase4.τ).loc Cert.Phase4.main_arg0)
      ∧ r.2.mem ((c.tc : Thread Cert.Phase4.nD Cert.Phase4.τ).loc Cert.Phase4.main_arg1) = m ((c.tc : Thread Cert.Phase4.nD Cert.Phase4.τ).loc Cert.Phase4.main_arg1)
      ∧ r.2.mem ((c.tc : Thread Cert.Phase4.nD Cert.Phase4.τ).loc Cert.Phase4.main_arg2) = m ((c.tc : Thread Cert.Phase4.nD Cert.Phase4.τ).loc Cert.Phase4.main_arg2)
      ∧ r.2.mem ((c.tc : Thread Cert.Phase4.nD Cert.Phase4.τ).loc Cert.Phase4.main_arg3) = m ((c.tc : Thread Cert.Phase4.nD Cert.Phase4.τ).loc Cert.Phase4.main_arg3)
      ∧ r.2.mem ((c.tc : Thread Cert.Phase4.nD Cert.Phase4.τ).loc Cert.Phase4.main_arg4) = m ((c.tc : Thread Cert.Phase4.nD Cert.Phase4.τ).loc Cert.Phase4.main_arg4)
      ∧ r.2.mem ((c.tc : Thread Cert.Phase4.nD Cert.Phase4.τ).loc Cert.Phase4.main_arg5) = m ((c.tc : Thread Cert.Phase4.nD Cert.Phase4.τ).loc Cert.Phase4.main_arg5))
      ∧ r.2.sem = fun _ => 0)

def quiescent_Phase4Ideal [hPhase4Ideal : Cert.Phase4Ideal.Facts] : Prop :=
  ∀ (m : (ℓ : Loc Cert.Phase4Ideal.nD Cert.Phase4Ideal.τ Cert.Phase4Ideal.sig) → Buf (Elt Ideal) ℓ) (g : Dev Cert.Phase4Ideal.nD → PrngReg), Pre_Phase4Ideal m →
    θ_run (Cert.Phase4Ideal.defs (F := Ideal)) (onTc (τ := Cert.Phase4Ideal.τ) (Cert.Phase4Ideal.main (F := Ideal))) ⟨m, fun _ => 0, g⟩ (fun r => (∀ c : Dev Cert.Phase4Ideal.nD,
      r.2.mem ((c.tc : Thread Cert.Phase4Ideal.nD Cert.Phase4Ideal.τ).loc Cert.Phase4Ideal.main_arg0) = m ((c.tc : Thread Cert.Phase4Ideal.nD Cert.Phase4Ideal.τ).loc Cert.Phase4Ideal.main_arg0)
      ∧ r.2.mem ((c.tc : Thread Cert.Phase4Ideal.nD Cert.Phase4Ideal.τ).loc Cert.Phase4Ideal.main_arg1) = m ((c.tc : Thread Cert.Phase4Ideal.nD Cert.Phase4Ideal.τ).loc Cert.Phase4Ideal.main_arg1)
      ∧ r.2.mem ((c.tc : Thread Cert.Phase4Ideal.nD Cert.Phase4Ideal.τ).loc Cert.Phase4Ideal.main_arg2) = m ((c.tc : Thread Cert.Phase4Ideal.nD Cert.Phase4Ideal.τ).loc Cert.Phase4Ideal.main_arg2)
      ∧ r.2.mem ((c.tc : Thread Cert.Phase4Ideal.nD Cert.Phase4Ideal.τ).loc Cert.Phase4Ideal.main_arg3) = m ((c.tc : Thread Cert.Phase4Ideal.nD Cert.Phase4Ideal.τ).loc Cert.Phase4Ideal.main_arg3)
      ∧ r.2.mem ((c.tc : Thread Cert.Phase4Ideal.nD Cert.Phase4Ideal.τ).loc Cert.Phase4Ideal.main_arg4) = m ((c.tc : Thread Cert.Phase4Ideal.nD Cert.Phase4Ideal.τ).loc Cert.Phase4Ideal.main_arg4)
      ∧ r.2.mem ((c.tc : Thread Cert.Phase4Ideal.nD Cert.Phase4Ideal.τ).loc Cert.Phase4Ideal.main_arg5) = m ((c.tc : Thread Cert.Phase4Ideal.nD Cert.Phase4Ideal.τ).loc Cert.Phase4Ideal.main_arg5))
      ∧ r.2.sem = fun _ => 0)

def quiescent_Phase4RefIdeal [hPhase4RefIdeal : Cert.Phase4RefIdeal.Facts] : Prop :=
  ∀ (m : (ℓ : Loc Cert.Phase4RefIdeal.nD Cert.Phase4RefIdeal.τ Cert.Phase4RefIdeal.sig) → Buf (Elt Ideal) ℓ) (g : Dev Cert.Phase4RefIdeal.nD → PrngReg), Pre_Phase4RefIdeal m →
    θ_run (Cert.Phase4RefIdeal.defs (F := Ideal)) (onTc (τ := Cert.Phase4RefIdeal.τ) (Cert.Phase4RefIdeal.main (F := Ideal))) ⟨m, fun _ => 0, g⟩ (fun r => (∀ c : Dev Cert.Phase4RefIdeal.nD,
      r.2.mem ((c.tc : Thread Cert.Phase4RefIdeal.nD Cert.Phase4RefIdeal.τ).loc Cert.Phase4RefIdeal.main_arg0) = m ((c.tc : Thread Cert.Phase4RefIdeal.nD Cert.Phase4RefIdeal.τ).loc Cert.Phase4RefIdeal.main_arg0)
      ∧ r.2.mem ((c.tc : Thread Cert.Phase4RefIdeal.nD Cert.Phase4RefIdeal.τ).loc Cert.Phase4RefIdeal.main_arg1) = m ((c.tc : Thread Cert.Phase4RefIdeal.nD Cert.Phase4RefIdeal.τ).loc Cert.Phase4RefIdeal.main_arg1)
      ∧ r.2.mem ((c.tc : Thread Cert.Phase4RefIdeal.nD Cert.Phase4RefIdeal.τ).loc Cert.Phase4RefIdeal.main_arg2) = m ((c.tc : Thread Cert.Phase4RefIdeal.nD Cert.Phase4RefIdeal.τ).loc Cert.Phase4RefIdeal.main_arg2)
      ∧ r.2.mem ((c.tc : Thread Cert.Phase4RefIdeal.nD Cert.Phase4RefIdeal.τ).loc Cert.Phase4RefIdeal.main_arg3) = m ((c.tc : Thread Cert.Phase4RefIdeal.nD Cert.Phase4RefIdeal.τ).loc Cert.Phase4RefIdeal.main_arg3)
      ∧ r.2.mem ((c.tc : Thread Cert.Phase4RefIdeal.nD Cert.Phase4RefIdeal.τ).loc Cert.Phase4RefIdeal.main_arg4) = m ((c.tc : Thread Cert.Phase4RefIdeal.nD Cert.Phase4RefIdeal.τ).loc Cert.Phase4RefIdeal.main_arg4)
      ∧ r.2.mem ((c.tc : Thread Cert.Phase4RefIdeal.nD Cert.Phase4RefIdeal.τ).loc Cert.Phase4RefIdeal.main_arg5) = m ((c.tc : Thread Cert.Phase4RefIdeal.nD Cert.Phase4RefIdeal.τ).loc Cert.Phase4RefIdeal.main_arg5))
      ∧ r.2.sem = fun _ => 0)

def quiescent_Phase16 [hPhase16 : Cert.Phase16.Facts] : Prop :=
  ∀ (m : (ℓ : Loc Cert.Phase16.nD Cert.Phase16.τ Cert.Phase16.sig) → Buf (Elt Bits) ℓ) (g : Dev Cert.Phase16.nD → PrngReg), Pre_Phase16 m →
    θ_run (Cert.Phase16.defs (F := Bits)) (onTc (τ := Cert.Phase16.τ) (Cert.Phase16.main (F := Bits))) ⟨m, fun _ => 0, g⟩ (fun r => (∀ c : Dev Cert.Phase16.nD,
      r.2.mem ((c.tc : Thread Cert.Phase16.nD Cert.Phase16.τ).loc Cert.Phase16.main_arg0) = m ((c.tc : Thread Cert.Phase16.nD Cert.Phase16.τ).loc Cert.Phase16.main_arg0)
      ∧ r.2.mem ((c.tc : Thread Cert.Phase16.nD Cert.Phase16.τ).loc Cert.Phase16.main_arg1) = m ((c.tc : Thread Cert.Phase16.nD Cert.Phase16.τ).loc Cert.Phase16.main_arg1)
      ∧ r.2.mem ((c.tc : Thread Cert.Phase16.nD Cert.Phase16.τ).loc Cert.Phase16.main_arg2) = m ((c.tc : Thread Cert.Phase16.nD Cert.Phase16.τ).loc Cert.Phase16.main_arg2)
      ∧ r.2.mem ((c.tc : Thread Cert.Phase16.nD Cert.Phase16.τ).loc Cert.Phase16.main_arg3) = m ((c.tc : Thread Cert.Phase16.nD Cert.Phase16.τ).loc Cert.Phase16.main_arg3)
      ∧ r.2.mem ((c.tc : Thread Cert.Phase16.nD Cert.Phase16.τ).loc Cert.Phase16.main_arg4) = m ((c.tc : Thread Cert.Phase16.nD Cert.Phase16.τ).loc Cert.Phase16.main_arg4)
      ∧ r.2.mem ((c.tc : Thread Cert.Phase16.nD Cert.Phase16.τ).loc Cert.Phase16.main_arg5) = m ((c.tc : Thread Cert.Phase16.nD Cert.Phase16.τ).loc Cert.Phase16.main_arg5))
      ∧ r.2.sem = fun _ => 0)

def quiescent_Phase16Ideal [hPhase16Ideal : Cert.Phase16Ideal.Facts] : Prop :=
  ∀ (m : (ℓ : Loc Cert.Phase16Ideal.nD Cert.Phase16Ideal.τ Cert.Phase16Ideal.sig) → Buf (Elt Ideal) ℓ) (g : Dev Cert.Phase16Ideal.nD → PrngReg), Pre_Phase16Ideal m →
    θ_run (Cert.Phase16Ideal.defs (F := Ideal)) (onTc (τ := Cert.Phase16Ideal.τ) (Cert.Phase16Ideal.main (F := Ideal))) ⟨m, fun _ => 0, g⟩ (fun r => (∀ c : Dev Cert.Phase16Ideal.nD,
      r.2.mem ((c.tc : Thread Cert.Phase16Ideal.nD Cert.Phase16Ideal.τ).loc Cert.Phase16Ideal.main_arg0) = m ((c.tc : Thread Cert.Phase16Ideal.nD Cert.Phase16Ideal.τ).loc Cert.Phase16Ideal.main_arg0)
      ∧ r.2.mem ((c.tc : Thread Cert.Phase16Ideal.nD Cert.Phase16Ideal.τ).loc Cert.Phase16Ideal.main_arg1) = m ((c.tc : Thread Cert.Phase16Ideal.nD Cert.Phase16Ideal.τ).loc Cert.Phase16Ideal.main_arg1)
      ∧ r.2.mem ((c.tc : Thread Cert.Phase16Ideal.nD Cert.Phase16Ideal.τ).loc Cert.Phase16Ideal.main_arg2) = m ((c.tc : Thread Cert.Phase16Ideal.nD Cert.Phase16Ideal.τ).loc Cert.Phase16Ideal.main_arg2)
      ∧ r.2.mem ((c.tc : Thread Cert.Phase16Ideal.nD Cert.Phase16Ideal.τ).loc Cert.Phase16Ideal.main_arg3) = m ((c.tc : Thread Cert.Phase16Ideal.nD Cert.Phase16Ideal.τ).loc Cert.Phase16Ideal.main_arg3)
      ∧ r.2.mem ((c.tc : Thread Cert.Phase16Ideal.nD Cert.Phase16Ideal.τ).loc Cert.Phase16Ideal.main_arg4) = m ((c.tc : Thread Cert.Phase16Ideal.nD Cert.Phase16Ideal.τ).loc Cert.Phase16Ideal.main_arg4)
      ∧ r.2.mem ((c.tc : Thread Cert.Phase16Ideal.nD Cert.Phase16Ideal.τ).loc Cert.Phase16Ideal.main_arg5) = m ((c.tc : Thread Cert.Phase16Ideal.nD Cert.Phase16Ideal.τ).loc Cert.Phase16Ideal.main_arg5))
      ∧ r.2.sem = fun _ => 0)

def quiescent_Phase16RefIdeal [hPhase16RefIdeal : Cert.Phase16RefIdeal.Facts] : Prop :=
  ∀ (m : (ℓ : Loc Cert.Phase16RefIdeal.nD Cert.Phase16RefIdeal.τ Cert.Phase16RefIdeal.sig) → Buf (Elt Ideal) ℓ) (g : Dev Cert.Phase16RefIdeal.nD → PrngReg), Pre_Phase16RefIdeal m →
    θ_run (Cert.Phase16RefIdeal.defs (F := Ideal)) (onTc (τ := Cert.Phase16RefIdeal.τ) (Cert.Phase16RefIdeal.main (F := Ideal))) ⟨m, fun _ => 0, g⟩ (fun r => (∀ c : Dev Cert.Phase16RefIdeal.nD,
      r.2.mem ((c.tc : Thread Cert.Phase16RefIdeal.nD Cert.Phase16RefIdeal.τ).loc Cert.Phase16RefIdeal.main_arg0) = m ((c.tc : Thread Cert.Phase16RefIdeal.nD Cert.Phase16RefIdeal.τ).loc Cert.Phase16RefIdeal.main_arg0)
      ∧ r.2.mem ((c.tc : Thread Cert.Phase16RefIdeal.nD Cert.Phase16RefIdeal.τ).loc Cert.Phase16RefIdeal.main_arg1) = m ((c.tc : Thread Cert.Phase16RefIdeal.nD Cert.Phase16RefIdeal.τ).loc Cert.Phase16RefIdeal.main_arg1)
      ∧ r.2.mem ((c.tc : Thread Cert.Phase16RefIdeal.nD Cert.Phase16RefIdeal.τ).loc Cert.Phase16RefIdeal.main_arg2) = m ((c.tc : Thread Cert.Phase16RefIdeal.nD Cert.Phase16RefIdeal.τ).loc Cert.Phase16RefIdeal.main_arg2)
      ∧ r.2.mem ((c.tc : Thread Cert.Phase16RefIdeal.nD Cert.Phase16RefIdeal.τ).loc Cert.Phase16RefIdeal.main_arg3) = m ((c.tc : Thread Cert.Phase16RefIdeal.nD Cert.Phase16RefIdeal.τ).loc Cert.Phase16RefIdeal.main_arg3)
      ∧ r.2.mem ((c.tc : Thread Cert.Phase16RefIdeal.nD Cert.Phase16RefIdeal.τ).loc Cert.Phase16RefIdeal.main_arg4) = m ((c.tc : Thread Cert.Phase16RefIdeal.nD Cert.Phase16RefIdeal.τ).loc Cert.Phase16RefIdeal.main_arg4)
      ∧ r.2.mem ((c.tc : Thread Cert.Phase16RefIdeal.nD Cert.Phase16RefIdeal.τ).loc Cert.Phase16RefIdeal.main_arg5) = m ((c.tc : Thread Cert.Phase16RefIdeal.nD Cert.Phase16RefIdeal.τ).loc Cert.Phase16RefIdeal.main_arg5))
      ∧ r.2.sem = fun _ => 0)

def quiescent_Dil16 [hDil16 : Cert.Dil16.Facts] : Prop :=
  ∀ (m : (ℓ : Loc Cert.Dil16.nD Cert.Dil16.τ Cert.Dil16.sig) → Buf (Elt Bits) ℓ) (g : Dev Cert.Dil16.nD → PrngReg), Pre_Dil16 m →
    θ_run (Cert.Dil16.defs (F := Bits)) (onTc (τ := Cert.Dil16.τ) (Cert.Dil16.main (F := Bits))) ⟨m, fun _ => 0, g⟩ (fun r => (∀ c : Dev Cert.Dil16.nD,
      r.2.mem ((c.tc : Thread Cert.Dil16.nD Cert.Dil16.τ).loc Cert.Dil16.main_arg0) = m ((c.tc : Thread Cert.Dil16.nD Cert.Dil16.τ).loc Cert.Dil16.main_arg0))
      ∧ r.2.sem = fun _ => 0)

def quiescent_Dil16Ideal [hDil16Ideal : Cert.Dil16Ideal.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ r.2.sem = fun _ => 0)

def quiescent_Dil16Ideal_pre_finite16 [hDil16Ideal : Cert.Dil16Ideal.Facts] [hPre_finite16 : Cert.Pre_finite16.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal_finite16 m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ r.2.sem = fun _ => 0)

def quiescent_Dil16RefIdeal [hDil16RefIdeal : Cert.Dil16RefIdeal.Facts] : Prop :=
  ∀ (m : (ℓ : Loc Cert.Dil16RefIdeal.nD Cert.Dil16RefIdeal.τ Cert.Dil16RefIdeal.sig) → Buf (Elt Ideal) ℓ) (g : Dev Cert.Dil16RefIdeal.nD → PrngReg), Pre_Dil16RefIdeal m →
    θ_run (Cert.Dil16RefIdeal.defs (F := Ideal)) (onTc (τ := Cert.Dil16RefIdeal.τ) (Cert.Dil16RefIdeal.main (F := Ideal))) ⟨m, fun _ => 0, g⟩ (fun r => (∀ c : Dev Cert.Dil16RefIdeal.nD,
      r.2.mem ((c.tc : Thread Cert.Dil16RefIdeal.nD Cert.Dil16RefIdeal.τ).loc Cert.Dil16RefIdeal.main_arg0) = m ((c.tc : Thread Cert.Dil16RefIdeal.nD Cert.Dil16RefIdeal.τ).loc Cert.Dil16RefIdeal.main_arg0))
      ∧ r.2.sem = fun _ => 0)

def quiescent_Dil16RefIdeal_pre_finite16 [hDil16RefIdeal : Cert.Dil16RefIdeal.Facts] [hPre_finite16 : Cert.Pre_finite16.Facts] : Prop :=
  ∀ (m : (ℓ : Loc Cert.Dil16RefIdeal.nD Cert.Dil16RefIdeal.τ Cert.Dil16RefIdeal.sig) → Buf (Elt Ideal) ℓ) (g : Dev Cert.Dil16RefIdeal.nD → PrngReg), Pre_Dil16RefIdeal_finite16 m →
    θ_run (Cert.Dil16RefIdeal.defs (F := Ideal)) (onTc (τ := Cert.Dil16RefIdeal.τ) (Cert.Dil16RefIdeal.main (F := Ideal))) ⟨m, fun _ => 0, g⟩ (fun r => (∀ c : Dev Cert.Dil16RefIdeal.nD,
      r.2.mem ((c.tc : Thread Cert.Dil16RefIdeal.nD Cert.Dil16RefIdeal.τ).loc Cert.Dil16RefIdeal.main_arg0) = m ((c.tc : Thread Cert.Dil16RefIdeal.nD Cert.Dil16RefIdeal.τ).loc Cert.Dil16RefIdeal.main_arg0))
      ∧ r.2.sem = fun _ => 0)

def quiescent_Dil1 [hDil1 : Cert.Dil1.Facts] : Prop :=
  ∀ (m : (ℓ : Loc Cert.Dil1.nD Cert.Dil1.τ Cert.Dil1.sig) → Buf (Elt Bits) ℓ) (g : Dev Cert.Dil1.nD → PrngReg), Pre_Dil1 m →
    θ_run (Cert.Dil1.defs (F := Bits)) (onTc (τ := Cert.Dil1.τ) (Cert.Dil1.main (F := Bits))) ⟨m, fun _ => 0, g⟩ (fun r => (∀ c : Dev Cert.Dil1.nD,
      r.2.mem ((c.tc : Thread Cert.Dil1.nD Cert.Dil1.τ).loc Cert.Dil1.main_arg0) = m ((c.tc : Thread Cert.Dil1.nD Cert.Dil1.τ).loc Cert.Dil1.main_arg0)
      ∧ r.2.mem ((c.tc : Thread Cert.Dil1.nD Cert.Dil1.τ).loc Cert.Dil1.main_arg1) = m ((c.tc : Thread Cert.Dil1.nD Cert.Dil1.τ).loc Cert.Dil1.main_arg1))
      ∧ r.2.sem = fun _ => 0)

def quiescent_Dil1Ideal [hDil1Ideal : Cert.Dil1Ideal.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
      ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1))
      ∧ r.2.sem = fun _ => 0)

def quiescent_Dil1Ideal_pre_finite1 [hDil1Ideal : Cert.Dil1Ideal.Facts] [hPre_finite1 : Cert.Pre_finite1.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal_finite1 m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
      ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1))
      ∧ r.2.sem = fun _ => 0)

def quiescent_Dil1RefIdeal [hDil1RefIdeal : Cert.Dil1RefIdeal.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0)
      ∧ r.2.mem ((c.tc : Thread Cert.Dil1RefIdeal.nD Cert.Dil1RefIdeal.τ).loc Cert.Dil1RefIdeal.main_arg1) = m ((c.tc : Thread Cert.Dil1RefIdeal.nD Cert.Dil1RefIdeal.τ).loc Cert.Dil1RefIdeal.main_arg1))
      ∧ r.2.sem = fun _ => 0)

def quiescent_Dil1RefIdeal_pre_finite1 [hDil1RefIdeal : Cert.Dil1RefIdeal.Facts] [hPre_finite1 : Cert.Pre_finite1.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal_finite1 m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0)
      ∧ r.2.mem ((c.tc : Thread Cert.Dil1RefIdeal.nD Cert.Dil1RefIdeal.τ).loc Cert.Dil1RefIdeal.main_arg1) = m ((c.tc : Thread Cert.Dil1RefIdeal.nD Cert.Dil1RefIdeal.τ).loc Cert.Dil1RefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6)
      ∧ r.2.mem ((c.tc : Thread Cert.Cmp.nD Cert.Cmp.τ).loc Cert.Cmp.main_arg7) = m ((c.tc : Thread Cert.Cmp.nD Cert.Cmp.τ).loc Cert.Cmp.main_arg7)
      ∧ r.2.mem ((c.tc : Thread Cert.Cmp.nD Cert.Cmp.τ).loc Cert.Cmp.main_arg8) = m ((c.tc : Thread Cert.Cmp.nD Cert.Cmp.τ).loc Cert.Cmp.main_arg8))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
      ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7)
      ∧ r.2.mem ((c.tc : Thread Cert.CmpIdeal.nD Cert.CmpIdeal.τ).loc Cert.CmpIdeal.main_arg8) = m ((c.tc : Thread Cert.CmpIdeal.nD Cert.CmpIdeal.τ).loc Cert.CmpIdeal.main_arg8))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6)
      ∧ r.2.mem ((c.tc : Thread Cert.CmpRefIdeal.nD Cert.CmpRefIdeal.τ).loc Cert.CmpRefIdeal.main_arg7) = m ((c.tc : Thread Cert.CmpRefIdeal.nD Cert.CmpRefIdeal.τ).loc Cert.CmpRefIdeal.main_arg7)
      ∧ r.2.mem ((c.tc : Thread Cert.CmpRefIdeal.nD Cert.CmpRefIdeal.τ).loc Cert.CmpRefIdeal.main_arg8) = m ((c.tc : Thread Cert.CmpRefIdeal.nD Cert.CmpRefIdeal.τ).loc Cert.CmpRefIdeal.main_arg8))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def preserves_Dil4_Dil4Ideal : Prop :=
  True

def algebraic_Dil4Ideal_Dil4RefIdeal_pre_finite [hDil4Ideal : Cert.Dil4Ideal.Facts] [hDil4RefIdeal : Cert.Dil4RefIdeal.Facts] [hPre_finite : Cert.Pre_finite.Facts] : Prop :=
  ∀ (m : (ℓ : Loc Cert.Dil4Ideal.nD Cert.Dil4Ideal.τ Cert.Dil4Ideal.sig) → Buf (Elt Ideal) ℓ) (g : Dev Cert.Dil4Ideal.nD → PrngReg)
    (m' : (ℓ : Loc Cert.Dil4RefIdeal.nD Cert.Dil4RefIdeal.τ Cert.Dil4RefIdeal.sig) → Buf (Elt Ideal) ℓ) (g' : Dev Cert.Dil4RefIdeal.nD → PrngReg), Pre_Dil4Ideal_finite m →
    (∀ c : Dev Cert.Dil4Ideal.nD,
      m' ((c.tc : Thread Cert.Dil4RefIdeal.nD Cert.Dil4RefIdeal.τ).loc Cert.Dil4RefIdeal.main_arg0) = m ((c.tc : Thread Cert.Dil4Ideal.nD Cert.Dil4Ideal.τ).loc Cert.Dil4Ideal.main_arg0)) →
    ∃ (v0 : (c : Dev Cert.Dil4Ideal.nD) → Buf (Elt Ideal) ((c.tc : Thread Cert.Dil4Ideal.nD Cert.Dil4Ideal.τ).loc Cert.Dil4Ideal.main_v0_0)) (v1 : (c : Dev Cert.Dil4Ideal.nD) → Buf (Elt Ideal) ((c.tc : Thread Cert.Dil4Ideal.nD Cert.Dil4Ideal.τ).loc Cert.Dil4Ideal.main_v0_1)),
      θ_run (Cert.Dil4Ideal.defs (F := Ideal)) (onTc (τ := Cert.Dil4Ideal.τ) (Cert.Dil4Ideal.main (F := Ideal))) ⟨m, fun _ => 0, g⟩ (fun r => ∀ c : Dev Cert.Dil4Ideal.nD,
          r.2.mem ((c.tc : Thread Cert.Dil4Ideal.nD Cert.Dil4Ideal.τ).loc Cert.Dil4Ideal.main_v0_0) = v0 c
          ∧ r.2.mem ((c.tc : Thread Cert.Dil4Ideal.nD Cert.Dil4Ideal.τ).loc Cert.Dil4Ideal.main_v0_1) = v1 c
          ∧ r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0))
      ∧ θ_run (Cert.Dil4RefIdeal.defs (F := Ideal)) (onTc (τ := Cert.Dil4RefIdeal.τ) (Cert.Dil4RefIdeal.main (F := Ideal))) ⟨m', fun _ => 0, g'⟩ (fun r => ∀ c : Dev Cert.Dil4RefIdeal.nD,
          r.2.mem ((c.tc : Thread Cert.Dil4RefIdeal.nD Cert.Dil4RefIdeal.τ).loc Cert.Dil4RefIdeal.main_v38) = v0 c
          ∧ r.2.mem ((c.tc : Thread Cert.Dil4RefIdeal.nD Cert.Dil4RefIdeal.τ).loc Cert.Dil4RefIdeal.main_v40) = v1 c
          ∧ r.2.mem ((c.tc : Thread Cert.Dil4RefIdeal.nD Cert.Dil4RefIdeal.τ).loc Cert.Dil4RefIdeal.main_arg0) = m' ((c.tc : Thread Cert.Dil4RefIdeal.nD Cert.Dil4RefIdeal.τ).loc Cert.Dil4RefIdeal.main_arg0))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v51) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v35) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v14_0)) (v1 : (c : Dev Cert.ProjIdeal.nD) → Buf (Elt Ideal) ((c.tc : Thread Cert.ProjIdeal.nD Cert.ProjIdeal.τ).loc Cert.ProjIdeal.main_v14_1)) (v2 : (c : Dev Cert.ProjIdeal.nD) → Buf (Elt Ideal) ((c.tc : Thread Cert.ProjIdeal.nD Cert.ProjIdeal.τ).loc Cert.ProjIdeal.main_v14_2)) (v3 : (c : Dev Cert.ProjIdeal.nD) → Buf (Elt Ideal) ((c.tc : Thread Cert.ProjIdeal.nD Cert.ProjIdeal.τ).loc Cert.ProjIdeal.main_v14_3)) (v4 : (c : Dev Cert.ProjIdeal.nD) → Buf (Elt Ideal) ((c.tc : Thread Cert.ProjIdeal.nD Cert.ProjIdeal.τ).loc Cert.ProjIdeal.main_v14_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14_0) = v0 c
          ∧ r.2.mem ((c.tc : Thread Cert.ProjIdeal.nD Cert.ProjIdeal.τ).loc Cert.ProjIdeal.main_v14_1) = v1 c
          ∧ r.2.mem ((c.tc : Thread Cert.ProjIdeal.nD Cert.ProjIdeal.τ).loc Cert.ProjIdeal.main_v14_2) = v2 c
          ∧ r.2.mem ((c.tc : Thread Cert.ProjIdeal.nD Cert.ProjIdeal.τ).loc Cert.ProjIdeal.main_v14_3) = v3 c
          ∧ r.2.mem ((c.tc : Thread Cert.ProjIdeal.nD Cert.ProjIdeal.τ).loc Cert.ProjIdeal.main_v14_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v42) = v0 c
          ∧ r.2.mem ((c.tc : Thread Cert.ProjRefIdeal.nD Cert.ProjRefIdeal.τ).loc Cert.ProjRefIdeal.main_v44) = v1 c
          ∧ r.2.mem ((c.tc : Thread Cert.ProjRefIdeal.nD Cert.ProjRefIdeal.τ).loc Cert.ProjRefIdeal.main_v46) = v2 c
          ∧ r.2.mem ((c.tc : Thread Cert.ProjRefIdeal.nD Cert.ProjRefIdeal.τ).loc Cert.ProjRefIdeal.main_v47) = v3 c
          ∧ r.2.mem ((c.tc : Thread Cert.ProjRefIdeal.nD Cert.ProjRefIdeal.τ).loc Cert.ProjRefIdeal.main_v48) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Phase4_Phase4Ideal : Prop :=
  True

def algebraic_Phase4Ideal_Phase4RefIdeal [hPhase4Ideal : Cert.Phase4Ideal.Facts] [hPhase4RefIdeal : Cert.Phase4RefIdeal.Facts] : Prop :=
  ∀ (m : (ℓ : Loc Cert.Phase4Ideal.nD Cert.Phase4Ideal.τ Cert.Phase4Ideal.sig) → Buf (Elt Ideal) ℓ) (g : Dev Cert.Phase4Ideal.nD → PrngReg)
    (m' : (ℓ : Loc Cert.Phase4RefIdeal.nD Cert.Phase4RefIdeal.τ Cert.Phase4RefIdeal.sig) → Buf (Elt Ideal) ℓ) (g' : Dev Cert.Phase4RefIdeal.nD → PrngReg), Pre_Phase4Ideal m →
    (∀ c : Dev Cert.Phase4Ideal.nD,
      m' ((c.tc : Thread Cert.Phase4RefIdeal.nD Cert.Phase4RefIdeal.τ).loc Cert.Phase4RefIdeal.main_arg0) = m ((c.tc : Thread Cert.Phase4Ideal.nD Cert.Phase4Ideal.τ).loc Cert.Phase4Ideal.main_arg0)
      ∧ m' ((c.tc : Thread Cert.Phase4RefIdeal.nD Cert.Phase4RefIdeal.τ).loc Cert.Phase4RefIdeal.main_arg1) = m ((c.tc : Thread Cert.Phase4Ideal.nD Cert.Phase4Ideal.τ).loc Cert.Phase4Ideal.main_arg1)
      ∧ m' ((c.tc : Thread Cert.Phase4RefIdeal.nD Cert.Phase4RefIdeal.τ).loc Cert.Phase4RefIdeal.main_arg2) = m ((c.tc : Thread Cert.Phase4Ideal.nD Cert.Phase4Ideal.τ).loc Cert.Phase4Ideal.main_arg2)
      ∧ m' ((c.tc : Thread Cert.Phase4RefIdeal.nD Cert.Phase4RefIdeal.τ).loc Cert.Phase4RefIdeal.main_arg3) = m ((c.tc : Thread Cert.Phase4Ideal.nD Cert.Phase4Ideal.τ).loc Cert.Phase4Ideal.main_arg3)
      ∧ m' ((c.tc : Thread Cert.Phase4RefIdeal.nD Cert.Phase4RefIdeal.τ).loc Cert.Phase4RefIdeal.main_arg4) = m ((c.tc : Thread Cert.Phase4Ideal.nD Cert.Phase4Ideal.τ).loc Cert.Phase4Ideal.main_arg4)
      ∧ m' ((c.tc : Thread Cert.Phase4RefIdeal.nD Cert.Phase4RefIdeal.τ).loc Cert.Phase4RefIdeal.main_arg5) = m ((c.tc : Thread Cert.Phase4Ideal.nD Cert.Phase4Ideal.τ).loc Cert.Phase4Ideal.main_arg5)) →
    ∃ (v0 : (c : Dev Cert.Phase4Ideal.nD) → Buf (Elt Ideal) ((c.tc : Thread Cert.Phase4Ideal.nD Cert.Phase4Ideal.τ).loc Cert.Phase4Ideal.main_v17)),
      θ_run (Cert.Phase4Ideal.defs (F := Ideal)) (onTc (τ := Cert.Phase4Ideal.τ) (Cert.Phase4Ideal.main (F := Ideal))) ⟨m, fun _ => 0, g⟩ (fun r => ∀ c : Dev Cert.Phase4Ideal.nD,
          r.2.mem ((c.tc : Thread Cert.Phase4Ideal.nD Cert.Phase4Ideal.τ).loc Cert.Phase4Ideal.main_v17) = v0 c
          ∧ r.2.mem ((c.tc : Thread Cert.Phase4Ideal.nD Cert.Phase4Ideal.τ).loc Cert.Phase4Ideal.main_arg0) = m ((c.tc : Thread Cert.Phase4Ideal.nD Cert.Phase4Ideal.τ).loc Cert.Phase4Ideal.main_arg0)
          ∧ r.2.mem ((c.tc : Thread Cert.Phase4Ideal.nD Cert.Phase4Ideal.τ).loc Cert.Phase4Ideal.main_arg1) = m ((c.tc : Thread Cert.Phase4Ideal.nD Cert.Phase4Ideal.τ).loc Cert.Phase4Ideal.main_arg1)
          ∧ r.2.mem ((c.tc : Thread Cert.Phase4Ideal.nD Cert.Phase4Ideal.τ).loc Cert.Phase4Ideal.main_arg2) = m ((c.tc : Thread Cert.Phase4Ideal.nD Cert.Phase4Ideal.τ).loc Cert.Phase4Ideal.main_arg2)
          ∧ r.2.mem ((c.tc : Thread Cert.Phase4Ideal.nD Cert.Phase4Ideal.τ).loc Cert.Phase4Ideal.main_arg3) = m ((c.tc : Thread Cert.Phase4Ideal.nD Cert.Phase4Ideal.τ).loc Cert.Phase4Ideal.main_arg3)
          ∧ r.2.mem ((c.tc : Thread Cert.Phase4Ideal.nD Cert.Phase4Ideal.τ).loc Cert.Phase4Ideal.main_arg4) = m ((c.tc : Thread Cert.Phase4Ideal.nD Cert.Phase4Ideal.τ).loc Cert.Phase4Ideal.main_arg4)
          ∧ r.2.mem ((c.tc : Thread Cert.Phase4Ideal.nD Cert.Phase4Ideal.τ).loc Cert.Phase4Ideal.main_arg5) = m ((c.tc : Thread Cert.Phase4Ideal.nD Cert.Phase4Ideal.τ).loc Cert.Phase4Ideal.main_arg5))
      ∧ θ_run (Cert.Phase4RefIdeal.defs (F := Ideal)) (onTc (τ := Cert.Phase4RefIdeal.τ) (Cert.Phase4RefIdeal.main (F := Ideal))) ⟨m', fun _ => 0, g'⟩ (fun r => ∀ c : Dev Cert.Phase4RefIdeal.nD,
          r.2.mem ((c.tc : Thread Cert.Phase4RefIdeal.nD Cert.Phase4RefIdeal.τ).loc Cert.Phase4RefIdeal.main_v46) = v0 c
          ∧ r.2.mem ((c.tc : Thread Cert.Phase4RefIdeal.nD Cert.Phase4RefIdeal.τ).loc Cert.Phase4RefIdeal.main_arg0) = m' ((c.tc : Thread Cert.Phase4RefIdeal.nD Cert.Phase4RefIdeal.τ).loc Cert.Phase4RefIdeal.main_arg0)
          ∧ r.2.mem ((c.tc : Thread Cert.Phase4RefIdeal.nD Cert.Phase4RefIdeal.τ).loc Cert.Phase4RefIdeal.main_arg1) = m' ((c.tc : Thread Cert.Phase4RefIdeal.nD Cert.Phase4RefIdeal.τ).loc Cert.Phase4RefIdeal.main_arg1)
          ∧ r.2.mem ((c.tc : Thread Cert.Phase4RefIdeal.nD Cert.Phase4RefIdeal.τ).loc Cert.Phase4RefIdeal.main_arg2) = m' ((c.tc : Thread Cert.Phase4RefIdeal.nD Cert.Phase4RefIdeal.τ).loc Cert.Phase4RefIdeal.main_arg2)
          ∧ r.2.mem ((c.tc : Thread Cert.Phase4RefIdeal.nD Cert.Phase4RefIdeal.τ).loc Cert.Phase4RefIdeal.main_arg3) = m' ((c.tc : Thread Cert.Phase4RefIdeal.nD Cert.Phase4RefIdeal.τ).loc Cert.Phase4RefIdeal.main_arg3)
          ∧ r.2.mem ((c.tc : Thread Cert.Phase4RefIdeal.nD Cert.Phase4RefIdeal.τ).loc Cert.Phase4RefIdeal.main_arg4) = m' ((c.tc : Thread Cert.Phase4RefIdeal.nD Cert.Phase4RefIdeal.τ).loc Cert.Phase4RefIdeal.main_arg4)
          ∧ r.2.mem ((c.tc : Thread Cert.Phase4RefIdeal.nD Cert.Phase4RefIdeal.τ).loc Cert.Phase4RefIdeal.main_arg5) = m' ((c.tc : Thread Cert.Phase4RefIdeal.nD Cert.Phase4RefIdeal.τ).loc Cert.Phase4RefIdeal.main_arg5))

def preserves_Phase16_Phase16Ideal : Prop :=
  True

def algebraic_Phase16Ideal_Phase16RefIdeal [hPhase16Ideal : Cert.Phase16Ideal.Facts] [hPhase16RefIdeal : Cert.Phase16RefIdeal.Facts] : Prop :=
  ∀ (m : (ℓ : Loc Cert.Phase16Ideal.nD Cert.Phase16Ideal.τ Cert.Phase16Ideal.sig) → Buf (Elt Ideal) ℓ) (g : Dev Cert.Phase16Ideal.nD → PrngReg)
    (m' : (ℓ : Loc Cert.Phase16RefIdeal.nD Cert.Phase16RefIdeal.τ Cert.Phase16RefIdeal.sig) → Buf (Elt Ideal) ℓ) (g' : Dev Cert.Phase16RefIdeal.nD → PrngReg), Pre_Phase16Ideal m →
    (∀ c : Dev Cert.Phase16Ideal.nD,
      m' ((c.tc : Thread Cert.Phase16RefIdeal.nD Cert.Phase16RefIdeal.τ).loc Cert.Phase16RefIdeal.main_arg0) = m ((c.tc : Thread Cert.Phase16Ideal.nD Cert.Phase16Ideal.τ).loc Cert.Phase16Ideal.main_arg0)
      ∧ m' ((c.tc : Thread Cert.Phase16RefIdeal.nD Cert.Phase16RefIdeal.τ).loc Cert.Phase16RefIdeal.main_arg1) = m ((c.tc : Thread Cert.Phase16Ideal.nD Cert.Phase16Ideal.τ).loc Cert.Phase16Ideal.main_arg1)
      ∧ m' ((c.tc : Thread Cert.Phase16RefIdeal.nD Cert.Phase16RefIdeal.τ).loc Cert.Phase16RefIdeal.main_arg2) = m ((c.tc : Thread Cert.Phase16Ideal.nD Cert.Phase16Ideal.τ).loc Cert.Phase16Ideal.main_arg2)
      ∧ m' ((c.tc : Thread Cert.Phase16RefIdeal.nD Cert.Phase16RefIdeal.τ).loc Cert.Phase16RefIdeal.main_arg3) = m ((c.tc : Thread Cert.Phase16Ideal.nD Cert.Phase16Ideal.τ).loc Cert.Phase16Ideal.main_arg3)
      ∧ m' ((c.tc : Thread Cert.Phase16RefIdeal.nD Cert.Phase16RefIdeal.τ).loc Cert.Phase16RefIdeal.main_arg4) = m ((c.tc : Thread Cert.Phase16Ideal.nD Cert.Phase16Ideal.τ).loc Cert.Phase16Ideal.main_arg4)
      ∧ m' ((c.tc : Thread Cert.Phase16RefIdeal.nD Cert.Phase16RefIdeal.τ).loc Cert.Phase16RefIdeal.main_arg5) = m ((c.tc : Thread Cert.Phase16Ideal.nD Cert.Phase16Ideal.τ).loc Cert.Phase16Ideal.main_arg5)) →
    ∃ (v0 : (c : Dev Cert.Phase16Ideal.nD) → Buf (Elt Ideal) ((c.tc : Thread Cert.Phase16Ideal.nD Cert.Phase16Ideal.τ).loc Cert.Phase16Ideal.main_v17)),
      θ_run (Cert.Phase16Ideal.defs (F := Ideal)) (onTc (τ := Cert.Phase16Ideal.τ) (Cert.Phase16Ideal.main (F := Ideal))) ⟨m, fun _ => 0, g⟩ (fun r => ∀ c : Dev Cert.Phase16Ideal.nD,
          r.2.mem ((c.tc : Thread Cert.Phase16Ideal.nD Cert.Phase16Ideal.τ).loc Cert.Phase16Ideal.main_v17) = v0 c
          ∧ r.2.mem ((c.tc : Thread Cert.Phase16Ideal.nD Cert.Phase16Ideal.τ).loc Cert.Phase16Ideal.main_arg0) = m ((c.tc : Thread Cert.Phase16Ideal.nD Cert.Phase16Ideal.τ).loc Cert.Phase16Ideal.main_arg0)
          ∧ r.2.mem ((c.tc : Thread Cert.Phase16Ideal.nD Cert.Phase16Ideal.τ).loc Cert.Phase16Ideal.main_arg1) = m ((c.tc : Thread Cert.Phase16Ideal.nD Cert.Phase16Ideal.τ).loc Cert.Phase16Ideal.main_arg1)
          ∧ r.2.mem ((c.tc : Thread Cert.Phase16Ideal.nD Cert.Phase16Ideal.τ).loc Cert.Phase16Ideal.main_arg2) = m ((c.tc : Thread Cert.Phase16Ideal.nD Cert.Phase16Ideal.τ).loc Cert.Phase16Ideal.main_arg2)
          ∧ r.2.mem ((c.tc : Thread Cert.Phase16Ideal.nD Cert.Phase16Ideal.τ).loc Cert.Phase16Ideal.main_arg3) = m ((c.tc : Thread Cert.Phase16Ideal.nD Cert.Phase16Ideal.τ).loc Cert.Phase16Ideal.main_arg3)
          ∧ r.2.mem ((c.tc : Thread Cert.Phase16Ideal.nD Cert.Phase16Ideal.τ).loc Cert.Phase16Ideal.main_arg4) = m ((c.tc : Thread Cert.Phase16Ideal.nD Cert.Phase16Ideal.τ).loc Cert.Phase16Ideal.main_arg4)
          ∧ r.2.mem ((c.tc : Thread Cert.Phase16Ideal.nD Cert.Phase16Ideal.τ).loc Cert.Phase16Ideal.main_arg5) = m ((c.tc : Thread Cert.Phase16Ideal.nD Cert.Phase16Ideal.τ).loc Cert.Phase16Ideal.main_arg5))
      ∧ θ_run (Cert.Phase16RefIdeal.defs (F := Ideal)) (onTc (τ := Cert.Phase16RefIdeal.τ) (Cert.Phase16RefIdeal.main (F := Ideal))) ⟨m', fun _ => 0, g'⟩ (fun r => ∀ c : Dev Cert.Phase16RefIdeal.nD,
          r.2.mem ((c.tc : Thread Cert.Phase16RefIdeal.nD Cert.Phase16RefIdeal.τ).loc Cert.Phase16RefIdeal.main_v46) = v0 c
          ∧ r.2.mem ((c.tc : Thread Cert.Phase16RefIdeal.nD Cert.Phase16RefIdeal.τ).loc Cert.Phase16RefIdeal.main_arg0) = m' ((c.tc : Thread Cert.Phase16RefIdeal.nD Cert.Phase16RefIdeal.τ).loc Cert.Phase16RefIdeal.main_arg0)
          ∧ r.2.mem ((c.tc : Thread Cert.Phase16RefIdeal.nD Cert.Phase16RefIdeal.τ).loc Cert.Phase16RefIdeal.main_arg1) = m' ((c.tc : Thread Cert.Phase16RefIdeal.nD Cert.Phase16RefIdeal.τ).loc Cert.Phase16RefIdeal.main_arg1)
          ∧ r.2.mem ((c.tc : Thread Cert.Phase16RefIdeal.nD Cert.Phase16RefIdeal.τ).loc Cert.Phase16RefIdeal.main_arg2) = m' ((c.tc : Thread Cert.Phase16RefIdeal.nD Cert.Phase16RefIdeal.τ).loc Cert.Phase16RefIdeal.main_arg2)
          ∧ r.2.mem ((c.tc : Thread Cert.Phase16RefIdeal.nD Cert.Phase16RefIdeal.τ).loc Cert.Phase16RefIdeal.main_arg3) = m' ((c.tc : Thread Cert.Phase16RefIdeal.nD Cert.Phase16RefIdeal.τ).loc Cert.Phase16RefIdeal.main_arg3)
          ∧ r.2.mem ((c.tc : Thread Cert.Phase16RefIdeal.nD Cert.Phase16RefIdeal.τ).loc Cert.Phase16RefIdeal.main_arg4) = m' ((c.tc : Thread Cert.Phase16RefIdeal.nD Cert.Phase16RefIdeal.τ).loc Cert.Phase16RefIdeal.main_arg4)
          ∧ r.2.mem ((c.tc : Thread Cert.Phase16RefIdeal.nD Cert.Phase16RefIdeal.τ).loc Cert.Phase16RefIdeal.main_arg5) = m' ((c.tc : Thread Cert.Phase16RefIdeal.nD Cert.Phase16RefIdeal.τ).loc Cert.Phase16RefIdeal.main_arg5))

def preserves_Dil16_Dil16Ideal : Prop :=
  True

def algebraic_Dil16Ideal_Dil16RefIdeal_pre_finite16 [hDil16Ideal : Cert.Dil16Ideal.Facts] [hDil16RefIdeal : Cert.Dil16RefIdeal.Facts] [hPre_finite16 : Cert.Pre_finite16.Facts] : Prop :=
  ∀ (m : (ℓ : Loc Cert.Dil16Ideal.nD Cert.Dil16Ideal.τ Cert.Dil16Ideal.sig) → Buf (Elt Ideal) ℓ) (g : Dev Cert.Dil16Ideal.nD → PrngReg)
    (m' : (ℓ : Loc Cert.Dil16RefIdeal.nD Cert.Dil16RefIdeal.τ Cert.Dil16RefIdeal.sig) → Buf (Elt Ideal) ℓ) (g' : Dev Cert.Dil16RefIdeal.nD → PrngReg), Pre_Dil16Ideal_finite16 m →
    (∀ c : Dev Cert.Dil16Ideal.nD,
      m' ((c.tc : Thread Cert.Dil16RefIdeal.nD Cert.Dil16RefIdeal.τ).loc Cert.Dil16RefIdeal.main_arg0) = m ((c.tc : Thread Cert.Dil16Ideal.nD Cert.Dil16Ideal.τ).loc Cert.Dil16Ideal.main_arg0)) →
    ∃ (v0 : (c : Dev Cert.Dil16Ideal.nD) → Buf (Elt Ideal) ((c.tc : Thread Cert.Dil16Ideal.nD Cert.Dil16Ideal.τ).loc Cert.Dil16Ideal.main_v0_0)) (v1 : (c : Dev Cert.Dil16Ideal.nD) → Buf (Elt Ideal) ((c.tc : Thread Cert.Dil16Ideal.nD Cert.Dil16Ideal.τ).loc Cert.Dil16Ideal.main_v0_1)),
      θ_run (Cert.Dil16Ideal.defs (F := Ideal)) (onTc (τ := Cert.Dil16Ideal.τ) (Cert.Dil16Ideal.main (F := Ideal))) ⟨m, fun _ => 0, g⟩ (fun r => ∀ c : Dev Cert.Dil16Ideal.nD,
          r.2.mem ((c.tc : Thread Cert.Dil16Ideal.nD Cert.Dil16Ideal.τ).loc Cert.Dil16Ideal.main_v0_0) = v0 c
          ∧ r.2.mem ((c.tc : Thread Cert.Dil16Ideal.nD Cert.Dil16Ideal.τ).loc Cert.Dil16Ideal.main_v0_1) = v1 c
          ∧ r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ θ_run (Cert.Dil16RefIdeal.defs (F := Ideal)) (onTc (τ := Cert.Dil16RefIdeal.τ) (Cert.Dil16RefIdeal.main (F := Ideal))) ⟨m', fun _ => 0, g'⟩ (fun r => ∀ c : Dev Cert.Dil16RefIdeal.nD,
          r.2.mem ((c.tc : Thread Cert.Dil16RefIdeal.nD Cert.Dil16RefIdeal.τ).loc Cert.Dil16RefIdeal.main_v38) = v0 c
          ∧ r.2.mem ((c.tc : Thread Cert.Dil16RefIdeal.nD Cert.Dil16RefIdeal.τ).loc Cert.Dil16RefIdeal.main_v40) = v1 c
          ∧ r.2.mem ((c.tc : Thread Cert.Dil16RefIdeal.nD Cert.Dil16RefIdeal.τ).loc Cert.Dil16RefIdeal.main_arg0) = m' ((c.tc : Thread Cert.Dil16RefIdeal.nD Cert.Dil16RefIdeal.τ).loc Cert.Dil16RefIdeal.main_arg0))

def preserves_Dil1_Dil1Ideal : Prop :=
  True

def algebraic_Dil1Ideal_Dil1RefIdeal_pre_finite1 [hDil1Ideal : Cert.Dil1Ideal.Facts] [hDil1RefIdeal : Cert.Dil1RefIdeal.Facts] [hPre_finite1 : Cert.Pre_finite1.Facts] : Prop :=
  ∀ (m : (ℓ : Loc Cert.Dil1Ideal.nD Cert.Dil1Ideal.τ Cert.Dil1Ideal.sig) → Buf (Elt Ideal) ℓ) (g : Dev Cert.Dil1Ideal.nD → PrngReg)
    (m' : (ℓ : Loc Cert.Dil1RefIdeal.nD Cert.Dil1RefIdeal.τ Cert.Dil1RefIdeal.sig) → Buf (Elt Ideal) ℓ) (g' : Dev Cert.Dil1RefIdeal.nD → PrngReg), Pre_Dil1Ideal_finite1 m →
    (∀ c : Dev Cert.Dil1Ideal.nD,
      m' ((c.tc : Thread Cert.Dil1RefIdeal.nD Cert.Dil1RefIdeal.τ).loc Cert.Dil1RefIdeal.main_arg0) = m ((c.tc : Thread Cert.Dil1Ideal.nD Cert.Dil1Ideal.τ).loc Cert.Dil1Ideal.main_arg0)
      ∧ m' ((c.tc : Thread Cert.Dil1RefIdeal.nD Cert.Dil1RefIdeal.τ).loc Cert.Dil1RefIdeal.main_arg1) = m ((c.tc : Thread Cert.Dil1Ideal.nD Cert.Dil1Ideal.τ).loc Cert.Dil1Ideal.main_arg1)) →
    ∃ (v0 : (c : Dev Cert.Dil1Ideal.nD) → Buf (Elt Ideal) ((c.tc : Thread Cert.Dil1Ideal.nD Cert.Dil1Ideal.τ).loc Cert.Dil1Ideal.main_v0_0)) (v1 : (c : Dev Cert.Dil1Ideal.nD) → Buf (Elt Ideal) ((c.tc : Thread Cert.Dil1Ideal.nD Cert.Dil1Ideal.τ).loc Cert.Dil1Ideal.main_v0_1)),
      θ_run (Cert.Dil1Ideal.defs (F := Ideal)) (onTc (τ := Cert.Dil1Ideal.τ) (Cert.Dil1Ideal.main (F := Ideal))) ⟨m, fun _ => 0, g⟩ (fun r => ∀ c : Dev Cert.Dil1Ideal.nD,
          r.2.mem ((c.tc : Thread Cert.Dil1Ideal.nD Cert.Dil1Ideal.τ).loc Cert.Dil1Ideal.main_v0_0) = v0 c
          ∧ r.2.mem ((c.tc : Thread Cert.Dil1Ideal.nD Cert.Dil1Ideal.τ).loc Cert.Dil1Ideal.main_v0_1) = v1 c
          ∧ r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
          ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1))
      ∧ θ_run (Cert.Dil1RefIdeal.defs (F := Ideal)) (onTc (τ := Cert.Dil1RefIdeal.τ) (Cert.Dil1RefIdeal.main (F := Ideal))) ⟨m', fun _ => 0, g'⟩ (fun r => ∀ c : Dev Cert.Dil1RefIdeal.nD,
          r.2.mem ((c.tc : Thread Cert.Dil1RefIdeal.nD Cert.Dil1RefIdeal.τ).loc Cert.Dil1RefIdeal.main_v38) = v0 c
          ∧ r.2.mem ((c.tc : Thread Cert.Dil1RefIdeal.nD Cert.Dil1RefIdeal.τ).loc Cert.Dil1RefIdeal.main_v40) = v1 c
          ∧ r.2.mem ((c.tc : Thread Cert.Dil1RefIdeal.nD Cert.Dil1RefIdeal.τ).loc Cert.Dil1RefIdeal.main_arg0) = m' ((c.tc : Thread Cert.Dil1RefIdeal.nD Cert.Dil1RefIdeal.τ).loc Cert.Dil1RefIdeal.main_arg0)
          ∧ r.2.mem ((c.tc : Thread Cert.Dil1RefIdeal.nD Cert.Dil1RefIdeal.τ).loc Cert.Dil1RefIdeal.main_arg1) = m' ((c.tc : Thread Cert.Dil1RefIdeal.nD Cert.Dil1RefIdeal.τ).loc Cert.Dil1RefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v12_0)) (v1 : (c : Dev Cert.RopeIdeal.nD) → Buf (Elt Ideal) ((c.tc : Thread Cert.RopeIdeal.nD Cert.RopeIdeal.τ).loc Cert.RopeIdeal.main_v12_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v12_0) = v0 c
          ∧ r.2.mem ((c.tc : Thread Cert.RopeIdeal.nD Cert.RopeIdeal.τ).loc Cert.RopeIdeal.main_v12_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v14) = v0 c
          ∧ r.2.mem ((c.tc : Thread Cert.RopeRefIdeal.nD Cert.RopeRefIdeal.τ).loc Cert.RopeRefIdeal.main_v17) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)
      ∧ m' ((c.tc : Thread Cert.CmpRefIdeal.nD Cert.CmpRefIdeal.τ).loc Cert.CmpRefIdeal.main_arg6) = m ((c.tc : Thread Cert.CmpIdeal.nD Cert.CmpIdeal.τ).loc Cert.CmpIdeal.main_arg6)
      ∧ m' ((c.tc : Thread Cert.CmpRefIdeal.nD Cert.CmpRefIdeal.τ).loc Cert.CmpRefIdeal.main_arg7) = m ((c.tc : Thread Cert.CmpIdeal.nD Cert.CmpIdeal.τ).loc Cert.CmpIdeal.main_arg7)
      ∧ m' ((c.tc : Thread Cert.CmpRefIdeal.nD Cert.CmpRefIdeal.τ).loc Cert.CmpRefIdeal.main_arg8) = m ((c.tc : Thread Cert.CmpIdeal.nD Cert.CmpIdeal.τ).loc Cert.CmpIdeal.main_arg8)) →
    ∃ (v0 : (c : Dev Cert.CmpIdeal.nD) → Buf (Elt Ideal) ((c.tc : Thread Cert.CmpIdeal.nD Cert.CmpIdeal.τ).loc Cert.CmpIdeal.main_v21_0)) (v1 : (c : Dev Cert.CmpIdeal.nD) → Buf (Elt Ideal) ((c.tc : Thread Cert.CmpIdeal.nD Cert.CmpIdeal.τ).loc Cert.CmpIdeal.main_v21_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v21_0) = v0 c
          ∧ r.2.mem ((c.tc : Thread Cert.CmpIdeal.nD Cert.CmpIdeal.τ).loc Cert.CmpIdeal.main_v21_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
          ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7)
          ∧ r.2.mem ((c.tc : Thread Cert.CmpIdeal.nD Cert.CmpIdeal.τ).loc Cert.CmpIdeal.main_arg8) = m ((c.tc : Thread Cert.CmpIdeal.nD Cert.CmpIdeal.τ).loc Cert.CmpIdeal.main_arg8))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v65) = v0 c
          ∧ r.2.mem ((c.tc : Thread Cert.CmpRefIdeal.nD Cert.CmpRefIdeal.τ).loc Cert.CmpRefIdeal.main_v67) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5)
          ∧ r.2.mem ((c.tc : Thread Cert.CmpRefIdeal.nD Cert.CmpRefIdeal.τ).loc Cert.CmpRefIdeal.main_arg6) = m' ((c.tc : Thread Cert.CmpRefIdeal.nD Cert.CmpRefIdeal.τ).loc Cert.CmpRefIdeal.main_arg6)
          ∧ r.2.mem ((c.tc : Thread Cert.CmpRefIdeal.nD Cert.CmpRefIdeal.τ).loc Cert.CmpRefIdeal.main_arg7) = m' ((c.tc : Thread Cert.CmpRefIdeal.nD Cert.CmpRefIdeal.τ).loc Cert.CmpRefIdeal.main_arg7)
          ∧ r.2.mem ((c.tc : Thread Cert.CmpRefIdeal.nD Cert.CmpRefIdeal.τ).loc Cert.CmpRefIdeal.main_arg8) = m' ((c.tc : Thread Cert.CmpRefIdeal.nD Cert.CmpRefIdeal.τ).loc Cert.CmpRefIdeal.main_arg8))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v6)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v6) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v265) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6))

def Claim : Prop :=
  ∃ (hDil4 : Cert.Dil4.Facts) (hDil4Ideal : Cert.Dil4Ideal.Facts) (hDil4RefIdeal : Cert.Dil4RefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hPhase4 : Cert.Phase4.Facts) (hPhase4Ideal : Cert.Phase4Ideal.Facts) (hPhase4RefIdeal : Cert.Phase4RefIdeal.Facts) (hPhase16 : Cert.Phase16.Facts) (hPhase16Ideal : Cert.Phase16Ideal.Facts) (hPhase16RefIdeal : Cert.Phase16RefIdeal.Facts) (hDil16 : Cert.Dil16.Facts) (hDil16Ideal : Cert.Dil16Ideal.Facts) (hDil16RefIdeal : Cert.Dil16RefIdeal.Facts) (hDil1 : Cert.Dil1.Facts) (hDil1Ideal : Cert.Dil1Ideal.Facts) (hDil1RefIdeal : Cert.Dil1RefIdeal.Facts) (hRope : Cert.Rope.Facts) (hRopeIdeal : Cert.RopeIdeal.Facts) (hRopeRefIdeal : Cert.RopeRefIdeal.Facts) (hCmp : Cert.Cmp.Facts) (hCmpIdeal : Cert.CmpIdeal.Facts) (hCmpRefIdeal : Cert.CmpRefIdeal.Facts) (hConv : Cert.Conv.Facts) (hConvIdeal : Cert.ConvIdeal.Facts) (hConvRefIdeal : Cert.ConvRefIdeal.Facts) (hPre_finite : Cert.Pre_finite.Facts) (hPre_finite16 : Cert.Pre_finite16.Facts) (hPre_finite1 : Cert.Pre_finite1.Facts),
    quiescent_Dil4 (hDil4 := hDil4)
    ∧ quiescent_Dil4Ideal (hDil4Ideal := hDil4Ideal)
    ∧ quiescent_Dil4Ideal_pre_finite (hDil4Ideal := hDil4Ideal) (hPre_finite := hPre_finite)
    ∧ quiescent_Dil4RefIdeal (hDil4RefIdeal := hDil4RefIdeal)
    ∧ quiescent_Dil4RefIdeal_pre_finite (hDil4RefIdeal := hDil4RefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Proj (hProj := hProj)
    ∧ quiescent_ProjIdeal (hProjIdeal := hProjIdeal)
    ∧ quiescent_ProjRefIdeal (hProjRefIdeal := hProjRefIdeal)
    ∧ quiescent_Phase4 (hPhase4 := hPhase4)
    ∧ quiescent_Phase4Ideal (hPhase4Ideal := hPhase4Ideal)
    ∧ quiescent_Phase4RefIdeal (hPhase4RefIdeal := hPhase4RefIdeal)
    ∧ quiescent_Phase16 (hPhase16 := hPhase16)
    ∧ quiescent_Phase16Ideal (hPhase16Ideal := hPhase16Ideal)
    ∧ quiescent_Phase16RefIdeal (hPhase16RefIdeal := hPhase16RefIdeal)
    ∧ quiescent_Dil16 (hDil16 := hDil16)
    ∧ quiescent_Dil16Ideal (hDil16Ideal := hDil16Ideal)
    ∧ quiescent_Dil16Ideal_pre_finite16 (hDil16Ideal := hDil16Ideal) (hPre_finite16 := hPre_finite16)
    ∧ quiescent_Dil16RefIdeal (hDil16RefIdeal := hDil16RefIdeal)
    ∧ quiescent_Dil16RefIdeal_pre_finite16 (hDil16RefIdeal := hDil16RefIdeal) (hPre_finite16 := hPre_finite16)
    ∧ quiescent_Dil1 (hDil1 := hDil1)
    ∧ quiescent_Dil1Ideal (hDil1Ideal := hDil1Ideal)
    ∧ quiescent_Dil1Ideal_pre_finite1 (hDil1Ideal := hDil1Ideal) (hPre_finite1 := hPre_finite1)
    ∧ quiescent_Dil1RefIdeal (hDil1RefIdeal := hDil1RefIdeal)
    ∧ quiescent_Dil1RefIdeal_pre_finite1 (hDil1RefIdeal := hDil1RefIdeal) (hPre_finite1 := hPre_finite1)
    ∧ quiescent_Rope (hRope := hRope)
    ∧ quiescent_RopeIdeal (hRopeIdeal := hRopeIdeal)
    ∧ quiescent_RopeRefIdeal (hRopeRefIdeal := hRopeRefIdeal)
    ∧ quiescent_Cmp (hCmp := hCmp)
    ∧ quiescent_CmpIdeal (hCmpIdeal := hCmpIdeal)
    ∧ quiescent_CmpRefIdeal (hCmpRefIdeal := hCmpRefIdeal)
    ∧ quiescent_Conv (hConv := hConv)
    ∧ quiescent_ConvIdeal (hConvIdeal := hConvIdeal)
    ∧ quiescent_ConvRefIdeal (hConvRefIdeal := hConvRefIdeal)
    ∧ preserves_Dil4_Dil4Ideal
    ∧ algebraic_Dil4Ideal_Dil4RefIdeal_pre_finite (hDil4Ideal := hDil4Ideal) (hDil4RefIdeal := hDil4RefIdeal) (hPre_finite := hPre_finite)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Proj_ProjIdeal
    ∧ algebraic_ProjIdeal_ProjRefIdeal (hProjIdeal := hProjIdeal) (hProjRefIdeal := hProjRefIdeal)
    ∧ preserves_Phase4_Phase4Ideal
    ∧ algebraic_Phase4Ideal_Phase4RefIdeal (hPhase4Ideal := hPhase4Ideal) (hPhase4RefIdeal := hPhase4RefIdeal)
    ∧ preserves_Phase16_Phase16Ideal
    ∧ algebraic_Phase16Ideal_Phase16RefIdeal (hPhase16Ideal := hPhase16Ideal) (hPhase16RefIdeal := hPhase16RefIdeal)
    ∧ preserves_Dil16_Dil16Ideal
    ∧ algebraic_Dil16Ideal_Dil16RefIdeal_pre_finite16 (hDil16Ideal := hDil16Ideal) (hDil16RefIdeal := hDil16RefIdeal) (hPre_finite16 := hPre_finite16)
    ∧ preserves_Dil1_Dil1Ideal
    ∧ algebraic_Dil1Ideal_Dil1RefIdeal_pre_finite1 (hDil1Ideal := hDil1Ideal) (hDil1RefIdeal := hDil1RefIdeal) (hPre_finite1 := hPre_finite1)
    ∧ preserves_Rope_RopeIdeal
    ∧ algebraic_RopeIdeal_RopeRefIdeal (hRopeIdeal := hRopeIdeal) (hRopeRefIdeal := hRopeRefIdeal)
    ∧ preserves_Cmp_CmpIdeal
    ∧ algebraic_CmpIdeal_CmpRefIdeal (hCmpIdeal := hCmpIdeal) (hCmpRefIdeal := hCmpRefIdeal)
    ∧ preserves_Conv_ConvIdeal
    ∧ algebraic_ConvIdeal_ConvRefIdeal (hConvIdeal := hConvIdeal) (hConvRefIdeal := hConvRefIdeal)
-- ==== Pre_finite.lean ====
abbrev S8x4x1024x768 : Shape := ⟨4, ![8, 4, 1024, 768]⟩
abbrev S8x4x1024x512 : Shape := ⟨4, ![8, 4, 1024, 512]⟩
abbrev S_ : Shape := ⟨0, ![]⟩

class Facts : Prop where
  slices_S8x4x1024x768_S8x4x1024x512_0_0_0_0 : S8x4x1024x768.Slices ![0, 0, 0, 0] S8x4x1024x512
  bitsLt_bf16_f32 : FTy.bits .bf16 < FTy.bits .f32
  bcast_S_S8x4x1024x512 : S_.BroadcastsInDim S8x4x1024x512 (![] : Fin 0 → Fin S8x4x1024x512.rank)

variable [Facts]

def fn {F : FTy → Type} [FloatOps F] (main_arg0 : FVec F S8x4x1024x768 .bf16) : IVec S8x4x1024x512 1 :=
  let main_v0 : FVec F S8x4x1024x512 .bf16 := (extractStridedSlice S8x4x1024x512 ![0, 0, 0, 0] · slices_S8x4x1024x768_S8x4x1024x512_0_0_0_0) main_arg0
  let main_v1 : FVec F S8x4x1024x512 .f32 := (extf .f32 · bitsLt_bf16_f32) main_v0
  let main_v2 : FVec F S8x4x1024x512 .f32 := Host.absf main_v1
  let main_cst : FVec F S_ .f32 := constant S_ .f32 0x7F800000#32
  let main_v3 : FVec F S8x4x1024x512 .f32 := broadcastInDim S8x4x1024x512 ![] bcast_S_S8x4x1024x512 main_cst
  let main_v4 : IVec S8x4x1024x512 1 := cmpf .olt main_v2 main_v3
  main_v4
-- ==== Pre_finite1.lean ====
abbrev S8x1x4096x1536 : Shape := ⟨4, ![8, 1, 4096, 1536]⟩
abbrev S8x1x4096x768 : Shape := ⟨4, ![8, 1, 4096, 768]⟩
abbrev S8x1x4096x512 : Shape := ⟨4, ![8, 1, 4096, 512]⟩
abbrev S_ : Shape := ⟨0, ![]⟩

class Facts : Prop where
  slices_S8x1x4096x1536_S8x1x4096x512_0_0_0_1024 : S8x1x4096x1536.Slices ![0, 0, 0, 1024] S8x1x4096x512
  bitsLt_bf16_f32 : FTy.bits .bf16 < FTy.bits .f32
  bcast_S_S8x1x4096x512 : S_.BroadcastsInDim S8x1x4096x512 (![] : Fin 0 → Fin S8x1x4096x512.rank)

variable [Facts]

def fn {F : FTy → Type} [FloatOps F] (main_arg0 : FVec F S8x1x4096x1536 .bf16) (main_arg1 : FVec F S8x1x4096x768 .bf16) : IVec S8x1x4096x512 1 :=
  let main_v0 : FVec F S8x1x4096x512 .bf16 := (extractStridedSlice S8x1x4096x512 ![0, 0, 0, 1024] · slices_S8x1x4096x1536_S8x1x4096x512_0_0_0_1024) main_arg0
  let main_v1 : FVec F S8x1x4096x512 .f32 := (extf .f32 · bitsLt_bf16_f32) main_v0
  let main_v2 : FVec F S8x1x4096x512 .f32 := Host.absf main_v1
  let main_cst : FVec F S_ .f32 := constant S_ .f32 0x7F800000#32
  let main_v3 : FVec F S8x1x4096x512 .f32 := broadcastInDim S8x1x4096x512 ![] bcast_S_S8x1x4096x512 main_cst
  let main_v4 : IVec S8x1x4096x512 1 := cmpf .olt main_v2 main_v3
  main_v4
-- ==== Pre_finite16.lean ====
abbrev S8x16x256x768 : Shape := ⟨4, ![8, 16, 256, 768]⟩
abbrev S8x16x256x512 : Shape := ⟨4, ![8, 16, 256, 512]⟩
abbrev S_ : Shape := ⟨0, ![]⟩

class Facts : Prop where
  slices_S8x16x256x768_S8x16x256x512_0_0_0_0 : S8x16x256x768.Slices ![0, 0, 0, 0] S8x16x256x512
  bitsLt_bf16_f32 : FTy.bits .bf16 < FTy.bits .f32
  bcast_S_S8x16x256x512 : S_.BroadcastsInDim S8x16x256x512 (![] : Fin 0 → Fin S8x16x256x512.rank)

variable [Facts]

def fn {F : FTy → Type} [FloatOps F] (main_arg0 : FVec F S8x16x256x768 .bf16) : IVec S8x16x256x512 1 :=
  let main_v0 : FVec F S8x16x256x512 .bf16 := (extractStridedSlice S8x16x256x512 ![0, 0, 0, 0] · slices_S8x16x256x768_S8x16x256x512_0_0_0_0) main_arg0
  let main_v1 : FVec F S8x16x256x512 .f32 := (extf .f32 · bitsLt_bf16_f32) main_v0
  let main_v2 : FVec F S8x16x256x512 .f32 := Host.absf main_v1
  let main_cst : FVec F S_ .f32 := constant S_ .f32 0x7F800000#32
  let main_v3 : FVec F S8x16x256x512 .f32 := broadcastInDim S8x16x256x512 ![] bcast_S_S8x16x256x512 main_cst
  let main_v4 : IVec S8x16x256x512 1 := cmpf .olt main_v2 main_v3
  main_v4
-- ==== Dil4.lean ====
abbrev S8x4x1024x768 : Shape := ⟨4, ![8, 4, 1024, 768]⟩
abbrev S8x1024x1024 : Shape := ⟨3, ![8, 1024, 1024]⟩
abbrev S1x1x128x256 : Shape := ⟨4, ![1, 1, 128, 256]⟩
abbrev S1x128x256 : Shape := ⟨3, ![1, 128, 256]⟩
abbrev S128x128 : Shape := ⟨2, ![128, 128]⟩
abbrev S256x256 : Shape := ⟨2, ![256, 256]⟩
abbrev S1x1x128x128 : Shape := ⟨4, ![1, 1, 128, 128]⟩
abbrev S256x128 : Shape := ⟨2, ![256, 128]⟩
abbrev S256 : Shape := ⟨1, ![256]⟩
abbrev S256x1 : Shape := ⟨2, ![256, 1]⟩
abbrev S1x128x128 : Shape := ⟨3, ![1, 128, 128]⟩
abbrev S128x1 : Shape := ⟨2, ![128, 1]⟩

abbrev nBuf : Space → Nat
  | .hbm => 3
  | .vmem => 14
  | .smem => 0
  | _ => 0

abbrev bufTy : (tb : Table) → Fin (tcTables nBuf tb) → BufTy
  | .hbm, ⟨0, _⟩ => ⟨S8x4x1024x768, .bf16⟩
  | .hbm, ⟨1, _⟩ => ⟨S8x1024x1024, .f32⟩
  | .hbm, ⟨2, _⟩ => ⟨S8x1024x1024, .f32⟩
  | .local _ .vmem, ⟨0, _⟩ => ⟨S1x1x128x256, .bf16⟩
  | .local _ .vmem, ⟨1, _⟩ => ⟨S1x1x128x256, .bf16⟩
  | .local _ .vmem, ⟨2, _⟩ => ⟨S1x1x128x256, .bf16⟩
  | .local _ .vmem, ⟨3, _⟩ => ⟨S1x1x128x256, .bf16⟩
  | .local _ .vmem, ⟨4, _⟩ => ⟨S1x1x128x256, .bf16⟩
  | .local _ .vmem, ⟨5, _⟩ => ⟨S1x1x128x256, .bf16⟩
  | .local _ .vmem, ⟨6, _⟩ => ⟨S1x1x128x256, .bf16⟩
  | .local _ .vmem, ⟨7, _⟩ => ⟨S1x1x128x256, .bf16⟩
  | .local _ .vmem, ⟨8, _⟩ => ⟨S1x1x128x256, .bf16⟩
  | .local _ .vmem, ⟨9, _⟩ => ⟨S1x1x128x256, .bf16⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | _, _ => ⟨S8x4x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c1_i32_0 : BitVec 32 := 1#32
  let c0_i32_1 : BitVec 32 := 0#32
  ![arg0.toNat, arg1.toNat, v1.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let c0_i32_0 : BitVec 32 := 0#32
  ![arg0.toNat, arg1.toNat, v1.toNat, c2_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dil4RefIdeal.lean ====
abbrev S8x4x1024x768 : Shape := ⟨4, ![8, 4, 1024, 768]⟩
abbrev S8x4x1024x256 : Shape := ⟨4, ![8, 4, 1024, 256]⟩
abbrev S8x4x1024x4x64 : Shape := ⟨5, ![8, 4, 1024, 4, 64]⟩
abbrev S8x4x4x1024x1024 : Shape := ⟨5, ![8, 4, 4, 1024, 1024]⟩
abbrev S1024x1024 : Shape := ⟨2, ![1024, 1024]⟩
abbrev S_ : Shape := ⟨0, ![]⟩
abbrev S8x4x4x1024 : Shape := ⟨4, ![8, 4, 4, 1024]⟩
abbrev S8x4x4x1024x1 : Shape := ⟨5, ![8, 4, 4, 1024, 1]⟩
abbrev S8x4x4x1024x64 : Shape := ⟨5, ![8, 4, 4, 1024, 64]⟩
abbrev S8x1024x4x4x64 : Shape := ⟨5, ![8, 1024, 4, 4, 64]⟩
abbrev S8x1024x1024 : Shape := ⟨3, ![8, 1024, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x4x1024x768, .bf16⟩
  | .hbm, ⟨1, _⟩ => ⟨S8x4x1024x256, .bf16⟩
  | .hbm, ⟨2, _⟩ => ⟨S8x4x1024x256, .bf16⟩
  | .hbm, ⟨3, _⟩ => ⟨S8x4x1024x256, .bf16⟩
  | .hbm, ⟨4, _⟩ => ⟨S8x4x1024x256, .f32⟩
  | .hbm, ⟨5, _⟩ => ⟨S8x4x1024x4x64, .f32⟩
  | .hbm, ⟨6, _⟩ => ⟨S8x4x1024x256, .f32⟩
  | .hbm, ⟨7, _⟩ => ⟨S8x4x1024x4x64, .f32⟩
  | .hbm, ⟨8, _⟩ => ⟨S8x4x1024x256, .f32⟩
  | .hbm, ⟨9, _⟩ => ⟨S8x4x1024x4x64, .f32⟩
  | .hbm, ⟨10, _⟩ => ⟨S8x4x4x1024x1024, .f32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S_, .i32⟩
  | .hbm, ⟨15, _⟩ => ⟨S1024x1024, .i32⟩
  | .hbm, ⟨16, _⟩ => ⟨S1024x1024, .i1⟩
  | .hbm, ⟨17, _⟩ => ⟨S1024x1024, .i32⟩
  | .hbm, ⟨18, _⟩ => ⟨S_, .i32⟩
  | .hbm, ⟨19, _⟩ => ⟨S1024x1024, .i32⟩
  | .hbm, ⟨20, _⟩ => ⟨S1024x1024, .i1⟩
  | .hbm, ⟨21, _⟩ => ⟨S1024x1024, .i1⟩
  | .hbm, ⟨22, _⟩ => ⟨S_, .f32⟩
  | .hbm, ⟨23, _⟩ => ⟨S_, .f32⟩
  | .hbm, ⟨24, _⟩ => ⟨S8x4x4x1024x1024, .i1⟩
  | .hbm, ⟨25, _⟩ => ⟨S8x4x4x1024x1024, .f32⟩
  | .hbm, ⟨26, _⟩ => ⟨S8x4x4x1024x1024, .f32⟩
  | .hbm, ⟨27, _⟩ => ⟨S_, .f32⟩
  | .hbm, ⟨28, _⟩ => ⟨S8x4x4x1024, .f32⟩
  | .hbm, ⟨29, _⟩ => ⟨S8x4x4x1024x1, .f32⟩
  | .hbm, ⟨30, _⟩ => ⟨S8x4x4x1024x1024, .f32⟩
  | .hbm, ⟨31, _⟩ => ⟨S8x4x4x1024x1024, .f32⟩
  | .hbm, ⟨32, _⟩ => ⟨S8x4x4x1024x1024, .f32⟩
  | .hbm, ⟨33, _⟩ => ⟨S_, .f32⟩
  | .hbm, ⟨34, _⟩ => ⟨S_, .f32⟩
  | .hbm, ⟨35, _⟩ => ⟨S8x4x4x1024x1024, .i1⟩
  | .hbm, ⟨36, _⟩ => ⟨S8x4x4x1024x1024, .f32⟩
  | .hbm, ⟨37, _⟩ => ⟨S8x4x4x1024x1024, .f32⟩
  | .hbm, ⟨38, _⟩ => ⟨S_, .f32⟩
  | .hbm, ⟨39, _⟩ => ⟨S8x4x4x1024, .f32⟩
  | .hbm, ⟨40, _⟩ => ⟨S8x4x4x1024x1, .f32⟩
  | .hbm, ⟨41, _⟩ => ⟨S_, .f32⟩
  | .hbm, ⟨42, _⟩ => ⟨S8x4x4x1024x1, .f32⟩
  | .hbm, ⟨43, _⟩ => ⟨S8x4x4x1024x1, .i1⟩
  | .hbm, ⟨44, _⟩ => ⟨S_, .f32⟩
  | .hbm, ⟨45, _⟩ => ⟨S_, .f32⟩
  | .hbm, ⟨46, _⟩ => ⟨S8x4x4x1024x1, .f32⟩
  | .hbm, ⟨47, _⟩ => ⟨S8x4x4x1024x1, .f32⟩
  | .hbm, ⟨48, _⟩ => ⟨S8x4x4x1024x1024, .f32⟩
  | .hbm, ⟨49, _⟩ => ⟨S8x4x4x1024x1024, .f32⟩
  | .hbm, ⟨50, _⟩ => ⟨S8x4x4x1024x64, .f32⟩
  | .hbm, ⟨51, _⟩ => ⟨S8x4x4x1024x1, .f32⟩
  | .hbm, ⟨52, _⟩ => ⟨S8x4x4x1024x1, .f32⟩
  | .hbm, ⟨53, _⟩ => ⟨S8x4x4x1024x64, .f32⟩
  | .hbm, ⟨54, _⟩ => ⟨S8x1024x4x4x64, .f32⟩
  | .hbm, ⟨55, _⟩ => ⟨S8x1024x1024, .f32⟩
  | .hbm, ⟨56, _⟩ => ⟨S8x1024x4x4x64, .f32⟩
  | .hbm, ⟨57, _⟩ => ⟨S8x1024x1024, .f32⟩
  | _, _ => ⟨S8x4x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_c : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c_0 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_call2_v0 : Ref sig .tc := ⟨.hbm, 45, rfl⟩
abbrev main_call2_v1 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S_ : Shape := ⟨0, ![]⟩
abbrev S8x5632 : Shape := ⟨2, ![8, 5632]⟩
abbrev S1x5632 : Shape := ⟨2, ![1, 5632]⟩
abbrev S256x1024 : Shape := ⟨2, ![256, 1024]⟩
abbrev S16x1024 : Shape := ⟨2, ![16, 1024]⟩
abbrev S272x1024 : Shape := ⟨2, ![272, 1024]⟩
abbrev S272 : Shape := ⟨1, ![272]⟩
abbrev S272x1 : Shape := ⟨2, ![272, 1]⟩
abbrev S1024x256 : Shape := ⟨2, ![1024, 256]⟩
abbrev S272x256 : Shape := ⟨2, ![272, 256]⟩
abbrev S1x256 : Shape := ⟨2, ![1, 256]⟩
abbrev S256x256 : Shape := ⟨2, ![256, 256]⟩

abbrev nBuf : Space → Nat
  | .hbm => 14
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1x1024, .f32⟩
  | .hbm, ⟨7, _⟩ => ⟨S1024x5632, .bf16⟩
  | .hbm, ⟨8, _⟩ => ⟨S_, .i32⟩
  | .hbm, ⟨9, _⟩ => ⟨S_, .f32⟩
  | .hbm, ⟨10, _⟩ => ⟨S8x5632, .f32⟩
  | .hbm, ⟨11, _⟩ => ⟨S1x5632, .f32⟩
  | .hbm, ⟨12, _⟩ => ⟨S2816x1024, .bf16⟩
  | .hbm, ⟨13, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x5632, .bf16⟩
  | .local _ .vmem, ⟨6, _⟩ => ⟨S8x5632, .f32⟩
  | .local _ .vmem, ⟨7, _⟩ => ⟨S1x5632, .f32⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S32768x1024 : Shape := ⟨2, ![32768, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 65
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S8x4096x1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x5632, .f32⟩
  | .hbm, ⟨24, _⟩ => ⟨S_, .i32⟩
  | .hbm, ⟨25, _⟩ => ⟨S_, .f32⟩
  | .hbm, ⟨26, _⟩ => ⟨S8x4098x5632, .f32⟩
  | .hbm, ⟨27, _⟩ => ⟨S8x4096x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S8x4096x5632, .f32⟩
  | .hbm, ⟨32, _⟩ => ⟨S8x4096x5632, .f32⟩
  | .hbm, ⟨33, _⟩ => ⟨S8x4096x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S8x4096x5632, .f32⟩
  | .hbm, ⟨38, _⟩ => ⟨S8x4096x5632, .f32⟩
  | .hbm, ⟨39, _⟩ => ⟨S8x4096x5632, .f32⟩
  | .hbm, ⟨40, _⟩ => ⟨S8x4096x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S8x4096x5632, .f32⟩
  | .hbm, ⟨45, _⟩ => ⟨S8x4096x5632, .f32⟩
  | .hbm, ⟨46, _⟩ => ⟨S8x4096x5632, .f32⟩
  | .hbm, ⟨47, _⟩ => ⟨S1x1x5632, .f32⟩
  | .hbm, ⟨48, _⟩ => ⟨S8x4096x5632, .f32⟩
  | .hbm, ⟨49, _⟩ => ⟨S8x4096x5632, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S_, .f32⟩
  | .hbm, ⟨55, _⟩ => ⟨S8x4096x2816, .f32⟩
  | .hbm, ⟨56, _⟩ => ⟨S8x4096x2816, .f32⟩
  | .hbm, ⟨57, _⟩ => ⟨S_, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S8x4096x1024, .f32⟩
  | .hbm, ⟨63, _⟩ => ⟨S8x4096x1024, .f32⟩
  | .hbm, ⟨64, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Mix.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩

abbrev nBuf : Space → Nat
  | .hbm => 12
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x512, .bf16⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S1024x1024, .f32⟩
  | .hbm, ⟨10, _⟩ => ⟨S1024x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S8x4096x256 : Shape := ⟨3, ![8, 4096, 256]⟩
abbrev S1x8x4096x256 : Shape := ⟨4, ![1, 8, 4096, 256]⟩
abbrev S3x8x4096x256 : Shape := ⟨4, ![3, 8, 4096, 256]⟩
abbrev S_ : Shape := ⟨0, ![]⟩
abbrev S8x4096x512 : Shape := ⟨3, ![8, 4096, 512]⟩
abbrev S8x4096x1024 : Shape := ⟨3, ![8, 4096, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x512, .bf16⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S1024x1024, .f32⟩
  | .hbm, ⟨10, _⟩ => ⟨S8x4096x256, .f32⟩
  | .hbm, ⟨11, _⟩ => ⟨S8x4096x256, .f32⟩
  | .hbm, ⟨12, _⟩ => ⟨S8x4096x256, .f32⟩
  | .hbm, ⟨13, _⟩ => ⟨S1x8x4096x256, .f32⟩
  | .hbm, ⟨14, _⟩ => ⟨S1x8x4096x256, .f32⟩
  | .hbm, ⟨15, _⟩ => ⟨S1x8x4096x256, .f32⟩
  | .hbm, ⟨16, _⟩ => ⟨S3x8x4096x256, .f32⟩
  | .hbm, ⟨17, _⟩ => ⟨S_, .f32⟩
  | .hbm, ⟨18, _⟩ => ⟨S8x4096x256, .f32⟩
  | .hbm, ⟨19, _⟩ => ⟨S_, .f32⟩
  | .hbm, ⟨20, _⟩ => ⟨S8x4096x256, .f32⟩
  | .hbm, ⟨21, _⟩ => ⟨S8x4096x256, .f32⟩
  | .hbm, ⟨22, _⟩ => ⟨S1x8x4096x256, .f32⟩
  | .hbm, ⟨23, _⟩ => ⟨S3x8x4096x256, .f32⟩
  | .hbm, ⟨24, _⟩ => ⟨S3x8x4096x256, .f32⟩
  | .hbm, ⟨25, _⟩ => ⟨S3x8x4096x256, .f32⟩
  | .hbm, ⟨26, _⟩ => ⟨S_, .f32⟩
  | .hbm, ⟨27, _⟩ => ⟨S8x4096x256, .f32⟩
  | .hbm, ⟨28, _⟩ => ⟨S1x8x4096x256, .f32⟩
  | .hbm, ⟨29, _⟩ => ⟨S3x8x4096x256, .f32⟩
  | .hbm, ⟨30, _⟩ => ⟨S3x8x4096x256, .f32⟩
  | .hbm, ⟨31, _⟩ => ⟨S8x4096x256, .f32⟩
  | .hbm, ⟨32, _⟩ => ⟨S8x4096x256, .f32⟩
  | .hbm, ⟨33, _⟩ => ⟨S8x4096x256, .f32⟩
  | .hbm, ⟨34, _⟩ => ⟨S1x8x4096x256, .f32⟩
  | .hbm, ⟨35, _⟩ => ⟨S1x8x4096x256, .f32⟩
  | .hbm, ⟨36, _⟩ => ⟨S1x8x4096x256, .f32⟩
  | .hbm, ⟨37, _⟩ => ⟨S3x8x4096x256, .f32⟩
  | .hbm, ⟨38, _⟩ => ⟨S3x8x4096x256, .f32⟩
  | .hbm, ⟨39, _⟩ => ⟨S_, .f32⟩
  | .hbm, ⟨40, _⟩ => ⟨S8x4096x256, .f32⟩
  | .hbm, ⟨41, _⟩ => ⟨S32768x256, .f32⟩
  | .hbm, ⟨42, _⟩ => ⟨S8x4096x256, .f32⟩
  | .hbm, ⟨43, _⟩ => ⟨S32768x512, .f32⟩
  | .hbm, ⟨44, _⟩ => ⟨S8x4096x512, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proj.lean ====
abbrev S32768x1024 : Shape := ⟨2, ![32768, 1024]⟩
abbrev S32768x128 : Shape := ⟨2, ![32768, 128]⟩
abbrev S1024 : Shape := ⟨1, ![1024]⟩
abbrev S1024x3200 : Shape := ⟨2, ![1024, 3200]⟩
abbrev S1536 : Shape := ⟨1, ![1536]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x1536 : Shape := ⟨2, ![1, 1536]⟩
abbrev S32768x1536 : Shape := ⟨2, ![32768, 1536]⟩
abbrev S32768x768 : Shape := ⟨2, ![32768, 768]⟩
abbrev S32768x256 : Shape := ⟨2, ![32768, 256]⟩
abbrev S32768x512 : Shape := ⟨2, ![32768, 512]⟩
abbrev S512x1024 : Shape := ⟨2, ![512, 1024]⟩
abbrev S512x128 : Shape := ⟨2, ![512, 128]⟩
abbrev S512x1536 : Shape := ⟨2, ![512, 1536]⟩
abbrev S512x768 : Shape := ⟨2, ![512, 768]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S1024x768 : Shape := ⟨2, ![1024, 768]⟩
abbrev S1024x512 : Shape := ⟨2, ![1024, 512]⟩
abbrev S1024x128 : Shape := ⟨2, ![1024, 128]⟩

abbrev nBuf : Space → Nat
  | .hbm => 27
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S32768x128, .f32⟩
  | .hbm, ⟨3, _⟩ => ⟨S1024, .f32⟩
  | .hbm, ⟨4, _⟩ => ⟨S1024x3200, .bf16⟩
  | .hbm, ⟨5, _⟩ => ⟨S1536, .f32⟩
  | .hbm, ⟨6, _⟩ => ⟨S1x1024, .f32⟩
  | .hbm, ⟨7, _⟩ => ⟨S256, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256x1, .i32⟩
  | .hbm, ⟨12, _⟩ => ⟨S1x256, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .bf16⟩
  | .hbm, ⟨21, _⟩ => ⟨S1x1536, .f32⟩
  | .hbm, ⟨22, _⟩ => ⟨S32768x1536, .bf16⟩
  | .hbm, ⟨23, _⟩ => ⟨S32768x768, .bf16⟩
  | .hbm, ⟨24, _⟩ => ⟨S32768x256, .bf16⟩
  | .hbm, ⟨25, _⟩ => ⟨S32768x512, .f32⟩
  | .hbm, ⟨26, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x3200, .bf16⟩
  | .local _ .vmem, ⟨8, _⟩ => ⟨S256x256, .bf16⟩
  | .local _ .vmem, ⟨9, _⟩ => ⟨S1x1536, .f32⟩
  | .local _ .vmem, ⟨10, _⟩ => ⟨S512x1536, .bf16⟩
  | .local _ .vmem, ⟨11, _⟩ => ⟨S512x1536, .bf16⟩
  | .local _ .vmem, ⟨12, _⟩ => ⟨S512x768, .bf16⟩
  | .local _ .vmem, ⟨13, _⟩ => ⟨S512x768, .bf16⟩
  | .local _ .vmem, ⟨14, _⟩ => ⟨S512x256, .bf16⟩
  | .local _ .vmem, ⟨15, _⟩ => ⟨S512x256, .bf16⟩
  | .local _ .vmem, ⟨16, _⟩ => ⟨S512x512, .f32⟩
  | .local _ .vmem, ⟨17, _⟩ => ⟨S512x512, .f32⟩
  | .local _ .vmem, ⟨18, _⟩ => ⟨S512x128, .f32⟩
  | .local _ .vmem, ⟨19, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S32768x1024 : Shape := ⟨2, ![32768, 1024]⟩
abbrev S32768x128 : Shape := ⟨2, ![32768, 128]⟩
abbrev S1024 : Shape := ⟨1, ![1024]⟩
abbrev S1024x3200 : Shape := ⟨2, ![1024, 3200]⟩
abbrev S1536 : Shape := ⟨1, ![1536]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3200 : Shape := ⟨2, ![32768, 3200]⟩
abbrev S32768x1536 : Shape := ⟨2, ![32768, 1536]⟩
abbrev S32768x12x2x64 : Shape := ⟨4, ![32768, 12, 2, 64]⟩
abbrev S12x2x64 : Shape := ⟨3, ![12, 2, 64]⟩
abbrev S32768x12x2 : Shape := ⟨3, ![32768, 12, 2]⟩
abbrev S32768x12x2x1 : Shape := ⟨4, ![32768, 12, 2, 1]⟩
abbrev S1x12x2x64 : Shape := ⟨4, ![1, 12, 2, 64]⟩
abbrev S32768x12x2x32 : Shape := ⟨4, ![32768, 12, 2, 32]⟩
abbrev S32768x1x2x64 : Shape := ⟨4, ![32768, 1, 2, 64]⟩
abbrev S32768x768 : Shape := ⟨2, ![32768, 768]⟩
abbrev S32768x256 : Shape := ⟨2, ![32768, 256]⟩
abbrev S32768x512 : Shape := ⟨2, ![32768, 512]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S32768x128, .f32⟩
  | .hbm, ⟨3, _⟩ => ⟨S1024, .f32⟩
  | .hbm, ⟨4, _⟩ => ⟨S1024x3200, .bf16⟩
  | .hbm, ⟨5, _⟩ => ⟨S1536, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x3200, .f32⟩
  | .hbm, ⟨23, _⟩ => ⟨S32768x3200, .f32⟩
  | .hbm, ⟨24, _⟩ => ⟨S32768x1536, .f32⟩
  | .hbm, ⟨25, _⟩ => ⟨S32768x12x2x64, .f32⟩
  | .hbm, ⟨26, _⟩ => ⟨S12x2x64, .f32⟩
  | .hbm, ⟨27, _⟩ => ⟨S32768x12x2x64, .f32⟩
  | .hbm, ⟨28, _⟩ => ⟨S_, .f32⟩
  | .hbm, ⟨29, _⟩ => ⟨S32768x12x2, .f32⟩
  | .hbm, ⟨30, _⟩ => ⟨S32768x12x2x1, .f32⟩
  | .hbm, ⟨31, _⟩ => ⟨S_, .f32⟩
  | .hbm, ⟨32, _⟩ => ⟨S32768x12x2x1, .f32⟩
  | .hbm, ⟨33, _⟩ => ⟨S32768x12x2x1, .f32⟩
  | .hbm, ⟨34, _⟩ => ⟨S_, .f32⟩
  | .hbm, ⟨35, _⟩ => ⟨S32768x12x2x1, .f32⟩
  | .hbm, ⟨36, _⟩ => ⟨S32768x12x2x1, .f32⟩
  | .hbm, ⟨37, _⟩ => ⟨S32768x12x2x1, .f32⟩
  | .hbm, ⟨38, _⟩ => ⟨S32768x12x2x64, .f32⟩
  | .hbm, ⟨39, _⟩ => ⟨S32768x12x2x64, .f32⟩
  | .hbm, ⟨40, _⟩ => ⟨S1x12x2x64, .f32⟩
  | .hbm, ⟨41, _⟩ => ⟨S32768x12x2x64, .f32⟩
  | .hbm, ⟨42, _⟩ => ⟨S32768x12x2x64, .f32⟩
  | .hbm, ⟨43, _⟩ => ⟨S32768x12x2x32, .f32⟩
  | .hbm, ⟨44, _⟩ => ⟨S32768x12x2x32, .f32⟩
  | .hbm, ⟨45, _⟩ => ⟨S32768x12x2x64, .f32⟩
  | .hbm, ⟨46, _⟩ => ⟨S32768x1x2x64, .f32⟩
  | .hbm, ⟨47, _⟩ => ⟨S32768x12x2x64, .f32⟩
  | .hbm, ⟨48, _⟩ => ⟨S32768x12x2x64, .f32⟩
  | .hbm, ⟨49, _⟩ => ⟨S32768x1x2x64, .f32⟩
  | .hbm, ⟨50, _⟩ => ⟨S32768x12x2x64, .f32⟩
  | .hbm, ⟨51, _⟩ => ⟨S32768x12x2x64, .f32⟩
  | .hbm, ⟨52, _⟩ => ⟨S32768x12x2x64, .f32⟩
  | .hbm, ⟨53, _⟩ => ⟨S32768x1536, .f32⟩
  | .hbm, ⟨54, _⟩ => ⟨S32768x1536, .bf16⟩
  | .hbm, ⟨55, _⟩ => ⟨S32768x768, .f32⟩
  | .hbm, ⟨56, _⟩ => ⟨S32768x768, .bf16⟩
  | .hbm, ⟨57, _⟩ => ⟨S32768x256, .f32⟩
  | .hbm, ⟨58, _⟩ => ⟨S32768x256, .bf16⟩
  | .hbm, ⟨59, _⟩ => ⟨S32768x512, .f32⟩
  | .hbm, ⟨60, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Phase4.lean ====
abbrev S32768x1024 : Shape := ⟨2, ![32768, 1024]⟩
abbrev S32768x128 : Shape := ⟨2, ![32768, 128]⟩
abbrev S1024 : Shape := ⟨1, ![1024]⟩
abbrev S1024x768 : Shape := ⟨2, ![1024, 768]⟩
abbrev S512 : Shape := ⟨1, ![512]⟩
abbrev S8x1024x4096 : Shape := ⟨3, ![8, 1024, 4096]⟩
abbrev S8x1024x512 : Shape := ⟨3, ![8, 1024, 512]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x512 : Shape := ⟨2, ![1, 512]⟩
abbrev S8x4x1024x768 : Shape := ⟨4, ![8, 4, 1024, 768]⟩
abbrev S1x256x1024 : Shape := ⟨3, ![1, 256, 1024]⟩
abbrev S1x256x128 : Shape := ⟨3, ![1, 256, 128]⟩
abbrev S1x1x256x768 : Shape := ⟨4, ![1, 1, 256, 768]⟩
abbrev S256x1024 : Shape := ⟨2, ![256, 1024]⟩
abbrev S1024x256 : Shape := ⟨2, ![1024, 256]⟩
abbrev S256x128 : Shape := ⟨2, ![256, 128]⟩
abbrev S1x1x256x256 : Shape := ⟨4, ![1, 1, 256, 256]⟩

abbrev nBuf : Space → Nat
  | .hbm => 26
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S32768x128, .f32⟩
  | .hbm, ⟨3, _⟩ => ⟨S1024, .f32⟩
  | .hbm, ⟨4, _⟩ => ⟨S1024x768, .bf16⟩
  | .hbm, ⟨5, _⟩ => ⟨S512, .f32⟩
  | .hbm, ⟨6, _⟩ => ⟨S8x1024x4096, .f32⟩
  | .hbm, ⟨7, _⟩ => ⟨S8x1024x512, .f32⟩
  | .hbm, ⟨8, _⟩ => ⟨S8x1024x512, .f32⟩
  | .hbm, ⟨9, _⟩ => ⟨S1x1024, .f32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256x256, .bf16⟩
  | .hbm, ⟨24, _⟩ => ⟨S1x512, .f32⟩
  | .hbm, ⟨25, _⟩ => ⟨S8x4x1024x768, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x1024, .f32⟩
  | .local _ .vmem, ⟨7, _⟩ => ⟨S1024x768, .bf16⟩
  | .local _ .vmem, ⟨8, _⟩ => ⟨S256x256, .bf16⟩
  | .local _ .vmem, ⟨9, _⟩ => ⟨S1x512, .f32⟩
  | .local _ .vmem, ⟨10, _⟩ => ⟨S1x1x256x768, .bf16⟩
  | .local _ .vmem, ⟨11, _⟩ => ⟨S1x1x256x768, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Phase4RefIdeal.lean ====
abbrev S32768x1024 : Shape := ⟨2, ![32768, 1024]⟩
abbrev S32768x128 : Shape := ⟨2, ![32768, 128]⟩
abbrev S1024 : Shape := ⟨1, ![1024]⟩
abbrev S1024x768 : Shape := ⟨2, ![1024, 768]⟩
abbrev S512 : Shape := ⟨1, ![512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x768 : Shape := ⟨2, ![32768, 768]⟩
abbrev S32768x512 : Shape := ⟨2, ![32768, 512]⟩
abbrev S32768x4x2x64 : Shape := ⟨4, ![32768, 4, 2, 64]⟩
abbrev S4x2x64 : Shape := ⟨3, ![4, 2, 64]⟩
abbrev S32768x4x2 : Shape := ⟨3, ![32768, 4, 2]⟩
abbrev S32768x4x2x1 : Shape := ⟨4, ![32768, 4, 2, 1]⟩
abbrev S1x4x2x64 : Shape := ⟨4, ![1, 4, 2, 64]⟩
abbrev S32768x4x2x32 : Shape := ⟨4, ![32768, 4, 2, 32]⟩
abbrev S32768x1x2x64 : Shape := ⟨4, ![32768, 1, 2, 64]⟩
abbrev S32768x256 : Shape := ⟨2, ![32768, 256]⟩
abbrev S8x1024x4x768 : Shape := ⟨4, ![8, 1024, 4, 768]⟩
abbrev S8x4x1024x768 : Shape := ⟨4, ![8, 4, 1024, 768]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S32768x128, .f32⟩
  | .hbm, ⟨3, _⟩ => ⟨S1024, .f32⟩
  | .hbm, ⟨4, _⟩ => ⟨S1024x768, .bf16⟩
  | .hbm, ⟨5, _⟩ => ⟨S512, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x768, .f32⟩
  | .hbm, ⟨23, _⟩ => ⟨S32768x768, .f32⟩
  | .hbm, ⟨24, _⟩ => ⟨S32768x512, .f32⟩
  | .hbm, ⟨25, _⟩ => ⟨S32768x4x2x64, .f32⟩
  | .hbm, ⟨26, _⟩ => ⟨S4x2x64, .f32⟩
  | .hbm, ⟨27, _⟩ => ⟨S32768x4x2x64, .f32⟩
  | .hbm, ⟨28, _⟩ => ⟨S_, .f32⟩
  | .hbm, ⟨29, _⟩ => ⟨S32768x4x2, .f32⟩
  | .hbm, ⟨30, _⟩ => ⟨S32768x4x2x1, .f32⟩
  | .hbm, ⟨31, _⟩ => ⟨S_, .f32⟩
  | .hbm, ⟨32, _⟩ => ⟨S32768x4x2x1, .f32⟩
  | .hbm, ⟨33, _⟩ => ⟨S32768x4x2x1, .f32⟩
  | .hbm, ⟨34, _⟩ => ⟨S_, .f32⟩
  | .hbm, ⟨35, _⟩ => ⟨S32768x4x2x1, .f32⟩
  | .hbm, ⟨36, _⟩ => ⟨S32768x4x2x1, .f32⟩
  | .hbm, ⟨37, _⟩ => ⟨S32768x4x2x1, .f32⟩
  | .hbm, ⟨38, _⟩ => ⟨S32768x4x2x64, .f32⟩
  | .hbm, ⟨39, _⟩ => ⟨S32768x4x2x64, .f32⟩
  | .hbm, ⟨40, _⟩ => ⟨S1x4x2x64, .f32⟩
  | .hbm, ⟨41, _⟩ => ⟨S32768x4x2x64, .f32⟩
  | .hbm, ⟨42, _⟩ => ⟨S32768x4x2x64, .f32⟩
  | .hbm, ⟨43, _⟩ => ⟨S32768x4x2x32, .f32⟩
  | .hbm, ⟨44, _⟩ => ⟨S32768x4x2x32, .f32⟩
  | .hbm, ⟨45, _⟩ => ⟨S32768x4x2x64, .f32⟩
  | .hbm, ⟨46, _⟩ => ⟨S32768x1x2x64, .f32⟩
  | .hbm, ⟨47, _⟩ => ⟨S32768x4x2x64, .f32⟩
  | .hbm, ⟨48, _⟩ => ⟨S32768x4x2x64, .f32⟩
  | .hbm, ⟨49, _⟩ => ⟨S32768x1x2x64, .f32⟩
  | .hbm, ⟨50, _⟩ => ⟨S32768x4x2x64, .f32⟩
  | .hbm, ⟨51, _⟩ => ⟨S32768x4x2x64, .f32⟩
  | .hbm, ⟨52, _⟩ => ⟨S32768x4x2x64, .f32⟩
  | .hbm, ⟨53, _⟩ => ⟨S32768x512, .f32⟩
  | .hbm, ⟨54, _⟩ => ⟨S32768x256, .f32⟩
  | .hbm, ⟨55, _⟩ => ⟨S32768x768, .f32⟩
  | .hbm, ⟨56, _⟩ => ⟨S32768x768, .bf16⟩
  | .hbm, ⟨57, _⟩ => ⟨S8x1024x4x768, .bf16⟩
  | .hbm, ⟨58, _⟩ => ⟨S8x4x1024x768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Phase16.lean ====
abbrev S32768x1024 : Shape := ⟨2, ![32768, 1024]⟩
abbrev S32768x128 : Shape := ⟨2, ![32768, 128]⟩
abbrev S1024 : Shape := ⟨1, ![1024]⟩
abbrev S1024x768 : Shape := ⟨2, ![1024, 768]⟩
abbrev S512 : Shape := ⟨1, ![512]⟩
abbrev S8x256x16384 : Shape := ⟨3, ![8, 256, 16384]⟩
abbrev S8x256x2048 : Shape := ⟨3, ![8, 256, 2048]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x512 : Shape := ⟨2, ![1, 512]⟩
abbrev S8x16x256x768 : Shape := ⟨4, ![8, 16, 256, 768]⟩
abbrev S1x256x1024 : Shape := ⟨3, ![1, 256, 1024]⟩
abbrev S1x256x128 : Shape := ⟨3, ![1, 256, 128]⟩
abbrev S1x1x256x768 : Shape := ⟨4, ![1, 1, 256, 768]⟩
abbrev S256x1024 : Shape := ⟨2, ![256, 1024]⟩
abbrev S1024x256 : Shape := ⟨2, ![1024, 256]⟩
abbrev S256x128 : Shape := ⟨2, ![256, 128]⟩
abbrev S1x1x256x256 : Shape := ⟨4, ![1, 1, 256, 256]⟩

abbrev nBuf : Space → Nat
  | .hbm => 26
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S32768x128, .f32⟩
  | .hbm, ⟨3, _⟩ => ⟨S1024, .f32⟩
  | .hbm, ⟨4, _⟩ => ⟨S1024x768, .bf16⟩
  | .hbm, ⟨5, _⟩ => ⟨S512, .f32⟩
  | .hbm, ⟨6, _⟩ => ⟨S8x256x16384, .f32⟩
  | .hbm, ⟨7, _⟩ => ⟨S8x256x2048, .f32⟩
  | .hbm, ⟨8, _⟩ => ⟨S8x256x2048, .f32⟩
  | .hbm, ⟨9, _⟩ => ⟨S1x1024, .f32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256x256, .bf16⟩
  | .hbm, ⟨24, _⟩ => ⟨S1x512, .f32⟩
  | .hbm, ⟨25, _⟩ => ⟨S8x16x256x768, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x1024, .f32⟩
  | .local _ .vmem, ⟨7, _⟩ => ⟨S1024x768, .bf16⟩
  | .local _ .vmem, ⟨8, _⟩ => ⟨S256x256, .bf16⟩
  | .local _ .vmem, ⟨9, _⟩ => ⟨S1x512, .f32⟩
  | .local _ .vmem, ⟨10, _⟩ => ⟨S1x1x256x768, .bf16⟩
  | .local _ .vmem, ⟨11, _⟩ => ⟨S1x1x256x768, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Phase16RefIdeal.lean ====
abbrev S32768x1024 : Shape := ⟨2, ![32768, 1024]⟩
abbrev S32768x128 : Shape := ⟨2, ![32768, 128]⟩
abbrev S1024 : Shape := ⟨1, ![1024]⟩
abbrev S1024x768 : Shape := ⟨2, ![1024, 768]⟩
abbrev S512 : Shape := ⟨1, ![512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x768 : Shape := ⟨2, ![32768, 768]⟩
abbrev S32768x512 : Shape := ⟨2, ![32768, 512]⟩
abbrev S32768x4x2x64 : Shape := ⟨4, ![32768, 4, 2, 64]⟩
abbrev S4x2x64 : Shape := ⟨3, ![4, 2, 64]⟩
abbrev S32768x4x2 : Shape := ⟨3, ![32768, 4, 2]⟩
abbrev S32768x4x2x1 : Shape := ⟨4, ![32768, 4, 2, 1]⟩
abbrev S1x4x2x64 : Shape := ⟨4, ![1, 4, 2, 64]⟩
abbrev S32768x4x2x32 : Shape := ⟨4, ![32768, 4, 2, 32]⟩
abbrev S32768x1x2x64 : Shape := ⟨4, ![32768, 1, 2, 64]⟩
abbrev S32768x256 : Shape := ⟨2, ![32768, 256]⟩
abbrev S8x256x16x768 : Shape := ⟨4, ![8, 256, 16, 768]⟩
abbrev S8x16x256x768 : Shape := ⟨4, ![8, 16, 256, 768]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S32768x128, .f32⟩
  | .hbm, ⟨3, _⟩ => ⟨S1024, .f32⟩
  | .hbm, ⟨4, _⟩ => ⟨S1024x768, .bf16⟩
  | .hbm, ⟨5, _⟩ => ⟨S512, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x768, .f32⟩
  | .hbm, ⟨23, _⟩ => ⟨S32768x768, .f32⟩
  | .hbm, ⟨24, _⟩ => ⟨S32768x512, .f32⟩
  | .hbm, ⟨25, _⟩ => ⟨S32768x4x2x64, .f32⟩
  | .hbm, ⟨26, _⟩ => ⟨S4x2x64, .f32⟩
  | .hbm, ⟨27, _⟩ => ⟨S32768x4x2x64, .f32⟩
  | .hbm, ⟨28, _⟩ => ⟨S_, .f32⟩
  | .hbm, ⟨29, _⟩ => ⟨S32768x4x2, .f32⟩
  | .hbm, ⟨30, _⟩ => ⟨S32768x4x2x1, .f32⟩
  | .hbm, ⟨31, _⟩ => ⟨S_, .f32⟩
  | .hbm, ⟨32, _⟩ => ⟨S32768x4x2x1, .f32⟩
  | .hbm, ⟨33, _⟩ => ⟨S32768x4x2x1, .f32⟩
  | .hbm, ⟨34, _⟩ => ⟨S_, .f32⟩
  | .hbm, ⟨35, _⟩ => ⟨S32768x4x2x1, .f32⟩
  | .hbm, ⟨36, _⟩ => ⟨S32768x4x2x1, .f32⟩
  | .hbm, ⟨37, _⟩ => ⟨S32768x4x2x1, .f32⟩
  | .hbm, ⟨38, _⟩ => ⟨S32768x4x2x64, .f32⟩
  | .hbm, ⟨39, _⟩ => ⟨S32768x4x2x64, .f32⟩
  | .hbm, ⟨40, _⟩ => ⟨S1x4x2x64, .f32⟩
  | .hbm, ⟨41, _⟩ => ⟨S32768x4x2x64, .f32⟩
  | .hbm, ⟨42, _⟩ => ⟨S32768x4x2x64, .f32⟩
  | .hbm, ⟨43, _⟩ => ⟨S32768x4x2x32, .f32⟩
  | .hbm, ⟨44, _⟩ => ⟨S32768x4x2x32, .f32⟩
  | .hbm, ⟨45, _⟩ => ⟨S32768x4x2x64, .f32⟩
  | .hbm, ⟨46, _⟩ => ⟨S32768x1x2x64, .f32⟩
  | .hbm, ⟨47, _⟩ => ⟨S32768x4x2x64, .f32⟩
  | .hbm, ⟨48, _⟩ => ⟨S32768x4x2x64, .f32⟩
  | .hbm, ⟨49, _⟩ => ⟨S32768x1x2x64, .f32⟩
  | .hbm, ⟨50, _⟩ => ⟨S32768x4x2x64, .f32⟩
  | .hbm, ⟨51, _⟩ => ⟨S32768x4x2x64, .f32⟩
  | .hbm, ⟨52, _⟩ => ⟨S32768x4x2x64, .f32⟩
  | .hbm, ⟨53, _⟩ => ⟨S32768x512, .f32⟩
  | .hbm, ⟨54, _⟩ => ⟨S32768x256, .f32⟩
  | .hbm, ⟨55, _⟩ => ⟨S32768x768, .f32⟩
  | .hbm, ⟨56, _⟩ => ⟨S32768x768, .bf16⟩
  | .hbm, ⟨57, _⟩ => ⟨S8x256x16x768, .bf16⟩
  | .hbm, ⟨58, _⟩ => ⟨S8x16x256x768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Dil16.lean ====
abbrev S8x16x256x768 : Shape := ⟨4, ![8, 16, 256, 768]⟩
abbrev S8x256x4096 : Shape := ⟨3, ![8, 256, 4096]⟩
abbrev S1x1x128x256 : Shape := ⟨4, ![1, 1, 128, 256]⟩
abbrev S1x128x256 : Shape := ⟨3, ![1, 128, 256]⟩
abbrev S128x128 : Shape := ⟨2, ![128, 128]⟩
abbrev S256x256 : Shape := ⟨2, ![256, 256]⟩
abbrev S1x1x128x128 : Shape := ⟨4, ![1, 1, 128, 128]⟩
abbrev S256x128 : Shape := ⟨2, ![256, 128]⟩
abbrev S256 : Shape := ⟨1, ![256]⟩
abbrev S256x1 : Shape := ⟨2, ![256, 1]⟩
abbrev S1x128x128 : Shape := ⟨3, ![1, 128, 128]⟩
abbrev S128x1 : Shape := ⟨2, ![128, 1]⟩

abbrev nBuf : Space → Nat
  | .hbm => 3
  | .vmem => 14
  | .smem => 0
  | _ => 0

abbrev bufTy : (tb : Table) → Fin (tcTables nBuf tb) → BufTy
  | .hbm, ⟨0, _⟩ => ⟨S8x16x256x768, .bf16⟩
  | .hbm, ⟨1, _⟩ => ⟨S8x256x4096, .f32⟩
  | .hbm, ⟨2, _⟩ => ⟨S8x256x4096, .f32⟩
  | .local _ .vmem, ⟨0, _⟩ => ⟨S1x1x128x256, .bf16⟩
  | .local _ .vmem, ⟨1, _⟩ => ⟨S1x1x128x256, .bf16⟩
  | .local _ .vmem, ⟨2, _⟩ => ⟨S1x1x128x256, .bf16⟩
  | .local _ .vmem, ⟨3, _⟩ => ⟨S1x1x128x256, .bf16⟩
  | .local _ .vmem, ⟨4, _⟩ => ⟨S1x1x128x256, .bf16⟩
  | .local _ .vmem, ⟨5, _⟩ => ⟨S1x1x128x256, .bf16⟩
  | .local _ .vmem, ⟨6, _⟩ => ⟨S1x1x128x256, .bf16⟩
  | .local _ .vmem, ⟨7, _⟩ => ⟨S1x1x128x256, .bf16⟩
  | .local _ .vmem, ⟨8, _⟩ => ⟨S1x1x128x256, .bf16⟩
  | .local _ .vmem, ⟨9, _⟩ => ⟨S1x1x128x256, .bf16⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | _, _ => ⟨S8x16x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c1_i32_0 : BitVec 32 := 1#32
  let c0_i32_1 : BitVec 32 := 0#32
  ![arg0.toNat, arg1.toNat, v1.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let c0_i32_0 : BitVec 32 := 0#32
  ![arg0.toNat, arg1.toNat, v1.toNat, c2_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dil16RefIdeal.lean ====
abbrev S8x16x256x768 : Shape := ⟨4, ![8, 16, 256, 768]⟩
abbrev S8x16x256x256 : Shape := ⟨4, ![8, 16, 256, 256]⟩
abbrev S8x16x256x4x64 : Shape := ⟨5, ![8, 16, 256, 4, 64]⟩
abbrev S8x16x4x256x256 : Shape := ⟨5, ![8, 16, 4, 256, 256]⟩
abbrev S256x256 : Shape := ⟨2, ![256, 256]⟩
abbrev S_ : Shape := ⟨0, ![]⟩
abbrev S8x16x4x256 : Shape := ⟨4, ![8, 16, 4, 256]⟩
abbrev S8x16x4x256x1 : Shape := ⟨5, ![8, 16, 4, 256, 1]⟩
abbrev S8x16x4x256x64 : Shape := ⟨5, ![8, 16, 4, 256, 64]⟩
abbrev S8x256x16x4x64 : Shape := ⟨5, ![8, 256, 16, 4, 64]⟩
abbrev S8x256x4096 : Shape := ⟨3, ![8, 256, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8x16x256x768, .bf16⟩
  | .hbm, ⟨1, _⟩ => ⟨S8x16x256x256, .bf16⟩
  | .hbm, ⟨2, _⟩ => ⟨S8x16x256x256, .bf16⟩
  | .hbm, ⟨3, _⟩ => ⟨S8x16x256x256, .bf16⟩
  | .hbm, ⟨4, _⟩ => ⟨S8x16x256x256, .f32⟩
  | .hbm, ⟨5, _⟩ => ⟨S8x16x256x4x64, .f32⟩
  | .hbm, ⟨6, _⟩ => ⟨S8x16x256x256, .f32⟩
  | .hbm, ⟨7, _⟩ => ⟨S8x16x256x4x64, .f32⟩
  | .hbm, ⟨8, _⟩ => ⟨S8x16x256x256, .f32⟩
  | .hbm, ⟨9, _⟩ => ⟨S8x16x256x4x64, .f32⟩
  | .hbm, ⟨10, _⟩ => ⟨S8x16x4x256x256, .f32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i1⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S256x256, .i1⟩
  | .hbm, ⟨22, _⟩ => ⟨S_, .f32⟩
  | .hbm, ⟨23, _⟩ => ⟨S_, .f32⟩
  | .hbm, ⟨24, _⟩ => ⟨S8x16x4x256x256, .i1⟩
  | .hbm, ⟨25, _⟩ => ⟨S8x16x4x256x256, .f32⟩
  | .hbm, ⟨26, _⟩ => ⟨S8x16x4x256x256, .f32⟩
  | .hbm, ⟨27, _⟩ => ⟨S_, .f32⟩
  | .hbm, ⟨28, _⟩ => ⟨S8x16x4x256, .f32⟩
  | .hbm, ⟨29, _⟩ => ⟨S8x16x4x256x1, .f32⟩
  | .hbm, ⟨30, _⟩ => ⟨S8x16x4x256x256, .f32⟩
  | .hbm, ⟨31, _⟩ => ⟨S8x16x4x256x256, .f32⟩
  | .hbm, ⟨32, _⟩ => ⟨S8x16x4x256x256, .f32⟩
  | .hbm, ⟨33, _⟩ => ⟨S_, .f32⟩
  | .hbm, ⟨34, _⟩ => ⟨S_, .f32⟩
  | .hbm, ⟨35, _⟩ => ⟨S8x16x4x256x256, .i1⟩
  | .hbm, ⟨36, _⟩ => ⟨S8x16x4x256x256, .f32⟩
  | .hbm, ⟨37, _⟩ => ⟨S8x16x4x256x256, .f32⟩
  | .hbm, ⟨38, _⟩ => ⟨S_, .f32⟩
  | .hbm, ⟨39, _⟩ => ⟨S8x16x4x256, .f32⟩
  | .hbm, ⟨40, _⟩ => ⟨S8x16x4x256x1, .f32⟩
  | .hbm, ⟨41, _⟩ => ⟨S_, .f32⟩
  | .hbm, ⟨42, _⟩ => ⟨S8x16x4x256x1, .f32⟩
  | .hbm, ⟨43, _⟩ => ⟨S8x16x4x256x1, .i1⟩
  | .hbm, ⟨44, _⟩ => ⟨S_, .f32⟩
  | .hbm, ⟨45, _⟩ => ⟨S_, .f32⟩
  | .hbm, ⟨46, _⟩ => ⟨S8x16x4x256x1, .f32⟩
  | .hbm, ⟨47, _⟩ => ⟨S8x16x4x256x1, .f32⟩
  | .hbm, ⟨48, _⟩ => ⟨S8x16x4x256x256, .f32⟩
  | .hbm, ⟨49, _⟩ => ⟨S8x16x4x256x256, .f32⟩
  | .hbm, ⟨50, _⟩ => ⟨S8x16x4x256x64, .f32⟩
  | .hbm, ⟨51, _⟩ => ⟨S8x16x4x256x1, .f32⟩
  | .hbm, ⟨52, _⟩ => ⟨S8x16x4x256x1, .f32⟩
  | .hbm, ⟨53, _⟩ => ⟨S8x16x4x256x64, .f32⟩
  | .hbm, ⟨54, _⟩ => ⟨S8x256x16x4x64, .f32⟩
  | .hbm, ⟨55, _⟩ => ⟨S8x256x4096, .f32⟩
  | .hbm, ⟨56, _⟩ => ⟨S8x256x16x4x64, .f32⟩
  | .hbm, ⟨57, _⟩ => ⟨S8x256x4096, .f32⟩
  | _, _ => ⟨S8x16x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_c : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c_0 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_call2_v0 : Ref sig .tc := ⟨.hbm, 45, rfl⟩
abbrev main_call2_v1 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Dil1.lean ====
abbrev S8x1x4096x1536 : Shape := ⟨4, ![8, 1, 4096, 1536]⟩
abbrev S8x1x4096x768 : Shape := ⟨4, ![8, 1, 4096, 768]⟩
abbrev S8x4096x256 : Shape := ⟨3, ![8, 4096, 256]⟩
abbrev S1x1x128x256 : Shape := ⟨4, ![1, 1, 128, 256]⟩
abbrev S1x128x256 : Shape := ⟨3, ![1, 128, 256]⟩
abbrev S128x128 : Shape := ⟨2, ![128, 128]⟩
abbrev S256x256 : Shape := ⟨2, ![256, 256]⟩
abbrev S1x1x128x128 : Shape := ⟨4, ![1, 1, 128, 128]⟩
abbrev S256x128 : Shape := ⟨2, ![256, 128]⟩
abbrev S256 : Shape := ⟨1, ![256]⟩
abbrev S256x1 : Shape := ⟨2, ![256, 1]⟩
abbrev S1x128x128 : Shape := ⟨3, ![1, 128, 128]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S8x1x4096x1536, .bf16⟩
  | .hbm, ⟨1, _⟩ => ⟨S8x1x4096x768, .bf16⟩
  | .hbm, ⟨2, _⟩ => ⟨S8x4096x256, .f32⟩
  | .hbm, ⟨3, _⟩ => ⟨S8x4096x256, .f32⟩
  | .local _ .vmem, ⟨0, _⟩ => ⟨S1x1x128x256, .bf16⟩
  | .local _ .vmem, ⟨1, _⟩ => ⟨S1x1x128x256, .bf16⟩
  | .local _ .vmem, ⟨2, _⟩ => ⟨S1x1x128x256, .bf16⟩
  | .local _ .vmem, ⟨3, _⟩ => ⟨S1x1x128x256, .bf16⟩
  | .local _ .vmem, ⟨4, _⟩ => ⟨S1x1x128x256, .bf16⟩
  | .local _ .vmem, ⟨5, _⟩ => ⟨S1x1x128x256, .bf16⟩
  | .local _ .vmem, ⟨6, _⟩ => ⟨S1x1x128x256, .bf16⟩
  | .local _ .vmem, ⟨7, _⟩ => ⟨S1x1x128x256, .bf16⟩
  | .local _ .vmem, ⟨8, _⟩ => ⟨S1x1x128x256, .bf16⟩
  | .local _ .vmem, ⟨9, _⟩ => ⟨S1x1x128x256, .bf16⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | _, _ => ⟨S8x1x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 1, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, arg1.toNat, arg2.toNat, c4_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c5_i32 : BitVec 32 := 5#32
  let c0_i32_0 : BitVec 32 := 0#32
  ![arg0.toNat, arg1.toNat, v1.toNat, c5_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, arg1.toNat, arg2.toNat, c5_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, arg1.toNat, v1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dil1RefIdeal.lean ====
abbrev S8x1x4096x1536 : Shape := ⟨4, ![8, 1, 4096, 1536]⟩
abbrev S8x1x4096x768 : Shape := ⟨4, ![8, 1, 4096, 768]⟩
abbrev S8x1x4096x256 : Shape := ⟨4, ![8, 1, 4096, 256]⟩
abbrev S8x1x4096x4x64 : Shape := ⟨5, ![8, 1, 4096, 4, 64]⟩
abbrev S8x1x4x4096x4096 : Shape := ⟨5, ![8, 1, 4, 4096, 4096]⟩
abbrev S4096x4096 : Shape := ⟨2, ![4096, 4096]⟩
abbrev S_ : Shape := ⟨0, ![]⟩
abbrev S8x1x4x4096 : Shape := ⟨4, ![8, 1, 4, 4096]⟩
abbrev S8x1x4x4096x1 : Shape := ⟨5, ![8, 1, 4, 4096, 1]⟩
abbrev S8x1x4x4096x64 : Shape := ⟨5, ![8, 1, 4, 4096, 64]⟩
abbrev S8x4096x1x4x64 : Shape := ⟨5, ![8, 4096, 1, 4, 64]⟩
abbrev S8x4096x256 : Shape := ⟨3, ![8, 4096, 256]⟩

abbrev nBuf : Space → Nat
  | .hbm => 59
  | .vmem => 0
  | .smem => 0
  | _ => 0

abbrev bufTy : (tb : Table) → Fin (tcTables nBuf tb) → BufTy
  | .hbm, ⟨0, _⟩ => ⟨S8x1x4096x1536, .bf16⟩
  | .hbm, ⟨1, _⟩ => ⟨S8x1x4096x768, .bf16⟩
  | .hbm, ⟨2, _⟩ => ⟨S8x1x4096x256, .bf16⟩
  | .hbm, ⟨3, _⟩ => ⟨S8x1x4096x256, .bf16⟩
  | .hbm, ⟨4, _⟩ => ⟨S8x1x4096x256, .bf16⟩
  | .hbm, ⟨5, _⟩ => ⟨S8x1x4096x256, .f32⟩
  | .hbm, ⟨6, _⟩ => ⟨S8x1x4096x4x64, .f32⟩
  | .hbm, ⟨7, _⟩ => ⟨S8x1x4096x256, .f32⟩
  | .hbm, ⟨8, _⟩ => ⟨S8x1x4096x4x64, .f32⟩
  | .hbm, ⟨9, _⟩ => ⟨S8x1x4096x256, .f32⟩
  | .hbm, ⟨10, _⟩ => ⟨S8x1x4096x4x64, .f32⟩
  | .hbm, ⟨11, _⟩ => ⟨S8x1x4x4096x4096, .f32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S8x1x4x4096x4096, .i1⟩
  | .hbm, ⟨26, _⟩ => ⟨S8x1x4x4096x4096, .f32⟩
  | .hbm, ⟨27, _⟩ => ⟨S8x1x4x4096x4096, .f32⟩
  | .hbm, ⟨28, _⟩ => ⟨S_, .f32⟩
  | .hbm, ⟨29, _⟩ => ⟨S8x1x4x4096, .f32⟩
  | .hbm, ⟨30, _⟩ => ⟨S8x1x4x4096x1, .f32⟩
  | .hbm, ⟨31, _⟩ => ⟨S8x1x4x4096x4096, .f32⟩
  | .hbm, ⟨32, _⟩ => ⟨S8x1x4x4096x4096, .f32⟩
  | .hbm, ⟨33, _⟩ => ⟨S8x1x4x4096x4096, .f32⟩
  | .hbm, ⟨34, _⟩ => ⟨S_, .f32⟩
  | .hbm, ⟨35, _⟩ => ⟨S_, .f32⟩
  | .hbm, ⟨36, _⟩ => ⟨S8x1x4x4096x4096, .i1⟩
  | .hbm, ⟨37, _⟩ => ⟨S8x1x4x4096x4096, .f32⟩
  | .hbm, ⟨38, _⟩ => ⟨S8x1x4x4096x4096, .f32⟩
  | .hbm, ⟨39, _⟩ => ⟨S_, .f32⟩
  | .hbm, ⟨40, _⟩ => ⟨S8x1x4x4096, .f32⟩
  | .hbm, ⟨41, _⟩ => ⟨S8x1x4x4096x1, .f32⟩
  | .hbm, ⟨42, _⟩ => ⟨S_, .f32⟩
  | .hbm, ⟨43, _⟩ => ⟨S8x1x4x4096x1, .f32⟩
  | .hbm, ⟨44, _⟩ => ⟨S8x1x4x4096x1, .i1⟩
  | .hbm, ⟨45, _⟩ => ⟨S_, .f32⟩
  | .hbm, ⟨46, _⟩ => ⟨S_, .f32⟩
  | .hbm, ⟨47, _⟩ => ⟨S8x1x4x4096x1, .f32⟩
  | .hbm, ⟨48, _⟩ => ⟨S8x1x4x4096x1, .f32⟩
  | .hbm, ⟨49, _⟩ => ⟨S8x1x4x4096x4096, .f32⟩
  | .hbm, ⟨50, _⟩ => ⟨S8x1x4x4096x4096, .f32⟩
  | .hbm, ⟨51, _⟩ => ⟨S8x1x4x4096x64, .f32⟩
  | .hbm, ⟨52, _⟩ => ⟨S8x1x4x4096x1, .f32⟩
  | .hbm, ⟨53, _⟩ => ⟨S8x1x4x4096x1, .f32⟩
  | .hbm, ⟨54, _⟩ => ⟨S8x1x4x4096x64, .f32⟩
  | .hbm, ⟨55, _⟩ => ⟨S8x4096x1x4x64, .f32⟩
  | .hbm, ⟨56, _⟩ => ⟨S8x4096x256, .f32⟩
  | .hbm, ⟨57, _⟩ => ⟨S8x4096x1x4x64, .f32⟩
  | .hbm, ⟨58, _⟩ => ⟨S8x4096x256, .f32⟩
  | _, _ => ⟨S8x1x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_call2_v0 : Ref sig .tc := ⟨.hbm, 46, rfl⟩
abbrev main_call2_v1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Rope.lean ====
abbrev S8x4096 : Shape := ⟨2, ![8, 4096]⟩
abbrev S128 : Shape := ⟨1, ![128]⟩
abbrev S32 : Shape := ⟨1, ![32]⟩
abbrev S_ : Shape := ⟨0, ![]⟩
abbrev S1x32 : Shape := ⟨2, ![1, 32]⟩
abbrev S4x32 : Shape := ⟨2, ![4, 32]⟩
abbrev S1x128 : Shape := ⟨2, ![1, 128]⟩
abbrev S32768x1 : Shape := ⟨2, ![32768, 1]⟩
abbrev S32768x128 : Shape := ⟨2, ![32768, 128]⟩
abbrev S2048x1 : Shape := ⟨2, ![2048, 1]⟩
abbrev S2048x128 : Shape := ⟨2, ![2048, 128]⟩

abbrev nBuf : Space → Nat
  | .hbm => 18
  | .vmem => 8
  | .smem => 0
  | _ => 0

abbrev bufTy : (tb : Table) → Fin (tcTables nBuf tb) → BufTy
  | .hbm, ⟨0, _⟩ => ⟨S8x4096, .i32⟩
  | .hbm, ⟨1, _⟩ => ⟨S128, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S1x32, .f32⟩
  | .hbm, ⟨11, _⟩ => ⟨S4x32, .f32⟩
  | .hbm, ⟨12, _⟩ => ⟨S128, .f32⟩
  | .hbm, ⟨13, _⟩ => ⟨S1x128, .f32⟩
  | .hbm, ⟨14, _⟩ => ⟨S1x128, .f32⟩
  | .hbm, ⟨15, _⟩ => ⟨S32768x1, .i32⟩
  | .hbm, ⟨16, _⟩ => ⟨S32768x128, .f32⟩
  | .hbm, ⟨17, _⟩ => ⟨S32768x128, .f32⟩
  | .local _ .vmem, ⟨0, _⟩ => ⟨S2048x1, .i32⟩
  | .local _ .vmem, ⟨1, _⟩ => ⟨S2048x1, .i32⟩
  | .local _ .vmem, ⟨2, _⟩ => ⟨S1x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeRefIdeal.lean ====
abbrev S8x4096 : Shape := ⟨2, ![8, 4096]⟩
abbrev S32 : Shape := ⟨1, ![32]⟩
abbrev S_ : Shape := ⟨0, ![]⟩
abbrev S32768x1 : Shape := ⟨2, ![32768, 1]⟩
abbrev S1x32 : Shape := ⟨2, ![1, 32]⟩
abbrev S32768x32 : Shape := ⟨2, ![32768, 32]⟩
abbrev S32768x128 : Shape := ⟨2, ![32768, 128]⟩

abbrev nBuf : Space → Nat
  | .hbm => 21
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S8x4096, .f32⟩
  | .hbm, ⟨10, _⟩ => ⟨S32768x1, .f32⟩
  | .hbm, ⟨11, _⟩ => ⟨S1x32, .f32⟩
  | .hbm, ⟨12, _⟩ => ⟨S32768x32, .f32⟩
  | .hbm, ⟨13, _⟩ => ⟨S32768x32, .f32⟩
  | .hbm, ⟨14, _⟩ => ⟨S32768x32, .f32⟩
  | .hbm, ⟨15, _⟩ => ⟨S32768x32, .f32⟩
  | .hbm, ⟨16, _⟩ => ⟨S32768x32, .f32⟩
  | .hbm, ⟨17, _⟩ => ⟨S32768x128, .f32⟩
  | .hbm, ⟨18, _⟩ => ⟨S32768x32, .f32⟩
  | .hbm, ⟨19, _⟩ => ⟨S32768x32, .f32⟩
  | .hbm, ⟨20, _⟩ => ⟨S32768x128, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Cmp.lean ====
abbrev S8x4096x256 : Shape := ⟨3, ![8, 4096, 256]⟩
abbrev S8x4096x128 : Shape := ⟨3, ![8, 4096, 128]⟩
abbrev S4096x256 : Shape := ⟨2, ![4096, 256]⟩
abbrev S256x512 : Shape := ⟨2, ![256, 512]⟩
abbrev S1x4096 : Shape := ⟨2, ![1, 4096]⟩
abbrev S64 : Shape := ⟨1, ![64]⟩
abbrev S8x256x4096 : Shape := ⟨3, ![8, 256, 4096]⟩
abbrev S8x256x2048 : Shape := ⟨3, ![8, 256, 2048]⟩
abbrev S_ : Shape := ⟨0, ![]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S8x256x256 : Shape := ⟨3, ![8, 256, 256]⟩
abbrev S1x256x4096 : Shape := ⟨3, ![1, 256, 4096]⟩
abbrev S1x256x128 : Shape := ⟨3, ![1, 256, 128]⟩
abbrev S1x256x256 : Shape := ⟨3, ![1, 256, 256]⟩
abbrev S256x4096 : Shape := ⟨2, ![256, 4096]⟩
abbrev S256x128 : Shape := ⟨2, ![256, 128]⟩

abbrev nBuf : Space → Nat
  | .hbm => 35
  | .vmem => 17
  | .smem => 0
  | _ => 0

abbrev bufTy : (tb : Table) → Fin (tcTables nBuf tb) → BufTy
  | .hbm, ⟨0, _⟩ => ⟨S8x4096x256, .bf16⟩
  | .hbm, ⟨1, _⟩ => ⟨S8x4096x128, .f32⟩
  | .hbm, ⟨2, _⟩ => ⟨S8x4096x128, .f32⟩
  | .hbm, ⟨3, _⟩ => ⟨S4096x256, .bf16⟩
  | .hbm, ⟨4, _⟩ => ⟨S4096x256, .bf16⟩
  | .hbm, ⟨5, _⟩ => ⟨S256x512, .bf16⟩
  | .hbm, ⟨6, _⟩ => ⟨S1x4096, .f32⟩
  | .hbm, ⟨7, _⟩ => ⟨S1x4096, .f32⟩
  | .hbm, ⟨8, _⟩ => ⟨S64, .f32⟩
  | .hbm, ⟨9, _⟩ => ⟨S8x256x4096, .bf16⟩
  | .hbm, ⟨10, _⟩ => ⟨S8x256x2048, .f32⟩
  | .hbm, ⟨11, _⟩ => ⟨S8x256x2048, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S1x64, .f32⟩
  | .hbm, ⟨16, _⟩ => ⟨S4x64, .f32⟩
  | .hbm, ⟨17, _⟩ => ⟨S256, .f32⟩
  | .hbm, ⟨18, _⟩ => ⟨S1x256, .f32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256x1, .i32⟩
  | .hbm, ⟨24, _⟩ => ⟨S1x256, .i32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .bf16⟩
  | .hbm, ⟨33, _⟩ => ⟨S8x256x256, .bf16⟩
  | .hbm, ⟨34, _⟩ => ⟨S8x256x256, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x4096, .f32⟩
  | .local _ .vmem, ⟨3, _⟩ => ⟨S1x4096, .f32⟩
  | .local _ .vmem, ⟨4, _⟩ => ⟨S4096x256, .bf16⟩
  | .local _ .vmem, ⟨5, _⟩ => ⟨S4096x256, .bf16⟩
  | .local _ .vmem, ⟨6, _⟩ => ⟨S256x512, .bf16⟩
  | .local _ .vmem, ⟨7, _⟩ => ⟨S256x256, .bf16⟩
  | .local _ .vmem, ⟨8, _⟩ => ⟨S1x256, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c15_i32 : BitVec 32 := 15#32
  let c0_i32_0 : BitVec 32 := 0#32
  ![arg0.toNat, c0_i32.toNat, c15_i32.toNat]

def cc0_transform_9 (i : grid0.Coords) : Fin 3 → Nat :=
  let arg0 : BitVec 32 := BitVec.ofNat 32 (i 0).val
  let c0_i32 : BitVec 32 := 0#32
  let c15_i32 : BitVec 32 := 15#32
  let c0_i32_0 : BitVec 32 := 0#32
  ![arg0.toNat, c0_i32.toNat, c15_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== CmpRefIdeal.lean ====
abbrev S8x4096x256 : Shape := ⟨3, ![8, 4096, 256]⟩
abbrev S8x4096x128 : Shape := ⟨3, ![8, 4096, 128]⟩
abbrev S4096x256 : Shape := ⟨2, ![4096, 256]⟩
abbrev S256x512 : Shape := ⟨2, ![256, 512]⟩
abbrev S1x4096 : Shape := ⟨2, ![1, 4096]⟩
abbrev S64 : Shape := ⟨1, ![64]⟩
abbrev S8x256x4096 : Shape := ⟨3, ![8, 256, 4096]⟩
abbrev S1x1x4096 : Shape := ⟨3, ![1, 1, 4096]⟩
abbrev S8x256x256 : Shape := ⟨3, ![8, 256, 256]⟩
abbrev S8x255x4096 : Shape := ⟨3, ![8, 255, 4096]⟩
abbrev S8x1x4096 : Shape := ⟨3, ![8, 1, 4096]⟩
abbrev S_ : Shape := ⟨0, ![]⟩
abbrev S8x256x512 : Shape := ⟨3, ![8, 256, 512]⟩
abbrev S256 : Shape := ⟨1, ![256]⟩
abbrev S8x256x16x128 : Shape := ⟨4, ![8, 256, 16, 128]⟩
abbrev S8x256x1x128 : Shape := ⟨4, ![8, 256, 1, 128]⟩
abbrev S8x256x128 : Shape := ⟨3, ![8, 256, 128]⟩
abbrev S8x255x128 : Shape := ⟨3, ![8, 255, 128]⟩
abbrev S8x1x128 : Shape := ⟨3, ![8, 1, 128]⟩
abbrev S8x256x2x2x64 : Shape := ⟨5, ![8, 256, 2, 2, 64]⟩
abbrev S2x2x64 : Shape := ⟨3, ![2, 2, 64]⟩
abbrev S8x256x2x2 : Shape := ⟨4, ![8, 256, 2, 2]⟩
abbrev S8x256x2x2x1 : Shape := ⟨5, ![8, 256, 2, 2, 1]⟩
abbrev S1x1x2x2x64 : Shape := ⟨5, ![1, 1, 2, 2, 64]⟩
abbrev S8x256x2x2x32 : Shape := ⟨5, ![8, 256, 2, 2, 32]⟩
abbrev S8x256x1x2x64 : Shape := ⟨5, ![8, 256, 1, 2, 64]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x256, .bf16⟩
  | .hbm, ⟨1, _⟩ => ⟨S8x4096x128, .f32⟩
  | .hbm, ⟨2, _⟩ => ⟨S8x4096x128, .f32⟩
  | .hbm, ⟨3, _⟩ => ⟨S4096x256, .bf16⟩
  | .hbm, ⟨4, _⟩ => ⟨S4096x256, .bf16⟩
  | .hbm, ⟨5, _⟩ => ⟨S256x512, .bf16⟩
  | .hbm, ⟨6, _⟩ => ⟨S1x4096, .f32⟩
  | .hbm, ⟨7, _⟩ => ⟨S1x4096, .f32⟩
  | .hbm, ⟨8, _⟩ => ⟨S64, .f32⟩
  | .hbm, ⟨9, _⟩ => ⟨S8x4096x256, .f32⟩
  | .hbm, ⟨10, _⟩ => ⟨S8x256x4096, .f32⟩
  | .hbm, ⟨11, _⟩ => ⟨S1x1x4096, .f32⟩
  | .hbm, ⟨12, _⟩ => ⟨S8x256x4096, .f32⟩
  | .hbm, ⟨13, _⟩ => ⟨S8x256x4096, .f32⟩
  | .hbm, ⟨14, _⟩ => ⟨S4096x256, .f32⟩
  | .hbm, ⟨15, _⟩ => ⟨S8x256x256, .f32⟩
  | .hbm, ⟨16, _⟩ => ⟨S8x255x4096, .f32⟩
  | .hbm, ⟨17, _⟩ => ⟨S8x1x4096, .f32⟩
  | .hbm, ⟨18, _⟩ => ⟨S8x256x4096, .f32⟩
  | .hbm, ⟨19, _⟩ => ⟨S1x1x4096, .f32⟩
  | .hbm, ⟨20, _⟩ => ⟨S8x256x4096, .f32⟩
  | .hbm, ⟨21, _⟩ => ⟨S8x256x4096, .f32⟩
  | .hbm, ⟨22, _⟩ => ⟨S4096x256, .f32⟩
  | .hbm, ⟨23, _⟩ => ⟨S8x256x256, .f32⟩
  | .hbm, ⟨24, _⟩ => ⟨S8x256x256, .f32⟩
  | .hbm, ⟨25, _⟩ => ⟨S8x256x256, .f32⟩
  | .hbm, ⟨26, _⟩ => ⟨S8x256x256, .f32⟩
  | .hbm, ⟨27, _⟩ => ⟨S_, .f32⟩
  | .hbm, ⟨28, _⟩ => ⟨S8x256x256, .f32⟩
  | .hbm, ⟨29, _⟩ => ⟨S8x256x256, .f32⟩
  | .hbm, ⟨30, _⟩ => ⟨S_, .f32⟩
  | .hbm, ⟨31, _⟩ => ⟨S8x256x256, .f32⟩
  | .hbm, ⟨32, _⟩ => ⟨S8x256x256, .f32⟩
  | .hbm, ⟨33, _⟩ => ⟨S8x256x256, .f32⟩
  | .hbm, ⟨34, _⟩ => ⟨S256x512, .f32⟩
  | .hbm, ⟨35, _⟩ => ⟨S8x256x512, .f32⟩
  | .hbm, ⟨36, _⟩ => ⟨S256, .f32⟩
  | .hbm, ⟨37, _⟩ => ⟨S8x256x256, .f32⟩
  | .hbm, ⟨38, _⟩ => ⟨S8x256x16x128, .f32⟩
  | .hbm, ⟨39, _⟩ => ⟨S8x256x1x128, .f32⟩
  | .hbm, ⟨40, _⟩ => ⟨S8x256x128, .f32⟩
  | .hbm, ⟨41, _⟩ => ⟨S8x255x128, .f32⟩
  | .hbm, ⟨42, _⟩ => ⟨S8x1x128, .f32⟩
  | .hbm, ⟨43, _⟩ => ⟨S8x256x128, .f32⟩
  | .hbm, ⟨44, _⟩ => ⟨S8x256x16x128, .f32⟩
  | .hbm, ⟨45, _⟩ => ⟨S8x256x1x128, .f32⟩
  | .hbm, ⟨46, _⟩ => ⟨S8x256x128, .f32⟩
  | .hbm, ⟨47, _⟩ => ⟨S8x255x128, .f32⟩
  | .hbm, ⟨48, _⟩ => ⟨S8x1x128, .f32⟩
  | .hbm, ⟨49, _⟩ => ⟨S8x256x128, .f32⟩
  | .hbm, ⟨50, _⟩ => ⟨S8x256x2x2x64, .f32⟩
  | .hbm, ⟨51, _⟩ => ⟨S2x2x64, .f32⟩
  | .hbm, ⟨52, _⟩ => ⟨S8x256x2x2x64, .f32⟩
  | .hbm, ⟨53, _⟩ => ⟨S_, .f32⟩
  | .hbm, ⟨54, _⟩ => ⟨S8x256x2x2, .f32⟩
  | .hbm, ⟨55, _⟩ => ⟨S8x256x2x2x1, .f32⟩
  | .hbm, ⟨56, _⟩ => ⟨S_, .f32⟩
  | .hbm, ⟨57, _⟩ => ⟨S8x256x2x2x1, .f32⟩
  | .hbm, ⟨58, _⟩ => ⟨S8x256x2x2x1, .f32⟩
  | .hbm, ⟨59, _⟩ => ⟨S_, .f32⟩
  | .hbm, ⟨60, _⟩ => ⟨S8x256x2x2x1, .f32⟩
  | .hbm, ⟨61, _⟩ => ⟨S8x256x2x2x1, .f32⟩
  | .hbm, ⟨62, _⟩ => ⟨S8x256x2x2x1, .f32⟩
  | .hbm, ⟨63, _⟩ => ⟨S8x256x2x2x64, .f32⟩
  | .hbm, ⟨64, _⟩ => ⟨S8x256x2x2x64, .f32⟩
  | .hbm, ⟨65, _⟩ => ⟨S1x1x2x2x64, .f32⟩
  | .hbm, ⟨66, _⟩ => ⟨S8x256x2x2x64, .f32⟩
  | .hbm, ⟨67, _⟩ => ⟨S8x256x2x2x64, .f32⟩
  | .hbm, ⟨68, _⟩ => ⟨S8x256x2x2x32, .f32⟩
  | .hbm, ⟨69, _⟩ => ⟨S8x256x2x2x32, .f32⟩
  | .hbm, ⟨70, _⟩ => ⟨S8x256x2x2x64, .f32⟩
  | .hbm, ⟨71, _⟩ => ⟨S8x256x1x2x64, .f32⟩
  | .hbm, ⟨72, _⟩ => ⟨S8x256x2x2x64, .f32⟩
  | .hbm, ⟨73, _⟩ => ⟨S8x256x2x2x64, .f32⟩
  | .hbm, ⟨74, _⟩ => ⟨S8x256x1x2x64, .f32⟩
  | .hbm, ⟨75, _⟩ => ⟨S8x256x2x2x64, .f32⟩
  | .hbm, ⟨76, _⟩ => ⟨S8x256x2x2x64, .f32⟩
  | .hbm, ⟨77, _⟩ => ⟨S8x256x2x2x64, .f32⟩
  | .hbm, ⟨78, _⟩ => ⟨S8x256x256, .f32⟩
  | .hbm, ⟨79, _⟩ => ⟨S8x256x256, .bf16⟩
  | .hbm, ⟨80, _⟩ => ⟨S8x256x256, .f32⟩
  | .hbm, ⟨81, _⟩ => ⟨S8x256x256, .bf16⟩
  | _, _ => ⟨S8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_1 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩

abbrev nD : Nat := 1
abbrev τ : Topo := Topo.v7x

variable {F : FTy → Type} [FloatOps F]
-- ==== Conv.lean ====
abbrev S8x4096x512 : Shape := ⟨3, ![8, 4096, 512]⟩
abbrev S31x256 : Shape := ⟨2, ![31, 256]⟩
abbrev S256 : Shape := ⟨1, ![256]⟩
abbrev S256x256 : Shape := ⟨2, ![256, 256]⟩
abbrev S_ : Shape := ⟨0, ![]⟩
abbrev S32x256 : Shape := ⟨2, ![32, 256]⟩
abbrev S1x256 : Shape := ⟨2, ![1, 256]⟩
abbrev S8x4096x256 : Shape := ⟨3, ![8, 4096, 256]⟩
abbrev S1x4096x512 : Shape := ⟨3, ![1, 4096, 512]⟩
abbrev S1x4096x256 : Shape := ⟨3, ![1, 4096, 256]⟩
abbrev S544x256 : Shape := ⟨2, ![544, 256]⟩
abbrev S1x512x512 : Shape := ⟨3, ![1, 512, 512]⟩
abbrev S512x512 : Shape := ⟨2, ![512, 512]⟩
abbrev S512x256 : Shape := ⟨2, ![512, 256]⟩
abbrev S1x32x512 : Shape := ⟨3, ![1, 32, 512]⟩
abbrev S32x512 : Shape := ⟨2, ![32, 512]⟩
abbrev S512 : Shape := ⟨1, ![512]⟩
abbrev S512x1 : Shape := ⟨2, ![512, 1]⟩
abbrev S1x512x256 : Shape := ⟨3, ![1, 512, 256]⟩

abbrev nBuf : Space → Nat
  | .hbm => 16
  | .vmem => 11
  | .smem => 0
  | _ => 0

abbrev bufTy : (tb : Table) → Fin (tcTables nBuf tb) → BufTy
  | .hbm, ⟨0, _⟩ => ⟨S8x4096x512, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .i32⟩
  | .hbm, ⟨8, _⟩ => ⟨S_, .f32⟩
  | .hbm, ⟨9, _⟩ => ⟨S32x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S256x256, .bf16⟩
  | .hbm, ⟨14, _⟩ => ⟨S1x256, .f32⟩
  | .hbm, ⟨15, _⟩ => ⟨S8x4096x256, .bf16⟩
  | .local _ .vmem, ⟨0, _⟩ => ⟨S1x4096x512, .f32⟩
  | .local _ .vmem, ⟨1, _⟩ => ⟨S1x4096x512, .f32⟩
  | .local _ .vmem, ⟨2, _⟩ => ⟨S32x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x4096x256, .bf16⟩
  | .local _ .vmem, ⟨9, _⟩ => ⟨S1x4096x256, .bf16⟩
  | .local _ .vmem, ⟨10, _⟩ => ⟨S544x256, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v1 : BitVec 32 := Scalar.muli arg10 c512_i32
  v1
def k0_off1 (k0_t1 : Fin k0_t1_loop.trips) : Fin 3 → Nat :=
  let c0 : Index := 0#32
  let c0_i32 : BitVec 32 := 0#32
  let c1_i32 : BitVec 32 := 1#32
  let arg10 : BitVec 32 := Scf.iv c0_i32 c1_i32 k0_t1
  let c512_i32 : BitVec 32 := 512#32
  let v1 : BitVec 32 := Scalar.muli arg10 c512_i32
  let v2 : BitVec 32 := v1
  let v3 : Index := Scalar.indexCast v2
  let c0_1 : Index := 0#32
  ![0, v3.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v1 : BitVec 32 := Scalar.muli arg10 c512_i32
  let v2 : BitVec 32 := v1
  let c32_i32 : BitVec 32 := 32#32
  let v13 : BitVec 32 := Scalar.subi v2 c32_i32
  let c0_i32_3 : BitVec 32 := 0#32
  let v14 : BitVec 32 := Scalar.maxsi v13 c0_i32_3
  v14
def k0_off2 (k0_t1 : Fin k0_t1_loop.trips) : Fin 3 → Nat :=
  let c0_4 : Index := 0#32
  let c0_i32 : BitVec 32 := 0#32
  let c1_i32 : BitVec 32 := 1#32
  let arg10 : BitVec 32 := Scf.iv c0_i32 c1_i32 k0_t1
  let c512_i32 : BitVec 32 := 512#32
  let v1 : BitVec 32 := Scalar.muli arg10 c512_i32
  let v2 : BitVec 32 := v1
  let c32_i32 : BitVec 32 := 32#32
  let v13 : BitVec 32 := Scalar.subi v2 c32_i32
  let c0_i32_3 : BitVec 32 := 0#32
  let v14 : BitVec 32 := Scalar.maxsi v13 c0_i32_3
  let v15 : BitVec 32 := v14
  let v16 : Index := Scalar.indexCast v15
  let c0_5 : Index := 0#32
  ![0, v16.toNat, 0]
def k0_off3 (k0_t1 : Fin k0_t1_loop.trips) : Fin 3 → Nat :=
  let c0_119 : Index := 0#32
  let c0_i32 : BitVec 32 := 0#32
  let c1_i32 : BitVec 32 := 1#32
  let arg10 : BitVec 32 := Scf.iv c0_i32 c1_i32 k0_t1
  let c512_i32 : BitVec 32 := 512#32
  let v1 : BitVec 32 := Scalar.muli arg10 c512_i32
  let v2 : BitVec 32 := v1
  let v255 : Index := Scalar.indexCast v2
  let c0_120 : Index := 0#32
  ![0, v255.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvRefIdeal.lean ====
abbrev S8x4096x512 : Shape := ⟨3, ![8, 4096, 512]⟩
abbrev S31x256 : Shape := ⟨2, ![31, 256]⟩
abbrev S256 : Shape := ⟨1, ![256]⟩
abbrev S256x256 : Shape := ⟨2, ![256, 256]⟩
abbrev S8x4096x256 : Shape := ⟨3, ![8, 4096, 256]⟩
abbrev S_ : Shape := ⟨0, ![]⟩
abbrev S8x30x256 : Shape := ⟨3, ![8, 30, 256]⟩
abbrev S8x4126x256 : Shape := ⟨3, ![8, 4126, 256]⟩
abbrev S1x1x256 : Shape := ⟨3, ![1, 1, 256]⟩
abbrev S1x256 : Shape := ⟨2, ![1, 256]⟩
abbrev S8x4096 : Shape := ⟨2, ![8, 4096]⟩
abbrev S8x4096x1 : Shape := ⟨3, ![8, 4096, 1]⟩

abbrev nBuf : Space → Nat
  | .hbm => 284
  | .vmem => 0
  | .smem => 0
  | _ => 0

abbrev hbmTy0_0 (i : Nat) : BufTy := match i % 128 with
  | 0 => ⟨S8x4096x512, .f32⟩
  | 1 => ⟨S31x256, .f32⟩
  | 2 => ⟨S256, .f32⟩
  | 3 => ⟨S256, .f32⟩
  | 4 => ⟨S256, .f32⟩
  | 5 => ⟨S256x256, .f32⟩
  | 6 => ⟨S256, .f32⟩
  | 7 => ⟨S8x4096x256, .f32⟩
  | 8 => ⟨S8x4096x256, .f32⟩
  | 9 => ⟨S8x4096x256, .f32⟩
  | 10 => ⟨S8x4096x256, .f32⟩
  | 11 => ⟨S_, .f32⟩
  | 12 => ⟨S8x4096x256, .f32⟩
  | 13 => ⟨S8x4096x256, .f32⟩
  | 14 => ⟨S_, .f32⟩
  | 15 => ⟨S8x4096x256, .f32⟩
  | 16 => ⟨S8x4096x256, .f32⟩
  | 17 => ⟨S8x4096x256, .f32⟩
  | 18 => ⟨S_, .f32⟩
  | 19 => ⟨S8x30x256, .f32⟩
  | 20 => ⟨S8x4126x256, .f32⟩
  | 21 => ⟨S_, .f32⟩
  | 22 => ⟨S8x4096x256, .f32⟩
  | 23 => ⟨S1x1x256, .f32⟩
  | 24 => ⟨S8x4096x256, .f32⟩
  | 25 => ⟨S8x4096x256, .f32⟩
  | 26 => ⟨S1x256, .f32⟩
  | 27 => ⟨S256, .f32⟩
  | 28 => ⟨S8x4096x256, .f32⟩
  | 29 => ⟨S1x1x256, .f32⟩
  | 30 => ⟨S8x4096x256, .f32⟩
  | 31 => ⟨S8x4096x256, .f32⟩
  | 32 => ⟨S8x4096x256, .f32⟩
  | 33 => ⟨S1x256, .f32⟩
  | 34 => ⟨S256, .f32⟩
  | 35 => ⟨S8x4096x256, .f32⟩
  | 36 => ⟨S1x1x256, .f32⟩
  | 37 => ⟨S8x4096x256, .f32⟩
  | 38 => ⟨S8x4096x256, .f32⟩
  | 39 => ⟨S8x4096x256, .f32⟩
  | 40 => ⟨S1x256, .f32⟩
  | 41 => ⟨S256, .f32⟩
  | 42 => ⟨S8x4096x256, .f32⟩
  | 43 => ⟨S1x1x256, .f32⟩
  | 44 => ⟨S8x4096x256, .f32⟩
  | 45 => ⟨S8x4096x256, .f32⟩
  | 46 => ⟨S8x4096x256, .f32⟩
  | 47 => ⟨S1x256, .f32⟩
  | 48 => ⟨S256, .f32⟩
  | 49 => ⟨S8x4096x256, .f32⟩
  | 50 => ⟨S1x1x256, .f32⟩
  | 51 => ⟨S8x4096x256, .f32⟩
  | 52 => ⟨S8x4096x256, .f32⟩
  | 53 => ⟨S8x4096x256, .f32⟩
  | 54 => ⟨S1x256, .f32⟩
  | 55 => ⟨S256, .f32⟩
  | 56 => ⟨S8x4096x256, .f32⟩
  | 57 => ⟨S1x1x256, .f32⟩
  | 58 => ⟨S8x4096x256, .f32⟩
  | 59 => ⟨S8x4096x256, .f32⟩
  | 60 => ⟨S8x4096x256, .f32⟩
  | 61 => ⟨S1x256, .f32⟩
  | 62 => ⟨S256, .f32⟩
  | 63 => ⟨S8x4096x256, .f32⟩
  | 64 => ⟨S1x1x256, .f32⟩
  | 65 => ⟨S8x4096x256, .f32⟩
  | 66 => ⟨S8x4096x256, .f32⟩
  | 67 => ⟨S8x4096x256, .f32⟩
  | 68 => ⟨S1x256, .f32⟩
  | 69 => ⟨S256, .f32⟩
  | 70 => ⟨S8x4096x256, .f32⟩
  | 71 => ⟨S1x1x256, .f32⟩
  | 72 => ⟨S8x4096x256, .f32⟩
  | 73 => ⟨S8x4096x256, .f32⟩
  | 74 => ⟨S8x4096x256, .f32⟩
  | 75 => ⟨S1x256, .f32⟩
  | 76 => ⟨S256, .f32⟩
  | 77 => ⟨S8x4096x256, .f32⟩
  | 78 => ⟨S1x1x256, .f32⟩
  | 79 => ⟨S8x4096x256, .f32⟩
  | 80 => ⟨S8x4096x256, .f32⟩
  | 81 => ⟨S8x4096x256, .f32⟩
  | 82 => ⟨S1x256, .f32⟩
  | 83 => ⟨S256, .f32⟩
  | 84 => ⟨S8x4096x256, .f32⟩
  | 85 => ⟨S1x1x256, .f32⟩
  | 86 => ⟨S8x4096x256, .f32⟩
  | 87 => ⟨S8x4096x256, .f32⟩
  | 88 => ⟨S8x4096x256, .f32⟩
  | 89 => ⟨S1x256, .f32⟩
  | 90 => ⟨S256, .f32⟩
  | 91 => ⟨S8x4096x256, .f32⟩
  | 92 => ⟨S1x1x256, .f32⟩
  | 93 => ⟨S8x4096x256, .f32⟩
  | 94 => ⟨S8x4096x256, .f32⟩
  | 95 => ⟨S8x4096x256, .f32⟩
  | 96 => ⟨S1x256, .f32⟩
  | 97 => ⟨S256, .f32⟩
  | 98 => ⟨S8x4096x256, .f32⟩
  | 99 => ⟨S1x1x256, .f32⟩
  | 100 => ⟨S8x4096x256, .f32⟩
  | 101 => ⟨S8x4096x256, .f32⟩
  | 102 => ⟨S8x4096x256, .f32⟩
  | 103 => ⟨S1x256, .f32⟩
  | 104 => ⟨S256, .f32⟩
  | 105 => ⟨S8x4096x256, .f32⟩
  | 106 => ⟨S1x1x256, .f32⟩
  | 107 => ⟨S8x4096x256, .f32⟩
  | 108 => ⟨S8x4096x256, .f32⟩
  | 109 => ⟨S8x4096x256, .f32⟩
  | 110 => ⟨S1x256, .f32⟩
  | 111 => ⟨S256, .f32⟩
  | 112 => ⟨S8x4096x256, .f32⟩
  | 113 => ⟨S1x1x256, .f32⟩
  | 114 => ⟨S8x4096x256, .f32⟩
  | 115 => ⟨S8x4096x256, .f32⟩
  | 116 => ⟨S8x4096x256, .f32⟩
  | 117 => ⟨S1x256, .f32⟩
  | 118 => ⟨S256, .f32⟩
  | 119 => ⟨S8x4096x256, .f32⟩
  | 120 => ⟨S1x1x256, .f32⟩
  | 121 => ⟨S8x4096x256, .f32⟩
  | 122 => ⟨S8x4096x256, .f32⟩
  | 123 => ⟨S8x4096x256, .f32⟩
  | 124 => ⟨S1x256, .f32⟩
  | 125 => ⟨S256, .f32⟩
  | 126 => ⟨S8x4096x256, .f32⟩
  | 127 => ⟨S1x1x256, .f32⟩
  | _ => ⟨S8x4096x512, .f32⟩

abbrev hbmTy0_1 (i : Nat) : BufTy := match i % 128 with
  | 0 => ⟨S8x4096x256, .f32⟩
  | 1 => ⟨S8x4096x256, .f32⟩
  | 2 => ⟨S8x4096x256, .f32⟩
  | 3 => ⟨S1x256, .f32⟩
  | 4 => ⟨S256, .f32⟩
  | 5 => ⟨S8x4096x256, .f32⟩
  | 6 => ⟨S1x1x256, .f32⟩
  | 7 => ⟨S8x4096x256, .f32⟩
  | 8 => ⟨S8x4096x256, .f32⟩
  | 9 => ⟨S8x4096x256, .f32⟩
  | 10 => ⟨S1x256, .f32⟩
  | 11 => ⟨S256, .f32⟩
  | 12 => ⟨S8x4096x256, .f32⟩
  | 13 => ⟨S1x1x256, .f32⟩
  | 14 => ⟨S8x4096x256, .f32⟩
  | 15 => ⟨S8x4096x256, .f32⟩
  | 16 => ⟨S8x4096x256, .f32⟩
  | 17 => ⟨S1x256, .f32⟩
  | 18 => ⟨S256, .f32⟩
  | 19 => ⟨S8x4096x256, .f32⟩
  | 20 => ⟨S1x1x256, .f32⟩
  | 21 => ⟨S8x4096x256, .f32⟩
  | 22 => ⟨S8x4096x256, .f32⟩
  | 23 => ⟨S8x4096x256, .f32⟩
  | 24 => ⟨S1x256, .f32⟩
  | 25 => ⟨S256, .f32⟩
  | 26 => ⟨S8x4096x256, .f32⟩
  | 27 => ⟨S1x1x256, .f32⟩
  | 28 => ⟨S8x4096x256, .f32⟩
  | 29 => ⟨S8x4096x256, .f32⟩
  | 30 => ⟨S8x4096x256, .f32⟩
  | 31 => ⟨S1x256, .f32⟩
  | 32 => ⟨S256, .f32⟩
  | 33 => ⟨S8x4096x256, .f32⟩
  | 34 => ⟨S1x1x256, .f32⟩
  | 35 => ⟨S8x4096x256, .f32⟩
  | 36 => ⟨S8x4096x256, .f32⟩
  | 37 => ⟨S8x4096x256, .f32⟩
  | 38 => ⟨S1x256, .f32⟩
  | 39 => ⟨S256, .f32⟩
  | 40 => ⟨S8x4096x256, .f32⟩
  | 41 => ⟨S1x1x256, .f32⟩
  | 42 => ⟨S8x4096x256, .f32⟩
  | 43 => ⟨S8x4096x256, .f32⟩
  | 44 => ⟨S8x4096x256, .f32⟩
  | 45 => ⟨S1x256, .f32⟩
  | 46 => ⟨S256, .f32⟩
  | 47 => ⟨S8x4096x256, .f32⟩
  | 48 => ⟨S1x1x256, .f32⟩
  | 49 => ⟨S8x4096x256, .f32⟩
  | 50 => ⟨S8x4096x256, .f32⟩
  | 51 => ⟨S8x4096x256, .f32⟩
  | 52 => ⟨S1x256, .f32⟩
  | 53 => ⟨S256, .f32⟩
  | 54 => ⟨S8x4096x256, .f32⟩
  | 55 => ⟨S1x1x256, .f32⟩
  | 56 => ⟨S8x4096x256, .f32⟩
  | 57 => ⟨S8x4096x256, .f32⟩
  | 58 => ⟨S8x4096x256, .f32⟩
  | 59 => ⟨S1x256, .f32⟩
  | 60 => ⟨S256, .f32⟩
  | 61 => ⟨S8x4096x256, .f32⟩
  | 62 => ⟨S1x1x256, .f32⟩
  | 63 => ⟨S8x4096x256, .f32⟩
  | 64 => ⟨S8x4096x256, .f32⟩
  | 65 => ⟨S8x4096x256, .f32⟩
  | 66 => ⟨S1x256, .f32⟩
  | 67 => ⟨S256, .f32⟩
  | 68 => ⟨S8x4096x256, .f32⟩
  | 69 => ⟨S1x1x256, .f32⟩
  | 70 => ⟨S8x4096x256, .f32⟩
  | 71 => ⟨S8x4096x256, .f32⟩
  | 72 => ⟨S8x4096x256, .f32⟩
  | 73 => ⟨S1x256, .f32⟩
  | 74 => ⟨S256, .f32⟩
  | 75 => ⟨S8x4096x256, .f32⟩
  | 76 => ⟨S1x1x256, .f32⟩
  | 77 => ⟨S8x4096x256, .f32⟩
  | 78 => ⟨S8x4096x256, .f32⟩
  | 79 => ⟨S8x4096x256, .f32⟩
  | 80 => ⟨S1x256, .f32⟩
  | 81 => ⟨S256, .f32⟩
  | 82 => ⟨S8x4096x256, .f32⟩
  | 83 => ⟨S1x1x256, .f32⟩
  | 84 => ⟨S8x4096x256, .f32⟩
  | 85 => ⟨S8x4096x256, .f32⟩
  | 86 => ⟨S8x4096x256, .f32⟩
  | 87 => ⟨S1x256, .f32⟩
  | 88 => ⟨S256, .f32⟩
  | 89 => ⟨S8x4096x256, .f32⟩
  | 90 => ⟨S1x1x256, .f32⟩
  | 91 => ⟨S8x4096x256, .f32⟩
  | 92 => ⟨S8x4096x256, .f32⟩
  | 93 => ⟨S8x4096x256, .f32⟩
  | 94 => ⟨S1x256, .f32⟩
  | 95 => ⟨S256, .f32⟩
  | 96 => ⟨S8x4096x256, .f32⟩
  | 97 => ⟨S1x1x256, .f32⟩
  | 98 => ⟨S8x4096x256, .f32⟩
  | 99 => ⟨S8x4096x256, .f32⟩
  | 100 => ⟨S8x4096x256, .f32⟩
  | 101 => ⟨S1x256, .f32⟩
  | 102 => ⟨S256, .f32⟩
  | 103 => ⟨S8x4096x256, .f32⟩
  | 104 => ⟨S1x1x256, .f32⟩
  | 105 => ⟨S8x4096x256, .f32⟩
  | 106 => ⟨S8x4096x256, .f32⟩
  | 107 => ⟨S8x4096x256, .f32⟩
  | 108 => ⟨S1x256, .f32⟩
  | 109 => ⟨S256, .f32⟩
  | 110 => ⟨S8x4096x256, .f32⟩
  | 111 => ⟨S1x1x256, .f32⟩
  | 112 => ⟨S8x4096x256, .f32⟩
  | 113 => ⟨S8x4096x256, .f32⟩
  | 114 => ⟨S8x4096x256, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S8x4096x256, .f32⟩
  | 122 => ⟨S8x4096x256, .f32⟩
  | 123 => ⟨S8x4096x256, .f32⟩
  | 124 => ⟨S_, .f32⟩
  | 125 => ⟨S8x4096, .f32⟩
  | 126 => ⟨S8x4096x1, .f32⟩
  | 127 => ⟨S_, .f32⟩
  | _ => ⟨S8x4096x512, .f32⟩

abbrev hbmTy0_2 (i : Nat) : BufTy := match i % 128 with
  | 0 => ⟨S8x4096x1, .f32⟩
  | 1 => ⟨S8x4096x1, .f32⟩
  | 2 => ⟨S_, .f32⟩
  | 3 => ⟨S8x4096x1, .f32⟩
  | 4 => ⟨S8x4096x1, .f32⟩
  | 5 => ⟨S8x4096x1, .f32⟩
  | 6 => ⟨S8x4096x256, .f32⟩
  | 7 => ⟨S8x4096x256, .f32⟩
  | 8 => ⟨S1x1x256, .f32⟩
  | 9 => ⟨S8x4096x256, .f32⟩
  | 10 => ⟨S8x4096x256, .f32⟩
  | 11 => ⟨S1x1x256, .f32⟩
  | 12 => ⟨S8x4096x256, .f32⟩
  | 13 => ⟨S8x4096x256, .f32⟩
  | 14 => ⟨S8x4096x256, .f32⟩
  | 15 => ⟨S8x4096x256, .f32⟩
  | 16 => ⟨S_, .f32⟩
  | 17 => ⟨S8x4096x256, .f32⟩
  | 18 => ⟨S8x4096x256, .f32⟩
  | 19 => ⟨S_, .f32⟩
  | 20 => ⟨S8x4096x256, .f32⟩
  | 21 => ⟨S8x4096x256, .f32⟩
  | 22 => ⟨S8x4096x256, .f32⟩
  | 23 => ⟨S8x4096x256, .f32⟩
  | 24 => ⟨S1x1x256, .f32⟩
  | 25 => ⟨S8x4096x256, .f32⟩
  | 26 => ⟨S8x4096x256, .f32⟩
  | 27 => ⟨S8x4096x256, .bf16⟩
  | _ => ⟨S8x4096x512, .f32⟩

abbrev hbmTy (i : Nat) : BufTy := match i / 128 with
  | 0 => hbmTy0_0 i
  | 1 => hbmTy0_1 i
  | 2 => hbmTy0_2 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_cst_3 : Ref sig .tc := ⟨.hbm, 243, rfl⟩
abbrev main_v232 : Ref sig .tc := ⟨.hbm, 244, rfl⟩
abbrev main_v233 : Ref sig .tc := ⟨.hbm, 245, rfl⟩
abbrev main_cst_4 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_cst_5 : Ref sig .tc := ⟨.hbm, 252, rfl⟩
abbrev main_v239 : Ref sig .tc := ⟨.hbm, 253, rfl⟩
abbrev main_v240 : Ref sig .tc := ⟨.hbm, 254, rfl⟩
abbrev main_cst_6 : Ref sig .tc := ⟨.hbm, 255, rfl⟩
abbrev main_v241 : Ref sig .tc := ⟨.hbm, 256, rfl⟩
abbrev main_v242 : Ref sig .tc := ⟨.hbm, 257, rfl⟩
abbrev main_cst_7 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_cst_8 : Ref sig .tc := ⟨.hbm, 272, rfl⟩
abbrev main_v256 : Ref sig .tc := ⟨.hbm, 273, rfl⟩
abbrev main_v257 : Ref sig .tc := ⟨.hbm, 274, rfl⟩
abbrev main_cst_9 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_v261 : Ref sig .tc := ⟨.hbm, 279, rfl⟩
abbrev main_v262 : Ref sig .tc := ⟨.hbm, 280, rfl⟩
abbrev main_v263 : Ref sig .tc := ⟨.hbm, 281, rfl⟩
abbrev main_v264 : Ref sig .tc := ⟨.hbm, 282, rfl⟩
abbrev main_v265 : Ref sig .tc := ⟨.hbm, 283, rfl⟩

abbrev nD : Nat := 1
abbrev τ : Topo := Topo.v7x

variable {F : FTy → Type} [FloatOps F]
-- ==== Proof.Window.lean ====
/- The softmax of a masked row of scores, on the extended reals, and the facts about it that a banded attention needs:
   it is positive where some finite score is visible, and it depends on the VISIBLE entries only, however the hidden
   ones are laid out around them. Nothing here knows a program. -/
module

public import Idealize.ShloMosaic.Lib.Pointwise
public import Idealize.ShloMosaic.PureOps.Ideal.Laws

@[expose] public section

noncomputable section
namespace Cert.Window
open Idealize.ShloMosaic

/-- The finite stand-in for minus infinity that a hidden score is replaced by (the constant of -1.0e30). -/
def cap : EReal := Ideal.ofBits .f32 0xF149F2CA#32

/-- The stand-in is a real number. -/
theorem cap_real : ∃ x : ℝ, cap = (x : EReal) := by
  unfold cap
  simp only [Ideal.ofBits, Ideal.ieee]
  split_ifs with h1 h2 h3 <;> first | exact ⟨_, rfl⟩ | (exfalso; revert h1; decide)

/-- The constant a row maximum starts from is the least extended real. -/
theorem start_bot : Ideal.ofBits .f32 0xFF800000#32 = ⊥ := by
  simp [Ideal.ofBits, Ideal.ieee]

/-- The constant of 64. -/
theorem sixty_four : Ideal.ofBits .f32 0x42800000#32 = ((64 : ℝ) : EReal) := by
  simp [Ideal.ofBits, Ideal.ieee]
  rw [← EReal.coe_mul]
  norm_num

variable {ι κ : Type} [Fintype ι] [Fintype κ]

/-- A score where the mask bit is set, the stand-in where it is not. -/
def score (M : ι → BitVec 1) (s : ι → EReal) (j : ι) : EReal := Scalar.select (M j) (s j) cap
/-- The greatest entry of the masked row. -/
def top (M : ι → BitVec 1) (s : ι → EReal) : EReal :=
  Finset.univ.fold max (Ideal.ofBits .f32 0xFF800000#32) (score M s)
/-- The exponential of a visible entry's distance to the greatest; zero for a hidden entry. -/
def weight (M : ι → BitVec 1) (s : ι → EReal) (j : ι) : EReal :=
  Scalar.select (M j) (Ideal.exp (score M s j - top M s)) 0
/-- The sum of a row's weights. -/
def total (M : ι → BitVec 1) (s : ι → EReal) : EReal := ∑ j, weight M s j
/-- The sum guarded the way the reference guards it: one where it is not positive. -/
def guarded (M : ι → BitVec 1) (s : ι → EReal) : EReal := if 0 < total M s then total M s else 1
/-- The attention output: the weights over a divisor `d`, against the values. -/
def mix (M : ι → BitVec 1) (s : ι → EReal) (d : EReal) (v : ι → EReal) : EReal :=
  ∑ j, Ideal.div (weight M s j) d * v j

theorem select_one {α : Type} {b : BitVec 1} (h : b = 1#1) (x y : α) : Scalar.select b x y = x := by
  subst h; rfl
theorem select_zero {α : Type} {b : BitVec 1} (h : b ≠ 1#1) (x y : α) : Scalar.select b x y = y := by
  have : b = 0#1 := by revert h; revert b; decide
  subst this; rfl

/-- The greatest entry as a supremum. -/
theorem top_eq (M : ι → BitVec 1) (s : ι → EReal) : top M s = Finset.univ.sup (score M s) := by
  unfold top; rw [start_bot]; rfl

/-- A row all of whose visible scores are real numbers has a real greatest entry, if it has an entry at all. -/
theorem top_real (M : ι → BitVec 1) (s : ι → EReal) (hs : ∀ j, M j = 1#1 → ∃ x : ℝ, s j = x) (j : ι) :
    ∃ x : ℝ, top M s = x := by
  have hr : ∀ k, ∃ x : ℝ, score M s k = x := fun k => by
    by_cases h : M k = 1#1
    · rw [score, select_one h]; exact hs k h
    · rw [score, select_zero h]; exact cap_real
  obtain ⟨k, -, hk⟩ := Finset.exists_mem_eq_sup Finset.univ ⟨j, Finset.mem_univ j⟩ (score M s)
  rw [top_eq, hk]; exact hr k

/-- With real visible scores and one visible entry, the sum of the weights is positive. -/
theorem total_pos (M : ι → BitVec 1) (s : ι → EReal) (hs : ∀ j, M j = 1#1 → ∃ x : ℝ, s j = x)
    (j : ι) (hj : M j = 1#1) : 0 < total M s := by
  have hexp : ∀ k, M k = 1#1 → 0 < weight M s k := fun k hk => by
    obtain ⟨a, ha⟩ := hs k hk
    obtain ⟨b, hb⟩ := top_real M s hs j
    rw [weight, select_one hk, score, select_one hk, ha, hb, ← EReal.coe_sub, Ideal.exp_coe]
    exact_mod_cast Real.exp_pos _
  have hnn : ∀ k, 0 ≤ weight M s k := fun k => by
    by_cases h : M k = 1#1
    · exact (hexp k h).le
    · rw [weight, select_zero h]
  exact lt_of_lt_of_le (hexp j hj) (Finset.single_le_sum (f := weight M s) (fun k _ => hnn k) (Finset.mem_univ j))

/-- So the guard does nothing. -/
theorem guarded_eq (M : ι → BitVec 1) (s : ι → EReal) (hs : ∀ j, M j = 1#1 → ∃ x : ℝ, s j = x)
    (j : ι) (hj : M j = 1#1) : guarded M s = total M s :=
  if_pos (total_pos M s hs j hj)

/-- Two rows SHOW THE SAME entries: `φ` carries the visible entries of the first one to one onto those of the second,
    with equal scores, and both rows hide at least one entry. -/
structure Same (M : ι → BitVec 1) (s : ι → EReal) (M' : κ → BitVec 1) (s' : κ → EReal) (φ : ι → κ) : Prop where
  vis : ∀ j, M j = 1#1 → M' (φ j) = 1#1
  val : ∀ j, M j = 1#1 → s' (φ j) = s j
  inj : ∀ i j, M i = 1#1 → M j = 1#1 → φ i = φ j → i = j
  onto : ∀ k, M' k = 1#1 → ∃ j, M j = 1#1 ∧ φ j = k
  hid : ∃ j, M j ≠ 1#1
  hid' : ∃ k, M' k ≠ 1#1

variable {M : ι → BitVec 1} {s : ι → EReal} {M' : κ → BitVec 1} {s' : κ → EReal} {φ : ι → κ}

/-- Rows showing the same entries have the same greatest entry. -/
theorem Same.top (h : Same M s M' s' φ) : top M s = top M' s' := by
  rw [top_eq, top_eq]
  apply le_antisymm
  · refine Finset.sup_le fun j _ => ?_
    by_cases hj : M j = 1#1
    · have e : score M s j = score M' s' (φ j) := by
        rw [score, score, select_one hj, select_one (h.vis j hj), h.val j hj]
      rw [e]; exact Finset.le_sup (f := score M' s') (Finset.mem_univ _)
    · obtain ⟨k, hk⟩ := h.hid'
      have e : score M s j = score M' s' k := by rw [score, score, select_zero hj, select_zero hk]
      rw [e]; exact Finset.le_sup (f := score M' s') (Finset.mem_univ _)
  · refine Finset.sup_le fun k _ => ?_
    by_cases hk : M' k = 1#1
    · obtain ⟨j, hj, rfl⟩ := h.onto k hk
      have e : score M' s' (φ j) = score M s j := by
        rw [score, score, select_one hj, select_one hk, h.val j hj]
      rw [e]; exact Finset.le_sup (f := score M s) (Finset.mem_univ _)
    · obtain ⟨j, hj⟩ := h.hid
      have e : score M' s' k = score M s j := by rw [score, score, select_zero hj, select_zero hk]
      rw [e]; exact Finset.le_sup (f := score M s) (Finset.mem_univ _)

/-- A visible entry's weight is that of the entry it corresponds to. -/
theorem Same.weight (h : Same M s M' s' φ) (j : ι) (hj : M j = 1#1) : weight M' s' (φ j) = weight M s j := by
  rw [Window.weight, Window.weight, select_one hj, select_one (h.vis j hj), score, score, select_one hj,
    select_one (h.vis j hj), h.val j hj, h.top]

/-- A sum over the row of terms that vanish at the hidden entries is carried over by the correspondence. -/
theorem Same.sum (h : Same M s M' s' φ) (f : ι → EReal) (f' : κ → EReal) (hf : ∀ j, M j ≠ 1#1 → f j = 0)
    (hf' : ∀ k, M' k ≠ 1#1 → f' k = 0) (hff : ∀ j, M j = 1#1 → f' (φ j) = f j) : ∑ j, f j = ∑ k, f' k := by
  have h1 : ∑ j ∈ Finset.univ.filter (fun j => M j = 1#1), f j = ∑ j, f j :=
    Finset.sum_filter_of_ne fun j _ hj => by_contra fun hn => hj (hf j hn)
  have h2 : ∑ k ∈ Finset.univ.filter (fun k => M' k = 1#1), f' k = ∑ k, f' k :=
    Finset.sum_filter_of_ne fun k _ hk => by_contra fun hn => hk (hf' k hn)
  rw [← h1, ← h2]
  refine Finset.sum_bij (fun j _ => φ j) (fun j hj => ?_) (fun i hi j hj e => ?_) (fun k hk => ?_) (fun j hj => ?_)
  · simp only [Finset.mem_filter, Finset.mem_univ, true_and] at hj ⊢; exact h.vis j hj
  · simp only [Finset.mem_filter, Finset.mem_univ, true_and] at hi hj; exact h.inj i j hi hj e
  · simp only [Finset.mem_filter, Finset.mem_univ, true_and] at hk
    obtain ⟨j, hj, e⟩ := h.onto k hk
    exact ⟨j, by simp only [Finset.mem_filter, Finset.mem_univ, true_and]; exact hj, e⟩
  · simp only [Finset.mem_filter, Finset.mem_univ, true_and] at hj; exact (hff j hj).symm

/-- The sums of the weights agree. -/
theorem Same.total (h : Same M s M' s' φ) : total M s = total M' s' :=
  h.sum _ _ (fun j hj => by rw [Window.weight, select_zero hj]) (fun k hk => by rw [Window.weight, select_zero hk])
    (fun j hj => h.weight j hj)

/-- A hidden entry contributes nothing to the output once the divisor is positive. -/
theorem hidden_term {d : EReal} (hd : 0 < d) (v : EReal) : Ideal.div 0 d * v = 0 := by
  rw [Ideal.div, if_neg hd.ne', zero_mul, zero_mul]

/-- THE TRANSFER: the first row's output over its own sum is the second row's over its guarded sum, for values that
    correspond at the visible entries; likewise the logarithm of the row's mass. -/
theorem Same.mix (h : Same M s M' s' φ) (hs : ∀ j, M j = 1#1 → ∃ x : ℝ, s j = x) (j₀ : ι) (hj₀ : M j₀ = 1#1)
    (v : ι → EReal) (v' : κ → EReal) (hv : ∀ j, M j = 1#1 → v' (φ j) = v j) :
    mix M s (Window.total M s) v = mix M' s' (guarded M' s') v' := by
  have hp := total_pos M s hs j₀ hj₀
  have hg : guarded M' s' = Window.total M s := by rw [guarded, ← h.total, if_pos hp]
  rw [hg]
  refine h.sum _ _ (fun j hj => ?_) (fun k hk => ?_) (fun j hj => ?_)
  · rw [Window.weight, select_zero hj]; exact hidden_term hp _
  · rw [Window.weight, select_zero hk]; exact hidden_term hp _
  · rw [h.weight j hj, hv j hj]

theorem Same.logmass (h : Same M s M' s' φ) (hs : ∀ j, M j = 1#1 → ∃ x : ℝ, s j = x) (j₀ : ι) (hj₀ : M j₀ = 1#1) :
    Window.top M s + Ideal.log (Window.total M s) = Window.top M' s' + Ideal.log (guarded M' s') := by
  have hp := total_pos M s hs j₀ hj₀
  rw [guarded, ← h.total, if_pos hp, h.top]

/-- A finite sum of products of real numbers is a real number. -/
theorem sum_mul_real {n : ℕ} (f g : Fin n → EReal) (hf : ∀ k, ∃ x : ℝ, f k = x) (hg : ∀ k, ∃ x : ℝ, g k = x) :
    ∃ x : ℝ, ∑ k, f k * g k = x := by
  refine Finset.sum_induction (fun k => f k * g k) (fun y => ∃ x : ℝ, y = x) ?_ ⟨0, rfl⟩ fun k _ => ?_
  · rintro _ _ ⟨x, rfl⟩ ⟨y, rfl⟩; exact ⟨x + y, (EReal.coe_add _ _).symm⟩
  · obtain ⟨x, hx⟩ := hf k
    obtain ⟨y, hy⟩ := hg k
    exact ⟨x * y, by rw [hx, hy, EReal.coe_mul]⟩

end Cert.Window
-- ==== Proof.Band.lean ====
/- The band of a dilated attention: which keys a query sees, as the two programs spell it, and the correspondence between
   a kernel block's 256 keys (the previous block of 128, then the current one) and the positions of the whole stream. -/
module

public import proofs.«01_k».proof.Proof.Window
public import Idealize.ShloMosaic.Lib.WordCmp

@[expose] public section

noncomputable section
namespace Cert.Band
open Idealize.ShloMosaic Cert.Window

/-- A word below 256 masked with 127 is its remainder by 128. -/
theorem and127 (r : ℕ) (hr : r < 256) : IntOp.andi (BitVec.ofNat 32 r) 127#32 = BitVec.ofNat 32 (r % 128) := by
  apply BitVec.eq_of_toNat_eq
  show ((BitVec.ofNat 32 r) &&& 127#32).toNat = _
  rw [BitVec.toNat_and, BitVec.toNat_ofNat, BitVec.toNat_ofNat, BitVec.toNat_ofNat,
    Nat.mod_eq_of_lt (by omega : r < 2 ^ 32), Nat.mod_eq_of_lt (by omega : r % 128 < 2 ^ 32)]
  exact Nat.and_two_pow_sub_one_eq_mod r 7

/-- The signed maximum of two small words is the word of the maximum. -/
theorem maxsi_small (a b : ℕ) (ha : a < 2 ^ 31) (hb : b < 2 ^ 31) :
    IntOp.maxsi (BitVec.ofNat 32 a) (BitVec.ofNat 32 b) = BitVec.ofNat 32 (max a b) := by
  unfold IntOp.maxsi
  have h : BitVec.slt (BitVec.ofNat 32 b) (BitVec.ofNat 32 a) = decide (b < a) := by
    rw [BitVec.slt, WordCmp.toInt_ofNat_of_lt (by omega), WordCmp.toInt_ofNat_of_lt (by omega)]; simp
  rw [h]
  by_cases hab : b < a
  · rw [if_pos (by simpa using hab), max_eq_left hab.le]
  · rw [if_neg (by simpa using hab), max_eq_right (by omega)]

/-- The kernel's mask bit of query row `r` and key `j` in block `g`: from the greater of the row (and of 128 in the first
    block, which has no block before it) up to 128 past the row. -/
theorem kernel_bit (g r j : ℕ) (hg : g < 2 ^ 16) (hr : r < 256) (hj : j < 256) :
    IntOp.andi
      (IntOp.cmpi .sge (BitVec.ofNat 32 j) (IntOp.maxsi (IntOp.andi (BitVec.ofNat 32 r) 127#32)
        (Scalar.select (Scalar.cmpi .sgt (BitVec.ofNat 32 g) 0#32) 0#32 128#32)))
      (IntOp.cmpi .sle (BitVec.ofNat 32 j) (IntOp.addi (IntOp.andi (BitVec.ofNat 32 r) 127#32) 128#32)) = 1#1
    ↔ (0 < g ∨ 128 ≤ j) ∧ r % 128 ≤ j ∧ j ≤ r % 128 + 128 := by
  rw [and127 r hr, WordCmp.addi_ofNat]
  have hs : Scalar.select (Scalar.cmpi .sgt (BitVec.ofNat 32 g) 0#32) 0#32 128#32
      = BitVec.ofNat 32 (if 0 < g then 0 else 128) := by
    rw [WordCmp.scalar_cmpi_eq, WordCmp.cmpi_sgt_ofNat (by omega) (by omega), WordCmp.select_decide]
    split_ifs <;> rfl
  rw [hs, maxsi_small _ _ (by omega) (by split_ifs <;> omega)]
  rw [WordCmp.cmpi_sge_ofNat (by omega) (by split_ifs <;> omega), WordCmp.cmpi_sle_ofNat (by omega) (by omega),
    WordCmp.andi_ofBool, WordCmp.ofBool_eq_one_iff, Bool.and_eq_true, decide_eq_true_eq, decide_eq_true_eq]
  split_ifs <;> omega

/-- The reference's mask bit of positions `i` and `j`: a distance of nought to 128. -/
theorem ref_bit (i j : ℕ) (hi : i < 2 ^ 16) (hj : j < 2 ^ 16) :
    IntOp.andi (IntOp.cmpi .sge (IntOp.subi (BitVec.ofNat 32 i) (BitVec.ofNat 32 j)) 0#32)
      (IntOp.cmpi .sle (IntOp.subi (BitVec.ofNat 32 i) (BitVec.ofNat 32 j)) 128#32) = 1#1
    ↔ j ≤ i ∧ i ≤ j + 128 := by
  have hd : (IntOp.subi (BitVec.ofNat 32 i) (BitVec.ofNat 32 j)).toInt = (i : Int) - j := by
    show ((BitVec.ofNat 32 i) - (BitVec.ofNat 32 j)).toInt = _
    rw [BitVec.toInt_sub, WordCmp.toInt_ofNat_of_lt (by omega), WordCmp.toInt_ofNat_of_lt (by omega)]
    exact Int.bmod_eq_of_le (by omega) (by omega)
  rw [WordCmp.cmpi_sge_eq, WordCmp.cmpi_sle_eq, hd, WordCmp.andi_ofBool, WordCmp.ofBool_eq_one_iff, Bool.and_eq_true,
    decide_eq_true_eq, decide_eq_true_eq]
  have h0 : (0#32 : BitVec 32).toInt = 0 := by decide
  have h1 : (128#32 : BitVec 32).toInt = 128 := by decide
  rw [h0, h1]; omega

/-- Where a block's key sits in the stream: the first 128 in the block before (the first block is its own), the others
    in block `g` itself. -/
def place (g j : ℕ) : ℕ := if j < 128 then (g - 1) * 128 + j else g * 128 + (j - 128)

theorem place_lt {L g j : ℕ} (hL : (g + 1) * 128 ≤ L) (hj : j < 256) : place g j < L := by
  unfold place; split_ifs <;> omega

/-- A query row of block `g` sees the same keys in the block's 256 as in the stream. -/
theorem same {L g r : ℕ} (hL : (g + 1) * 128 ≤ L) (h2 : 256 ≤ L) (hr : r < 128)
    (M : Fin 256 → BitVec 1) (M' : Fin L → BitVec 1)
    (hM : ∀ j, M j = 1#1 ↔ (0 < g ∨ 128 ≤ (j : ℕ)) ∧ r ≤ j ∧ (j : ℕ) ≤ r + 128)
    (hM' : ∀ j, M' j = 1#1 ↔ (j : ℕ) ≤ g * 128 + r ∧ g * 128 + r ≤ (j : ℕ) + 128)
    (s : Fin 256 → EReal) (s' : Fin L → EReal) (hs : ∀ j : Fin 256, s' ⟨place g j, place_lt hL j.isLt⟩ = s j) :
    Same M s M' s' fun j => ⟨place g j, place_lt hL j.isLt⟩ where
  vis j hj := by
    rw [hM] at hj; rw [hM']; show place g j ≤ _ ∧ _ ≤ place g j + 128
    unfold place; split_ifs <;> omega
  val j _ := hs j
  inj i j hi hj e := by
    rw [hM] at hi hj
    have e : place g i = place g j := congrArg Fin.val e
    apply Fin.ext
    revert e; unfold place; split_ifs <;> omega
  onto k hk := by
    rw [hM'] at hk
    have hlt : (k : ℕ) + 128 - g * 128 < 256 := by omega
    refine ⟨⟨(k : ℕ) + 128 - g * 128, hlt⟩, (hM _).2 ⟨?_, ?_, ?_⟩, Fin.ext ?_⟩
    · show 0 < g ∨ 128 ≤ (k : ℕ) + 128 - g * 128; omega
    · show r ≤ (k : ℕ) + 128 - g * 128; omega
    · show (k : ℕ) + 128 - g * 128 ≤ r + 128; omega
    · show place g ((k : ℕ) + 128 - g * 128) = k
      unfold place; split_ifs <;> omega
  hid := by
    by_cases h : r = 127
    · exact ⟨⟨0, by omega⟩, fun hc => by have := (hM _).1 hc; simp only at this; omega⟩
    · exact ⟨⟨255, by omega⟩, fun hc => by have := (hM _).1 hc; simp only at this; omega⟩
  hid' := by
    by_cases h : g * 128 + r = L - 1
    · exact ⟨⟨0, by omega⟩, fun hc => by have := (hM' _).1 hc; simp only at this; omega⟩
    · exact ⟨⟨L - 1, by omega⟩, fun hc => by have := (hM' _).1 hc; simp only at this; omega⟩

end Cert.Band
-- ==== Proof.DilBlock.lean ====
/- What one block of the dilated attention kernel computes, read at an index. The kernel takes two heads at a time: it
   stacks the query block twice, once with the second head's lanes zeroed and once with the first's, and multiplies by
   the 128-lane keys, so that each half of the 256 rows is one head's scores. -/
module

public import proofs.«01_k».proof.Proof.Gen.Dil4Ideal.Skeleton
public import proofs.«01_k».proof.Proof.Band

@[expose] public section

set_option maxRecDepth 16384
noncomputable section
namespace Cert.Dil4Ideal.Block
open Cert.Dil4Ideal Cert.Dil4Ideal.Gen Idealize.ShloMosaic Idealize.ShloMosaic.TcCoe Idealize.SL.Sem
open Cert.Window

/-- A block of 128 rows of two heads (64 lanes each), as the kernel loads it. -/
abbrev Pair := Vec Ideal S1x1x128x128 .bf16

/-- Row `j` of the 256 rows made of a previous block and the current one. -/
def cat (a b : Pair) (j : Fin 256) (l : Fin 128) : EReal :=
  if h : (j : ℕ) < 128 then a (ix4 0 0 ⟨j, h⟩ l) else b (ix4 0 0 ⟨(j : ℕ) - 128, by omega⟩ l)

/-- Lane `e` of head `h` among a pair's lanes. -/
abbrev lane (h : Fin 2) (e : Fin 64) : Fin 128 := ⟨(h : ℕ) * 64 + e, by omega⟩
/-- Query row `r` of head `h` among the 256 stacked rows. -/
abbrev row (h : Fin 2) (r : Fin 128) : Fin 256 := ⟨(h : ℕ) * 128 + r, by omega⟩

/-- The score of query row `r` of head `h` against key row `j`: a sum over the head's 64 lanes. -/
def dot (q a b : Pair) (h : Fin 2) (r : Fin 128) (j : Fin 256) : EReal :=
  ∑ e : Fin 64, q (ix4 0 0 r (lane h e)) * cat a b j (lane h e)

/-- A sum over 128 lanes is the sum over the first 64 and the last 64. -/
theorem sum_lanes (f : Fin 128 → EReal) : ∑ x, f x = ∑ e : Fin 64, f (lane 0 e) + ∑ e : Fin 64, f (lane 1 e) := by
  rw [Fin.sum_univ_two_halves 64 64 rfl f]
  refine congrArg₂ (· + ·) (Finset.sum_congr rfl fun e _ => congrArg f (Fin.ext ?_))
    (Finset.sum_congr rfl fun e _ => congrArg f (Fin.ext ?_)) <;> simp [lane]

/-- The kernel's lane test: lane `x` belongs to the first head. -/
theorem first_head (x : Fin 128) {α : Type} (a b : α) :
    Scalar.select (IntOp.cmpi .slt (BitVec.ofNat 32 (x : ℕ)) 64#32) a b = if (x : ℕ) < 64 then a else b := by
  rw [WordCmp.cmpi_slt_ofNat (by omega) (by omega), WordCmp.select_decide]

/-- The stacked queries: the first 128 rows keep the first head's lanes, the others the second head's. -/
theorem query_read (q : Pair) (ρ : Fin 256) (l : Fin 128) :
    k0_pay5 q (ix2 ρ l) = if h : (ρ : ℕ) < 128 then (if (l : ℕ) < 64 then q (ix4 0 0 ⟨ρ, h⟩ l) else 0)
      else (if (l : ℕ) < 64 then 0 else q (ix4 0 0 ⟨(ρ : ℕ) - 128, by omega⟩ l)) := by
  simp only [← first_head]
  pointwise [k0_pay5, k0_pay3]

/-- The stacked queries at row `r` of head `h` are the head's own lanes of the query row and zero elsewhere. -/
theorem query_at (q : Pair) (h g : Fin 2) (r : Fin 128) (e : Fin 64) :
    k0_pay5 q (ix2 (row h r) (lane g e)) = if g = h then q (ix4 0 0 r (lane g e)) else 0 := by
  rw [query_read]
  have hr := r.isLt
  have he := e.isLt
  match h, g with
  | ⟨0, _⟩, ⟨0, _⟩ => simp [row, lane]
  | ⟨0, _⟩, ⟨1, _⟩ => simp [row, lane]
  | ⟨1, _⟩, ⟨0, _⟩ => simp [row, lane]
  | ⟨1, _⟩, ⟨1, _⟩ => simp [row, lane]

/-- The stacked keys are the previous block's rows and then the current block's. -/
theorem key_read (a b : Pair) (j : Fin 256) (l : Fin 128) : k0_pay6 a b (ix2 j l) = cat a b j l := by
  unfold cat
  pointwise [k0_pay6]

/-- The masked scores, at a stacked row. -/
theorem scores_at (M : IVec S256x256 1) (q a b : Pair) (h : Fin 2) (r : Fin 128) (j : Fin 256) :
    k0_pay8 M (k0_pay5 q) (k0_pay6 a b) (ix2 (row h r) j)
      = score (fun j => M (ix2 (row h r) j)) (dot q a b h r) j := by
  have hd : ∑ x : Fin 128, k0_pay5 q (ix2 (row h r) x) * k0_pay6 a b (ix2 j x) = dot q a b h r j := by
    rw [sum_lanes]
    simp only [query_at, key_read]
    match h with
    | ⟨0, _⟩ => simp [dot]
    | ⟨1, _⟩ => simp [dot]
  unfold score cap
  rw [← hd]
  pointwise [k0_pay8]

/-- The row maxima, weights and sums. -/
theorem top_at (M : IVec S256x256 1) (q a b : Pair) (h : Fin 2) (r : Fin 128) :
    k0_pay9 M (k0_pay5 q) (k0_pay6 a b) (ix2 (row h r) 0) = top (fun j => M (ix2 (row h r) j)) (dot q a b h r) := by
  unfold top
  pointwise [k0_pay9]
  simp only [scores_at]

theorem weight_at (M : IVec S256x256 1) (q a b : Pair) (h : Fin 2) (r : Fin 128) (j : Fin 256) :
    k0_pay10 M (k0_pay5 q) (k0_pay6 a b) (ix2 (row h r) j)
      = weight (fun j => M (ix2 (row h r) j)) (dot q a b h r) j := by
  have ht := top_at M q a b h r
  unfold weight
  pointwise [k0_pay10]
  rw [ht, scores_at]

theorem total_at (M : IVec S256x256 1) (q a b : Pair) (h : Fin 2) (r : Fin 128) :
    k0_pay11 M (k0_pay5 q) (k0_pay6 a b) (ix2 (row h r) 0) = total (fun j => M (ix2 (row h r) j)) (dot q a b h r) := by
  unfold total
  pointwise [k0_pay11]
  simp only [weight_at]

/-- A choice by lane between the two heads' rows: at lane `e` of head `h` it is row `r` of that head. -/
theorem pick (G : Fin 256 → EReal) (h : Fin 2) (r : Fin 128) (e : Fin 64) :
    (if (lane h e : ℕ) < 64 then G ⟨r, by omega⟩ else G ⟨128 + r, by omega⟩) = G (row h r) := by
  match h with
  | ⟨0, _⟩ => rw [if_pos (by simp [lane])]; exact congrArg G (Fin.ext (by simp [row]))
  | ⟨1, _⟩ => rw [if_neg (by simp [lane])]; exact congrArg G (Fin.ext (by simp [row]))

/-- The output of one stacked row `ρ` at lane `l`. -/
def stacked (M : IVec S256x256 1) (q k : FVec Ideal S256x128 .bf16) (v w : Pair) (l : Fin 128) (ρ : Fin 256) : EReal :=
  ∑ j : Fin 256, Ideal.div (k0_pay10 M q k (ix2 ρ j)) (k0_pay11 M q k (ix2 ρ 0)) * cat v w j l

/-- The sum of the previous block's part and the current block's part is the sum over the 256 rows. -/
theorem stacked_eq (M : IVec S256x256 1) (q k : FVec Ideal S256x128 .bf16) (v w : Pair) (l : Fin 128) (ρ : Fin 256) :
    ∑ x : Fin 128, Ideal.div (k0_pay10 M q k (ix2 ρ ⟨x, by omega⟩)) (k0_pay11 M q k (ix2 ρ 0)) * v (ix4 0 0 x l)
      + ∑ x : Fin 128, Ideal.div (k0_pay10 M q k (ix2 ρ ⟨128 + x, by omega⟩)) (k0_pay11 M q k (ix2 ρ 0))
          * w (ix4 0 0 x l)
      = stacked M q k v w l ρ := by
  unfold stacked
  rw [Fin.sum_univ_two_halves 128 128 rfl]
  refine congrArg₂ (· + ·) (Finset.sum_congr rfl fun x _ => ?_) (Finset.sum_congr rfl fun x _ => ?_)
  · rw [cat, dif_pos x.isLt]
  · rw [cat, dif_neg (by simp)]; simp

theorem pay12_read (M : IVec S256x256 1) (q k : FVec Ideal S256x128 .bf16) (v w : Pair) (r l : Fin 128) :
    k0_pay12 k0_pay3 M q k (k0_pay7 v) w (ix3 0 r l)
      = if (l : ℕ) < 64 then stacked M q k v w l ⟨r, by omega⟩ else stacked M q k v w l ⟨128 + r, by omega⟩ := by
  rw [← stacked_eq, ← stacked_eq]
  pointwise [k0_pay12, k0_pay3, k0_pay7]
  exact first_head l _ _

theorem pay13_read (M : IVec S256x256 1) (q k : FVec Ideal S256x128 .bf16) (r l : Fin 128) :
    k0_pay13 k0_pay3 M q k (ix3 0 r l)
      = if (l : ℕ) < 64 then k0_pay9 M q k (ix2 ⟨r, by omega⟩ 0) + Ideal.log (k0_pay11 M q k (ix2 ⟨r, by omega⟩ 0))
        else k0_pay9 M q k (ix2 ⟨128 + r, by omega⟩ 0) + Ideal.log (k0_pay11 M q k (ix2 ⟨128 + r, by omega⟩ 0)) := by
  pointwise [k0_pay13, k0_pay3]
  exact first_head l _ _

/-- The attention output of a pair of heads, at lane `e` of head `h`. -/
theorem out_at (M : IVec S256x256 1) (q a b v w : Pair) (h : Fin 2) (r : Fin 128) (e : Fin 64) :
    k0_pay12 k0_pay3 M (k0_pay5 q) (k0_pay6 a b) (k0_pay7 v) w (ix3 0 r (lane h e))
      = mix (fun j => M (ix2 (row h r) j)) (dot q a b h r)
          (total (fun j => M (ix2 (row h r) j)) (dot q a b h r)) (fun j => cat v w j (lane h e)) := by
  rw [pay12_read, pick (fun ρ => stacked M (k0_pay5 q) (k0_pay6 a b) v w (lane h e) ρ)]
  simp only [stacked, mix, total_at, weight_at]

/-- The logarithm of the softmax's mass, repeated over the lanes of head `h`. -/
theorem lse_at (M : IVec S256x256 1) (q a b : Pair) (h : Fin 2) (r : Fin 128) (e : Fin 64) :
    k0_pay13 k0_pay3 M (k0_pay5 q) (k0_pay6 a b) (ix3 0 r (lane h e))
      = top (fun j => M (ix2 (row h r) j)) (dot q a b h r)
          + Ideal.log (total (fun j => M (ix2 (row h r) j)) (dot q a b h r)) := by
  rw [pay13_read, pick (fun ρ => k0_pay9 M (k0_pay5 q) (k0_pay6 a b) (ix2 ρ 0)
    + Ideal.log (k0_pay11 M (k0_pay5 q) (k0_pay6 a b) (ix2 ρ 0))), top_at, total_at]

/-- The second pair of heads is computed as the first is. -/
theorem second_out (M : IVec S256x256 1) (q a b v w : Pair) :
    k0_pay1 (k0_pay21 k0_pay3 M (k0_pay14 q) k0_pay15 a b v w)
      = k0_pay12 k0_pay3 M (k0_pay5 q) (k0_pay6 a b) (k0_pay7 v) w := rfl
theorem second_lse (M : IVec S256x256 1) (q a b : Pair) :
    k0_pay2 k0_pay3 (k0_pay20 k0_pay3 M (k0_pay14 q) k0_pay15 a b)
      = k0_pay13 k0_pay3 M (k0_pay5 q) (k0_pay6 a b) := rfl

/-- The mask bit at a stacked row. -/
theorem mask_at (i : grid0.Coords) (h : Fin 2) (r : Fin 128) (j : Fin 256) :
    k0_pay4 i (ix2 (row h r) j) = 1#1 ↔ (0 < (i 2 : ℕ) ∨ 128 ≤ (j : ℕ)) ∧ (r : ℕ) ≤ j ∧ (j : ℕ) ≤ r + 128 := by
  have hi : (i 2 : ℕ) < 8 := (i 2).isLt
  have hb := Band.kernel_bit (i 2) (row h r) j (by omega) (row h r).isLt j.isLt
  have hm : (row h r : ℕ) % 128 = r := by simp only [row]; omega
  rw [hm] at hb
  pointwise [k0_pay4]
  exact hb

end Cert.Dil4Ideal.Block
-- ==== Proof.DilStream.lean ====
/- One block of the dilated attention against the banded attention over its whole stream: for blocks that hold the
   stream's rows where the kernel's windows read them, the block's outputs are the stream's at the block's place. The
   stream's length is a parameter, so the three dilations share this. -/
module

public import proofs.«01_k».proof.Proof.DilBlock

@[expose] public section

set_option maxRecDepth 16384
noncomputable section
namespace Cert.Dil4Ideal.Block
open Cert.Dil4Ideal.Gen Idealize.ShloMosaic Idealize.ShloMosaic.TcCoe Idealize.SL.Sem
open Cert.Window

/-- A stream of `L` rows of two heads' queries, keys and values. -/
structure Stream (L : ℕ) where
  q : Fin L → Fin 128 → EReal
  k : Fin L → Fin 128 → EReal
  v : Fin L → Fin 128 → EReal

/-- Head `h`'s score of positions `i` and `j`. -/
def Stream.dot {L : ℕ} (S : Stream L) (h : Fin 2) (i j : Fin L) : EReal := ∑ e : Fin 64, S.q i (lane h e) * S.k j (lane h e)

/-- The queries and keys are real numbers. -/
structure Stream.Finite {L : ℕ} (S : Stream L) : Prop where
  q : ∀ i l, ∃ y : ℝ, S.q i l = y
  k : ∀ i l, ∃ y : ℝ, S.k i l = y

/-- So every score is. -/
theorem Stream.Finite.dot {L : ℕ} {S : Stream L} (hS : S.Finite) (h : Fin 2) (i j : Fin L) : ∃ y : ℝ, S.dot h i j = y :=
  sum_mul_real _ _ (fun _ => hS.q _ _) (fun _ => hS.k _ _)

/-- The rows of block `g` of a stream, for the keys and values also those of the block before (the first block stands
    for its own predecessor). -/
structure Reads {L : ℕ} (S : Stream L) (g : ℕ) (hg : (g + 1) * 128 ≤ L) (q ka kb va vb : Pair) : Prop where
  q : ∀ r l : Fin 128, q (ix4 0 0 r l) = S.q ⟨g * 128 + r, by omega⟩ l
  ka : ∀ r l : Fin 128, ka (ix4 0 0 r l) = S.k ⟨(g - 1) * 128 + r, by omega⟩ l
  kb : ∀ r l : Fin 128, kb (ix4 0 0 r l) = S.k ⟨g * 128 + r, by omega⟩ l
  va : ∀ r l : Fin 128, va (ix4 0 0 r l) = S.v ⟨(g - 1) * 128 + r, by omega⟩ l
  vb : ∀ r l : Fin 128, vb (ix4 0 0 r l) = S.v ⟨g * 128 + r, by omega⟩ l

/-- A block and its predecessor hold the stream's rows at `Band.place`. -/
theorem cat_read {L g : ℕ} (hg : (g + 1) * 128 ≤ L) (f : Fin L → Fin 128 → EReal) (u w : Pair)
    (hu : ∀ r l : Fin 128, u (ix4 0 0 r l) = f ⟨(g - 1) * 128 + r, by omega⟩ l)
    (hw : ∀ r l : Fin 128, w (ix4 0 0 r l) = f ⟨g * 128 + r, by omega⟩ l) (j : Fin 256) (l : Fin 128) :
    cat u w j l = f ⟨Band.place g j, Band.place_lt hg j.isLt⟩ l := by
  by_cases h : (j : ℕ) < 128
  · rw [cat, dif_pos h, hu]
    exact congrArg (fun k => f k l) (Fin.ext (by simp [Band.place, h]))
  · rw [cat, dif_neg h, hw]
    exact congrArg (fun k => f k l) (Fin.ext (by simp [Band.place, h]))

/-- A kernel's mask of block `g`: each stacked row's band, without the predecessor's keys in the first block. -/
def BlockMask (g : ℕ) (M : IVec S256x256 1) : Prop :=
  ∀ (h : Fin 2) (r : Fin 128) (j : Fin 256),
    M (ix2 (row h r) j) = 1#1 ↔ (0 < g ∨ 128 ≤ (j : ℕ)) ∧ (r : ℕ) ≤ j ∧ (j : ℕ) ≤ r + 128

/-- A stream's mask: no later position, and at most 128 earlier ones. -/
def StreamMask {L : ℕ} (bits : Fin L → Fin L → BitVec 1) : Prop :=
  ∀ i j, bits i j = 1#1 ↔ (j : ℕ) ≤ i ∧ (i : ℕ) ≤ j + 128

/-- A query sees itself. -/
theorem self_visible {g : ℕ} {M : IVec S256x256 1} (hM : BlockMask g M) (h : Fin 2) (r : Fin 128) : M (ix2 (row h r) ⟨128 + r, by omega⟩) = 1#1 :=
  (hM h r _).2 ⟨Or.inr (by simp only; omega), by simp only; omega, by simp only; omega⟩

section
variable {L : ℕ} {S : Stream L} {g : ℕ} {hg : (g + 1) * 128 ≤ L} {q ka kb va vb : Pair}
  {M : IVec S256x256 1} {bits : Fin L → Fin L → BitVec 1}

/-- A block's scores are the stream's. -/
theorem Reads.dot (hR : Reads S g hg q ka kb va vb) (h : Fin 2) (r : Fin 128) (j : Fin 256) :
    S.dot h ⟨g * 128 + r, by omega⟩ ⟨Band.place g j, Band.place_lt hg j.isLt⟩ = Block.dot q ka kb h r j := by
  unfold Stream.dot Block.dot
  refine Finset.sum_congr rfl fun e _ => congrArg₂ (· * ·) (hR.q _ _).symm ?_
  exact (cat_read hg S.k ka kb hR.ka hR.kb j (lane h e)).symm

/-- The block's row and the stream's row show the same scores. -/
theorem Reads.same (hR : Reads S g hg q ka kb va vb) (h2 : 256 ≤ L) (hM : BlockMask g M) (hb : StreamMask bits)
    (h : Fin 2) (r : Fin 128) :
    Same (fun j => M (ix2 (row h r) j)) (Block.dot q ka kb h r) (bits ⟨g * 128 + r, by omega⟩)
      (S.dot h ⟨g * 128 + r, by omega⟩) (fun j => ⟨Band.place g j, Band.place_lt hg j.isLt⟩) :=
  Band.same hg h2 r.isLt _ _ (fun j => hM h r j) (fun j => hb _ j) _ _ (fun j => hR.dot h r j)

theorem Reads.real (hR : Reads S g hg q ka kb va vb) (hS : S.Finite) (h : Fin 2) (r : Fin 128) (j : Fin 256) :
    ∃ y : ℝ, Block.dot q ka kb h r j = y := by
  rw [← hR.dot h r j]
  exact hS.dot _ _ _

/-- THE FIRST RESULT: lane `e` of head `h` at row `r` of block `g` is the stream's softmax attention there. -/
theorem Reads.out (hR : Reads S g hg q ka kb va vb) (hS : S.Finite) (h2 : 256 ≤ L) (hM : BlockMask g M)
    (hb : StreamMask bits) (h : Fin 2) (r : Fin 128) (e : Fin 64) (i : Fin L) (hi : (i : ℕ) = g * 128 + r) :
    k0_pay12 k0_pay3 M (k0_pay5 q) (k0_pay6 ka kb) (k0_pay7 va) vb (ix3 0 r (lane h e))
      = mix (bits i) (S.dot h i) (guarded (bits i) (S.dot h i)) (fun j => S.v j (lane h e)) := by
  obtain ⟨i, hl⟩ := i
  obtain rfl : i = g * 128 + r := hi
  rw [Block.out_at]
  exact (hR.same h2 hM hb h r).mix (fun j _ => hR.real hS h r j) _ (self_visible hM h r) _ _
    fun j _ => (cat_read hg S.v va vb hR.va hR.vb j (lane h e)).symm

/-- THE SECOND RESULT there: the logarithm of the row's mass. -/
theorem Reads.lse (hR : Reads S g hg q ka kb va vb) (hS : S.Finite) (h2 : 256 ≤ L) (hM : BlockMask g M)
    (hb : StreamMask bits) (h : Fin 2) (r : Fin 128) (e : Fin 64) (i : Fin L) (hi : (i : ℕ) = g * 128 + r) :
    k0_pay13 k0_pay3 M (k0_pay5 q) (k0_pay6 ka kb) (ix3 0 r (lane h e))
      = top (bits i) (S.dot h i) + Ideal.log (guarded (bits i) (S.dot h i)) := by
  obtain ⟨i, hl⟩ := i
  obtain rfl : i = g * 128 + r := hi
  rw [Block.lse_at]
  exact (hR.same h2 hM hb h r).logmass (fun j _ => hR.real hS h r j) _ (self_visible hM h r)

/-- An index of a pair's lanes is a lane of one of its heads. -/
theorem lane_split (x : S1x128x128.Idx) :
    ∃ (r : Fin 128) (h : Fin 2) (e : Fin 64), x = ix3 0 r (lane h e) ∧ (x 1 : ℕ) = r ∧ (x 2 : ℕ) = h * 64 + e := by
  have h2 : (x 2 : ℕ) < 128 := (x 2).isLt
  refine ⟨x 1, ⟨(x 2 : ℕ) / 64, by omega⟩, ⟨(x 2 : ℕ) % 64, by omega⟩, ?_, rfl, by simp only; omega⟩
  refine (eq_ix3 x).trans (congrArg₂ (fun a b => ix3 a (x 1) b) (Subsingleton.elim _ _) (Fin.ext ?_))
  simp only [lane]; omega

end
end Cert.Dil4Ideal.Block
-- ==== Proof.DilRef.lean ====
/- What the reference of the dilated attention computes, read at an index: the banded softmax attention of one stream and
   head, over all the stream's positions. -/
module

public import proofs.«01_k».proof.Proof.Gen.Dil4RefIdeal.Read
public import proofs.«01_k».proof.Proof.DilStream

@[expose] public section

set_option maxRecDepth 16384
noncomputable section
namespace Cert.Dil4RefIdeal.RefValue
open Cert.Dil4RefIdeal Cert.Dil4RefIdeal.Gen Cert.Dil4RefIdeal.Read Idealize.ShloMosaic Idealize.ShloMosaic.TcCoe Idealize.SL.Sem
open Cert.Window
open Cert.Dil4Ideal.Block (Stream StreamMask lane)

/-- The reference's argument: per batch and stream, rows of four heads' queries, keys and values. -/
abbrev Arr := (⟨S8x4x1024x768, .bf16⟩ : BufTy).Contents (Elt Ideal)

/-- Position `i`'s mask bits. -/
def bits (i j : Fin 1024) : BitVec 1 := val_main_v18 (F := Ideal) (ix2 i j)

/-- Head `h`'s score of positions `i` and `j` of stream `c`. -/
def dot (x : Arr) (b : Fin 8) (c h : Fin 4) (i j : Fin 1024) : EReal :=
  ∑ e : Fin 64, x (ix4 b c i ⟨(h : ℕ) * 64 + e, by omega⟩) * x (ix4 b c j ⟨256 + ((h : ℕ) * 64 + e), by omega⟩)

/-- The mask is the band: no later position, and at most 128 earlier ones. -/
theorem bits_eq (i j : Fin 1024) : bits i j = 1#1 ↔ (j : ℕ) ≤ i ∧ (i : ℕ) ≤ j + 128 := by
  have hb := Band.ref_bit i j (by omega) (by omega)
  unfold bits
  pointwise [val_main_v18, val_main_v17, val_main_v14, val_main_v12, val_main_v15, val_main_v10, val_main_v11,
    val_main_v13, val_main_v16, val_main_c, val_main_c_0]
  exact hb

/-- The masked scores. -/
theorem scores_at (x : Arr) (b : Fin 8) (c h : Fin 4) (i j : Fin 1024) :
    val_main_v19 (F := Ideal) x (ix5 b c h i j) = score (bits i) (dot x b c h i) j := by
  unfold score bits dot cap
  pointwise [val_main_v19, val_main_call0_v1, val_main_call0_v2, val_main_call0_v0, val_main_cst, val_main_v9,
    val_main_v4, val_main_v6, val_main_v3, val_main_v5, val_main_v0, val_main_v1]
  rfl

/-- Their row maximum. -/
theorem top_at (x : Arr) (b : Fin 8) (c h : Fin 4) (i : Fin 1024) :
    val_main_v21 (F := Ideal) x (ix5 b c h i 0) = top (bits i) (dot x b c h i) := by
  unfold top
  pointwise [val_main_v21, val_main_v20, val_main_cst_1]
  simp only [scores_at]

/-- The softmax weights before division. -/
theorem weight_at (x : Arr) (b : Fin 8) (c h : Fin 4) (i j : Fin 1024) :
    val_main_v25 (F := Ideal) x (ix5 b c h i j) = weight (bits i) (dot x b c h i) j := by
  have ht := top_at x b c h i
  have hs := scores_at x b c h i j
  unfold weight bits
  pointwise [val_main_v25, val_main_v24, val_main_v23, val_main_v22, val_main_call1_v1, val_main_call1_v2,
    val_main_call1_v0, val_main_cst_2]
  rw [ht, hs]
  exact congrArg (Scalar.select _ _) (Ideal.ofBits_zero_f32)

/-- Their guarded sum. -/
theorem guarded_at (x : Arr) (b : Fin 8) (c h : Fin 4) (i : Fin 1024) :
    val_main_v30 (F := Ideal) x (ix5 b c h i 0) = guarded (bits i) (dot x b c h i) := by
  have hw := weight_at x b c h i
  unfold guarded total
  pointwise [val_main_v30, val_main_v29, val_main_v27, val_main_v26, val_main_v28, val_main_cst_4, val_main_cst_3,
    val_main_call2_v1, val_main_call2_v0, val_main_cst_5]
  simp only [hw]
  exact congrArg (ite _ _) (Ideal.ofBits_one_f32)

/-- The first result at position `i`, lane `n`. -/
theorem out_at (x : Arr) (b : Fin 8) (i n : Fin 1024) :
    val_main_v38 (F := Ideal) x (ix3 b i n)
      = mix (bits i) (dot x b ⟨n / 256, by omega⟩ ⟨n / 64 % 4, by omega⟩ i)
          (guarded (bits i) (dot x b ⟨n / 256, by omega⟩ ⟨n / 64 % 4, by omega⟩ i))
          (fun j => x (ix4 b ⟨n / 256, by omega⟩ j ⟨512 + ((n : ℕ) / 64 % 4 * 64 + n % 64), by omega⟩)) := by
  have hw := weight_at x b ⟨n / 256, by omega⟩ ⟨n / 64 % 4, by omega⟩ i
  have hg := guarded_at x b ⟨n / 256, by omega⟩ ⟨n / 64 % 4, by omega⟩ i
  unfold mix
  simp only [← hw, ← hg]
  pointwise [val_main_v38, val_main_v37, val_main_v33, val_main_v32, val_main_v31, val_main_v8, val_main_v7, val_main_v2]

/-- The log of the row's softmax mass. -/
theorem mass_at (x : Arr) (b : Fin 8) (c h : Fin 4) (i : Fin 1024) :
    val_main_v35 (F := Ideal) x (ix5 b c h i 0)
      = top (bits i) (dot x b c h i) + Ideal.log (guarded (bits i) (dot x b c h i)) := by
  rw [val_main_v35_apply, val_main_v34_apply, top_at, guarded_at]
  rfl

/-- The second result at position `i`, lane `n`. -/
theorem lse_at (x : Arr) (b : Fin 8) (i n : Fin 1024) :
    val_main_v40 (F := Ideal) x (ix3 b i n)
      = top (bits i) (dot x b ⟨n / 256, by omega⟩ ⟨n / 64 % 4, by omega⟩ i)
          + Ideal.log (guarded (bits i) (dot x b ⟨n / 256, by omega⟩ ⟨n / 64 % 4, by omega⟩ i)) := by
  rw [← mass_at]
  pointwise [val_main_v40, val_main_v39, val_main_v36]

/-- Stream `c` of sequence `b`, its pair `p` of heads. -/
def stream (x : Arr) (b : Fin 8) (c : Fin 4) (p : Fin 2) : Stream 1024 where
  q i l := x (ix4 b c i ⟨(p : ℕ) * 128 + l, by omega⟩)
  k i l := x (ix4 b c i ⟨256 + (p : ℕ) * 128 + l, by omega⟩)
  v i l := x (ix4 b c i ⟨512 + (p : ℕ) * 128 + l, by omega⟩)

/-- The scores are the stream's. -/
theorem dot_stream (x : Arr) (b : Fin 8) (c : Fin 4) (p h : Fin 2) (H : Fin 4) (hH : (H : ℕ) = 2 * p + h) (i : Fin 1024) :
    dot x b c H i = (stream x b c p).dot h i := by
  funext j
  refine Finset.sum_congr rfl fun e _ => congrArg₂ (fun a k => x (ix4 b c i a) * x (ix4 b c j k)) (Fin.ext ?_) (Fin.ext ?_)
  all_goals simp only [lane]; omega

section
variable (x : Arr) (b : Fin 8) (c : Fin 4) (p h : Fin 2) (e : Fin 64) (i n : Fin 1024)
  (hn : (n : ℕ) = c * 256 + p * 128 + h * 64 + e)
include hn

/-- The results at lane `e` of head `h` of pair `p` in stream `c`. -/
theorem out_stream :
    val_main_v38 (F := Ideal) x (ix3 b i n)
      = mix (bits i) ((stream x b c p).dot h i) (guarded (bits i) ((stream x b c p).dot h i))
          (fun j => (stream x b c p).v j (lane h e)) := by
  have hc : (⟨n / 256, by omega⟩ : Fin 4) = c := Fin.ext (by simp only; omega)
  rw [out_at, hc, dot_stream x b c p h _ (by simp only; omega)]
  refine congrArg (mix _ _ _) (funext fun j => congrArg (fun a => x (ix4 b c j a)) (Fin.ext ?_))
  simp only [lane]; omega

theorem lse_stream :
    val_main_v40 (F := Ideal) x (ix3 b i n)
      = top (bits i) ((stream x b c p).dot h i) + Ideal.log (guarded (bits i) ((stream x b c p).dot h i)) := by
  have hc : (⟨n / 256, by omega⟩ : Fin 4) = c := Fin.ext (by simp only; omega)
  rw [lse_at, hc, dot_stream x b c p h _ (by simp only; omega)]
end

end Cert.Dil4RefIdeal.RefValue
-- ==== Proof.DilValue.lean ====
/- The result arrays of the dilated attention kernel at dilation 4 are the reference's. -/
module

public import proofs.«01_k».proof.Proof.Gen.Dil4Ideal.Value
public import Idealize.ShloMosaic.Lib.Pipeline.ValueKit
public import proofs.«01_k».proof.Proof.DilRef

@[expose] public section

set_option maxRecDepth 16384
noncomputable section
namespace Cert.Dil4Ideal.Result
open Cert.Dil4Ideal Cert.Dil4Ideal.Gen Idealize.ShloMosaic Idealize.ShloMosaic.TcCoe Idealize.SL.Sem
open Cert.Dil4Ideal.Block
open Cert.Dil4RefIdeal.RefValue (Arr stream bits bits_eq out_stream lse_stream)

variable (m : (ℓ : Loc nD τ sig) → Buf (Elt Ideal) ℓ)

/-- The grid point's batch, stream and block. -/
def batch (t : Fin cfg0.N) : Fin 8 := grid0.coords t 0
def strand (t : Fin cfg0.N) : Fin 4 := grid0.coords t 1
def block (t : Fin cfg0.N) : Fin 8 := grid0.coords t 2

/-- Where the windows of grid point `t` lie. -/
theorem idx : ∀ t : Fin cfg0.N,
    win0_0.index t = ![(batch t : ℕ), (strand t : ℕ), (block t : ℕ), 0] ∧
    win0_1.index t = ![(batch t : ℕ), (strand t : ℕ), (block t : ℕ) - 1, 1] ∧
    win0_2.index t = ![(batch t : ℕ), (strand t : ℕ), (block t : ℕ), 1] ∧
    win0_3.index t = ![(batch t : ℕ), (strand t : ℕ), (block t : ℕ) - 1, 2] ∧
    win0_4.index t = ![(batch t : ℕ), (strand t : ℕ), (block t : ℕ), 2] ∧
    win0_5.index t = ![(batch t : ℕ), (block t : ℕ), (strand t : ℕ)] ∧
    win0_6.index t = ![(batch t : ℕ), (block t : ℕ), (strand t : ℕ)] :=
  (by decide +kernel : ∀ t : Fin grid0.N, _)

section
variable {X : Arr} {t : Fin cfg0.N} {p : Fin 2} {q ka kb va vb : Pair}

/-- The first result's piece for pair `p` at its index `x` is the reference at `x`'s place in the array. -/
theorem piece_out (hR : Reads (stream X (batch t) (strand t) p) (block t) (by omega) q ka kb va vb) (hx : (stream X (batch t) (strand t) p).Finite)
    (x : S1x128x128.Idx) (w : S8x1024x1024.Idx) (h0 : (w 0 : ℕ) = batch t) (h1 : (w 1 : ℕ) = block t * 128 + x 1)
    (h2 : (w 2 : ℕ) = strand t * 256 + p * 128 + x 2) :
    k0_pay12 k0_pay3 (k0_pay4 (grid0.coords t)) (k0_pay5 q) (k0_pay6 ka kb) (k0_pay7 va) vb x
      = Cert.Dil4RefIdeal.Read.val_main_v38 (F := Ideal) X w := by
  obtain ⟨r, h, e, rfl, e1, e2⟩ := lane_split x
  have hw : w = ix3 (batch t) (w 1) (w 2) := by blk_ext
  rw [hw]
  exact (hR.out hx (by omega) (fun h r j => mask_at (grid0.coords t) h r j) bits_eq h r e (w 1) h1).trans
    (out_stream X (batch t) (strand t) p h e _ _ (by rw [h2, e2]; omega)).symm

/-- The second result's piece for pair `p` at its index `x` is the reference at `x`'s place in the array. -/
theorem piece_lse (hR : Reads (stream X (batch t) (strand t) p) (block t) (by omega) q ka kb va vb) (hx : (stream X (batch t) (strand t) p).Finite)
    (x : S1x128x128.Idx) (w : S8x1024x1024.Idx) (h0 : (w 0 : ℕ) = batch t) (h1 : (w 1 : ℕ) = block t * 128 + x 1)
    (h2 : (w 2 : ℕ) = strand t * 256 + p * 128 + x 2) :
    k0_pay13 k0_pay3 (k0_pay4 (grid0.coords t)) (k0_pay5 q) (k0_pay6 ka kb) x
      = Cert.Dil4RefIdeal.Read.val_main_v40 (F := Ideal) X w := by
  obtain ⟨r, h, e, rfl, e1, e2⟩ := lane_split x
  have hw : w = ix3 (batch t) (w 1) (w 2) := by blk_ext
  rw [hw]
  exact (hR.lse hx (by omega) (fun h r j => mask_at (grid0.coords t) h r j) bits_eq h r e (w 1) h1).trans
    (lse_stream X (batch t) (strand t) p h e _ _ (by rw [h2, e2]; omega)).symm

end

section
variable (c : Dev nD) (hx : ∀ b s p, (stream (m ((c : Thread nD τ).loc main_arg0)) b s p).Finite)
include hx

/-- What grid point `t` leaves in the first result's block. -/
theorem point5 (t : Fin cfg0.N) (y : S1x128x256.Idx) :
    out0_5 (grid0.coords t) (iblk m c 0 t) (iblk m c 1 t) (iblk m c 2 t) (iblk m c 3 t) (iblk m c 4 t) y
      = Cert.Dil4RefIdeal.Read.val_main_v38 (F := Ideal) (m ((c : Thread nD τ).loc main_arg0))
          (((cfg0.win 5).blk t).view.emb y) := by
  canon_tiles x h
  · refine (congrFun (second_out _ _ _ _ _ _) x).trans (piece_out (p := 1) ⟨?_, ?_, ?_, ?_, ?_⟩ (hx _ _ _) x _ ?_ ?_ ?_)
    iterate 5 exact fun r l => by blk_point [iblk, V, idx t, stream]
    all_goals (blk_simp [idx t] <;> simp only [Fin.val_zero, Fin.val_one] <;> omega)
  · refine (piece_out (p := 0) ⟨?_, ?_, ?_, ?_, ?_⟩ (hx _ _ _) x _ ?_ ?_ ?_)
    iterate 5 exact fun r l => by blk_point [iblk, V, idx t, stream]
    all_goals (blk_simp [idx t] <;> simp only [Fin.val_zero, Fin.val_one] <;> omega)

/-- What grid point `t` leaves in the second result's block. -/
theorem point6 (t : Fin cfg0.N) (y : S1x128x256.Idx) :
    out0_6 (grid0.coords t) (iblk m c 0 t) (iblk m c 1 t) (iblk m c 2 t) (iblk m c 3 t) (iblk m c 4 t) y
      = Cert.Dil4RefIdeal.Read.val_main_v40 (F := Ideal) (m ((c : Thread nD τ).loc main_arg0))
          (((cfg0.win 6).blk t).view.emb y) := by
  canon_tiles x h
  · refine (congrFun (second_lse _ _ _ _) x).trans (piece_lse (p := 1)
      (va := View.ld (iblk m c 3 t) r0_2) (vb := View.ld (iblk m c 4 t) r0_2) ⟨?_, ?_, ?_, ?_, ?_⟩ (hx _ _ _) x _ ?_ ?_ ?_)
    iterate 5 exact fun r l => by blk_point [iblk, V, idx t, stream]
    all_goals (blk_simp [idx t] <;> simp only [Fin.val_zero, Fin.val_one] <;> omega)
  · refine (piece_lse (p := 0)
      (va := View.ld (iblk m c 3 t) r0_0) (vb := View.ld (iblk m c 4 t) r0_0) ⟨?_, ?_, ?_, ?_, ?_⟩ (hx _ _ _) x _ ?_ ?_ ?_)
    iterate 5 exact fun r l => by blk_point [iblk, V, idx t, stream]
    all_goals (blk_simp [idx t] <;> simp only [Fin.val_zero, Fin.val_one] <;> omega)

/-- The first result array after the run. -/
theorem final5 :
    (dats m 0 c).arrAt 5 (cfgs 0).N = Cert.Dil4RefIdeal.Read.val_main_v38 (F := Ideal) (m ((c : Thread nD τ).loc main_arg0)) := by
  refine (dats m 0 c).arrAt_eq_of_covers 5 _ (by decide +kernel) fun t _ y => ?_
  blk_simp
  rw [after0_5]
  exact point5 m c hx t y

/-- The second result array after the run. -/
theorem final6 :
    (dats m 0 c).arrAt 6 (cfgs 0).N = Cert.Dil4RefIdeal.Read.val_main_v40 (F := Ideal) (m ((c : Thread nD τ).loc main_arg0)) := by
  refine (dats m 0 c).arrAt_eq_of_covers 6 _ (by decide +kernel) fun t _ y => ?_
  blk_simp
  rw [after0_6]
  exact point6 m c hx t y

end
end Cert.Dil4Ideal.Result
-- ==== Proof.Dil16Ref.lean ====
/- What the reference of the dilated attention at dilation 16 computes, read at an index: the banded softmax attention of one
   stream and head, over all the stream's positions. -/
module

public import proofs.«01_k».proof.Proof.Gen.Dil16RefIdeal.Read
public import proofs.«01_k».proof.Proof.DilStream

@[expose] public section

set_option maxRecDepth 16384
noncomputable section
namespace Cert.Dil16RefIdeal.RefValue
open Cert.Dil16RefIdeal Cert.Dil16RefIdeal.Gen Cert.Dil16RefIdeal.Read Idealize.ShloMosaic Idealize.ShloMosaic.TcCoe Idealize.SL.Sem
open Cert.Window
open Cert.Dil4Ideal.Block (Stream StreamMask lane)

/-- The reference's argument: per batch and stream, rows of four heads' queries, keys and values. -/
abbrev Arr := (⟨S8x16x256x768, .bf16⟩ : BufTy).Contents (Elt Ideal)

/-- Position `i`'s mask bits. -/
def bits (i j : Fin 256) : BitVec 1 := val_main_v18 (F := Ideal) (ix2 i j)

/-- Head `h`'s score of positions `i` and `j` of stream `c`. -/
def dot (x : Arr) (b : Fin 8) (c : Fin 16) (h : Fin 4) (i j : Fin 256) : EReal :=
  ∑ e : Fin 64, x (ix4 b c i ⟨(h : ℕ) * 64 + e, by omega⟩) * x (ix4 b c j ⟨256 + ((h : ℕ) * 64 + e), by omega⟩)

/-- The mask is the band: no later position, and at most 128 earlier ones. -/
theorem bits_eq (i j : Fin 256) : bits i j = 1#1 ↔ (j : ℕ) ≤ i ∧ (i : ℕ) ≤ j + 128 := by
  have hb := Band.ref_bit i j (by omega) (by omega)
  unfold bits
  pointwise [val_main_v18, val_main_v17, val_main_v14, val_main_v12, val_main_v15, val_main_v10, val_main_v11,
    val_main_v13, val_main_v16, val_main_c, val_main_c_0]
  exact hb

/-- The masked scores. -/
theorem scores_at (x : Arr) (b : Fin 8) (c : Fin 16) (h : Fin 4) (i j : Fin 256) :
    val_main_v19 (F := Ideal) x (ix5 b c h i j) = score (bits i) (dot x b c h i) j := by
  unfold score bits dot cap
  pointwise [val_main_v19, val_main_call0_v1, val_main_call0_v2, val_main_call0_v0, val_main_cst, val_main_v9,
    val_main_v4, val_main_v6, val_main_v3, val_main_v5, val_main_v0, val_main_v1]
  rfl

/-- Their row maximum. -/
theorem top_at (x : Arr) (b : Fin 8) (c : Fin 16) (h : Fin 4) (i : Fin 256) :
    val_main_v21 (F := Ideal) x (ix5 b c h i 0) = top (bits i) (dot x b c h i) := by
  unfold top
  pointwise [val_main_v21, val_main_v20, val_main_cst_1]
  simp only [scores_at]

/-- The softmax weights before division. -/
theorem weight_at (x : Arr) (b : Fin 8) (c : Fin 16) (h : Fin 4) (i j : Fin 256) :
    val_main_v25 (F := Ideal) x (ix5 b c h i j) = weight (bits i) (dot x b c h i) j := by
  have ht := top_at x b c h i
  have hs := scores_at x b c h i j
  unfold weight bits
  pointwise [val_main_v25, val_main_v24, val_main_v23, val_main_v22, val_main_call1_v1, val_main_call1_v2,
    val_main_call1_v0, val_main_cst_2]
  rw [ht, hs]
  exact congrArg (Scalar.select _ _) (Ideal.ofBits_zero_f32)

/-- Their guarded sum. -/
theorem guarded_at (x : Arr) (b : Fin 8) (c : Fin 16) (h : Fin 4) (i : Fin 256) :
    val_main_v30 (F := Ideal) x (ix5 b c h i 0) = guarded (bits i) (dot x b c h i) := by
  have hw := weight_at x b c h i
  unfold guarded total
  pointwise [val_main_v30, val_main_v29, val_main_v27, val_main_v26, val_main_v28, val_main_cst_4, val_main_cst_3,
    val_main_call2_v1, val_main_call2_v0, val_main_cst_5]
  simp only [hw]
  exact congrArg (ite _ _) (Ideal.ofBits_one_f32)

/-- The first result at position `i`, lane `n`. -/
theorem out_at (x : Arr) (b : Fin 8) (i : Fin 256) (n : Fin 4096) :
    val_main_v38 (F := Ideal) x (ix3 b i n)
      = mix (bits i) (dot x b ⟨n / 256, by omega⟩ ⟨n / 64 % 4, by omega⟩ i)
          (guarded (bits i) (dot x b ⟨n / 256, by omega⟩ ⟨n / 64 % 4, by omega⟩ i))
          (fun j => x (ix4 b ⟨n / 256, by omega⟩ j ⟨512 + ((n : ℕ) / 64 % 4 * 64 + n % 64), by omega⟩)) := by
  have hw := weight_at x b ⟨n / 256, by omega⟩ ⟨n / 64 % 4, by omega⟩ i
  have hg := guarded_at x b ⟨n / 256, by omega⟩ ⟨n / 64 % 4, by omega⟩ i
  unfold mix
  simp only [← hw, ← hg]
  pointwise [val_main_v38, val_main_v37, val_main_v33, val_main_v32, val_main_v31, val_main_v8, val_main_v7, val_main_v2]

/-- The log of the row's softmax mass. -/
theorem mass_at (x : Arr) (b : Fin 8) (c : Fin 16) (h : Fin 4) (i : Fin 256) :
    val_main_v35 (F := Ideal) x (ix5 b c h i 0)
      = top (bits i) (dot x b c h i) + Ideal.log (guarded (bits i) (dot x b c h i)) := by
  rw [val_main_v35_apply, val_main_v34_apply, top_at, guarded_at]
  rfl

/-- The second result at position `i`, lane `n`. -/
theorem lse_at (x : Arr) (b : Fin 8) (i : Fin 256) (n : Fin 4096) :
    val_main_v40 (F := Ideal) x (ix3 b i n)
      = top (bits i) (dot x b ⟨n / 256, by omega⟩ ⟨n / 64 % 4, by omega⟩ i)
          + Ideal.log (guarded (bits i) (dot x b ⟨n / 256, by omega⟩ ⟨n / 64 % 4, by omega⟩ i)) := by
  rw [← mass_at]
  pointwise [val_main_v40, val_main_v39, val_main_v36]

/-- Stream `c` of sequence `b`, its pair `p` of heads. -/
def stream (x : Arr) (b : Fin 8) (c : Fin 16) (p : Fin 2) : Stream 256 where
  q i l := x (ix4 b c i ⟨(p : ℕ) * 128 + l, by omega⟩)
  k i l := x (ix4 b c i ⟨256 + (p : ℕ) * 128 + l, by omega⟩)
  v i l := x (ix4 b c i ⟨512 + (p : ℕ) * 128 + l, by omega⟩)

/-- The scores are the stream's. -/
theorem dot_stream (x : Arr) (b : Fin 8) (c : Fin 16) (p h : Fin 2) (H : Fin 4) (hH : (H : ℕ) = 2 * p + h) (i : Fin 256) :
    dot x b c H i = (stream x b c p).dot h i := by
  funext j
  refine Finset.sum_congr rfl fun e _ => congrArg₂ (fun a k => x (ix4 b c i a) * x (ix4 b c j k)) (Fin.ext ?_) (Fin.ext ?_)
  all_goals simp only [lane]; omega

section
variable (x : Arr) (b : Fin 8) (c : Fin 16) (p h : Fin 2) (e : Fin 64) (i : Fin 256) (n : Fin 4096)
  (hn : (n : ℕ) = c * 256 + p * 128 + h * 64 + e)
include hn

/-- The results at lane `e` of head `h` of pair `p` in stream `c`. -/
theorem out_stream :
    val_main_v38 (F := Ideal) x (ix3 b i n)
      = mix (bits i) ((stream x b c p).dot h i) (guarded (bits i) ((stream x b c p).dot h i))
          (fun j => (stream x b c p).v j (lane h e)) := by
  have hc : (⟨n / 256, by omega⟩ : Fin 16) = c := Fin.ext (by simp only; omega)
  rw [out_at, hc, dot_stream x b c p h _ (by simp only; omega)]
  refine congrArg (mix _ _ _) (funext fun j => congrArg (fun a => x (ix4 b c j a)) (Fin.ext ?_))
  simp only [lane]; omega

theorem lse_stream :
    val_main_v40 (F := Ideal) x (ix3 b i n)
      = top (bits i) ((stream x b c p).dot h i) + Ideal.log (guarded (bits i) ((stream x b c p).dot h i)) := by
  have hc : (⟨n / 256, by omega⟩ : Fin 16) = c := Fin.ext (by simp only; omega)
  rw [lse_at, hc, dot_stream x b c p h _ (by simp only; omega)]
end

end Cert.Dil16RefIdeal.RefValue
-- ==== Proof.Dil1Ref.lean ====
/- What the reference of the dilated attention at dilation 1 computes, read at an index: the banded softmax attention of one
   stream and head, over all the stream's positions. -/
module

public import proofs.«01_k».proof.Proof.Gen.Dil1RefIdeal.Read
public import proofs.«01_k».proof.Proof.DilStream

@[expose] public section

set_option maxRecDepth 16384
noncomputable section
namespace Cert.Dil1RefIdeal.RefValue
open Cert.Dil1RefIdeal Cert.Dil1RefIdeal.Gen Cert.Dil1RefIdeal.Read Idealize.ShloMosaic Idealize.ShloMosaic.TcCoe Idealize.SL.Sem
open Cert.Window
open Cert.Dil4Ideal.Block (Stream StreamMask lane)

/-- The reference's arguments: per batch, rows of queries and keys, and rows of values; the group's are some columns. -/
abbrev Keys := (⟨S8x1x4096x1536, .bf16⟩ : BufTy).Contents (Elt Ideal)
abbrev Values := (⟨S8x1x4096x768, .bf16⟩ : BufTy).Contents (Elt Ideal)

/-- Position `i`'s mask bits. -/
def bits (i j : Fin 4096) : BitVec 1 := val_main_v18 (F := Ideal) (ix2 i j)

/-- Head `h`'s score of positions `i` and `j` . -/
def dot (x : Keys) (b : Fin 8) (h : Fin 4) (i j : Fin 4096) : EReal :=
  ∑ e : Fin 64, x (ix4 b 0 i ⟨1024 + ((h : ℕ) * 64 + e), by omega⟩) * x (ix4 b 0 j ⟨1280 + ((h : ℕ) * 64 + e), by omega⟩)

/-- The mask is the band: no later position, and at most 128 earlier ones. -/
theorem bits_eq (i j : Fin 4096) : bits i j = 1#1 ↔ (j : ℕ) ≤ i ∧ (i : ℕ) ≤ j + 128 := by
  have hb := Band.ref_bit i j (by omega) (by omega)
  unfold bits
  pointwise [val_main_v18, val_main_v17, val_main_v14, val_main_v12, val_main_v15, val_main_v10, val_main_v11,
    val_main_v13, val_main_v16, val_main_c, val_main_c_0]
  exact hb

/-- The masked scores. -/
theorem scores_at (x : Keys) (b : Fin 8) (h : Fin 4) (i j : Fin 4096) :
    val_main_v19 (F := Ideal) x (ix5 b 0 h i j) = score (bits i) (dot x b h i) j := by
  unfold score bits dot cap
  pointwise [val_main_v19, val_main_call0_v1, val_main_call0_v2, val_main_call0_v0, val_main_cst, val_main_v9,
    val_main_v4, val_main_v6, val_main_v3, val_main_v5, val_main_v0, val_main_v1]
  rfl

/-- Their row maximum. -/
theorem top_at (x : Keys) (b : Fin 8) (h : Fin 4) (i : Fin 4096) :
    val_main_v21 (F := Ideal) x (ix5 b 0 h i 0) = top (bits i) (dot x b h i) := by
  unfold top
  pointwise [val_main_v21, val_main_v20, val_main_cst_1]
  simp only [scores_at]

/-- The softmax weights before division. -/
theorem weight_at (x : Keys) (b : Fin 8) (h : Fin 4) (i j : Fin 4096) :
    val_main_v25 (F := Ideal) x (ix5 b 0 h i j) = weight (bits i) (dot x b h i) j := by
  have ht := top_at x b h i
  have hs := scores_at x b h i j
  unfold weight bits
  pointwise [val_main_v25, val_main_v24, val_main_v23, val_main_v22, val_main_call1_v1, val_main_call1_v2,
    val_main_call1_v0, val_main_cst_2]
  rw [ht, hs]
  exact congrArg (Scalar.select _ _) (Ideal.ofBits_zero_f32)

/-- Their guarded sum. -/
theorem guarded_at (x : Keys) (b : Fin 8) (h : Fin 4) (i : Fin 4096) :
    val_main_v30 (F := Ideal) x (ix5 b 0 h i 0) = guarded (bits i) (dot x b h i) := by
  have hw := weight_at x b h i
  unfold guarded total
  pointwise [val_main_v30, val_main_v29, val_main_v27, val_main_v26, val_main_v28, val_main_cst_4, val_main_cst_3,
    val_main_call2_v1, val_main_call2_v0, val_main_cst_5]
  simp only [hw]
  exact congrArg (ite _ _) (Ideal.ofBits_one_f32)

/-- The first result at position `i`, lane `n`. -/
theorem out_at (x : Keys) (y : Values) (b : Fin 8) (i : Fin 4096) (n : Fin 256) :
    val_main_v38 (F := Ideal) x y (ix3 b i n)
      = mix (bits i) (dot x b ⟨n / 64, by omega⟩ i)
          (guarded (bits i) (dot x b ⟨n / 64, by omega⟩ i))
          (fun j => y (ix4 b 0 j ⟨n, by omega⟩)) := by
  have hw := weight_at x b ⟨n / 64, by omega⟩ i
  have hg := guarded_at x b ⟨n / 64, by omega⟩ i
  unfold mix
  simp only [← hw, ← hg]
  pointwise [val_main_v38, val_main_v37, val_main_v33, val_main_v32, val_main_v31, val_main_v8, val_main_v7, val_main_v2]

/-- The log of the row's softmax mass. -/
theorem mass_at (x : Keys) (b : Fin 8) (h : Fin 4) (i : Fin 4096) :
    val_main_v35 (F := Ideal) x (ix5 b 0 h i 0)
      = top (bits i) (dot x b h i) + Ideal.log (guarded (bits i) (dot x b h i)) := by
  rw [val_main_v35_apply, val_main_v34_apply, top_at, guarded_at]
  rfl

/-- The second result at position `i`, lane `n`. -/
theorem lse_at (x : Keys) (b : Fin 8) (i : Fin 4096) (n : Fin 256) :
    val_main_v40 (F := Ideal) x (ix3 b i n)
      = top (bits i) (dot x b ⟨n / 64, by omega⟩ i)
          + Ideal.log (guarded (bits i) (dot x b ⟨n / 64, by omega⟩ i)) := by
  rw [← mass_at]
  pointwise [val_main_v40, val_main_v39, val_main_v36]

/-- Sequence `b`, its pair `p` of heads. -/
def stream (x : Keys) (y : Values) (b : Fin 8) (p : Fin 2) : Stream 4096 where
  q i l := x (ix4 b 0 i ⟨1024 + (p : ℕ) * 128 + l, by omega⟩)
  k i l := x (ix4 b 0 i ⟨1280 + (p : ℕ) * 128 + l, by omega⟩)
  v i l := y (ix4 b 0 i ⟨(p : ℕ) * 128 + l, by omega⟩)

/-- The scores are the stream's. -/
theorem dot_stream (x : Keys) (y : Values) (b : Fin 8) (p h : Fin 2) (H : Fin 4) (hH : (H : ℕ) = 2 * p + h) (i : Fin 4096) :
    dot x b H i = (stream x y b p).dot h i := by
  funext j
  refine Finset.sum_congr rfl fun e _ => congrArg₂ (fun a k => x (ix4 b 0 i a) * x (ix4 b 0 j k)) (Fin.ext ?_) (Fin.ext ?_)
  all_goals simp only [lane]; omega

section
variable (x : Keys) (y : Values) (b : Fin 8) (p h : Fin 2) (e : Fin 64) (i : Fin 4096) (n : Fin 256)
  (hn : (n : ℕ) = p * 128 + h * 64 + e)
include hn

/-- The results at lane `e` of head `h` of pair `p`. -/
theorem out_stream :
    val_main_v38 (F := Ideal) x y (ix3 b i n)
      = mix (bits i) ((stream x y b p).dot h i) (guarded (bits i) ((stream x y b p).dot h i))
          (fun j => (stream x y b p).v j (lane h e)) := by
  rw [out_at, dot_stream x y b p h _ (by simp only; omega)]
  refine congrArg (mix _ _ _) (funext fun j => congrArg (fun a => y (ix4 b 0 j a)) (Fin.ext ?_))
  simp only [lane]; omega

theorem lse_stream :
    val_main_v40 (F := Ideal) x (ix3 b i n)
      = top (bits i) ((stream x y b p).dot h i) + Ideal.log (guarded (bits i) ((stream x y b p).dot h i)) := by
  rw [lse_at, dot_stream x y b p h _ (by simp only; omega)]
end

end Cert.Dil1RefIdeal.RefValue
-- ==== Proof.Finite.lean ====
/- The preconditions of the dilated attention at its three dilations: queries and keys whose magnitude is below infinity are
   real numbers. -/
module

public import proofs.«01_k».proof.Proof.Gen.Pre_finite
public import proofs.«01_k».proof.Proof.Gen.Pre_finite16
public import proofs.«01_k».proof.Proof.Gen.Pre_finite1
public import Idealize.ShloMosaic.Lib.Claim
public import proofs.«01_k».proof.Proof.DilRef
public import proofs.«01_k».proof.Proof.Dil16Ref
public import proofs.«01_k».proof.Proof.Dil1Ref

@[expose] public section

set_option maxRecDepth 16384
noncomputable section
namespace Cert.Finite
open Idealize.ShloMosaic

/-- A magnitude below another is a real number's. -/
theorem real_of_lt (a t : EReal) (h : max a (-a) < t) : ∃ y : ℝ, a = y := by
  induction a with
  | bot => simp at h
  | top => simp at h
  | coe y => exact ⟨y, rfl⟩

/-- The bit of a magnitude below the constant of infinity: set for real numbers only. -/
def small (a : EReal) : BitVec 1 := BitVec.ofBool (decide (max a (-a) < Ideal.ofBits .f32 0x7F800000#32))

theorem real_of_small (a : EReal) (h : small a = 1#1) : ∃ y : ℝ, a = y := by
  unfold small at h
  rw [WordCmp.ofBool_eq_one_iff, decide_eq_true_eq] at h
  exact real_of_lt _ _ h

/-- Where the precondition holds, the queries and keys of every stream are real numbers: at dilation 4. -/
theorem at4 (x : Cert.Dil4RefIdeal.RefValue.Arr) (h : Cert.Pre_finite.fn (F := Ideal) x = fun _ => 1#1) (b : Fin 8)
    (c : Fin 4) (p : Fin 2) : (Cert.Dil4RefIdeal.RefValue.stream x b c p).Finite := by
  have hx : ∀ (i : Fin 1024) (n : Fin 512), ∃ y : ℝ, x (ix4 b c i ⟨n, by omega⟩) = y := fun i n => by
    refine real_of_small _ (Eq.trans ?_ (congrFun h (ix4 b c i n)))
    unfold small
    pointwise [Cert.Pre_finite.fn]
    rfl
  exact ⟨fun i l => hx i ⟨(p : ℕ) * 128 + l, by omega⟩, fun i l => hx i ⟨256 + (p : ℕ) * 128 + l, by omega⟩⟩

/-- At dilation 16. -/
theorem at16 (x : Cert.Dil16RefIdeal.RefValue.Arr) (h : Cert.Pre_finite16.fn (F := Ideal) x = fun _ => 1#1) (b : Fin 8)
    (c : Fin 16) (p : Fin 2) : (Cert.Dil16RefIdeal.RefValue.stream x b c p).Finite := by
  have hx : ∀ (i : Fin 256) (n : Fin 512), ∃ y : ℝ, x (ix4 b c i ⟨n, by omega⟩) = y := fun i n => by
    refine real_of_small _ (Eq.trans ?_ (congrFun h (ix4 b c i n)))
    unfold small
    pointwise [Cert.Pre_finite16.fn]
    rfl
  exact ⟨fun i l => hx i ⟨(p : ℕ) * 128 + l, by omega⟩, fun i l => hx i ⟨256 + (p : ℕ) * 128 + l, by omega⟩⟩

/-- At dilation 1, where they are the last 512 columns. -/
theorem at1 (x : Cert.Dil1RefIdeal.RefValue.Keys) (y : Cert.Dil1RefIdeal.RefValue.Values)
    (h : Cert.Pre_finite1.fn (F := Ideal) x y = fun _ => 1#1) (b : Fin 8) (p : Fin 2) :
    (Cert.Dil1RefIdeal.RefValue.stream x y b p).Finite := by
  have hx : ∀ (i : Fin 4096) (n : Fin 512), ∃ z : ℝ, x (ix4 b 0 i ⟨1024 + (n : ℕ), by omega⟩) = z := fun i n => by
    refine real_of_small _ (Eq.trans ?_ (congrFun h (ix4 b 0 i n)))
    unfold small
    pointwise [Cert.Pre_finite1.fn]
    rfl
  have hc : ∀ (i : Fin 4096) (n : ℕ) (hn : n < 1536), 1024 ≤ n → ∃ z : ℝ, x (ix4 b 0 i ⟨n, hn⟩) = z := fun i n hn h0 => by
    obtain ⟨z, hz⟩ := hx i ⟨n - 1024, by omega⟩
    exact ⟨z, (congrArg (fun a => x (ix4 b 0 i a)) (Fin.ext (by simp only; omega))).trans hz⟩
  exact ⟨fun i l => hc i _ _ (by omega), fun i l => hc i _ _ (by omega)⟩

end Cert.Finite
-- ==== Proof.FfnRef.lean ====
/- What the reference of the feed-forward block computes, read at an index. -/
module

public import proofs.«01_k».proof.Proof.Gen.FfnRefIdeal.Read
public import Idealize.ShloMosaic.Lib.Pipeline.ValueKit
public import Idealize.ShloMosaic.Lib.KernelVsHost

@[expose] public section

set_option maxRecDepth 16384
noncomputable section
namespace Cert.FfnRefIdeal.RefValue
open Cert.FfnRefIdeal Cert.FfnRefIdeal.Gen Cert.FfnRefIdeal.Read Idealize.ShloMosaic Idealize.ShloMosaic.TcCoe Idealize.SL.Sem

/-- The residual stream's rows, the norm's gains, the up projection, the taps, their bias and the down projection. -/
abbrev Rows := (⟨S32768x1024, .f32⟩ : BufTy).Contents (Elt Ideal)
abbrev Gains := (⟨S1024, .f32⟩ : BufTy).Contents (Elt Ideal)
abbrev Up := (⟨S1024x5632, .f32⟩ : BufTy).Contents (Elt Ideal)
abbrev Taps := (⟨S3x5632, .f32⟩ : BufTy).Contents (Elt Ideal)
abbrev Bias := (⟨S5632, .f32⟩ : BufTy).Contents (Elt Ideal)
abbrev Down := (⟨S2816x1024, .f32⟩ : BufTy).Contents (Elt Ideal)

/-- Entry `k` of a row after the norm. -/
def scaled (row : Fin 1024 → EReal) (g : EReal) (k : Fin 1024) : EReal :=
  row k * Ideal.rsqrt (Ideal.div (∑ j, row j * row j) (Ideal.ofBits FTy.f32 0x44800000#32)
    + Ideal.ofBits FTy.f32 0x358637BD#32) * g

/-- Row `q` of the up projection. -/
def up (x : Rows) (g : Gains) (w : Up) (q : Fin 32768) (f : Fin 5632) : EReal :=
  ∑ k : Fin 1024, scaled (fun j => x (ix2 q j)) (g (ix1 k)) k * w (ix2 k f)

/-- Sequence `b`'s rows of the up projection, two zero rows before them. -/
def padded (x : Rows) (g : Gains) (w : Up) (b : Fin 8) (a : ℕ) (f : Fin 5632) : EReal :=
  if h : 2 ≤ a ∧ a < 4098 then up x g w ⟨(b : ℕ) * 4096 + (a - 2), by omega⟩ f else 0

/-- The convolution at position `s` of sequence `b`. -/
def conv (x : Rows) (g : Gains) (w : Up) (d : Taps) (e : Bias) (b : Fin 8) (s : Fin 4096) (f : Fin 5632) : EReal :=
  padded x g w b s f * d (ix2 0 f) + padded x g w b (1 + s) f * d (ix2 1 f) + padded x g w b (2 + s) f * d (ix2 2 f)
    + e (ix1 f)

/-- The gated product: gate column times its logistic times value column. -/
def gated (y : Fin 5632 → EReal) (f : Fin 2816) : EReal :=
  y ⟨f, by omega⟩ * Ideal.logistic (y ⟨f, by omega⟩) * y ⟨2816 + f, by omega⟩

/-- The normalised rows. -/
theorem normed_at (x : Rows) (g : Gains) (b : Fin 8) (s : Fin 4096) (k : Fin 1024) :
    val_main_v13 (F := Ideal) x g (ix3 b s k)
      = scaled (fun j => x (ix2 ⟨(b : ℕ) * 4096 + s, by omega⟩ j)) (g (ix1 k)) k := by
  unfold scaled
  pointwise [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- The up projection. -/
theorem up_at (x : Rows) (g : Gains) (w : Up) (b : Fin 8) (s : Fin 4096) (f : Fin 5632) :
    val_main_v14 (F := Ideal) x g w (ix3 b s f) = up x g w ⟨(b : ℕ) * 4096 + s, by omega⟩ f := by
  have hn := normed_at x g b s
  unfold up
  simp only [← hn]
  pointwise [val_main_v14]

/-- The up projection with its two zero rows. -/
theorem padded_at (x : Rows) (g : Gains) (w : Up) (b : Fin 8) (a : Fin 4098) (f : Fin 5632) :
    val_main_v15 (F := Ideal) x g w (ix3 b a f) = padded x g w b a f := by
  unfold padded val_main_v15
  by_cases h : 2 ≤ (a : ℕ)
  · rw [dif_pos ⟨h, a.isLt⟩]
    refine (pad_apply_of_inside _ _ _ _ _ _ _ _ (ix3 b ⟨(a : ℕ) - 2, by omega⟩ f) ?_).trans (up_at x g w b _ f)
    intro i
    match i with
    | ⟨0, _⟩ => show (b : ℕ) = 0 + b * 1; omega
    | ⟨1, _⟩ => show (a : ℕ) = 2 + (a - 2) * 1; omega
    | ⟨2, _⟩ => show (f : ℕ) = 0 + f * 1; omega
  · rw [dif_neg fun h' => h h'.1]
    refine (pad_apply_of_not_inside _ _ _ _ _ _ _ _ 1 fun h' => h h'.1).trans ?_
    exact sitofp_zero (φ := .f32)

/-- The convolution. -/
theorem conv_at (x : Rows) (g : Gains) (w : Up) (d : Taps) (e : Bias) (b : Fin 8) (s : Fin 4096) (f : Fin 5632) :
    val_main_v38 (F := Ideal) x g w d e (ix3 b s f) = conv x g w d e b s f := by
  have h0 := padded_at x g w b ⟨s, by omega⟩ f
  have h1 := padded_at x g w b ⟨1 + s, by omega⟩ f
  have h2 := padded_at x g w b ⟨2 + s, by omega⟩ f
  unfold conv
  simp only at h0 h1 h2
  rw [← h0, ← h1, ← h2]
  pointwise [val_main_v38, val_main_v37, val_main_v36, val_main_v35, val_main_v34, val_main_v33, val_main_v32, val_main_v31,
    val_main_v30, val_main_v29, val_main_v28, val_main_v27, val_main_v26, val_main_v25, val_main_v24, val_main_v23,
    val_main_v22, val_main_v21, val_main_v20, val_main_v19, val_main_v18, val_main_v17, val_main_v16]

/-- The gated product. -/
theorem gated_at (x : Rows) (g : Gains) (w : Up) (d : Taps) (e : Bias) (b : Fin 8) (s : Fin 4096) (f : Fin 2816) :
    val_main_v48 (F := Ideal) x g w d e (ix3 b s f) = gated (conv x g w d e b s) f := by
  have hc := conv_at x g w d e b s
  unfold gated
  simp only [← hc]
  pointwise [val_main_v48, val_main_v47, val_main_v46, val_main_v45, val_main_v44, val_main_v43, val_main_v42, val_main_v41,
    val_main_v40, val_main_v39, val_main_cst_2, val_main_cst_3]
  rfl

/-- The result. -/
theorem out_at (x : Rows) (g : Gains) (w : Up) (d : Taps) (e : Bias) (o : Down) (q : Fin 32768) (n : Fin 1024) :
    val_main_v51 (F := Ideal) x g w d e o (ix2 q n)
      = x (ix2 q n) + ∑ f : Fin 2816, gated (conv x g w d e ⟨(q : ℕ) / 4096, by omega⟩ ⟨(q : ℕ) % 4096, by omega⟩) f
          * o (ix2 f n) := by
  have hg := gated_at x g w d e ⟨(q : ℕ) / 4096, by omega⟩ ⟨(q : ℕ) % 4096, by omega⟩
  simp only [← hg]
  pointwise [val_main_v51, val_main_v50, val_main_v49, val_main_v0]

end Cert.FfnRefIdeal.RefValue
-- ==== Proof.FfnBlock.lean ====
/- What one block of the feed-forward kernel computes. The kernel takes the 5632 columns of the up projection in 22 chunks
   of 256 (eleven gates, eleven values) and adds eleven products against the rows of the down projection. -/
module

public import proofs.«01_k».proof.Proof.Gen.FfnIdeal.Value
public import Idealize.ShloMosaic.Lib.Pipeline.ValueKit
public import proofs.«01_k».proof.Proof.FfnRef

@[expose] public section

set_option maxRecDepth 16384
noncomputable section
namespace Cert.FfnIdeal.Block
open Cert.FfnIdeal Cert.FfnIdeal.Gen Idealize.ShloMosaic Idealize.ShloMosaic.TcCoe Idealize.SL.Sem

/-- Columns `256 c …` of the up projection's weights. -/
def upCols (X : Vec Ideal S1024x5632 .bf16) (c : ℕ) : Vec Ideal S1024x256 .bf16 :=
  View.ld X (Rect.unit (s := S1024x5632) ![0, 256 * (c % 22)] S1024x256.size (by
    intro a; match a with
    | ⟨0, _⟩ => exact (Nat.le_refl 1024 : 0 + 1024 ≤ 1024)
    | ⟨1, _⟩ => show 256 * (c % 22) + 256 ≤ 5632; omega))

/-- Columns `256 c …` of tap `k`. -/
def tapCols (X : Vec Ideal S8x5632 .f32) (k : Fin 8) (c : ℕ) : Vec Ideal S1x256 .f32 :=
  View.ld X (Rect.unit (s := S8x5632) ![(k : ℕ), 256 * (c % 22)] S1x256.size (by
    intro a; match a with
    | ⟨0, _⟩ => show (k : ℕ) + 1 ≤ 8; omega
    | ⟨1, _⟩ => show 256 * (c % 22) + 256 ≤ 5632; omega))

/-- Columns `256 c …` of the bias. -/
def biasCols (X : Vec Ideal S1x5632 .f32) (c : ℕ) : Vec Ideal S1x256 .f32 :=
  View.ld X (Rect.unit (s := S1x5632) ![0, 256 * (c % 22)] S1x256.size (by
    intro a; match a with
    | ⟨0, _⟩ => exact (Nat.le_refl 1 : 0 + 1 ≤ 1)
    | ⟨1, _⟩ => show 256 * (c % 22) + 256 ≤ 5632; omega))

/-- Rows `256 c …` of the down projection's weights. -/
def downRows (X : Vec Ideal S2816x1024 .bf16) (c : ℕ) : Vec Ideal S256x1024 .bf16 :=
  View.ld X (Rect.unit (s := S2816x1024) ![256 * (c % 11), 0] S256x1024.size (by
    intro a; match a with
    | ⟨0, _⟩ => show 256 * (c % 11) + 256 ≤ 2816; omega
    | ⟨1, _⟩ => exact (Nat.le_refl 1024 : 0 + 1024 ≤ 1024)))

section
variable (i : grid0.Coords) (x0 : Vec Ideal S256x1024 .f32) (x1 : Vec Ideal S16x1024 .f32) (x2 : Vec Ideal S1x1024 .f32)
  (x3 : Vec Ideal S1024x5632 .bf16) (x4 : Vec Ideal S8x5632 .f32) (x5 : Vec Ideal S1x5632 .f32)
  (x6 : Vec Ideal S2816x1024 .bf16)

/-- Chunk `c` of the convolved up projection, for the block's 256 rows. -/
def conv (c : ℕ) : FVec Ideal S256x256 .f32 :=
  k0_pay17 (k0_pay2 (View.ld x0 r0_0) (View.ld x1 r0_1) (View.ld x2 r0_2)) (k0_pay3 i) (upCols x3 c) (tapCols x4 2 c)
    (tapCols x4 1 c) (tapCols x4 0 c) (biasCols x5 c)

/-- One chunk's contribution added to what is there: the gated product against the down projection's rows. -/
def step (acc : FVec Ideal S256x1024 .f32) (g v : FVec Ideal S256x256 .f32) (w : Vec Ideal S256x1024 .bf16) :
    FVec Ideal S256x1024 .f32 :=
  k0_pay45 acc v (mulf g (logistic g)) w

/-- The first `c` chunks' contributions. -/
def acc : ℕ → FVec Ideal S256x1024 .f32
  | 0 => k0_pay4
  | c + 1 => step (acc c) (conv i x0 x1 x2 x3 x4 x5 c) (conv i x0 x1 x2 x3 x4 x5 (c + 11)) (downRows x6 c)

/-- The block the kernel writes is the residual plus all eleven chunks. -/
theorem out_eq : out0_7 i x0 x1 x2 x3 x4 x5 x6
    = View.canon [⟨r0_0, addf (View.ld x0 r0_0) (acc i x0 x1 x2 x3 x4 x5 x6 11)⟩] := rfl
end

/-- One entry of the up projection of the block's 272 rows, zero where the mask is. -/
def up (h : FVec Ideal S272x1024 .bf16) (M : IVec S272x1 1) (W : Vec Ideal S1024x256 .bf16) (ρ : Fin 272) (l : Fin 256) :
    EReal :=
  Scalar.select (M (ix2 ρ 0)) (∑ k : Fin 1024, h (ix2 ρ k) * W (ix2 k l)) 0

/-- A chunk of the convolution at a row and column: three taps and the bias. -/
theorem pay17_at (h : FVec Ideal S272x1024 .bf16) (M : IVec S272x1 1) (W : Vec Ideal S1024x256 .bf16)
    (d2 d1 d0 b : Vec Ideal S1x256 .f32) (r l : Fin 256) :
    k0_pay17 h M W d2 d1 d0 b (ix2 r l)
      = d2 (ix2 0 l) * up h M W ⟨16 + r, by omega⟩ l + d1 (ix2 0 l) * up h M W ⟨15 + r, by omega⟩ l
        + d0 (ix2 0 l) * up h M W ⟨14 + r, by omega⟩ l + b (ix2 0 l) := by
  have e1 : (16 + (r : ℕ) + 272 - 1) % 272 = 15 + r := by omega
  have e2 : (16 + (r : ℕ) + 272 - 2) % 272 = 14 + r := by omega
  unfold up
  pointwise [k0_pay17]
  simp only [e1, e2]

/-- A chunk's contribution at a row and column. -/
theorem step_at (a : FVec Ideal S256x1024 .f32) (g v : FVec Ideal S256x256 .f32) (w : Vec Ideal S256x1024 .bf16)
    (r : Fin 256) (n : Fin 1024) :
    step a g v w (ix2 r n) = a (ix2 r n)
      + ∑ l : Fin 256, g (ix2 r l) * Ideal.logistic (g (ix2 r l)) * v (ix2 r l) * w (ix2 l n) := by
  unfold step
  pointwise [k0_pay45]

/-- Nothing is there at first. -/
theorem start_at (r : Fin 256) (n : Fin 1024) : k0_pay4 (F := Ideal) (ix2 r n) = 0 := by
  pointwise [k0_pay4]

/-- Row `ρ` of the block and the sixteen rows before it. -/
def row (x0 : Vec Ideal S256x1024 .f32) (x1 : Vec Ideal S16x1024 .f32) (ρ : Fin 272) (k : Fin 1024) : EReal :=
  if h : (ρ : ℕ) < 16 then x1 (ix2 ⟨ρ, h⟩ k) else x0 (ix2 ⟨(ρ : ℕ) - 16, by omega⟩ k)

/-- The normalised rows. -/
theorem norm_at (x0 : Vec Ideal S256x1024 .f32) (x1 : Vec Ideal S16x1024 .f32) (x2 : Vec Ideal S1x1024 .f32)
    (ρ : Fin 272) (k : Fin 1024) :
    k0_pay2 x0 x1 x2 (ix2 ρ k) = Cert.FfnRefIdeal.RefValue.scaled (row x0 x1 ρ) (x2 (ix2 0 k)) k := by
  unfold Cert.FfnRefIdeal.RefValue.scaled row
  pointwise [k0_pay2]

/-- The mask drops the rows before a sequence's first. -/
theorem mask_at (i : grid0.Coords) (ρ : Fin 272) : k0_pay3 i (ix2 ρ 0) = 1#1 ↔ (i 0 : ℕ) % 16 ≠ 0 ∨ 16 ≤ (ρ : ℕ) := by
  pointwise [k0_pay3]
  generalize i 0 = n
  revert n ρ
  decide +kernel

theorem upCols_at (X : Vec Ideal S1024x5632 .bf16) (c : ℕ) (k : Fin 1024) (l : Fin 256) :
    upCols X c (ix2 k l) = X (ix2 k ⟨256 * (c % 22) + l, by omega⟩) :=
  View.ld_unit_apply_of _ _ _ _ _ _ (fun a => by
    match a with
    | ⟨0, _⟩ => exact (Nat.zero_add _).symm
    | ⟨1, _⟩ => rfl)

theorem tapCols_at (X : Vec Ideal S8x5632 .f32) (k : Fin 8) (c : ℕ) (l : Fin 256) :
    tapCols X k c (ix2 0 l) = X (ix2 k ⟨256 * (c % 22) + l, by omega⟩) :=
  View.ld_unit_apply_of _ _ _ _ _ _ (fun a => by
    match a with
    | ⟨0, _⟩ => rfl
    | ⟨1, _⟩ => rfl)

theorem biasCols_at (X : Vec Ideal S1x5632 .f32) (c : ℕ) (l : Fin 256) :
    biasCols X c (ix2 0 l) = X (ix2 0 ⟨256 * (c % 22) + l, by omega⟩) :=
  View.ld_unit_apply_of _ _ _ _ _ _ (fun a => by
    match a with
    | ⟨0, _⟩ => rfl
    | ⟨1, _⟩ => rfl)

theorem downRows_at (X : Vec Ideal S2816x1024 .bf16) (c : ℕ) (l : Fin 256) (n : Fin 1024) :
    downRows X c (ix2 l n) = X (ix2 ⟨256 * (c % 11) + l, by omega⟩ n) :=
  View.ld_unit_apply_of _ _ _ _ _ _ (fun a => by
    match a with
    | ⟨0, _⟩ => rfl
    | ⟨1, _⟩ => exact (Nat.zero_add _).symm)

/-- The whole-block loads. -/
theorem ld0 (x : Vec Ideal S256x1024 .f32) : View.ld x r0_0 = x := by
  funext j
  exact View.ld_unit_apply_of _ _ _ _ _ _ (fun a => by
    match a with
    | ⟨0, _⟩ => exact (Nat.zero_add _).symm
    | ⟨1, _⟩ => exact (Nat.zero_add _).symm)

theorem ld1 (x : Vec Ideal S16x1024 .f32) : View.ld x r0_1 = x := by
  funext j
  exact View.ld_unit_apply_of _ _ _ _ _ _ (fun a => by
    match a with
    | ⟨0, _⟩ => exact (Nat.zero_add _).symm
    | ⟨1, _⟩ => exact (Nat.zero_add _).symm)

theorem ld2 (x : Vec Ideal S1x1024 .f32) : View.ld x r0_2 = x := by
  funext j
  exact View.ld_unit_apply_of _ _ _ _ _ _ (fun a => by
    match a with
    | ⟨0, _⟩ => exact (Nat.zero_add _).symm
    | ⟨1, _⟩ => exact (Nat.zero_add _).symm)

end Cert.FfnIdeal.Block
-- ==== Proof.FfnEq.lean ====
/- One block of the feed-forward kernel is the reference's rows. -/
module

public import proofs.«01_k».proof.Proof.FfnBlock

@[expose] public section

set_option maxRecDepth 16384
noncomputable section
namespace Cert.FfnIdeal.Block
open Cert.FfnIdeal Cert.FfnIdeal.Gen Idealize.ShloMosaic Idealize.ShloMosaic.TcCoe Idealize.SL.Sem
open Cert.FfnRefIdeal.RefValue (Rows Gains Up Taps Bias Down padded gated scaled)

/-- What block `t` reads of the arrays: 256 rows, the sixteen rows before them, and the weights whole. -/
structure Reads (X : Rows) (G : Gains) (W : Up) (T : Taps) (B : Bias) (D : Down) (t : Fin 128)
    (x0 : Vec Ideal S256x1024 .f32) (x1 : Vec Ideal S16x1024 .f32) (x2 : Vec Ideal S1x1024 .f32)
    (x3 : Vec Ideal S1024x5632 .bf16) (x4 : Vec Ideal S8x5632 .f32) (x5 : Vec Ideal S1x5632 .f32)
    (x6 : Vec Ideal S2816x1024 .bf16) : Prop where
  rows : ∀ (r : Fin 256) (k : Fin 1024), x0 (ix2 r k) = X (ix2 ⟨(t : ℕ) * 256 + r, by omega⟩ k)
  before : ∀ (r : Fin 16) (k : Fin 1024), x1 (ix2 r k) = X (ix2 ⟨((t : ℕ) * 16 - 1) * 16 + r, by omega⟩ k)
  gains : ∀ k : Fin 1024, x2 (ix2 0 k) = G (ix1 k)
  ups : ∀ (k : Fin 1024) (f : Fin 5632), x3 (ix2 k f) = W (ix2 k f)
  taps : ∀ (a : Fin 3) (f : Fin 5632), x4 (ix2 ⟨a, by omega⟩ f) = T (ix2 a f)
  bias : ∀ f : Fin 5632, x5 (ix2 0 f) = B (ix1 f)
  downs : ∀ (f : Fin 2816) (n : Fin 1024), x6 (ix2 f n) = D (ix2 f n)

section
variable {X : Rows} {G : Gains} {W : Up} {T : Taps} {B : Bias} {D : Down} {t : Fin 128} {i : grid0.Coords}
  {x0 : Vec Ideal S256x1024 .f32} {x1 : Vec Ideal S16x1024 .f32} {x2 : Vec Ideal S1x1024 .f32}
  {x3 : Vec Ideal S1024x5632 .bf16} {x4 : Vec Ideal S8x5632 .f32} {x5 : Vec Ideal S1x5632 .f32}
  {x6 : Vec Ideal S2816x1024 .bf16}

/-- Block `t`'s sequence, and its row `r`'s position in it. -/
def seq (t : Fin 128) : Fin 8 := ⟨(t : ℕ) / 16, by omega⟩
def pos (t : Fin 128) (r : Fin 256) : Fin 4096 := ⟨(t : ℕ) % 16 * 256 + r, by omega⟩

/-- A row the mask lets through is the array's. -/
theorem Reads.row_eq (hR : Reads X G W T B D t x0 x1 x2 x3 x4 x5 x6) (ρ : Fin 272)
    (h : (t : ℕ) % 16 ≠ 0 ∨ 16 ≤ (ρ : ℕ)) (q : Fin 32768) (hq : (q : ℕ) + 16 = t * 256 + ρ) :
    row x0 x1 ρ = fun j => X (ix2 q j) := by
  funext j
  unfold row
  split
  · next hr =>
    rw [hR.before]
    exact congrArg (fun z => X (ix2 z j)) (Fin.ext (by simp only; omega))
  · rw [hR.rows]
    exact congrArg (fun z => X (ix2 z j)) (Fin.ext (by simp only; omega))

/-- The masked up projection at the block's row `ρ` is the reference's padded one. -/
theorem Reads.up_eq (hR : Reads X G W T B D t x0 x1 x2 x3 x4 x5 x6) (hi : (i 0 : ℕ) = t) (c : ℕ) (ρ : Fin 272)
    (hρ : 14 ≤ (ρ : ℕ)) (l : Fin 256) (a : ℕ) (ha : a + 14 = (t : ℕ) % 16 * 256 + ρ) (f : Fin 5632)
    (hf : 256 * (c % 22) + l = (f : ℕ)) :
    up (k0_pay2 x0 x1 x2) (k0_pay3 i) (upCols x3 c) ρ l = padded X G W (seq t) a f := by
  unfold up padded
  have hm := mask_at i ρ
  rw [hi] at hm
  by_cases h : (t : ℕ) % 16 ≠ 0 ∨ 16 ≤ (ρ : ℕ)
  · have hb : 2 ≤ a ∧ a < 4098 := by omega
    rw [dif_pos hb, hm.mpr h, ValueIdx.select_one]
    unfold Cert.FfnRefIdeal.RefValue.up
    refine Finset.sum_congr rfl fun k _ => ?_
    rw [norm_at, upCols_at, hR.gains, hR.ups, hR.row_eq ρ h ⟨seq t * 4096 + (a - 2), by omega⟩ (by simp only [seq]; omega)]
    simp only [hf, Fin.eta]
  · have hb : ¬(2 ≤ a ∧ a < 4098) := by omega
    rw [dif_neg hb, ValueIdx.eq_zero_of_ne_one (fun h' => h (hm.mp h')), ValueIdx.select_zero]

/-- Three products added in either order. -/
theorem taps_comm (d0 d1 d2 p0 p1 p2 b : EReal) :
    d2 * p2 + d1 * p1 + d0 * p0 + b = p0 * d0 + p1 * d1 + p2 * d2 + b := by
  rw [mul_comm d0, mul_comm d1, mul_comm d2]
  abel

/-- A chunk of the convolution is the reference's. -/
theorem Reads.conv_eq (hR : Reads X G W T B D t x0 x1 x2 x3 x4 x5 x6) (hi : (i 0 : ℕ) = t) (c : ℕ) (r l : Fin 256)
    (f : Fin 5632) (hf : 256 * (c % 22) + l = (f : ℕ)) :
    conv i x0 x1 x2 x3 x4 x5 c (ix2 r l) = Cert.FfnRefIdeal.RefValue.conv X G W T B (seq t) (pos t r) f := by
  unfold conv Cert.FfnRefIdeal.RefValue.conv
  rw [pay17_at, ld0, ld1, ld2,
    hR.up_eq hi c ⟨16 + r, by omega⟩ (by simp only; omega) l (2 + pos t r) (by simp only [pos]; omega) f hf,
    hR.up_eq hi c ⟨15 + r, by omega⟩ (by simp only; omega) l (1 + pos t r) (by simp only [pos]; omega) f hf,
    hR.up_eq hi c ⟨14 + r, by omega⟩ (by simp only; omega) l (pos t r) (by simp only [pos]; omega) f hf,
    tapCols_at, tapCols_at, tapCols_at, biasCols_at]
  simp only [hf, Fin.eta]
  rw [hR.bias, ← hR.taps 0 f, ← hR.taps 1 f, ← hR.taps 2 f]
  exact taps_comm _ _ _ _ _ _ _

/-- Chunk `c` of the down projection at row `r`, column `n`. -/
def part (X : Rows) (G : Gains) (W : Up) (T : Taps) (B : Bias) (D : Down) (t : Fin 128) (r : Fin 256) (n : Fin 1024)
    (c : Fin 11) : EReal :=
  ∑ l : Fin 256, gated (Cert.FfnRefIdeal.RefValue.conv X G W T B (seq t) (pos t r)) ⟨(c : ℕ) * 256 + l, by omega⟩
    * D (ix2 ⟨(c : ℕ) * 256 + l, by omega⟩ n)

/-- The first `c` chunks added up. -/
theorem Reads.acc_eq (hR : Reads X G W T B D t x0 x1 x2 x3 x4 x5 x6) (hi : (i 0 : ℕ) = t) (r : Fin 256) (n : Fin 1024)
    (c : ℕ) (hc : c ≤ 11) :
    acc i x0 x1 x2 x3 x4 x5 x6 c (ix2 r n)
      = ∑ j : Fin c, part X G W T B D t r n ⟨j, by omega⟩ := by
  induction c with
  | zero => exact start_at r n
  | succ c ih =>
    rw [Fin.sum_univ_castSucc]
    refine (step_at _ _ _ _ r n).trans (congrArg₂ (· + ·) (ih (by omega)) (Finset.sum_congr rfl fun l _ => ?_))
    have hl := l.isLt
    rw [hR.conv_eq hi c r l ⟨c * 256 + l, by omega⟩ (by simp only; omega),
      hR.conv_eq hi (c + 11) r l ⟨2816 + (c * 256 + l), by omega⟩ (by simp only; omega), downRows_at, hR.downs]
    refine congrArg (_ * ·) (congrArg (fun z => D (ix2 z n)) (Fin.ext ?_))
    show 256 * (c % 11) + (l : ℕ) = c * 256 + l
    omega

/-- The block's result is the reference's. -/
theorem Reads.out (hR : Reads X G W T B D t x0 x1 x2 x3 x4 x5 x6) (hi : (i 0 : ℕ) = t) (r : Fin 256) (n : Fin 1024)
    (q : Fin 32768) (hq : (q : ℕ) = t * 256 + r) :
    addf x0 (acc i x0 x1 x2 x3 x4 x5 x6 11) (ix2 r n)
      = Cert.FfnRefIdeal.Read.val_main_v51 (F := Ideal) X G W T B D (ix2 q n) := by
  rw [Cert.FfnRefIdeal.RefValue.out_at, Fin.sum_univ_tiles 11 256 rfl]
  have e1 : (⟨(q : ℕ) / 4096, by omega⟩ : Fin 8) = seq t := Fin.ext (by simp only [seq]; omega)
  have e2 : (⟨(q : ℕ) % 4096, by omega⟩ : Fin 4096) = pos t r := Fin.ext (by simp only [pos]; omega)
  refine congrArg₂ (· + ·) ((hR.rows r n).trans (congrArg (fun z => X (ix2 z n)) (Fin.ext hq.symm)))
    ((hR.acc_eq hi r n 11 (Nat.le_refl _)).trans ?_)
  simp only [e1, e2]
  rfl

end
end Cert.FfnIdeal.Block
-- ==== Proof.FfnValue.lean ====
/- The feed-forward kernel's result array is the reference's. -/
module

public import Idealize.ShloMosaic.Lib.Claim
public import proofs.«01_k».proof.Proof.FfnEq

@[expose] public section

set_option maxRecDepth 16384
noncomputable section
namespace Cert.FfnIdeal.Result
open Cert.FfnIdeal Cert.FfnIdeal.Gen Idealize.ShloMosaic Idealize.ShloMosaic.TcCoe Idealize.SL.Sem
open Cert.FfnIdeal.Block

variable (m : (ℓ : Loc nD τ sig) → Buf (Elt Ideal) ℓ)

/-- The grid point's block. -/
def block (t : Fin cfg0.N) : Fin 128 := grid0.coords t 0

/-- Where the windows of grid point `t` lie. -/
theorem idx : ∀ t : Fin cfg0.N,
    win0_0.index t = ![(block t : ℕ), 0] ∧ win0_1.index t = ![(block t : ℕ) * 16 - 1, 0] ∧
    win0_2.index t = ![0, 0] ∧ win0_3.index t = ![0, 0] ∧ win0_4.index t = ![0, 0] ∧ win0_5.index t = ![0, 0] ∧
    win0_6.index t = ![0, 0] ∧ win0_7.index t = ![(block t : ℕ), 0] :=
  (by decide +kernel : ∀ t : Fin grid0.N, _)

/-- The operands the host prepares: the gains and the bias as one row, the taps with five zero rows after them. -/
theorem gains_entry (c : Dev nD) (k : Fin 1024) :
    V m c main_v0 (ix2 0 k) = m ((c : Thread nD τ).loc main_arg1) (ix1 k) := by
  show broadcastInDim S1x1024 ![1] bcast_S1024_S1x1024_1 (m ((c : Thread nD τ).loc main_arg1)) (ix2 0 k) = _
  pointwise

theorem bias_entry (c : Dev nD) (f : Fin 5632) :
    V m c main_v3 (ix2 0 f) = m ((c : Thread nD τ).loc main_arg4) (ix1 f) := by
  show broadcastInDim S1x5632 ![1] bcast_S5632_S1x5632_1 (m ((c : Thread nD τ).loc main_arg4)) (ix2 0 f) = _
  pointwise

theorem taps_entry (c : Dev nD) (a : Fin 3) (f : Fin 5632) :
    V m c main_v2 (ix2 ⟨a, by omega⟩ f) = m ((c : Thread nD τ).loc main_arg3) (ix2 a f) := by
  show pad S8x5632 ![0, 0] ![5, 0] ![0, 0] (m ((c : Thread nD τ).loc main_arg3) : S3x5632.Idx → EReal)
    (sitofp (F := Ideal) .f32 (constantI S_ 32 0#32)) pads_S3x5632_S8x5632_050_000 h_S_ _ = _
  refine pad_apply_of_inside _ _ _ _ _ _ _ _ (ix2 a f) (fun i => ?_)
  match i with
  | ⟨0, _⟩ => show (a : ℕ) = 0 + a * 1; omega
  | ⟨1, _⟩ => show (f : ℕ) = 0 + f * 1; omega

/-- What grid point `t` reads of the arguments. -/
theorem reads (c : Dev nD) (t : Fin cfg0.N) :
    Reads (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (block t) (iblk m c 0 t) (iblk m c 1 t) (iblk m c 2 t) (iblk m c 3 t) (iblk m c 4 t) (iblk m c 5 t) (iblk m c 6 t) where
  rows r k := by blk_point [iblk, V, idx t]
  before r k := by blk_point [iblk, V, idx t]
  gains k := by
    refine Eq.trans ?_ (gains_entry m c k)
    blk_ext [iblk, idx t]
  ups k f := by blk_point [iblk, V, idx t]
  taps a f := by
    refine Eq.trans ?_ (taps_entry m c a f)
    blk_ext [iblk, idx t]
  bias f := by
    refine Eq.trans ?_ (bias_entry m c f)
    blk_ext [iblk, idx t]
  downs f n := by blk_point [iblk, V, idx t]

/-- What grid point `t` leaves in the result's block. -/
theorem point (c : Dev nD) (t : Fin cfg0.N) (y : S256x1024.Idx) :
    out0_7 (grid0.coords t) (iblk m c 0 t) (iblk m c 1 t) (iblk m c 2 t) (iblk m c 3 t) (iblk m c 4 t) (iblk m c 5 t)
        (iblk m c 6 t) y
      = Cert.FfnRefIdeal.Read.val_main_v51 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5))
          (((cfg0.win 7).blk t).view.emb y) := by
  rw [out_eq, ld0]
  generalize hw : ((cfg0.win 7).blk t).view.emb y = w
  have e0 : (w 0 : ℕ) = block t * 256 + y 0 := by subst hw; blk_simp [idx t]
  have e1 : (w 1 : ℕ) = y 1 := by subst hw; blk_simp [idx t]
  canon_tiles x h
  have hx : x = ix2 (x 0) (x 1) := by blk_ext
  have hw' : w = ix2 (w 0) (x 1) := by blk_ext
  rw [hw', hx]
  exact (reads m c t).out rfl (x 0) (x 1) (w 0) (by rw [e0, h0])

/-- The result array after the run. -/
theorem final (c : Dev nD) :
    (dats m 0 c).arrAt 7 (cfgs 0).N
      = Cert.FfnRefIdeal.Read.val_main_v51 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) := by
  refine (dats m 0 c).arrAt_eq_of_covers 7 _ (by decide +kernel) fun t _ y => ?_
  blk_simp
  rw [after0_7]
  exact point m c t y

end Cert.FfnIdeal.Result
-- ==== Proof.MixRef.lean ====
/- What the reference of the output projection computes, read at an index: the three dilated groups mixed by the softmax of
   their masses, then one product of the three mixers' lanes with the weights, and the residual. -/
module

public import proofs.«01_k».proof.Proof.Gen.MixRefIdeal.Read
public import Idealize.ShloMosaic.Lib.Pipeline.ValueKit
public import proofs.«01_k».proof.Proof.Window

@[expose] public section

set_option maxRecDepth 16384
noncomputable section
namespace Cert.MixRefIdeal.RefValue
open Cert.MixRefIdeal Cert.MixRefIdeal.Gen Cert.MixRefIdeal.Read Idealize.ShloMosaic Idealize.ShloMosaic.TcCoe Idealize.SL.Sem

/-- The residual stream, the convolution's lanes, the sparse attention's lanes, a group's lanes and the weights. -/
abbrev Rows := (⟨S32768x1024, .f32⟩ : BufTy).Contents (Elt Ideal)
abbrev ConvLanes := (⟨S32768x256, .bf16⟩ : BufTy).Contents (Elt Ideal)
abbrev NsaLanes := (⟨S32768x512, .bf16⟩ : BufTy).Contents (Elt Ideal)
abbrev Group := (⟨S32768x256, .f32⟩ : BufTy).Contents (Elt Ideal)
abbrev Weights := (⟨S1024x1024, .f32⟩ : BufTy).Contents (Elt Ideal)

/-- The exponential of group `k`'s mass, less the greatest of the three. -/
def rise (l : Fin 3 → EReal) (k : Fin 3) : EReal := Ideal.exp (l k - max (max (l 0) (l 1)) (l 2))

/-- The three groups mixed by the softmax of their masses. -/
def blend (l o : Fin 3 → EReal) : EReal :=
  Ideal.div (rise l 0) (rise l 0 + rise l 1 + rise l 2) * o 0 + Ideal.div (rise l 1) (rise l 0 + rise l 1 + rise l 2) * o 1
    + Ideal.div (rise l 2) (rise l 0 + rise l 1 + rise l 2) * o 2

/-- The three groups' entries at one row and lane. -/
def trio (a b c : Group) (q : Fin 32768) (n : Fin 256) : Fin 3 → EReal := ![a (ix2 q n), b (ix2 q n), c (ix2 q n)]

/-- Stacking three values reads one of them. -/
theorem stacked (k : Fin 3) (a b c : EReal) :
    (if _h : (k : ℕ) < 1 then a else if _h : (k : ℕ) - 1 < 1 then b else c) = (![a, b, c] : Fin 3 → EReal) k := by
  match k with
  | 0 => rfl
  | 1 => rfl
  | 2 => rfl

/-- The greatest of three, folded from the least extended real. -/
theorem greatest (f : Fin 3 → EReal) : Finset.univ.fold max ⊥ f = max (max (f 0) (f 1)) (f 2) := by
  rw [show (Finset.univ : Finset (Fin 3)) = {0, 1, 2} from rfl, Finset.fold_insert (by decide),
    Finset.fold_insert (by decide), Finset.fold_singleton, max_bot_right, max_assoc]

/-- A sequence's position as a row of the arrays. -/
def at_ (b : Fin 8) (s : Fin 4096) : Fin 32768 := ⟨(b : ℕ) * 4096 + s, by omega⟩

/-- The stacked masses and the stacked groups. -/
theorem mass_at (l0 l1 l2 : Group) (k : Fin 3) (b : Fin 8) (s : Fin 4096) (n : Fin 256) :
    val_main_v6 (F := Ideal) l0 l1 l2 (ix4 k b s n) = trio l0 l1 l2 (at_ b s) n k := by
  unfold trio at_
  pointwise [val_main_v6, val_main_v5, val_main_v4, val_main_v3, val_main_v2, val_main_v1, val_main_v0]
  exact stacked k _ _ _

theorem group_at (o0 o1 o2 : Group) (k : Fin 3) (b : Fin 8) (s : Fin 4096) (n : Fin 256) :
    val_main_v24 (F := Ideal) o0 o1 o2 (ix4 k b s n) = trio o0 o1 o2 (at_ b s) n k := by
  unfold trio at_
  pointwise [val_main_v24, val_main_v23, val_main_v22, val_main_v21, val_main_v20, val_main_v19, val_main_v18]
  exact stacked k _ _ _

/-- The greatest along the stacked axis, from any first value. -/
theorem reduced (v : (⟨S3x8x4096x256, .f32⟩ : BufTy).Contents (Elt Ideal)) (b : Fin 8) (s : Fin 4096) (n : Fin 256) :
    Host.reduce (FloatOps.maximumf (F := Ideal) (φ := .f32)) v (val_main_cst (F := Ideal)) reducesTo_S3x8x4096x256_S8x4096x256_d0 h_S_
        (ix3 b s n)
      = max (max (v (ix4 0 b s n)) (v (ix4 1 b s n))) (v (ix4 2 b s n)) := by
  pointwise [val_main_cst]
  rw [Cert.Window.start_bot, greatest]

/-- The greatest of the least extended real and another. -/
theorem bot_max (x : EReal) :
    FloatOps.maximumf (F := Ideal) (φ := .f32) (FloatOps.ofBits .f32 0xFF800000#32) x = x :=
  (congrArg (max · x) Cert.Window.start_bot).trans (max_bot_left x)

/-- The greatest of the three masses. -/
theorem top_at (l0 l1 l2 : Group) (b : Fin 8) (s : Fin 4096) (n : Fin 256) :
    val_main_v9 (F := Ideal) l0 l1 l2 (ix3 b s n)
      = max (max (trio l0 l1 l2 (at_ b s) n 0) (trio l0 l1 l2 (at_ b s) n 1)) (trio l0 l1 l2 (at_ b s) n 2) := by
  rw [val_main_v9_apply, val_main_v8_apply, val_main_cst_0_apply, bot_max]
  unfold val_main_v7
  rw [reduced, mass_at, mass_at, mass_at]

/-- The softmax's numerators. -/
theorem rise_at (l0 l1 l2 : Group) (k : Fin 3) (b : Fin 8) (s : Fin 4096) (n : Fin 256) :
    val_main_v13 (F := Ideal) l0 l1 l2 (ix4 k b s n) = rise (trio l0 l1 l2 (at_ b s) n) k := by
  unfold rise
  rw [← top_at, ← mass_at]
  pointwise [val_main_v13, val_main_v12, val_main_v11, val_main_v10]

/-- The groups mixed. -/
theorem blend_at (o0 o1 o2 l0 l1 l2 : Group) (b : Fin 8) (s : Fin 4096) (n : Fin 256) :
    val_main_v26 (F := Ideal) o0 o1 o2 l0 l1 l2 (ix3 b s n)
      = blend (trio l0 l1 l2 (at_ b s) n) (trio o0 o1 o2 (at_ b s) n) := by
  have hr := fun k => rise_at l0 l1 l2 k b s n
  have ho := fun k => group_at o0 o1 o2 k b s n
  unfold blend
  pointwise [val_main_v26, val_main_v25, val_main_v17, val_main_v16, val_main_v15, val_main_v14, val_main_cst_1,
    val_main_cst_2]
  simp only [hr, ho, Fin.sum_univ_three]

/-- A product with the three mixers' lanes side by side is the sum of the three products. -/
theorem lanes_sum (f : Fin 256 → EReal) (g : Fin 512 → EReal) (h : Fin 256 → EReal) (w : Fin 1024 → EReal) :
    (∑ k : Fin 1024, (if hk : (k : ℕ) < 256 then f ⟨k, hk⟩
        else if hk : (k : ℕ) - 256 < 512 then g ⟨(k : ℕ) - 256, hk⟩ else h ⟨(k : ℕ) - 256 - 512, by omega⟩) * w k)
      = (∑ k : Fin 256, f k * w ⟨k, by omega⟩)
        + ((∑ k : Fin 512, g k * w ⟨256 + k, by omega⟩) + ∑ k : Fin 256, h k * w ⟨768 + k, by omega⟩) := by
  rw [Fin.sum_univ_two_halves 256 768 rfl, Fin.sum_univ_two_halves 512 256 rfl]
  refine congrArg₂ (· + ·) (Finset.sum_congr rfl fun k _ => ?_)
    (congrArg₂ (· + ·) (Finset.sum_congr rfl fun k _ => ?_) (Finset.sum_congr rfl fun k _ => ?_))
  · rw [dif_pos (by simp only; omega)]
  · rw [dif_neg (by simp only; omega), dif_pos (by simp only; omega)]
    refine congrArg (· * _) (congrArg g (Fin.ext ?_))
    simp only; omega
  · rw [dif_neg (by simp only; omega), dif_neg (by simp only; omega)]
    refine congrArg₂ (· * ·) (congrArg h (Fin.ext ?_)) (congrArg w (Fin.ext ?_)) <;> (simp only; omega)

/-- The result. -/
theorem out_at (x : Rows) (ya : ConvLanes) (yb : NsaLanes) (o0 o1 o2 l0 l1 l2 : Group) (w : Weights) (b : Fin 8)
    (s : Fin 4096) (n : Fin 1024) :
    val_main_v35 (F := Ideal) x ya yb o0 o1 o2 l0 l1 l2 w (ix2 (at_ b s) n)
      = x (ix2 (at_ b s) n) + ((∑ k : Fin 256, ya (ix2 (at_ b s) k) * w (ix2 ⟨k, by omega⟩ n))
          + ((∑ k : Fin 512, yb (ix2 (at_ b s) k) * w (ix2 ⟨256 + k, by omega⟩ n))
            + ∑ k : Fin 256, blend (trio l0 l1 l2 (at_ b s) k) (trio o0 o1 o2 (at_ b s) k)
                * w (ix2 ⟨768 + k, by omega⟩ n))) := by
  have hb := blend_at o0 o1 o2 l0 l1 l2 b s
  simp only [← hb]
  unfold at_
  pointwise [val_main_v35, val_main_v34, val_main_v33, val_main_v32, val_main_v31, val_main_v30, val_main_v29,
    val_main_v28, val_main_v27]
  clear hb
  generalize val_main_v26 (F := Ideal) o0 o1 o2 l0 l1 l2 = v
  generalize x (ix2 _ n) = z
  exact congrArg (z + ·) (lanes_sum (fun k => ya (ix2 ⟨(b : ℕ) * 4096 + s, _⟩ k))
    (fun k => yb (ix2 ⟨(b : ℕ) * 4096 + s, _⟩ k)) (fun k => v (ix3 b s k)) (fun k => w (ix2 k n)))

end Cert.MixRefIdeal.RefValue
-- ==== Proof.MixBlock.lean ====
/- What one block of the output projection computes from what it loads. -/
module

public import proofs.«01_k».proof.Proof.Gen.MixIdeal.Frame
public import proofs.«01_k».proof.Proof.MixRef

@[expose] public section

set_option maxRecDepth 16384
noncomputable section
namespace Cert.MixIdeal.Block
open Cert.MixIdeal Cert.MixIdeal.Gen Idealize.ShloMosaic Idealize.ShloMosaic.TcCoe Idealize.SL.Sem
open Cert.MixRefIdeal.RefValue (Rows ConvLanes NsaLanes Group Weights rise blend trio)

/-- The groups mixed, at row `r` and lane `k`. -/
theorem pay3_at (a0 a1 a2 o0 o1 o2 : Vec Ideal S512x256 .f32) (r : Fin 512) (k : Fin 256) :
    k0_pay3 (F := Ideal) a0 a1 a2 o0 o1 o2 (ix2 r k)
      = blend ![a0 (ix2 r k), a1 (ix2 r k), a2 (ix2 r k)] ![o0 (ix2 r k), o1 (ix2 r k), o2 (ix2 r k)] := by
  unfold blend rise k0_pay3
  pointwise

/-- The first two mixers' products. -/
theorem pay2_at (a : Vec Ideal S512x256 .bf16) (u : Vec Ideal S256x1024 .bf16) (b : Vec Ideal S512x512 .bf16)
    (v : Vec Ideal S512x1024 .bf16) (r : Fin 512) (n : Fin 1024) :
    k0_pay2 (F := Ideal) a u b v (ix2 r n)
      = (∑ k : Fin 256, a (ix2 r k) * u (ix2 k n)) + ∑ k : Fin 512, b (ix2 r k) * v (ix2 k n) := by
  unfold k0_pay2
  pointwise

/-- The third product added, and the residual. -/
theorem pay1_at (s : Vec Ideal S512x1024 .f32) (c : Vec Ideal S512x256 .bf16) (u : Vec Ideal S256x1024 .bf16)
    (x : Vec Ideal S512x1024 .f32) (r : Fin 512) (n : Fin 1024) :
    k0_pay1 (F := Ideal) s c u x (ix2 r n)
      = x (ix2 r n) + (s (ix2 r n) + ∑ k : Fin 256, c (ix2 r k) * u (ix2 k n)) := by
  unfold k0_pay1
  pointwise

/-- The weights' rows for the convolution's, the sparse attention's and the dilated attention's lanes. -/
theorem conv_rows (w : Vec Ideal S1024x1024 .bf16) (k : Fin 256) (n : Fin 1024) :
    View.ld w r0_1 (ix2 k n) = w (ix2 ⟨k, by omega⟩ n) :=
  View.ld_unit_apply_of _ _ _ _ _ _ (fun a => by
    match a with
    | ⟨0, _⟩ => exact (Nat.zero_add _).symm
    | ⟨1, _⟩ => exact (Nat.zero_add _).symm)

theorem nsa_rows (w : Vec Ideal S1024x1024 .bf16) (k : Fin 512) (n : Fin 1024) :
    View.ld w r0_3 (ix2 k n) = w (ix2 ⟨256 + k, by omega⟩ n) :=
  View.ld_unit_apply_of _ _ _ _ _ _ (fun a => by
    match a with
    | ⟨0, _⟩ => rfl
    | ⟨1, _⟩ => exact (Nat.zero_add _).symm)

theorem dil_rows (w : Vec Ideal S1024x1024 .bf16) (k : Fin 256) (n : Fin 1024) :
    View.ld w r0_4 (ix2 k n) = w (ix2 ⟨768 + k, by omega⟩ n) :=
  View.ld_unit_apply_of _ _ _ _ _ _ (fun a => by
    match a with
    | ⟨0, _⟩ => rfl
    | ⟨1, _⟩ => exact (Nat.zero_add _).symm)

/-- The whole-block loads. -/
theorem ld_group (x : Vec Ideal S512x256 .f32) : View.ld x r0_0 = x := by
  funext j
  exact View.ld_unit_apply_of _ _ _ _ _ _ (fun a => by
    match a with
    | ⟨0, _⟩ => exact (Nat.zero_add _).symm
    | ⟨1, _⟩ => exact (Nat.zero_add _).symm)

theorem ld_conv (x : Vec Ideal S512x256 .bf16) : View.ld x r0_0 = x := by
  funext j
  exact View.ld_unit_apply_of _ _ _ _ _ _ (fun a => by
    match a with
    | ⟨0, _⟩ => exact (Nat.zero_add _).symm
    | ⟨1, _⟩ => exact (Nat.zero_add _).symm)

theorem ld_nsa (x : Vec Ideal S512x512 .bf16) : View.ld x r0_2 = x := by
  funext j
  exact View.ld_unit_apply_of _ _ _ _ _ _ (fun a => by
    match a with
    | ⟨0, _⟩ => exact (Nat.zero_add _).symm
    | ⟨1, _⟩ => exact (Nat.zero_add _).symm)

theorem ld_rows (x : Vec Ideal S512x1024 .f32) : View.ld x r0_5 = x := by
  funext j
  exact View.ld_unit_apply_of _ _ _ _ _ _ (fun a => by
    match a with
    | ⟨0, _⟩ => exact (Nat.zero_add _).symm
    | ⟨1, _⟩ => exact (Nat.zero_add _).symm)

end Cert.MixIdeal.Block
-- ==== Proof.MixEq.lean ====
/- One block of the output projection is the reference's rows. -/
module

public import proofs.«01_k».proof.Proof.MixBlock

@[expose] public section

set_option maxRecDepth 16384
noncomputable section
namespace Cert.MixIdeal.Block
open Cert.MixIdeal Cert.MixIdeal.Gen Idealize.ShloMosaic Idealize.ShloMosaic.TcCoe Idealize.SL.Sem
open Cert.MixRefIdeal.RefValue (Rows ConvLanes NsaLanes Group Weights rise blend trio at_)

/-- What block `t` reads of the arrays: its 512 rows of each, and the weights whole. -/
structure Reads (X : Rows) (A : ConvLanes) (B : NsaLanes) (O0 O1 O2 L0 L1 L2 : Group) (W : Weights) (t : Fin 64)
    (x0 : Vec Ideal S512x1024 .f32) (x1 : Vec Ideal S512x256 .bf16) (x2 : Vec Ideal S512x512 .bf16)
    (x3 x4 x5 x6 x7 x8 : Vec Ideal S512x256 .f32) (x9 : Vec Ideal S1024x1024 .bf16) : Prop where
  rows : ∀ (r : Fin 512) (n : Fin 1024), x0 (ix2 r n) = X (ix2 ⟨(t : ℕ) * 512 + r, by omega⟩ n)
  conv : ∀ (r : Fin 512) (k : Fin 256), x1 (ix2 r k) = A (ix2 ⟨(t : ℕ) * 512 + r, by omega⟩ k)
  nsa : ∀ (r : Fin 512) (k : Fin 512), x2 (ix2 r k) = B (ix2 ⟨(t : ℕ) * 512 + r, by omega⟩ k)
  out0 : ∀ (r : Fin 512) (k : Fin 256), x3 (ix2 r k) = O0 (ix2 ⟨(t : ℕ) * 512 + r, by omega⟩ k)
  out1 : ∀ (r : Fin 512) (k : Fin 256), x4 (ix2 r k) = O1 (ix2 ⟨(t : ℕ) * 512 + r, by omega⟩ k)
  out2 : ∀ (r : Fin 512) (k : Fin 256), x5 (ix2 r k) = O2 (ix2 ⟨(t : ℕ) * 512 + r, by omega⟩ k)
  mass0 : ∀ (r : Fin 512) (k : Fin 256), x6 (ix2 r k) = L0 (ix2 ⟨(t : ℕ) * 512 + r, by omega⟩ k)
  mass1 : ∀ (r : Fin 512) (k : Fin 256), x7 (ix2 r k) = L1 (ix2 ⟨(t : ℕ) * 512 + r, by omega⟩ k)
  mass2 : ∀ (r : Fin 512) (k : Fin 256), x8 (ix2 r k) = L2 (ix2 ⟨(t : ℕ) * 512 + r, by omega⟩ k)
  weights : ∀ k n : Fin 1024, x9 (ix2 k n) = W (ix2 k n)

/-- The block's result is the reference's. -/
theorem Reads.out {X : Rows} {A : ConvLanes} {B : NsaLanes} {O0 O1 O2 L0 L1 L2 : Group} {W : Weights} {t : Fin 64}
    {x0 : Vec Ideal S512x1024 .f32} {x1 : Vec Ideal S512x256 .bf16} {x2 : Vec Ideal S512x512 .bf16}
    {x3 x4 x5 x6 x7 x8 : Vec Ideal S512x256 .f32} {x9 : Vec Ideal S1024x1024 .bf16}
    (hR : Reads X A B O0 O1 O2 L0 L1 L2 W t x0 x1 x2 x3 x4 x5 x6 x7 x8 x9) (r : Fin 512) (n : Fin 1024)
    (q : Fin 32768) (hq : (q : ℕ) = t * 512 + r) :
    k0_pay1 (F := Ideal) (k0_pay2 (View.ld x1 r0_0) (View.ld x9 r0_1) (View.ld x2 r0_2) (View.ld x9 r0_3))
        (k0_pay3 (View.ld x6 r0_0) (View.ld x7 r0_0) (View.ld x8 r0_0) (View.ld x3 r0_0) (View.ld x4 r0_0)
          (View.ld x5 r0_0)) (View.ld x9 r0_4) (View.ld x0 r0_5) (ix2 r n)
      = Cert.MixRefIdeal.Read.val_main_v35 (F := Ideal) X A B O0 O1 O2 L0 L1 L2 W (ix2 q n) := by
  have hb : q = at_ ⟨(q : ℕ) / 4096, by omega⟩ ⟨(q : ℕ) % 4096, by omega⟩ := Fin.ext (by simp only [at_]; omega)
  have hq' : (⟨(t : ℕ) * 512 + r, by omega⟩ : Fin 32768) = q := Fin.ext hq.symm
  rw [hb, Cert.MixRefIdeal.RefValue.out_at, ← hb, pay1_at, pay2_at, ld_rows, ld_conv, ld_nsa, hR.rows, hq', add_assoc]
  simp only [pay3_at, ld_group, hR.conv, hR.nsa, hR.out0, hR.out1, hR.out2, hR.mass0, hR.mass1, hR.mass2, hq']
  refine congrArg (X (ix2 q n) + ·) (congrArg₂ (· + ·) (Finset.sum_congr rfl fun k _ => ?_)
    (congrArg₂ (· + ·) (Finset.sum_congr rfl fun k _ => ?_) (Finset.sum_congr rfl fun k _ => ?_)))
  · exact congrArg (_ * ·) ((conv_rows x9 k n).trans (hR.weights _ _))
  · exact congrArg (_ * ·) ((nsa_rows x9 k n).trans (hR.weights _ _))
  · exact congrArg (_ * ·) ((dil_rows x9 k n).trans (hR.weights _ _))

end Cert.MixIdeal.Block
-- ==== Proof.MixValue.lean ====
/- The output projection's result array is the reference's. -/
module

public import Idealize.ShloMosaic.Lib.Claim
public import proofs.«01_k».proof.Proof.MixEq

@[expose] public section

set_option maxRecDepth 16384
noncomputable section
namespace Cert.MixIdeal.Result
open Cert.MixIdeal Cert.MixIdeal.Gen Idealize.ShloMosaic Idealize.ShloMosaic.TcCoe Idealize.SL.Sem
open Cert.MixIdeal.Block

variable (m : (ℓ : Loc nD τ sig) → Buf (Elt Ideal) ℓ)

/-- The grid point's block. -/
def block (t : Fin cfg0.N) : Fin 64 := grid0.coords t 0

/-- Where the windows of grid point `t` lie. -/
theorem idx : ∀ t : Fin cfg0.N,
    win0_0.index t = ![(block t : ℕ), 0] ∧ win0_1.index t = ![(block t : ℕ), 0] ∧ win0_2.index t = ![(block t : ℕ), 0] ∧
    win0_3.index t = ![(block t : ℕ), 0] ∧ win0_4.index t = ![(block t : ℕ), 0] ∧ win0_5.index t = ![(block t : ℕ), 0] ∧
    win0_6.index t = ![(block t : ℕ), 0] ∧ win0_7.index t = ![(block t : ℕ), 0] ∧ win0_8.index t = ![(block t : ℕ), 0] ∧
    win0_9.index t = ![0, 0] ∧ win0_10.index t = ![(block t : ℕ), 0] :=
  (by decide +kernel : ∀ t : Fin grid0.N, _)

/-- What grid point `t` reads of the arguments. -/
theorem reads (c : Dev nD) (t : Fin cfg0.N) :
    Reads
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9))
      (block t)
      (iblk m c 0 t) (iblk m c 1 t) (iblk m c 2 t) (iblk m c 3 t) (iblk m c 4 t)
      (iblk m c 5 t) (iblk m c 6 t) (iblk m c 7 t) (iblk m c 8 t) (iblk m c 9 t) where
  rows r k := by blk_point [iblk, V, idx t]
  conv r k := by blk_point [iblk, V, idx t]
  nsa r k := by blk_point [iblk, V, idx t]
  out0 r k := by blk_point [iblk, V, idx t]
  out1 r k := by blk_point [iblk, V, idx t]
  out2 r k := by blk_point [iblk, V, idx t]
  mass0 r k := by blk_point [iblk, V, idx t]
  mass1 r k := by blk_point [iblk, V, idx t]
  mass2 r k := by blk_point [iblk, V, idx t]
  weights k n := by blk_point [iblk, V, idx t]

/-- What grid point `t` leaves in the result's block. -/
theorem point (c : Dev nD) (t : Fin cfg0.N) (y : S512x1024.Idx) :
    out0_10 (iblk m c 0 t) (iblk m c 1 t) (iblk m c 2 t) (iblk m c 3 t) (iblk m c 4 t)
        (iblk m c 5 t) (iblk m c 6 t) (iblk m c 7 t) (iblk m c 8 t) (iblk m c 9 t) y
      = Cert.MixRefIdeal.Read.val_main_v35 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9))
          (((cfg0.win 10).blk t).view.emb y) := by
  unfold out0_10
  generalize hw : ((cfg0.win 10).blk t).view.emb y = w
  have e0 : (w 0 : ℕ) = block t * 512 + y 0 := by subst hw; blk_simp [idx t]
  have e1 : (w 1 : ℕ) = y 1 := by subst hw; blk_simp [idx t]
  canon_tiles x h
  have hx : x = ix2 (x 0) (x 1) := by blk_ext
  have hw' : w = ix2 (w 0) (x 1) := by blk_ext
  rw [hw', hx]
  exact (reads m c t).out (x 0) (x 1) (w 0) (by rw [e0, h0])

/-- The result array after the run. -/
theorem final (c : Dev nD) :
    (dats m 0 c).arrAt 10 (cfgs 0).N
      = Cert.MixRefIdeal.Read.val_main_v35 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (dats m 0 c).arrAt_eq_of_covers 10 _ (by decide +kernel) fun t _ y => ?_
  blk_simp
  rw [after0_10]
  exact point m c t y

end Cert.MixIdeal.Result
-- ==== Proof.Lanes.lean ====
/- The norm and the rotation of one head's 64 lanes, on the extended reals, and the mean square taken against a
   block-diagonal matrix. Nothing here knows a program. -/
module

public import Idealize.ShloMosaic.Lib.Pointwise
public import Idealize.ShloMosaic.PureOps.Ideal.Laws
public import proofs.«01_k».proof.Proof.Window

@[expose] public section

noncomputable section
namespace Cert.Lanes
open Idealize.ShloMosaic

/-- Entry `k` of a row after the norm, the row's squares over their number `d`. -/
def scaled {n : ℕ} (row : Fin n → EReal) (d g : EReal) (k : Fin n) : EReal :=
  row k * Ideal.rsqrt (Ideal.div (∑ j, row j * row j) d + Ideal.ofBits FTy.f32 0x358637BD#32) * g

/-- The lane half a head away. -/
def other (e : Fin 64) : Fin 64 := if h : (e : ℕ) < 32 then ⟨32 + e, by omega⟩ else ⟨(e : ℕ) - 32, by omega⟩

/-- Its two cases. -/
theorem other_lo (e : Fin 64) (h : (e : ℕ) < 32) : other e = ⟨32 + e, by omega⟩ := dif_pos h
theorem other_hi (e : Fin 64) (h : ¬(e : ℕ) < 32) : other e = ⟨(e : ℕ) - 32, by omega⟩ := dif_neg h

/-- The lanes of a head's first half. -/
theorem half_bit : ∀ l : Fin 256, IntOp.cmpi .slt (IntOp.andi (BitVec.ofNat 32 (l : ℕ)) 63#32) 32#32
    = if (l : ℕ) % 64 < 32 then 1#1 else 0#1 := by decide +kernel

/-- Four heads' lanes turned by 32 either way and chosen by the half are each lane's other half. -/
theorem turned (y : Fin 256 → EReal) (p : Fin 4) (e : Fin 64) :
    Scalar.select (IntOp.cmpi .slt (IntOp.andi (BitVec.ofNat 32 ((p : ℕ) * 64 + (e : ℕ))) 63#32) 32#32)
        (y ⟨((p : ℕ) * 64 + e + 256 - 224) % 256, by omega⟩) (y ⟨((p : ℕ) * 64 + e + 256 - 32) % 256, by omega⟩)
      = y ⟨(p : ℕ) * 64 + other e, by omega⟩ := by
  have hb := half_bit ⟨(p : ℕ) * 64 + e, by omega⟩
  simp only at hb
  by_cases h : (e : ℕ) < 32
  · refine (Cert.Window.select_one (hb.trans (if_pos (by omega))) _ _).trans (congrArg y (Fin.ext ?_))
    simp only [other_lo e h]
    omega
  · refine (Cert.Window.select_zero (fun h1 => absurd ((hb.symm.trans h1).symm.trans (if_neg (by omega))) (by decide))
      _ _).trans (congrArg y (Fin.ext ?_))
    simp only [other_hi e h]
    omega

/-- Two heads' lanes laid out twice, at lane `e` of head `p`. -/
theorem twice (T : Fin 128 → EReal) (p : Fin 4) (e : Fin 64) :
    (if h : (p : ℕ) * 64 + e < 128 then T ⟨(p : ℕ) * 64 + e, h⟩ else T ⟨(p : ℕ) * 64 + e - 128, by omega⟩)
      = T ⟨(p : ℕ) % 2 * 64 + e, by omega⟩ := by
  split <;> exact congrArg T (Fin.ext (by simp only; omega))

/-- A head's lane `e` after its norm and its rotation: `c` and `s` the cosine and the signed sine of the lane. -/
def head (a g c s : Fin 64 → EReal) (e : Fin 64) : EReal :=
  scaled a (Ideal.ofBits FTy.f32 0x42800000#32) (g e) e * c e
    + scaled a (Ideal.ofBits FTy.f32 0x42800000#32) (g (other e)) (other e) * s e

/-- Entry `(j, l)` of the block-diagonal matrix: a 64th where both lanes are of one head. -/
def spread (j l : Fin 256) : EReal :=
  Ideal.div (if (j : ℕ) / 64 = (l : ℕ) / 64 then 1 else 0) (Ideal.ofBits FTy.f32 0x42800000#32)

/-- A sum of products with one nonnegative real is the sum times it. -/
theorem sum_scaled {n : ℕ} (f : Fin n → EReal) (c : EReal) (hc : 0 ≤ c) (ht : c ≠ ⊤) :
    ∑ e, f e * c = (∑ e, f e) * c := by
  induction n with
  | zero => simp
  | succ n ih => rw [Fin.sum_univ_succ, Fin.sum_univ_succ, ih, EReal.right_distrib_of_nonneg_of_ne_top hc ht]

/-- Lanes against the block-diagonal matrix are their own head's mean. -/
theorem head_mean (f : Fin 256 → EReal) (p : Fin 4) (e : Fin 64) :
    ∑ j, f j * spread j ⟨(p : ℕ) * 64 + e, by omega⟩
      = Ideal.div (∑ i : Fin 64, f ⟨(p : ℕ) * 64 + i, by omega⟩) (Ideal.ofBits FTy.f32 0x42800000#32) := by
  have h64 : (64 : ℝ) ≠ 0 := by norm_num
  rw [Fin.sum_univ_tiles 4 64 rfl, Finset.sum_eq_single p]
  · unfold spread
    simp only [Cert.Window.sixty_four, Ideal.div_coe h64]
    rw [← sum_scaled _ _ (by exact_mod_cast (by norm_num : (0 : ℝ) ≤ 1 / 64)) (EReal.coe_ne_top _)]
    refine Finset.sum_congr rfl fun i _ => congrArg (_ * ·) ?_
    rw [if_pos (by omega), one_mul]
  · intro q _ hq
    refine Finset.sum_eq_zero fun i _ => ?_
    have hne : (q : ℕ) ≠ p := fun h => hq (Fin.ext h)
    unfold spread
    rw [if_neg (by simp only; omega), Cert.Window.sixty_four, Ideal.div_coe h64, zero_mul, mul_zero]
  · exact fun h => absurd (Finset.mem_univ p) h

end Cert.Lanes
-- ==== Proof.ProjBlock.lean ====
/- What one block of the projection computes from what it loads. -/
module

public import proofs.«01_k».proof.Proof.Gen.ProjIdeal.Frame
public import Idealize.ShloMosaic.Lib.Pipeline.ValueKit
public import proofs.«01_k».proof.Proof.Lanes

@[expose] public section

set_option maxRecDepth 16384
noncomputable section
namespace Cert.ProjIdeal.Block
open Cert.ProjIdeal Cert.ProjIdeal.Gen Idealize.ShloMosaic Idealize.ShloMosaic.TcCoe Idealize.SL.Sem
open Cert.Lanes

/-- The normalised rows. -/
theorem norm_at (x : Vec Ideal S512x1024 .f32) (g : Vec Ideal S1x1024 .f32) (r : Fin 512) (k : Fin 1024) :
    k0_pay4 (F := Ideal) x g (ix2 r k)
      = scaled (fun j => x (ix2 r j)) (Ideal.ofBits FTy.f32 0x44800000#32) (g (ix2 0 k)) k := by
  unfold scaled k0_pay4
  pointwise

/-- A chunk's 256 lanes after their heads' norm. -/
theorem pay13_at (h : FVec Ideal S512x1024 .bf16) (B : FVec Ideal S256x256 .bf16) (w : Vec Ideal S1024x256 .bf16)
    (g : Vec Ideal S1x256 .f32) (r : Fin 512) (l : Fin 256) :
    k0_pay13 (F := Ideal) h B w g (ix2 r l)
      = (∑ k : Fin 1024, h (ix2 r k) * w (ix2 k l)) * Ideal.rsqrt ((∑ j : Fin 256, (∑ k : Fin 1024, h (ix2 r k) * w (ix2 k j))
          * (∑ k : Fin 1024, h (ix2 r k) * w (ix2 k j)) * B (ix2 j l)) + Ideal.ofBits FTy.f32 0x358637BD#32)
        * g (ix2 0 l) := by
  unfold k0_pay13
  pointwise

/-- A chunk's rotation, at lane `e` of its head `p`. -/
theorem pay14_at (C S : Vec Ideal S512x128 .f32) (y : FVec Ideal S512x256 .f32) (r : Fin 512) (p : Fin 4) (e : Fin 64) :
    k0_pay14 (F := Ideal) C S y (ix2 r ⟨(p : ℕ) * 64 + e, by omega⟩)
      = y (ix2 r ⟨(p : ℕ) * 64 + e, by omega⟩) * C (ix2 r ⟨(p : ℕ) % 2 * 64 + e, by omega⟩)
        + y (ix2 r ⟨(p : ℕ) * 64 + other e, by omega⟩) * S (ix2 r ⟨(p : ℕ) % 2 * 64 + e, by omega⟩) := by
  unfold k0_pay14
  pointwise
  exact congrArg₂ (· + ·) (congrArg (_ * ·) (twice (fun z => C (ix2 r z)) p e))
    (congrArg₂ (· * ·) (turned (fun z => y (ix2 r z)) p e) (twice (fun z => S (ix2 r z)) p e))

/-- The matrix is taken as it is. -/
theorem pay5_at (x : Vec Ideal S256x256 .bf16) (j l : Fin 256) : k0_pay5 (F := Ideal) x (ix2 j l) = x (ix2 j l) := by
  unfold k0_pay5
  pointwise

/-- A chunk's heads, normalised against the block-diagonal matrix and rotated. -/
theorem pay11_at (h : FVec Ideal S512x1024 .bf16) (C S : Vec Ideal S512x128 .f32) (B : FVec Ideal S256x256 .bf16)
    (w : Vec Ideal S1024x256 .bf16) (g : Vec Ideal S1x256 .f32) (hB : ∀ j l, B (ix2 j l) = spread j l) (r : Fin 512)
    (p : Fin 4) (e : Fin 64) :
    k0_pay11 (F := Ideal) h C S B w g (ix2 r ⟨(p : ℕ) * 64 + e, by omega⟩)
      = head (fun i => ∑ k : Fin 1024, h (ix2 r k) * w (ix2 k ⟨(p : ℕ) * 64 + i, by omega⟩))
          (fun i => g (ix2 0 ⟨(p : ℕ) * 64 + i, by omega⟩)) (fun i => C (ix2 r ⟨(p : ℕ) % 2 * 64 + i, by omega⟩))
          (fun i => S (ix2 r ⟨(p : ℕ) % 2 * 64 + i, by omega⟩)) e := by
  have hy : ∀ i : Fin 64, k0_pay13 (F := Ideal) h B w g (ix2 r ⟨(p : ℕ) * 64 + i, by omega⟩)
      = scaled (fun i => ∑ k : Fin 1024, h (ix2 r k) * w (ix2 k ⟨(p : ℕ) * 64 + i, by omega⟩))
          (Ideal.ofBits FTy.f32 0x42800000#32) (g (ix2 0 ⟨(p : ℕ) * 64 + i, by omega⟩)) i := fun i => by
    rw [pay13_at]
    simp only [hB]
    rw [head_mean (fun j => (∑ k : Fin 1024, h (ix2 r k) * w (ix2 k j)) * (∑ k : Fin 1024, h (ix2 r k) * w (ix2 k j)))]
    rfl
  refine (pay14_at C S (k0_pay13 (F := Ideal) h B w g) r p e).trans ?_
  rw [hy, hy]
  rfl

/-- The plain products. -/
theorem pay17_at (h : FVec Ideal S512x1024 .bf16) (w : Vec Ideal S1024x768 .bf16) (r : Fin 512) (l : Fin 768) :
    k0_pay17 (F := Ideal) h w (ix2 r l) = ∑ k : Fin 1024, h (ix2 r k) * w (ix2 k l) := by
  unfold k0_pay17
  pointwise

theorem pay1_at (h : FVec Ideal S512x1024 .bf16) (w : Vec Ideal S1024x256 .bf16) (r : Fin 512) (l : Fin 256) :
    k0_pay1 (F := Ideal) h w (constant S512x256 .f32 0x00000000#32) (ix2 r l)
      = ∑ k : Fin 1024, h (ix2 r k) * w (ix2 k l) := by
  unfold k0_pay1
  pointwise

theorem pay2_at (h : FVec Ideal S512x1024 .bf16) (w : Vec Ideal S1024x512 .bf16) (r : Fin 512) (l : Fin 512) :
    k0_pay2 (F := Ideal) h w (ix2 r l) = ∑ k : Fin 1024, h (ix2 r k) * w (ix2 k l) := by
  unfold k0_pay2
  pointwise

theorem pay3_at (h : FVec Ideal S512x1024 .bf16) (w : Vec Ideal S1024x128 .bf16) (r : Fin 512) (l : Fin 128) :
    k0_pay3 (F := Ideal) h w (ix2 r l) = ∑ k : Fin 1024, h (ix2 r k) * w (ix2 k l) := by
  unfold k0_pay3
  pointwise

/-- Columns `256 a …` of the weights and of the heads' gains. -/
def wCols (X : Vec Ideal S1024x3200 .bf16) (a : ℕ) : Vec Ideal S1024x256 .bf16 :=
  View.ld X (Rect.unit (s := S1024x3200) ![0, 256 * (a % 6)] S1024x256.size (by
    intro i; match i with
    | ⟨0, _⟩ => exact (Nat.le_refl 1024 : 0 + 1024 ≤ 1024)
    | ⟨1, _⟩ => show 256 * (a % 6) + 256 ≤ 3200; omega))

def gCols (X : Vec Ideal S1x1536 .f32) (a : ℕ) : Vec Ideal S1x256 .f32 :=
  View.ld X (Rect.unit (s := S1x1536) ![0, 256 * (a % 6)] S1x256.size (by
    intro i; match i with
    | ⟨0, _⟩ => exact (Nat.le_refl 1 : 0 + 1 ≤ 1)
    | ⟨1, _⟩ => show 256 * (a % 6) + 256 ≤ 1536; omega))

section
variable (x0 : Vec Ideal S512x1024 .f32) (x1 x2 : Vec Ideal S512x128 .f32) (x3 : Vec Ideal S1x1024 .f32)
  (x4 : Vec Ideal S1024x3200 .bf16) (x5 : Vec Ideal S256x256 .bf16) (x6 : Vec Ideal S1x1536 .f32)

/-- Chunk `a` of the queries and keys: four heads. -/
def chunk (a : ℕ) : FVec Ideal S512x256 .bf16 :=
  k0_pay11 (k0_pay4 (View.ld x0 r0_0) (View.ld x3 r0_1)) (View.ld x1 r0_2) (View.ld x2 r0_2) (k0_pay5 (View.ld x5 r0_3))
    (wCols x4 a) (gCols x6 a)

/-- The queries' and keys' block is six chunks side by side. -/
theorem out7_eq : out0_7 (F := Ideal) x0 x1 x2 x3 x4 x5 x6
    = View.canon [⟨r0_21, chunk x0 x1 x2 x3 x4 x5 x6 5⟩, ⟨r0_18, chunk x0 x1 x2 x3 x4 x5 x6 4⟩,
        ⟨r0_15, chunk x0 x1 x2 x3 x4 x5 x6 3⟩, ⟨r0_12, chunk x0 x1 x2 x3 x4 x5 x6 2⟩,
        ⟨r0_9, chunk x0 x1 x2 x3 x4 x5 x6 1⟩, ⟨r0_6, chunk x0 x1 x2 x3 x4 x5 x6 0⟩] := rfl
end

/-- What the loads read. -/
theorem wCols_at (X : Vec Ideal S1024x3200 .bf16) (a : ℕ) (k : Fin 1024) (l : Fin 256) :
    wCols X a (ix2 k l) = X (ix2 k ⟨256 * (a % 6) + l, by omega⟩) :=
  View.ld_unit_apply_of _ _ _ _ _ _ (fun i => by
    match i with
    | ⟨0, _⟩ => exact (Nat.zero_add _).symm
    | ⟨1, _⟩ => rfl)

theorem gCols_at (X : Vec Ideal S1x1536 .f32) (a : ℕ) (l : Fin 256) :
    gCols X a (ix2 0 l) = X (ix2 0 ⟨256 * (a % 6) + l, by omega⟩) :=
  View.ld_unit_apply_of _ _ _ _ _ _ (fun i => by
    match i with
    | ⟨0, _⟩ => rfl
    | ⟨1, _⟩ => rfl)

theorem ld_vv (X : Vec Ideal S1024x3200 .bf16) (k : Fin 1024) (l : Fin 768) :
    View.ld X r0_22 (ix2 k l) = X (ix2 k ⟨1536 + l, by omega⟩) :=
  View.ld_unit_apply_of _ _ _ _ _ _ (fun i => by
    match i with
    | ⟨0, _⟩ => exact (Nat.zero_add _).symm
    | ⟨1, _⟩ => rfl)

theorem ld_cmp (X : Vec Ideal S1024x3200 .bf16) (k : Fin 1024) (l : Fin 256) :
    View.ld X r0_24 (ix2 k l) = X (ix2 k ⟨2304 + l, by omega⟩) :=
  View.ld_unit_apply_of _ _ _ _ _ _ (fun i => by
    match i with
    | ⟨0, _⟩ => exact (Nat.zero_add _).symm
    | ⟨1, _⟩ => rfl)

theorem ld_conv (X : Vec Ideal S1024x3200 .bf16) (k : Fin 1024) (l : Fin 512) :
    View.ld X r0_26 (ix2 k l) = X (ix2 k ⟨2560 + l, by omega⟩) :=
  View.ld_unit_apply_of _ _ _ _ _ _ (fun i => by
    match i with
    | ⟨0, _⟩ => exact (Nat.zero_add _).symm
    | ⟨1, _⟩ => rfl)

theorem ld_gate (X : Vec Ideal S1024x3200 .bf16) (k : Fin 1024) (l : Fin 128) :
    View.ld X r0_28 (ix2 k l) = X (ix2 k ⟨3072 + l, by omega⟩) :=
  View.ld_unit_apply_of _ _ _ _ _ _ (fun i => by
    match i with
    | ⟨0, _⟩ => exact (Nat.zero_add _).symm
    | ⟨1, _⟩ => rfl)

theorem ld0 (x : Vec Ideal S512x1024 .f32) : View.ld x r0_0 = x := by
  funext j
  exact View.ld_unit_apply_of _ _ _ _ _ _ (fun i => by
    match i with
    | ⟨0, _⟩ => exact (Nat.zero_add _).symm
    | ⟨1, _⟩ => exact (Nat.zero_add _).symm)

theorem ld1 (x : Vec Ideal S1x1024 .f32) : View.ld x r0_1 = x := by
  funext j
  exact View.ld_unit_apply_of _ _ _ _ _ _ (fun i => by
    match i with
    | ⟨0, _⟩ => exact (Nat.zero_add _).symm
    | ⟨1, _⟩ => exact (Nat.zero_add _).symm)

theorem ld2 (x : Vec Ideal S512x128 .f32) : View.ld x r0_2 = x := by
  funext j
  exact View.ld_unit_apply_of _ _ _ _ _ _ (fun i => by
    match i with
    | ⟨0, _⟩ => exact (Nat.zero_add _).symm
    | ⟨1, _⟩ => exact (Nat.zero_add _).symm)

theorem ld3 (x : Vec Ideal S256x256 .bf16) : View.ld x r0_3 = x := by
  funext j
  exact View.ld_unit_apply_of _ _ _ _ _ _ (fun i => by
    match i with
    | ⟨0, _⟩ => exact (Nat.zero_add _).symm
    | ⟨1, _⟩ => exact (Nat.zero_add _).symm)

end Cert.ProjIdeal.Block
-- ==== Proof.ProjRef.lean ====
/- What the reference of the projection computes, read at an index. -/
module

public import proofs.«01_k».proof.Proof.Gen.ProjRefIdeal.Read
public import Idealize.ShloMosaic.Lib.Pipeline.ValueKit
public import proofs.«01_k».proof.Proof.Lanes

@[expose] public section

set_option maxRecDepth 16384
noncomputable section
namespace Cert.ProjRefIdeal.RefValue
open Cert.ProjRefIdeal Cert.ProjRefIdeal.Gen Cert.ProjRefIdeal.Read Idealize.ShloMosaic Idealize.ShloMosaic.TcCoe Idealize.SL.Sem
open Cert.Lanes

/-- The residual stream, the rotation's tables, the norm's gains, the weights and the heads' gains. -/
abbrev Rows := (⟨S32768x1024, .f32⟩ : BufTy).Contents (Elt Ideal)
abbrev Angles := (⟨S32768x128, .f32⟩ : BufTy).Contents (Elt Ideal)
abbrev Gains := (⟨S1024, .f32⟩ : BufTy).Contents (Elt Ideal)
abbrev Weights := (⟨S1024x3200, .bf16⟩ : BufTy).Contents (Elt Ideal)
abbrev HeadGains := (⟨S1536, .f32⟩ : BufTy).Contents (Elt Ideal)

/-- Column `f` of row `q`'s projection. -/
def up (x : Rows) (g : Gains) (w : Weights) (q : Fin 32768) (f : Fin 3200) : EReal :=
  ∑ k : Fin 1024, scaled (fun j => x (ix2 q j)) (Ideal.ofBits FTy.f32 0x44800000#32) (g (ix1 k)) k * w (ix2 k f)

/-- The normalised rows. -/
theorem normed_at (x : Rows) (g : Gains) (q : Fin 32768) (k : Fin 1024) :
    val_main_v12 (F := Ideal) x g (ix2 q k)
      = scaled (fun j => x (ix2 q j)) (Ideal.ofBits FTy.f32 0x44800000#32) (g (ix1 k)) k := by
  unfold scaled
  pointwise [val_main_v12, val_main_v11, val_main_v10, val_main_v9, val_main_v8, val_main_v7,
    val_main_v6, val_main_v5, val_main_v4, val_main_v3, val_main_v2, val_main_v1, val_main_v0, val_main_cst,
    val_main_cst_0, val_main_cst_1]

/-- The projection. -/
theorem up_at (x : Rows) (g : Gains) (w : Weights) (q : Fin 32768) (f : Fin 3200) :
    val_main_v14 (F := Ideal) x g w (ix2 q f) = up x g w q f := by
  have hn := normed_at x g q
  unfold up
  simp only [← hn]
  pointwise [val_main_v14, val_main_v13]

/-- Head `o` of pair `n` after its norm, lane `e`. -/
theorem unit_at (x : Rows) (g : Gains) (w : Weights) (h : HeadGains) (q : Fin 32768) (n : Fin 12) (o : Fin 2) (e : Fin 64) :
    val_main_v30 (F := Ideal) x g w h (ix4 q n o e)
      = scaled (fun i : Fin 64 => up x g w q ⟨(n : ℕ) * 128 + (o : ℕ) * 64 + i, by omega⟩) (Ideal.ofBits FTy.f32 0x42800000#32)
          (h (ix1 ⟨(n : ℕ) * 128 + (o : ℕ) * 64 + e, by omega⟩)) e := by
  unfold scaled
  simp only [← up_at]
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_cst_2, val_main_cst_3, val_main_cst_4]

/-- The queries and keys. -/
theorem qk_at (x : Rows) (c s : Angles) (g : Gains) (w : Weights) (h : HeadGains) (q : Fin 32768) (n : Fin 12) (o : Fin 2)
    (e : Fin 64) :
    val_main_v42 (F := Ideal) x c s g w h (ix2 q ⟨(n : ℕ) * 128 + (o : ℕ) * 64 + e, by omega⟩)
      = head (fun i => up x g w q ⟨(n : ℕ) * 128 + (o : ℕ) * 64 + i, by omega⟩)
          (fun i => h (ix1 ⟨(n : ℕ) * 128 + (o : ℕ) * 64 + i, by omega⟩)) (fun i => c (ix2 q ⟨(o : ℕ) * 64 + i, by omega⟩))
          (fun i => s (ix2 q ⟨(o : ℕ) * 64 + i, by omega⟩)) e := by
  unfold head
  simp only [← unit_at]
  pointwise [val_main_v42, val_main_v41, val_main_v40, val_main_v39, val_main_v38, val_main_v37, val_main_v36, val_main_v35,
    val_main_v34, val_main_v33, val_main_v32, val_main_v31]
  refine congrArg (_ + ·) (congrArg (· * _) ?_)
  by_cases he : (e : ℕ) < 32
  · rw [dif_pos he, other_lo e he]
  · rw [dif_neg he, other_hi e he]

/-- The other four results. -/
theorem vv_at (x : Rows) (g : Gains) (w : Weights) (q : Fin 32768) (l : Fin 768) :
    val_main_v44 (F := Ideal) x g w (ix2 q l) = up x g w q ⟨1536 + l, by omega⟩ := by
  rw [← up_at]
  pointwise [val_main_v44, val_main_v43]

theorem cmp_at (x : Rows) (g : Gains) (w : Weights) (q : Fin 32768) (l : Fin 256) :
    val_main_v46 (F := Ideal) x g w (ix2 q l) = up x g w q ⟨2304 + l, by omega⟩ := by
  rw [← up_at]
  pointwise [val_main_v46, val_main_v45]

theorem conv_at (x : Rows) (g : Gains) (w : Weights) (q : Fin 32768) (l : Fin 512) :
    val_main_v47 (F := Ideal) x g w (ix2 q l) = up x g w q ⟨2560 + l, by omega⟩ := by
  rw [← up_at]
  pointwise [val_main_v47]

theorem gate_at (x : Rows) (g : Gains) (w : Weights) (q : Fin 32768) (l : Fin 128) :
    val_main_v48 (F := Ideal) x g w (ix2 q l) = up x g w q ⟨3072 + l, by omega⟩ := by
  rw [← up_at]
  pointwise [val_main_v48]

end Cert.ProjRefIdeal.RefValue
-- ==== Proof.ProjEq.lean ====
/- One block of the projection is the reference's rows. -/
module

public import proofs.«01_k».proof.Proof.ProjBlock
public import proofs.«01_k».proof.Proof.ProjRef

@[expose] public section

set_option maxRecDepth 16384
noncomputable section
namespace Cert.ProjIdeal.Block
open Cert.ProjIdeal Cert.ProjIdeal.Gen Idealize.ShloMosaic Idealize.ShloMosaic.TcCoe Idealize.SL.Sem
open Cert.Lanes
open Cert.ProjRefIdeal.RefValue (Rows Angles Gains Weights HeadGains up qk_at vv_at cmp_at conv_at gate_at)
open Cert.ProjRefIdeal.Read (val_main_v42 val_main_v44 val_main_v46 val_main_v47 val_main_v48)

/-- What block `t` reads of the arrays: 512 rows of each, and the weights, the matrix and the gains whole. -/
structure Reads (X : Rows) (C S : Angles) (G : Gains) (W : Weights) (H : HeadGains) (t : Fin 64)
    (x0 : Vec Ideal S512x1024 .f32) (x1 x2 : Vec Ideal S512x128 .f32) (x3 : Vec Ideal S1x1024 .f32)
    (x4 : Vec Ideal S1024x3200 .bf16) (x5 : Vec Ideal S256x256 .bf16) (x6 : Vec Ideal S1x1536 .f32) : Prop where
  rows : ∀ (r : Fin 512) (k : Fin 1024), x0 (ix2 r k) = X (ix2 ⟨(t : ℕ) * 512 + r, by omega⟩ k)
  cos : ∀ (r : Fin 512) (k : Fin 128), x1 (ix2 r k) = C (ix2 ⟨(t : ℕ) * 512 + r, by omega⟩ k)
  sin : ∀ (r : Fin 512) (k : Fin 128), x2 (ix2 r k) = S (ix2 ⟨(t : ℕ) * 512 + r, by omega⟩ k)
  gains : ∀ k : Fin 1024, x3 (ix2 0 k) = G (ix1 k)
  weights : ∀ (k : Fin 1024) (f : Fin 3200), x4 (ix2 k f) = W (ix2 k f)
  matrix : ∀ j l : Fin 256, x5 (ix2 j l) = spread j l
  heads : ∀ f : Fin 1536, x6 (ix2 0 f) = H (ix1 f)

section
variable {X : Rows} {C S : Angles} {G : Gains} {W : Weights} {H : HeadGains} {t : Fin 64}
  {x0 : Vec Ideal S512x1024 .f32} {x1 x2 : Vec Ideal S512x128 .f32} {x3 : Vec Ideal S1x1024 .f32}
  {x4 : Vec Ideal S1024x3200 .bf16} {x5 : Vec Ideal S256x256 .bf16} {x6 : Vec Ideal S1x1536 .f32}

/-- A row of the block against some columns of the weights is the reference's projection. -/
theorem Reads.up_eq (hR : Reads X C S G W H t x0 x1 x2 x3 x4 x5 x6) {n : ℕ} (w : Fin 1024 → Fin n → EReal) (l : Fin n)
    (f : Fin 3200) (hw : ∀ k, w k l = x4 (ix2 k f)) (r : Fin 512) (q : Fin 32768) (hq : (q : ℕ) = t * 512 + r) :
    ∑ k : Fin 1024, k0_pay4 (F := Ideal) (View.ld x0 r0_0) (View.ld x3 r0_1) (ix2 r k) * w k l = up X G W q f := by
  have hrow : q = ⟨(t : ℕ) * 512 + r, by omega⟩ := Fin.ext hq
  unfold up
  refine Finset.sum_congr rfl fun k _ => ?_
  rw [norm_at, ld0, ld1, hw, hR.gains, hR.weights, hrow]
  exact congrArg (fun row => scaled row _ _ _ * _) (funext fun j => hR.rows r j)

/-- Lane `e` of head `p` of the block's chunk `a` is the reference's. -/
theorem Reads.lane (hR : Reads X C S G W H t x0 x1 x2 x3 x4 x5 x6) (a : ℕ) (ha : a < 6) (r : Fin 512) (p : Fin 4)
    (e : Fin 64) (q : Fin 32768) (hq : (q : ℕ) = t * 512 + r) (c : Fin 1536) (hc : (c : ℕ) = 256 * a + (p * 64 + e)) :
    chunk x0 x1 x2 x3 x4 x5 x6 a (ix2 r ⟨(p : ℕ) * 64 + e, by omega⟩) = val_main_v42 (F := Ideal) X C S G W H (ix2 q c) := by
  have hrow : q = ⟨(t : ℕ) * 512 + r, by omega⟩ := Fin.ext hq
  have hcol : c = ⟨((⟨2 * a + (p : ℕ) / 2, by omega⟩ : Fin 12) : ℕ) * 128 + ((⟨(p : ℕ) % 2, by omega⟩ : Fin 2) : ℕ) * 64 + e,
      by simp only; omega⟩ := Fin.ext (by simp only; omega)
  rw [hcol, qk_at]
  unfold chunk
  rw [pay11_at _ _ _ _ _ _ (fun j l => by rw [pay5_at, ld3, hR.matrix])]
  have h1 : ∀ i : Fin 64, (∑ k : Fin 1024, k0_pay4 (F := Ideal) (View.ld x0 r0_0) (View.ld x3 r0_1) (ix2 r k)
      * wCols x4 a (ix2 k ⟨(p : ℕ) * 64 + i, by omega⟩))
        = up X G W q ⟨(2 * a + (p : ℕ) / 2) * 128 + (p : ℕ) % 2 * 64 + i, by omega⟩ := fun i =>
    hR.up_eq (fun k l => wCols x4 a (ix2 k l)) ⟨(p : ℕ) * 64 + i, by omega⟩ _ (fun k => by
      rw [wCols_at]
      exact congrArg (fun z => x4 (ix2 k z)) (Fin.ext (by simp only; omega))) r q hq
  have h2 : ∀ i : Fin 64, gCols x6 a (ix2 0 ⟨(p : ℕ) * 64 + i, by omega⟩)
      = H (ix1 ⟨(2 * a + (p : ℕ) / 2) * 128 + (p : ℕ) % 2 * 64 + i, by omega⟩) := fun i => by
    rw [gCols_at, hR.heads]
    exact congrArg (fun z => H (ix1 z)) (Fin.ext (by simp only; omega))
  have h3 : ∀ k : Fin 128, View.ld x1 r0_2 (ix2 r k) = C (ix2 q k) := fun k => by rw [ld2, hR.cos, hrow]
  have h4 : ∀ k : Fin 128, View.ld x2 r0_2 (ix2 r k) = S (ix2 q k) := fun k => by rw [ld2, hR.sin, hrow]
  exact congrFun (congr (congr (congr (congrArg head (funext h1)) (funext h2)) (funext fun i => h3 _))
    (funext fun i => h4 _)) e

/-- The block's queries and keys are the reference's. -/
theorem Reads.qk (hR : Reads X C S G W H t x0 x1 x2 x3 x4 x5 x6) (a : ℕ) (ha : a < 6) (r : Fin 512) (l : Fin 256)
    (q : Fin 32768) (hq : (q : ℕ) = t * 512 + r) (c : Fin 1536) (hc : (c : ℕ) = 256 * a + l) :
    chunk x0 x1 x2 x3 x4 x5 x6 a (ix2 r l) = val_main_v42 (F := Ideal) X C S G W H (ix2 q c) := by
  refine Eq.trans ?_ (hR.lane a ha r ⟨(l : ℕ) / 64, by omega⟩ ⟨(l : ℕ) % 64, by omega⟩ q hq c (by simp only; omega))
  exact congrArg (fun z => chunk x0 x1 x2 x3 x4 x5 x6 a (ix2 r z)) (Fin.ext (by simp only; omega))

/-- The block's other four results are the reference's. -/
theorem Reads.vv (hR : Reads X C S G W H t x0 x1 x2 x3 x4 x5 x6) (r : Fin 512) (l : Fin 768) (q : Fin 32768)
    (hq : (q : ℕ) = t * 512 + r) :
    k0_pay17 (F := Ideal) (k0_pay4 (View.ld x0 r0_0) (View.ld x3 r0_1)) (View.ld x4 r0_22) (ix2 r l)
      = val_main_v44 (F := Ideal) X G W (ix2 q l) := by
  rw [pay17_at, vv_at]
  exact hR.up_eq (fun k l => View.ld x4 r0_22 (ix2 k l)) l _ (fun k => ld_vv x4 k l) r q hq

theorem Reads.cmp (hR : Reads X C S G W H t x0 x1 x2 x3 x4 x5 x6) (r : Fin 512) (l : Fin 256) (q : Fin 32768)
    (hq : (q : ℕ) = t * 512 + r) :
    k0_pay1 (F := Ideal) (k0_pay4 (View.ld x0 r0_0) (View.ld x3 r0_1)) (View.ld x4 r0_24)
        (constant S512x256 .f32 0x00000000#32) (ix2 r l)
      = val_main_v46 (F := Ideal) X G W (ix2 q l) := by
  rw [pay1_at, cmp_at]
  exact hR.up_eq (fun k l => View.ld x4 r0_24 (ix2 k l)) l _ (fun k => ld_cmp x4 k l) r q hq

theorem Reads.conv (hR : Reads X C S G W H t x0 x1 x2 x3 x4 x5 x6) (r : Fin 512) (l : Fin 512) (q : Fin 32768)
    (hq : (q : ℕ) = t * 512 + r) :
    k0_pay2 (F := Ideal) (k0_pay4 (View.ld x0 r0_0) (View.ld x3 r0_1)) (View.ld x4 r0_26) (ix2 r l)
      = val_main_v47 (F := Ideal) X G W (ix2 q l) := by
  rw [pay2_at, conv_at]
  exact hR.up_eq (fun k l => View.ld x4 r0_26 (ix2 k l)) l _ (fun k => ld_conv x4 k l) r q hq

theorem Reads.gate (hR : Reads X C S G W H t x0 x1 x2 x3 x4 x5 x6) (r : Fin 512) (l : Fin 128) (q : Fin 32768)
    (hq : (q : ℕ) = t * 512 + r) :
    k0_pay3 (F := Ideal) (k0_pay4 (View.ld x0 r0_0) (View.ld x3 r0_1)) (View.ld x4 r0_28) (ix2 r l)
      = val_main_v48 (F := Ideal) X G W (ix2 q l) := by
  rw [pay3_at, gate_at]
  exact hR.up_eq (fun k l => View.ld x4 r0_28 (ix2 k l)) l _ (fun k => ld_gate x4 k l) r q hq
end

end Cert.ProjIdeal.Block
-- ==== Proof.HeadMatrix.lean ====
/- The block-diagonal matrix the host hands to the projections. -/
module

public import proofs.«01_k».proof.Proof.Gen.ProjIdeal.Frame
public import Idealize.ShloMosaic.Lib.Pipeline.ValueKit
public import proofs.«01_k».proof.Proof.Lanes

@[expose] public section

set_option maxRecDepth 16384
noncomputable section
namespace Cert.ProjIdeal.HeadMatrix
open Cert.ProjIdeal Cert.ProjIdeal.Gen Idealize.ShloMosaic Idealize.ShloMosaic.TcCoe Idealize.SL.Sem
open Cert.Lanes

/-- The head of each lane, as the host counts it. -/
def laneHead : (⟨S256, .i32⟩ : BufTy).Contents (Elt Ideal) :=
  Host.divsi (iotaInDim S256 32 0) (broadcastInDim S256 ![] bcast_S_S256 (constantI S_ 32 64#32))

theorem head_word : ∀ j : Fin 256, IntOp.divsi .host (BitVec.ofNat 32 (j : ℕ)) 64#32 = BitVec.ofNat 32 ((j : ℕ) / 64) := by
  decide +kernel

theorem laneHead_at (j : Fin 256) : laneHead (ix1 j) = BitVec.ofNat 32 ((j : ℕ) / 64) := by
  rw [← head_word]
  unfold laneHead
  pointwise

/-- Equal heads are equal words. -/
theorem same_head (j l : Fin 256) :
    (BitVec.ofNat 32 ((j : ℕ) / 64) = BitVec.ofNat 32 ((l : ℕ) / 64)) ↔ (j : ℕ) / 64 = (l : ℕ) / 64 :=
  ⟨fun h => by
    have h' := congrArg BitVec.toNat h
    simp only [BitVec.toNat_ofNat] at h'
    omega, fun h => by rw [h]⟩

/-- A comparison's bit as a number. -/
theorem bit_value (a b : BitVec 32) :
    FloatOps.uitofp (F := Ideal) FTy.f32 (IntOp.cmpi .eq a b) = if a = b then (1 : EReal) else 0 := by
  by_cases h : a = b
  · have hb : IntOp.cmpi .eq a b = 1#1 := by simp [IntOp.cmpi, h]
    rw [hb, if_pos h]
    show (((1#1 : BitVec 1).toNat : ℝ) : EReal) = 1
    simp
  · have hb : IntOp.cmpi .eq a b = 0#1 := by simp [IntOp.cmpi, beq_eq_false_iff_ne.mpr h]
    rw [hb, if_neg h]
    show (((0#1 : BitVec 1).toNat : ℝ) : EReal) = 0
    simp

/-- The matrix, as the host makes it of the lanes' heads. -/
def matrix : (⟨S256x256, .bf16⟩ : BufTy).Contents (Elt Ideal) :=
  truncf .bf16 (Host.divf (uitofp .f32 (cmpi .eq
    (broadcastInDim S256x256 ![0, 1] bcast_S256x1_S256x256_0_1 (broadcastInDim S256x1 ![0] bcast_S256_S256x1_0 laneHead))
    (broadcastInDim S256x256 ![0, 1] bcast_S1x256_S256x256_0_1 (broadcastInDim S1x256 ![1] bcast_S256_S1x256_1 laneHead))))
    (broadcastInDim S256x256 ![] bcast_S_S256x256 (constant (F := Ideal) S_ .f32 0x42800000#32))) bitsLt_bf16_f32

/-- Its entries. -/
theorem matrix_at (j l : Fin 256) : matrix (ix2 j l) = spread j l := by
  unfold matrix spread
  pointwise
  rw [laneHead_at, laneHead_at, bit_value]
  simp only [same_head]

end Cert.ProjIdeal.HeadMatrix
-- ==== Proof.ProjValue.lean ====
/- The projection's five result arrays are the reference's. -/
module

public import Idealize.ShloMosaic.Lib.Claim
public import proofs.«01_k».proof.Proof.ProjEq
public import proofs.«01_k».proof.Proof.HeadMatrix

@[expose] public section

set_option maxRecDepth 16384
noncomputable section
namespace Cert.ProjIdeal.Result
open Cert.ProjIdeal Cert.ProjIdeal.Gen Idealize.ShloMosaic Idealize.ShloMosaic.TcCoe Idealize.SL.Sem
open Cert.ProjIdeal.Block Cert.ProjIdeal.HeadMatrix Cert.Lanes

variable (m : (ℓ : Loc nD τ sig) → Buf (Elt Ideal) ℓ)

/-- The grid point's block. -/
def block (t : Fin cfg0.N) : Fin 64 := grid0.coords t 0

/-- Where the windows of grid point `t` lie. -/
theorem idx : ∀ t : Fin cfg0.N,
    win0_0.index t = ![(block t : ℕ), 0] ∧
    win0_1.index t = ![(block t : ℕ), 0] ∧
    win0_2.index t = ![(block t : ℕ), 0] ∧
    win0_3.index t = ![0, 0] ∧
    win0_4.index t = ![0, 0] ∧
    win0_5.index t = ![0, 0] ∧
    win0_6.index t = ![0, 0] ∧
    win0_7.index t = ![(block t : ℕ), 0] ∧
    win0_8.index t = ![(block t : ℕ), 0] ∧
    win0_9.index t = ![(block t : ℕ), 0] ∧
    win0_10.index t = ![(block t : ℕ), 0] ∧
    win0_11.index t = ![(block t : ℕ), 0] :=
  (by decide +kernel : ∀ t : Fin grid0.N, _)

/-- The norm's gains as the region finds them. -/
theorem gains_entry (c : Dev nD) (k : Fin 1024) :
    V m c main_v0 (ix2 0 k) = m ((c : Thread nD τ).loc main_arg3) (ix1 k) := by
  show broadcastInDim S1x1024 ![1] bcast_S1024_S1x1024_1 (m ((c : Thread nD τ).loc main_arg3)) (ix2 0 k) = _
  pointwise

/-- The heads' gains as the region finds them. -/
theorem heads_entry (c : Dev nD) (k : Fin 1536) :
    V m c main_v13 (ix2 0 k) = m ((c : Thread nD τ).loc main_arg5) (ix1 k) := by
  show broadcastInDim S1x1536 ![1] bcast_S1536_S1x1536_1 (m ((c : Thread nD τ).loc main_arg5)) (ix2 0 k) = _
  pointwise

/-- The block-diagonal matrix as the region finds it. -/
theorem matrix_entry (c : Dev nD) (j l : Fin 256) : V m c main_v12 (ix2 j l) = spread j l := by
  show matrix (ix2 j l) = _
  exact matrix_at j l

/-- What grid point `t` reads of the arguments. -/
theorem reads (c : Dev nD) (t : Fin cfg0.N) :
    Reads (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (block t)
      (iblk m c 0 t) (iblk m c 1 t) (iblk m c 2 t) (iblk m c 3 t) (iblk m c 4 t) (iblk m c 5 t) (iblk m c 6 t) where
  rows r k := by blk_point [iblk, V, idx t]
  cos r k := by blk_point [iblk, V, idx t]
  sin r k := by blk_point [iblk, V, idx t]
  gains k := by
    refine Eq.trans ?_ (gains_entry m c k)
    blk_ext [iblk, idx t]
  weights k n := by blk_point [iblk, V, idx t]
  matrix j l := by
    refine Eq.trans ?_ (matrix_entry m c j l)
    blk_ext [iblk, idx t]
  heads k := by
    refine Eq.trans ?_ (heads_entry m c k)
    blk_ext [iblk, idx t]

/-- What grid point `t` leaves in the queries' and keys' block. -/
theorem point7 (c : Dev nD) (t : Fin cfg0.N) (y : S512x1536.Idx) :
    out0_7 (iblk m c 0 t) (iblk m c 1 t) (iblk m c 2 t) (iblk m c 3 t) (iblk m c 4 t) (iblk m c 5 t) (iblk m c 6 t) y
      = Cert.ProjRefIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (((cfg0.win 7).blk t).view.emb y) := by
  rw [out7_eq]
  generalize hw : ((cfg0.win 7).blk t).view.emb y = w
  have e0 : (w 0 : ℕ) = block t * 512 + y 0 := by subst hw; blk_simp [idx t]
  have e1 : (w 1 : ℕ) = y 1 := by subst hw; blk_simp [idx t]
  have hw' : w = ix2 (w 0) (w 1) := by blk_ext
  rw [hw']
  canon_tiles x h
  all_goals
    have hx : x = ix2 (x 0) (x 1) := by blk_ext
    rw [hx]
    exact (reads m c t).qk _ (by omega) (x 0) (x 1) (w 0) (by omega) (w 1) (by omega)

/-- The queries' and keys' array after the run. -/
theorem final7 (c : Dev nD) :
    (dats m 0 c).arrAt 7 (cfgs 0).N
      = Cert.ProjRefIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  exact point7 m c t y

/-- What grid point `t` leaves in the values' block. -/
theorem point8 (c : Dev nD) (t : Fin cfg0.N) (y : S512x768.Idx) :
    out0_8 (iblk m c 0 t) (iblk m c 1 t) (iblk m c 2 t) (iblk m c 3 t) (iblk m c 4 t) (iblk m c 5 t) (iblk m c 6 t) y
      = Cert.ProjRefIdeal.Read.val_main_v44 (F := Ideal) (m ((c : Thread nD τ).loc main_arg0)) (m ((c : Thread nD τ).loc main_arg3)) (m ((c : Thread nD τ).loc main_arg4))
          (((cfg0.win 8).blk t).view.emb y) := by
  unfold out0_8
  generalize hw : ((cfg0.win 8).blk t).view.emb y = w
  have e0 : (w 0 : ℕ) = block t * 512 + y 0 := by subst hw; blk_simp [idx t]
  have e1 : (w 1 : ℕ) = y 1 := by subst hw; blk_simp [idx t]
  canon_tiles x h
  have hx : x = ix2 (x 0) (x 1) := by blk_ext
  have hw' : w = ix2 (w 0) (x 1) := by blk_ext
  rw [hw', hx]
  exact (reads m c t).vv (x 0) (x 1) (w 0) (by rw [e0, h0])

/-- The values' array after the run. -/
theorem final8 (c : Dev nD) :
    (dats m 0 c).arrAt 8 (cfgs 0).N
      = Cert.ProjRefIdeal.Read.val_main_v44 (F := Ideal) (m ((c : Thread nD τ).loc main_arg0)) (m ((c : Thread nD τ).loc main_arg3)) (m ((c : Thread nD τ).loc main_arg4)) := by
  refine (dats m 0 c).arrAt_eq_of_covers 8 _ (by decide +kernel) fun t _ y => ?_
  blk_simp
  rw [after0_8]
  exact point8 m c t y

/-- What grid point `t` leaves in the compression's block. -/
theorem point9 (c : Dev nD) (t : Fin cfg0.N) (y : S512x256.Idx) :
    out0_9 (iblk m c 0 t) (iblk m c 1 t) (iblk m c 2 t) (iblk m c 3 t) (iblk m c 4 t) (iblk m c 5 t) (iblk m c 6 t) y
      = Cert.ProjRefIdeal.Read.val_main_v46 (F := Ideal) (m ((c : Thread nD τ).loc main_arg0)) (m ((c : Thread nD τ).loc main_arg3)) (m ((c : Thread nD τ).loc main_arg4))
          (((cfg0.win 9).blk t).view.emb y) := by
  unfold out0_9
  generalize hw : ((cfg0.win 9).blk t).view.emb y = w
  have e0 : (w 0 : ℕ) = block t * 512 + y 0 := by subst hw; blk_simp [idx t]
  have e1 : (w 1 : ℕ) = y 1 := by subst hw; blk_simp [idx t]
  canon_tiles x h
  have hx : x = ix2 (x 0) (x 1) := by blk_ext
  have hw' : w = ix2 (w 0) (x 1) := by blk_ext
  rw [hw', hx]
  exact (reads m c t).cmp (x 0) (x 1) (w 0) (by rw [e0, h0])

/-- The compression's array after the run. -/
theorem final9 (c : Dev nD) :
    (dats m 0 c).arrAt 9 (cfgs 0).N
      = Cert.ProjRefIdeal.Read.val_main_v46 (F := Ideal) (m ((c : Thread nD τ).loc main_arg0)) (m ((c : Thread nD τ).loc main_arg3)) (m ((c : Thread nD τ).loc main_arg4)) := by
  refine (dats m 0 c).arrAt_eq_of_covers 9 _ (by decide +kernel) fun t _ y => ?_
  blk_simp
  rw [after0_9]
  exact point9 m c t y

/-- What grid point `t` leaves in the convolution's block. -/
theorem point10 (c : Dev nD) (t : Fin cfg0.N) (y : S512x512.Idx) :
    out0_10 (iblk m c 0 t) (iblk m c 1 t) (iblk m c 2 t) (iblk m c 3 t) (iblk m c 4 t) (iblk m c 5 t) (iblk m c 6 t) y
      = Cert.ProjRefIdeal.Read.val_main_v47 (F := Ideal) (m ((c : Thread nD τ).loc main_arg0)) (m ((c : Thread nD τ).loc main_arg3)) (m ((c : Thread nD τ).loc main_arg4))
          (((cfg0.win 10).blk t).view.emb y) := by
  unfold out0_10
  generalize hw : ((cfg0.win 10).blk t).view.emb y = w
  have e0 : (w 0 : ℕ) = block t * 512 + y 0 := by subst hw; blk_simp [idx t]
  have e1 : (w 1 : ℕ) = y 1 := by subst hw; blk_simp [idx t]
  canon_tiles x h
  have hx : x = ix2 (x 0) (x 1) := by blk_ext
  have hw' : w = ix2 (w 0) (x 1) := by blk_ext
  rw [hw', hx]
  exact (reads m c t).conv (x 0) (x 1) (w 0) (by rw [e0, h0])

/-- The convolution's array after the run. -/
theorem final10 (c : Dev nD) :
    (dats m 0 c).arrAt 10 (cfgs 0).N
      = Cert.ProjRefIdeal.Read.val_main_v47 (F := Ideal) (m ((c : Thread nD τ).loc main_arg0)) (m ((c : Thread nD τ).loc main_arg3)) (m ((c : Thread nD τ).loc main_arg4)) := by
  refine (dats m 0 c).arrAt_eq_of_covers 10 _ (by decide +kernel) fun t _ y => ?_
  blk_simp
  rw [after0_10]
  exact point10 m c t y

/-- What grid point `t` leaves in the gates' block. -/
theorem point11 (c : Dev nD) (t : Fin cfg0.N) (y : S512x128.Idx) :
    out0_11 (iblk m c 0 t) (iblk m c 1 t) (iblk m c 2 t) (iblk m c 3 t) (iblk m c 4 t) (iblk m c 5 t) (iblk m c 6 t) y
      = Cert.ProjRefIdeal.Read.val_main_v48 (F := Ideal) (m ((c : Thread nD τ).loc main_arg0)) (m ((c : Thread nD τ).loc main_arg3)) (m ((c : Thread nD τ).loc main_arg4))
          (((cfg0.win 11).blk t).view.emb y) := by
  unfold out0_11
  generalize hw : ((cfg0.win 11).blk t).view.emb y = w
  have e0 : (w 0 : ℕ) = block t * 512 + y 0 := by subst hw; blk_simp [idx t]
  have e1 : (w 1 : ℕ) = y 1 := by subst hw; blk_simp [idx t]
  canon_tiles x h
  have hx : x = ix2 (x 0) (x 1) := by blk_ext
  have hw' : w = ix2 (w 0) (x 1) := by blk_ext
  rw [hw', hx]
  exact (reads m c t).gate (x 0) (x 1) (w 0) (by rw [e0, h0])

/-- The gates' array after the run. -/
theorem final11 (c : Dev nD) :
    (dats m 0 c).arrAt 11 (cfgs 0).N
      = Cert.ProjRefIdeal.Read.val_main_v48 (F := Ideal) (m ((c : Thread nD τ).loc main_arg0)) (m ((c : Thread nD τ).loc main_arg3)) (m ((c : Thread nD τ).loc main_arg4)) := by
  refine (dats m 0 c).arrAt_eq_of_covers 11 _ (by decide +kernel) fun t _ y => ?_
  blk_simp
  rw [after0_11]
  exact point11 m c t y

end Cert.ProjIdeal.Result
-- ==== Proof.PhaseBlock.lean ====
/- What one block of a dilated group's projection computes, read at an index. The two groups' calls share this body. -/
module

public import proofs.«01_k».proof.Proof.Gen.Phase4Ideal.Frame
public import Idealize.ShloMosaic.Lib.Pipeline.ValueKit
public import proofs.«01_k».proof.Proof.Lanes

@[expose] public section

set_option maxRecDepth 16384
noncomputable section
namespace Cert.Phase4Ideal.Block
open Cert.Phase4Ideal Cert.Phase4Ideal.Gen Idealize.ShloMosaic Idealize.ShloMosaic.TcCoe Idealize.SL.Sem
open Cert.Lanes

/-- The normalised rows. -/
theorem norm_at (x : Vec Ideal S1x256x1024 .f32) (g : Vec Ideal S1x1024 .f32) (r : Fin 256) (k : Fin 1024) :
    k0_pay3 (F := Ideal) x g (ix2 r k)
      = scaled (fun j => x (ix3 0 r j)) (Ideal.ofBits FTy.f32 0x44800000#32) (g (ix2 0 k)) k := by
  unfold k0_pay3 scaled
  pointwise

/-- The matrix is taken as it is. -/
theorem pay4_at (x : Vec Ideal S256x256 .bf16) (j l : Fin 256) : k0_pay4 (F := Ideal) x (ix2 j l) = x (ix2 j l) := by
  unfold k0_pay4
  pointwise

/-- The tables, laid out twice, at lane `e` of head `p`. -/
theorem pay11_at (x : Vec Ideal S1x256x128 .f32) (r : Fin 256) (p : Fin 4) (e : Fin 64) :
    k0_pay11 (F := Ideal) x (ix2 r ⟨(p : ℕ) * 64 + e, by omega⟩) = x (ix3 0 r ⟨(p : ℕ) % 2 * 64 + e, by omega⟩) := by
  unfold k0_pay11
  pointwise
  exact twice (fun z => x (ix3 0 r z)) p e

theorem pay12_eq (x : Vec Ideal S1x256x128 .f32) : k0_pay12 (F := Ideal) x = k0_pay11 (F := Ideal) x := rfl

/-- A chunk's normalised heads. -/
theorem pay10_at (h : FVec Ideal S256x1024 .bf16) (B : FVec Ideal S256x256 .bf16) (w : Vec Ideal S1024x256 .bf16)
    (g : Vec Ideal S1x256 .f32) (hB : ∀ j l, B (ix2 j l) = spread j l) (r : Fin 256) (p : Fin 4) (e : Fin 64) :
    k0_pay10 (F := Ideal) h B w g (ix2 r ⟨(p : ℕ) * 64 + e, by omega⟩)
      = scaled (fun i => ∑ k : Fin 1024, h (ix2 r k) * w (ix2 k ⟨(p : ℕ) * 64 + i, by omega⟩))
          (Ideal.ofBits FTy.f32 0x42800000#32) (g (ix2 0 ⟨(p : ℕ) * 64 + e, by omega⟩)) e := by
  unfold k0_pay10
  pointwise
  simp only [hB]
  rw [head_mean (fun j => (∑ k : Fin 1024, h (ix2 r k) * w (ix2 k j)) * (∑ k : Fin 1024, h (ix2 r k) * w (ix2 k j)))]
  rfl

/-- A chunk's heads, normalised and rotated. -/
theorem pay1_at (y C S : FVec Ideal S256x256 .f32) (r : Fin 256) (p : Fin 4) (e : Fin 64) :
    k0_pay1 (F := Ideal) y C S (ix4 0 0 r ⟨(p : ℕ) * 64 + e, by omega⟩)
      = y (ix2 r ⟨(p : ℕ) * 64 + e, by omega⟩) * C (ix2 r ⟨(p : ℕ) * 64 + e, by omega⟩)
        + y (ix2 r ⟨(p : ℕ) * 64 + other e, by omega⟩) * S (ix2 r ⟨(p : ℕ) * 64 + e, by omega⟩) := by
  unfold k0_pay1
  pointwise
  exact congrArg (_ + ·) (congrArg (· * _) (turned (fun z => y (ix2 r z)) p e))

/-- The plain product. -/
theorem pay2_at (h : FVec Ideal S256x1024 .bf16) (w : Vec Ideal S1024x256 .bf16) (r l : Fin 256) :
    k0_pay2 (F := Ideal) h w (ix4 0 0 r l) = ∑ k : Fin 1024, h (ix2 r k) * w (ix2 k l) := by
  unfold k0_pay2
  pointwise

/-- Columns `256 a …` of the weights and of the heads' gains. -/
def wCols (X : Vec Ideal S1024x768 .bf16) (a : ℕ) : Vec Ideal S1024x256 .bf16 :=
  View.ld X (Rect.unit (s := S1024x768) ![0, 256 * (a % 3)] S1024x256.size (by
    intro i; match i with
    | ⟨0, _⟩ => exact (Nat.le_refl 1024 : 0 + 1024 ≤ 1024)
    | ⟨1, _⟩ => show 256 * (a % 3) + 256 ≤ 768; omega))

def gCols (X : Vec Ideal S1x512 .f32) (a : ℕ) : Vec Ideal S1x256 .f32 :=
  View.ld X (Rect.unit (s := S1x512) ![0, 256 * (a % 2)] S1x256.size (by
    intro i; match i with
    | ⟨0, _⟩ => exact (Nat.le_refl 1 : 0 + 1 ≤ 1)
    | ⟨1, _⟩ => show 256 * (a % 2) + 256 ≤ 512; omega))

section
variable (x0 : Vec Ideal S1x256x1024 .f32) (x1 x2 : Vec Ideal S1x256x128 .f32) (x3 : Vec Ideal S1x1024 .f32)
  (x4 : Vec Ideal S1024x768 .bf16) (x5 : Vec Ideal S256x256 .bf16) (x6 : Vec Ideal S1x512 .f32)

/-- Chunk `a` of the queries and keys: four heads. -/
def chunk (a : ℕ) : FVec Ideal S1x1x256x256 .bf16 :=
  k0_pay1 (k0_pay10 (k0_pay3 (View.ld x0 r0_0) (View.ld x3 r0_1)) (k0_pay4 (View.ld x5 r0_2)) (wCols x4 a) (gCols x6 a))
    (k0_pay11 (View.ld x1 r0_5)) (k0_pay12 (View.ld x2 r0_5))

/-- The result's block is the two chunks and the values side by side. -/
theorem out7_eq : out0_7 (F := Ideal) x0 x1 x2 x3 x4 x5 x6
    = View.canon [⟨r0_11, k0_pay2 (k0_pay3 (View.ld x0 r0_0) (View.ld x3 r0_1)) (wCols x4 2)⟩,
        ⟨r0_9, chunk x0 x1 x2 x3 x4 x5 x6 1⟩, ⟨r0_6, chunk x0 x1 x2 x3 x4 x5 x6 0⟩] := rfl
end

/-- What the loads read. -/
theorem wCols_at (X : Vec Ideal S1024x768 .bf16) (a : ℕ) (k : Fin 1024) (l : Fin 256) :
    wCols X a (ix2 k l) = X (ix2 k ⟨256 * (a % 3) + l, by omega⟩) :=
  View.ld_unit_apply_of _ _ _ _ _ _ (fun i => by
    match i with
    | ⟨0, _⟩ => exact (Nat.zero_add _).symm
    | ⟨1, _⟩ => rfl)

theorem gCols_at (X : Vec Ideal S1x512 .f32) (a : ℕ) (l : Fin 256) :
    gCols X a (ix2 0 l) = X (ix2 0 ⟨256 * (a % 2) + l, by omega⟩) :=
  View.ld_unit_apply_of _ _ _ _ _ _ (fun i => by
    match i with
    | ⟨0, _⟩ => rfl
    | ⟨1, _⟩ => rfl)

theorem ld0 (x : Vec Ideal S1x256x1024 .f32) : View.ld x r0_0 = x := by
  funext j
  exact View.ld_unit_apply_of _ _ _ _ _ _ (fun i => by
    match i with
    | ⟨0, _⟩ => exact (Nat.zero_add _).symm
    | ⟨1, _⟩ => exact (Nat.zero_add _).symm
    | ⟨2, _⟩ => exact (Nat.zero_add _).symm)

theorem ld1 (x : Vec Ideal S1x1024 .f32) : View.ld x r0_1 = x := by
  funext j
  exact View.ld_unit_apply_of _ _ _ _ _ _ (fun i => by
    match i with
    | ⟨0, _⟩ => exact (Nat.zero_add _).symm
    | ⟨1, _⟩ => exact (Nat.zero_add _).symm)

theorem ld2 (x : Vec Ideal S1x256x128 .f32) : View.ld x r0_5 = x := by
  funext j
  exact View.ld_unit_apply_of _ _ _ _ _ _ (fun i => by
    match i with
    | ⟨0, _⟩ => exact (Nat.zero_add _).symm
    | ⟨1, _⟩ => exact (Nat.zero_add _).symm
    | ⟨2, _⟩ => exact (Nat.zero_add _).symm)

theorem ld3 (x : Vec Ideal S256x256 .bf16) : View.ld x r0_2 = x := by
  funext j
  exact View.ld_unit_apply_of _ _ _ _ _ _ (fun i => by
    match i with
    | ⟨0, _⟩ => exact (Nat.zero_add _).symm
    | ⟨1, _⟩ => exact (Nat.zero_add _).symm)

end Cert.Phase4Ideal.Block
-- ==== Proof.PhaseRef.lean ====
/- What the reference of a dilated group's projection computes, token by token, read at an index. -/
module

public import proofs.«01_k».proof.Proof.Gen.Phase4RefIdeal.Read
public import Idealize.ShloMosaic.Lib.Pipeline.ValueKit
public import proofs.«01_k».proof.Proof.Lanes

@[expose] public section

set_option maxRecDepth 16384
noncomputable section
namespace Cert.Phase4RefIdeal.RefValue
open Cert.Phase4RefIdeal Cert.Phase4RefIdeal.Gen Cert.Phase4RefIdeal.Read Idealize.ShloMosaic Idealize.ShloMosaic.TcCoe Idealize.SL.Sem
open Cert.Lanes

/-- The residual stream, the rotation's tables, the norm's gains, the weights and the heads' gains. -/
abbrev Rows := (⟨S32768x1024, .f32⟩ : BufTy).Contents (Elt Ideal)
abbrev Angles := (⟨S32768x128, .f32⟩ : BufTy).Contents (Elt Ideal)
abbrev Gains := (⟨S1024, .f32⟩ : BufTy).Contents (Elt Ideal)
abbrev Weights := (⟨S1024x768, .bf16⟩ : BufTy).Contents (Elt Ideal)
abbrev HeadGains := (⟨S512, .f32⟩ : BufTy).Contents (Elt Ideal)

/-- Column `f` of row `q`'s projection. -/
def up (x : Rows) (g : Gains) (w : Weights) (q : Fin 32768) (f : Fin 768) : EReal :=
  ∑ k : Fin 1024, scaled (fun j => x (ix2 q j)) (Ideal.ofBits FTy.f32 0x44800000#32) (g (ix1 k)) k * w (ix2 k f)

/-- The normalised rows. -/
theorem normed_at (x : Rows) (g : Gains) (q : Fin 32768) (k : Fin 1024) :
    val_main_v12 (F := Ideal) x g (ix2 q k)
      = scaled (fun j => x (ix2 q j)) (Ideal.ofBits FTy.f32 0x44800000#32) (g (ix1 k)) k := by
  unfold scaled
  pointwise [val_main_v12, val_main_v11, val_main_v10, val_main_v9, val_main_v8, val_main_v7,
    val_main_v6, val_main_v5, val_main_v4, val_main_v3, val_main_v2, val_main_v1, val_main_v0, val_main_cst,
    val_main_cst_0, val_main_cst_1]

/-- The projection. -/
theorem up_at (x : Rows) (g : Gains) (w : Weights) (q : Fin 32768) (f : Fin 768) :
    val_main_v14 (F := Ideal) x g w (ix2 q f) = up x g w q f := by
  have hn := normed_at x g q
  unfold up
  simp only [← hn]
  pointwise [val_main_v14, val_main_v13]

/-- Head `o` of pair `n` after its norm, lane `e`. -/
theorem unit_at (x : Rows) (g : Gains) (w : Weights) (h : HeadGains) (q : Fin 32768) (n : Fin 4) (o : Fin 2) (e : Fin 64) :
    val_main_v30 (F := Ideal) x g w h (ix4 q n o e)
      = scaled (fun i : Fin 64 => up x g w q ⟨(n : ℕ) * 128 + (o : ℕ) * 64 + i, by omega⟩) (Ideal.ofBits FTy.f32 0x42800000#32)
          (h (ix1 ⟨(n : ℕ) * 128 + (o : ℕ) * 64 + e, by omega⟩)) e := by
  unfold scaled
  simp only [← up_at]
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_cst_2, val_main_cst_3, val_main_cst_4]

/-- The queries and keys. -/
theorem qk_at (x : Rows) (c s : Angles) (g : Gains) (w : Weights) (h : HeadGains) (q : Fin 32768) (n : Fin 4) (o : Fin 2)
    (e : Fin 64) :
    val_main_v41 (F := Ideal) x c s g w h (ix2 q ⟨(n : ℕ) * 128 + (o : ℕ) * 64 + e, by omega⟩)
      = head (fun i => up x g w q ⟨(n : ℕ) * 128 + (o : ℕ) * 64 + i, by omega⟩)
          (fun i => h (ix1 ⟨(n : ℕ) * 128 + (o : ℕ) * 64 + i, by omega⟩)) (fun i => c (ix2 q ⟨(o : ℕ) * 64 + i, by omega⟩))
          (fun i => s (ix2 q ⟨(o : ℕ) * 64 + i, by omega⟩)) e := by
  unfold head
  simp only [← unit_at]
  pointwise [val_main_v41, val_main_v40, val_main_v39, val_main_v38, val_main_v37, val_main_v36, val_main_v35, val_main_v34,
    val_main_v33, val_main_v32, val_main_v31]
  refine congrArg (_ + ·) (congrArg (· * _) ?_)
  by_cases he : (e : ℕ) < 32
  · rw [dif_pos he, other_lo e he]
  · rw [dif_neg he, other_hi e he]

/-- A token's queries and keys in the packed row. -/
theorem packed_qk (x : Rows) (c s : Angles) (g : Gains) (w : Weights) (h : HeadGains) (q : Fin 32768) (l : Fin 512) :
    val_main_v44 (F := Ideal) x c s g w h (ix2 q ⟨l, by omega⟩) = val_main_v41 (F := Ideal) x c s g w h (ix2 q l) := by
  pointwise [val_main_v44, val_main_v43]

/-- A token's values in the packed row. -/
theorem packed_v (x : Rows) (c s : Angles) (g : Gains) (w : Weights) (h : HeadGains) (q : Fin 32768) (l : Fin 256) :
    val_main_v44 (F := Ideal) x c s g w h (ix2 q ⟨512 + l, by omega⟩) = up x g w q ⟨512 + l, by omega⟩ := by
  rw [← up_at]
  pointwise [val_main_v44, val_main_v43, val_main_v42]

/-- Token `m * 4 + j` of a sequence is row `m` of stream `j`. -/
theorem phase_at (x : Rows) (c s : Angles) (g : Gains) (w : Weights) (h : HeadGains) (b : Fin 8) (j : Fin 4) (l : Fin 1024)
    (f : Fin 768) :
    val_main_v46 (F := Ideal) x c s g w h (ix4 b j l f)
      = val_main_v44 (F := Ideal) x c s g w h (ix2 ⟨(b : ℕ) * 4096 + (l : ℕ) * 4 + j, by omega⟩ f) := by
  pointwise [val_main_v46, val_main_v45]

end Cert.Phase4RefIdeal.RefValue
-- ==== Proof.PhaseEq.lean ====
/- One block of a dilated group's projection is the reference's tokens. -/
module

public import proofs.«01_k».proof.Proof.PhaseBlock
public import proofs.«01_k».proof.Proof.PhaseRef

@[expose] public section

set_option maxRecDepth 16384
noncomputable section
namespace Cert.Phase4Ideal.Block
open Cert.Phase4Ideal Cert.Phase4Ideal.Gen Idealize.ShloMosaic Idealize.ShloMosaic.TcCoe Idealize.SL.Sem
open Cert.Lanes
open Cert.Phase4RefIdeal.RefValue (Rows Angles Gains Weights HeadGains up qk_at packed_qk packed_v)
open Cert.Phase4RefIdeal.Read (val_main_v44)

/-- What a block reads of the arrays: row `r` is token `tok r`, and the weights, the matrix and the gains come whole. -/
structure Reads (X : Rows) (C S : Angles) (G : Gains) (W : Weights) (H : HeadGains) (tok : Fin 256 → Fin 32768)
    (x0 : Vec Ideal S1x256x1024 .f32) (x1 x2 : Vec Ideal S1x256x128 .f32) (x3 : Vec Ideal S1x1024 .f32)
    (x4 : Vec Ideal S1024x768 .bf16) (x5 : Vec Ideal S256x256 .bf16) (x6 : Vec Ideal S1x512 .f32) : Prop where
  rows : ∀ (r : Fin 256) (k : Fin 1024), x0 (ix3 0 r k) = X (ix2 (tok r) k)
  cos : ∀ (r : Fin 256) (k : Fin 128), x1 (ix3 0 r k) = C (ix2 (tok r) k)
  sin : ∀ (r : Fin 256) (k : Fin 128), x2 (ix3 0 r k) = S (ix2 (tok r) k)
  gains : ∀ k : Fin 1024, x3 (ix2 0 k) = G (ix1 k)
  weights : ∀ (k : Fin 1024) (f : Fin 768), x4 (ix2 k f) = W (ix2 k f)
  matrix : ∀ j l : Fin 256, x5 (ix2 j l) = spread j l
  heads : ∀ f : Fin 512, x6 (ix2 0 f) = H (ix1 f)

section
variable {X : Rows} {C S : Angles} {G : Gains} {W : Weights} {H : HeadGains} {tok : Fin 256 → Fin 32768}
  {x0 : Vec Ideal S1x256x1024 .f32} {x1 x2 : Vec Ideal S1x256x128 .f32} {x3 : Vec Ideal S1x1024 .f32}
  {x4 : Vec Ideal S1024x768 .bf16} {x5 : Vec Ideal S256x256 .bf16} {x6 : Vec Ideal S1x512 .f32}

/-- A row of the block against column `f` of the weights is the reference's projection. -/
theorem Reads.up_eq (hR : Reads X C S G W H tok x0 x1 x2 x3 x4 x5 x6) (a : ℕ) (l : Fin 256) (f : Fin 768)
    (hf : (f : ℕ) = 256 * (a % 3) + l) (r : Fin 256) :
    ∑ k : Fin 1024, k0_pay3 (F := Ideal) (View.ld x0 r0_0) (View.ld x3 r0_1) (ix2 r k) * wCols x4 a (ix2 k l)
      = up X G W (tok r) f := by
  unfold up
  refine Finset.sum_congr rfl fun k _ => ?_
  rw [norm_at, ld0, ld1, wCols_at, hR.gains, hR.weights, (Fin.ext hf : f = ⟨256 * (a % 3) + l, by omega⟩)]
  exact congrArg (fun row => scaled row _ _ _ * _) (funext fun j => hR.rows r j)

/-- Lane `e` of head `p` of the block's chunk `a` is the reference's. -/
theorem Reads.lane (hR : Reads X C S G W H tok x0 x1 x2 x3 x4 x5 x6) (a : ℕ) (ha : a < 2) (r : Fin 256) (p : Fin 4)
    (e : Fin 64) (f : Fin 768) (hf : (f : ℕ) = 256 * a + (p * 64 + e)) :
    chunk x0 x1 x2 x3 x4 x5 x6 a (ix4 0 0 r ⟨(p : ℕ) * 64 + e, by omega⟩)
      = val_main_v44 (F := Ideal) X C S G W H (ix2 (tok r) f) := by
  have hcol : f = ⟨((⟨((⟨2 * a + (p : ℕ) / 2, by omega⟩ : Fin 4) : ℕ) * 128 + ((⟨(p : ℕ) % 2, by omega⟩ : Fin 2) : ℕ) * 64 + e,
      by simp only; omega⟩ : Fin 512) : ℕ), by simp only; omega⟩ := Fin.ext (by simp only; omega)
  rw [hcol, packed_qk, qk_at]
  unfold chunk
  have hB : ∀ j l, k0_pay4 (F := Ideal) (View.ld x5 r0_2) (ix2 j l) = spread j l := fun j l => by
    rw [pay4_at, ld3, hR.matrix]
  rw [pay1_at, pay10_at _ _ _ _ hB, pay10_at _ _ _ _ hB, pay12_eq, pay11_at, pay11_at, ld2, ld2]
  have h1 : ∀ i : Fin 64, (∑ k : Fin 1024, k0_pay3 (F := Ideal) (View.ld x0 r0_0) (View.ld x3 r0_1) (ix2 r k)
      * wCols x4 a (ix2 k ⟨(p : ℕ) * 64 + i, by omega⟩))
        = up X G W (tok r) ⟨(2 * a + (p : ℕ) / 2) * 128 + (p : ℕ) % 2 * 64 + i, by omega⟩ := fun i =>
    hR.up_eq a ⟨(p : ℕ) * 64 + i, by omega⟩ _ (by simp only; omega) r
  have h2 : ∀ i : Fin 64, gCols x6 a (ix2 0 ⟨(p : ℕ) * 64 + i, by omega⟩)
      = H (ix1 ⟨(2 * a + (p : ℕ) / 2) * 128 + (p : ℕ) % 2 * 64 + i, by omega⟩) := fun i => by
    rw [gCols_at, hR.heads]
    exact congrArg (fun z => H (ix1 z)) (Fin.ext (by simp only; omega))
  exact congrFun (congr (congr (congr (congrArg head (funext h1)) (funext h2)) (funext fun i => hR.cos r _))
    (funext fun i => hR.sin r _)) e

/-- The block's queries and keys are the reference's. -/
theorem Reads.qk (hR : Reads X C S G W H tok x0 x1 x2 x3 x4 x5 x6) (a : ℕ) (ha : a < 2) (r l : Fin 256) (f : Fin 768)
    (hf : (f : ℕ) = 256 * a + l) :
    chunk x0 x1 x2 x3 x4 x5 x6 a (ix4 0 0 r l) = val_main_v44 (F := Ideal) X C S G W H (ix2 (tok r) f) := by
  refine Eq.trans ?_ (hR.lane a ha r ⟨(l : ℕ) / 64, by omega⟩ ⟨(l : ℕ) % 64, by omega⟩ f (by simp only; omega))
  exact congrArg (fun z => chunk x0 x1 x2 x3 x4 x5 x6 a (ix4 0 0 r z)) (Fin.ext (by simp only; omega))

/-- The block's values are the reference's. -/
theorem Reads.values (hR : Reads X C S G W H tok x0 x1 x2 x3 x4 x5 x6) (r l : Fin 256) (f : Fin 768)
    (hf : (f : ℕ) = 512 + l) :
    k0_pay2 (F := Ideal) (k0_pay3 (View.ld x0 r0_0) (View.ld x3 r0_1)) (wCols x4 2) (ix4 0 0 r l)
      = val_main_v44 (F := Ideal) X C S G W H (ix2 (tok r) f) := by
  rw [pay2_at, (Fin.ext hf : f = ⟨512 + l, by omega⟩), packed_v]
  exact hR.up_eq 2 l _ rfl r

/-- The whole block is the reference's. -/
theorem Reads.block (hR : Reads X C S G W H tok x0 x1 x2 x3 x4 x5 x6) (y : S1x1x256x768.Idx) :
    out0_7 (F := Ideal) x0 x1 x2 x3 x4 x5 x6 y = val_main_v44 (F := Ideal) X C S G W H (ix2 (tok (y 2)) (y 3)) := by
  rw [out7_eq]
  generalize hr : y 2 = r
  generalize hf : y 3 = f
  canon_tiles x h
  all_goals
    have e2 : r = x 2 := Fin.ext (by rw [← hr]; exact h2)
    have hx : x = ix4 0 0 (x 2) (x 3) := by blk_ext
    subst e2
    rw [hx]
  · exact hR.values _ (x 3) f (by rw [← hf, h3])
  all_goals exact hR.qk _ (by omega) _ (x 3) f (by rw [← hf]; omega)
end

end Cert.Phase4Ideal.Block
-- ==== Proof.Phase4Value.lean ====
/- The result array of the projection at dilation 4 is the reference's. -/
module

public import Idealize.ShloMosaic.Lib.Claim
public import proofs.«01_k».proof.Proof.PhaseEq
public import proofs.«01_k».proof.Proof.HeadMatrix

@[expose] public section

set_option maxRecDepth 16384
noncomputable section
namespace Cert.Phase4Ideal.Result
open Cert.Phase4Ideal Cert.Phase4Ideal.Gen Idealize.ShloMosaic Idealize.ShloMosaic.TcCoe Idealize.SL.Sem
open Cert.Lanes
open Cert.Phase4Ideal.Block (Reads)

variable (m : (ℓ : Loc nD τ sig) → Buf (Elt Ideal) ℓ)

/-- The grid point's sequence, stream and tile of 256 rows. -/
def seq (t : Fin cfg0.N) : Fin 8 := grid0.coords t 0
def stream (t : Fin cfg0.N) : Fin 4 := grid0.coords t 1
def tile (t : Fin cfg0.N) : Fin 4 := grid0.coords t 2

/-- The token of a tile's row. -/
def tok (t : Fin cfg0.N) (r : Fin 256) : Fin 32768 :=
  ⟨(seq t : ℕ) * 4096 + ((tile t : ℕ) * 256 + (r : ℕ)) * 4 + stream t, by omega⟩

/-- Where the windows of grid point `t` lie. -/
theorem idx : ∀ t : Fin cfg0.N,
    win0_0.index t = ![(seq t : ℕ), (tile t : ℕ), (stream t : ℕ)] ∧
    win0_1.index t = ![(seq t : ℕ), (tile t : ℕ), (stream t : ℕ)] ∧
    win0_2.index t = ![(seq t : ℕ), (tile t : ℕ), (stream t : ℕ)] ∧
    win0_3.index t = ![0, 0] ∧
    win0_4.index t = ![0, 0] ∧
    win0_5.index t = ![0, 0] ∧
    win0_6.index t = ![0, 0] ∧
    win0_7.index t = ![(seq t : ℕ), (stream t : ℕ), (tile t : ℕ), 0] :=
  (by decide +kernel : ∀ t : Fin grid0.N, _)

/-- The rows and the tables as the region finds them: a stream's lanes side by side. -/
theorem rows_entry (c : Dev nD) (b : Fin 8) (l : Fin 1024) (j : Fin 4) (k : Fin 1024) :
    V m c main_v0 (ix3 b l ⟨(j : ℕ) * 1024 + k, by omega⟩)
      = m ((c : Thread nD τ).loc main_arg0) (ix2 ⟨(b : ℕ) * 4096 + (l : ℕ) * 4 + j, by omega⟩ k) := by
  show shapeCast S8x1024x4096 (m ((c : Thread nD τ).loc main_arg0)) shapeCasts_S32768x1024_S8x1024x4096 _ = _
  refine shapeCast_apply _ _ _ _ ((rowMajor_val2 _ 1024 rfl).trans (Eq.trans ?_ (rowMajor_val3 _ 4194304 4096 rfl rfl).symm))
  simp only [ix2_0, ix2_1, ix3_0, ix3_1, ix3_2]
  omega

theorem cos_entry (c : Dev nD) (b : Fin 8) (l : Fin 1024) (j : Fin 4) (k : Fin 128) :
    V m c main_v1 (ix3 b l ⟨(j : ℕ) * 128 + k, by omega⟩)
      = m ((c : Thread nD τ).loc main_arg1) (ix2 ⟨(b : ℕ) * 4096 + (l : ℕ) * 4 + j, by omega⟩ k) := by
  show shapeCast S8x1024x512 (m ((c : Thread nD τ).loc main_arg1)) shapeCasts_S32768x128_S8x1024x512 _ = _
  refine shapeCast_apply _ _ _ _ ((rowMajor_val2 _ 128 rfl).trans (Eq.trans ?_ (rowMajor_val3 _ 524288 512 rfl rfl).symm))
  simp only [ix2_0, ix2_1, ix3_0, ix3_1, ix3_2]
  omega

theorem sin_entry (c : Dev nD) (b : Fin 8) (l : Fin 1024) (j : Fin 4) (k : Fin 128) :
    V m c main_v2 (ix3 b l ⟨(j : ℕ) * 128 + k, by omega⟩)
      = m ((c : Thread nD τ).loc main_arg2) (ix2 ⟨(b : ℕ) * 4096 + (l : ℕ) * 4 + j, by omega⟩ k) := by
  show shapeCast S8x1024x512 (m ((c : Thread nD τ).loc main_arg2)) shapeCasts_S32768x128_S8x1024x512 _ = _
  refine shapeCast_apply _ _ _ _ ((rowMajor_val2 _ 128 rfl).trans (Eq.trans ?_ (rowMajor_val3 _ 524288 512 rfl rfl).symm))
  simp only [ix2_0, ix2_1, ix3_0, ix3_1, ix3_2]
  omega

/-- The norm's gains and the heads' as the region finds them. -/
theorem gains_entry (c : Dev nD) (k : Fin 1024) :
    V m c main_v3 (ix2 0 k) = m ((c : Thread nD τ).loc main_arg3) (ix1 k) := by
  show broadcastInDim S1x1024 ![1] bcast_S1024_S1x1024_1 (m ((c : Thread nD τ).loc main_arg3)) (ix2 0 k) = _
  pointwise

theorem heads_entry (c : Dev nD) (k : Fin 512) :
    V m c main_v16 (ix2 0 k) = m ((c : Thread nD τ).loc main_arg5) (ix1 k) := by
  show broadcastInDim S1x512 ![1] bcast_S512_S1x512_1 (m ((c : Thread nD τ).loc main_arg5)) (ix2 0 k) = _
  pointwise

/-- The block-diagonal matrix as the region finds it. -/
theorem matrix_entry (c : Dev nD) (j l : Fin 256) : V m c main_v15 (ix2 j l) = spread j l := by
  show Cert.ProjIdeal.HeadMatrix.matrix (ix2 j l) = _
  exact Cert.ProjIdeal.HeadMatrix.matrix_at j l

/-- What grid point `t` reads of the arguments. -/
theorem reads (c : Dev nD) (t : Fin cfg0.N) :
    Reads (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (tok t)
      (iblk m c 0 t) (iblk m c 1 t) (iblk m c 2 t) (iblk m c 3 t) (iblk m c 4 t) (iblk m c 5 t) (iblk m c 6 t) where
  rows r k := by
    refine Eq.trans ?_ (rows_entry m c (seq t) ⟨(tile t : ℕ) * 256 + r, by omega⟩ (stream t) k)
    blk_ext [iblk, idx t]
  cos r k := by
    refine Eq.trans ?_ (cos_entry m c (seq t) ⟨(tile t : ℕ) * 256 + r, by omega⟩ (stream t) k)
    blk_ext [iblk, idx t]
  sin r k := by
    refine Eq.trans ?_ (sin_entry m c (seq t) ⟨(tile t : ℕ) * 256 + r, by omega⟩ (stream t) k)
    blk_ext [iblk, idx t]
  gains k := by
    refine Eq.trans ?_ (gains_entry m c k)
    blk_ext [iblk, idx t]
  weights k n := by blk_point [iblk, V, idx t]
  matrix j l := by
    refine Eq.trans ?_ (matrix_entry m c j l)
    blk_ext [iblk, idx t]
  heads k := by
    refine Eq.trans ?_ (heads_entry m c k)
    blk_ext [iblk, idx t]

/-- What grid point `t` leaves in the result's block. -/
theorem point (c : Dev nD) (t : Fin cfg0.N) (y : S1x1x256x768.Idx) :
    out0_7 (iblk m c 0 t) (iblk m c 1 t) (iblk m c 2 t) (iblk m c 3 t) (iblk m c 4 t) (iblk m c 5 t) (iblk m c 6 t) y
      = Cert.Phase4RefIdeal.Read.val_main_v46 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 7).blk t).view.emb y) := by
  have hy : (y 2 : ℕ) < 256 := (y 2).isLt
  generalize hw : ((cfg0.win 7).blk t).view.emb y = w
  have e0 : (w 0 : ℕ) = seq t := by subst hw; blk_simp [idx t]
  have e1 : (w 1 : ℕ) = stream t := by subst hw; blk_simp [idx t]
  have e2 : (w 2 : ℕ) = tile t * 256 + y 2 := by subst hw; blk_simp [idx t]
  have e3 : (w 3 : ℕ) = y 3 := by subst hw; blk_simp [idx t]
  have hw' : w = ix4 (seq t) (stream t) ⟨(tile t : ℕ) * 256 + y 2, by omega⟩ (y 3) := by blk_ext
  rw [hw']
  exact ((reads m c t).block y).trans (Cert.Phase4RefIdeal.RefValue.phase_at _ _ _ _ _ _ (seq t) (stream t) ⟨(tile t : ℕ) * 256 + y 2, by omega⟩ (y 3)).symm

/-- The result array after the run. -/
theorem final (c : Dev nD) :
    (dats m 0 c).arrAt 7 (cfgs 0).N
      = Cert.Phase4RefIdeal.Read.val_main_v46 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  exact point m c t y

end Cert.Phase4Ideal.Result
-- ==== Proof.Phase16Value.lean ====
/- The result array of the projection at dilation 16 is the reference's. -/
module

public import Idealize.ShloMosaic.Lib.Claim
public import proofs.«01_k».proof.Proof.PhaseEq
public import proofs.«01_k».proof.Proof.HeadMatrix
public import proofs.«01_k».proof.Proof.Gen.Phase16Ideal.Frame
public import proofs.«01_k».proof.Proof.Gen.Phase16RefIdeal.Read

@[expose] public section

set_option maxRecDepth 16384
noncomputable section
namespace Cert.Phase16Ideal.Result
open Cert.Phase16Ideal Cert.Phase16Ideal.Gen Idealize.ShloMosaic Idealize.ShloMosaic.TcCoe Idealize.SL.Sem
open Cert.Lanes
open Cert.Phase4Ideal.Block (Reads)

variable (m : (ℓ : Loc nD τ sig) → Buf (Elt Ideal) ℓ)

/-- The grid point's sequence, stream and tile of 256 rows. -/
def seq (t : Fin cfg0.N) : Fin 8 := grid0.coords t 0
def stream (t : Fin cfg0.N) : Fin 16 := grid0.coords t 1
def tile (t : Fin cfg0.N) : Fin 1 := grid0.coords t 2

/-- The token of a tile's row. -/
def tok (t : Fin cfg0.N) (r : Fin 256) : Fin 32768 :=
  ⟨(seq t : ℕ) * 4096 + ((tile t : ℕ) * 256 + (r : ℕ)) * 16 + stream t, by omega⟩

/-- Where the windows of grid point `t` lie. -/
theorem idx : ∀ t : Fin cfg0.N,
    win0_0.index t = ![(seq t : ℕ), (tile t : ℕ), (stream t : ℕ)] ∧
    win0_1.index t = ![(seq t : ℕ), (tile t : ℕ), (stream t : ℕ)] ∧
    win0_2.index t = ![(seq t : ℕ), (tile t : ℕ), (stream t : ℕ)] ∧
    win0_3.index t = ![0, 0] ∧
    win0_4.index t = ![0, 0] ∧
    win0_5.index t = ![0, 0] ∧
    win0_6.index t = ![0, 0] ∧
    win0_7.index t = ![(seq t : ℕ), (stream t : ℕ), (tile t : ℕ), 0] :=
  (by decide +kernel : ∀ t : Fin grid0.N, _)

/-- The rows and the tables as the region finds them: a stream's lanes side by side. -/
theorem rows_entry (c : Dev nD) (b : Fin 8) (l : Fin 256) (j : Fin 16) (k : Fin 1024) :
    V m c main_v0 (ix3 b l ⟨(j : ℕ) * 1024 + k, by omega⟩)
      = m ((c : Thread nD τ).loc main_arg0) (ix2 ⟨(b : ℕ) * 4096 + (l : ℕ) * 16 + j, by omega⟩ k) := by
  show shapeCast S8x256x16384 (m ((c : Thread nD τ).loc main_arg0)) shapeCasts_S32768x1024_S8x256x16384 _ = _
  refine shapeCast_apply _ _ _ _ ((rowMajor_val2 _ 1024 rfl).trans (Eq.trans ?_ (rowMajor_val3 _ 4194304 16384 rfl rfl).symm))
  simp only [ix2_0, ix2_1, ix3_0, ix3_1, ix3_2]
  omega

theorem cos_entry (c : Dev nD) (b : Fin 8) (l : Fin 256) (j : Fin 16) (k : Fin 128) :
    V m c main_v1 (ix3 b l ⟨(j : ℕ) * 128 + k, by omega⟩)
      = m ((c : Thread nD τ).loc main_arg1) (ix2 ⟨(b : ℕ) * 4096 + (l : ℕ) * 16 + j, by omega⟩ k) := by
  show shapeCast S8x256x2048 (m ((c : Thread nD τ).loc main_arg1)) shapeCasts_S32768x128_S8x256x2048 _ = _
  refine shapeCast_apply _ _ _ _ ((rowMajor_val2 _ 128 rfl).trans (Eq.trans ?_ (rowMajor_val3 _ 524288 2048 rfl rfl).symm))
  simp only [ix2_0, ix2_1, ix3_0, ix3_1, ix3_2]
  omega

theorem sin_entry (c : Dev nD) (b : Fin 8) (l : Fin 256) (j : Fin 16) (k : Fin 128) :
    V m c main_v2 (ix3 b l ⟨(j : ℕ) * 128 + k, by omega⟩)
      = m ((c : Thread nD τ).loc main_arg2) (ix2 ⟨(b : ℕ) * 4096 + (l : ℕ) * 16 + j, by omega⟩ k) := by
  show shapeCast S8x256x2048 (m ((c : Thread nD τ).loc main_arg2)) shapeCasts_S32768x128_S8x256x2048 _ = _
  refine shapeCast_apply _ _ _ _ ((rowMajor_val2 _ 128 rfl).trans (Eq.trans ?_ (rowMajor_val3 _ 524288 2048 rfl rfl).symm))
  simp only [ix2_0, ix2_1, ix3_0, ix3_1, ix3_2]
  omega

/-- The norm's gains and the heads' as the region finds them. -/
theorem gains_entry (c : Dev nD) (k : Fin 1024) :
    V m c main_v3 (ix2 0 k) = m ((c : Thread nD τ).loc main_arg3) (ix1 k) := by
  show broadcastInDim S1x1024 ![1] bcast_S1024_S1x1024_1 (m ((c : Thread nD τ).loc main_arg3)) (ix2 0 k) = _
  pointwise

theorem heads_entry (c : Dev nD) (k : Fin 512) :
    V m c main_v16 (ix2 0 k) = m ((c : Thread nD τ).loc main_arg5) (ix1 k) := by
  show broadcastInDim S1x512 ![1] bcast_S512_S1x512_1 (m ((c : Thread nD τ).loc main_arg5)) (ix2 0 k) = _
  pointwise

/-- The block-diagonal matrix as the region finds it. -/
theorem matrix_entry (c : Dev nD) (j l : Fin 256) : V m c main_v15 (ix2 j l) = spread j l := by
  show Cert.ProjIdeal.HeadMatrix.matrix (ix2 j l) = _
  exact Cert.ProjIdeal.HeadMatrix.matrix_at j l

/-- What grid point `t` reads of the arguments. -/
theorem reads (c : Dev nD) (t : Fin cfg0.N) :
    Reads (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (tok t)
      (iblk m c 0 t) (iblk m c 1 t) (iblk m c 2 t) (iblk m c 3 t) (iblk m c 4 t) (iblk m c 5 t) (iblk m c 6 t) where
  rows r k := by
    refine Eq.trans ?_ (rows_entry m c (seq t) ⟨(tile t : ℕ) * 256 + r, by omega⟩ (stream t) k)
    blk_ext [iblk, idx t]
  cos r k := by
    refine Eq.trans ?_ (cos_entry m c (seq t) ⟨(tile t : ℕ) * 256 + r, by omega⟩ (stream t) k)
    blk_ext [iblk, idx t]
  sin r k := by
    refine Eq.trans ?_ (sin_entry m c (seq t) ⟨(tile t : ℕ) * 256 + r, by omega⟩ (stream t) k)
    blk_ext [iblk, idx t]
  gains k := by
    refine Eq.trans ?_ (gains_entry m c k)
    blk_ext [iblk, idx t]
  weights k n := by blk_point [iblk, V, idx t]
  matrix j l := by
    refine Eq.trans ?_ (matrix_entry m c j l)
    blk_ext [iblk, idx t]
  heads k := by
    refine Eq.trans ?_ (heads_entry m c k)
    blk_ext [iblk, idx t]

/-- The body is the other group's. -/
theorem out7_same (x0 : Vec Ideal S1x256x1024 .f32) (x1 x2 : Vec Ideal S1x256x128 .f32) (x3 : Vec Ideal S1x1024 .f32)
    (x4 : Vec Ideal S1024x768 .bf16) (x5 : Vec Ideal S256x256 .bf16) (x6 : Vec Ideal S1x512 .f32) :
    out0_7 (F := Ideal) x0 x1 x2 x3 x4 x5 x6 = Cert.Phase4Ideal.Gen.out0_7 (F := Ideal) x0 x1 x2 x3 x4 x5 x6 := rfl

section
open Cert.Phase16RefIdeal.Read
open Cert.Phase4RefIdeal.RefValue (Rows Angles Gains Weights HeadGains)

/-- The reference's packed rows are the other group's. -/
theorem packed_same (x : Rows) (c s : Angles) (g : Gains) (w : Weights) (h : HeadGains) :
    val_main_v44 (F := Ideal) x c s g w h = Cert.Phase4RefIdeal.Read.val_main_v44 (F := Ideal) x c s g w h := rfl

/-- Token `l * 16 + j` of a sequence is row `l` of stream `j`. -/
theorem phase_at (x : Rows) (c s : Angles) (g : Gains) (w : Weights) (h : HeadGains) (b : Fin 8) (j : Fin 16) (l : Fin 256)
    (f : Fin 768) :
    val_main_v46 (F := Ideal) x c s g w h (ix4 b j l f)
      = Cert.Phase4RefIdeal.Read.val_main_v44 (F := Ideal) x c s g w h (ix2 ⟨(b : ℕ) * 4096 + (l : ℕ) * 16 + j, by omega⟩ f) := by
  rw [← packed_same]
  pointwise [val_main_v46, val_main_v45]
end

/-- What grid point `t` leaves in the result's block. -/
theorem point (c : Dev nD) (t : Fin cfg0.N) (y : S1x1x256x768.Idx) :
    out0_7 (iblk m c 0 t) (iblk m c 1 t) (iblk m c 2 t) (iblk m c 3 t) (iblk m c 4 t) (iblk m c 5 t) (iblk m c 6 t) y
      = Cert.Phase16RefIdeal.Read.val_main_v46 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 7).blk t).view.emb y) := by
  have hy : (y 2 : ℕ) < 256 := (y 2).isLt
  generalize hw : ((cfg0.win 7).blk t).view.emb y = w
  have e0 : (w 0 : ℕ) = seq t := by subst hw; blk_simp [idx t]
  have e1 : (w 1 : ℕ) = stream t := by subst hw; blk_simp [idx t]
  have e2 : (w 2 : ℕ) = tile t * 256 + y 2 := by subst hw; blk_simp [idx t]
  have e3 : (w 3 : ℕ) = y 3 := by subst hw; blk_simp [idx t]
  have hw' : w = ix4 (seq t) (stream t) ⟨(tile t : ℕ) * 256 + y 2, by omega⟩ (y 3) := by blk_ext
  rw [hw']
  exact (congrFun (out7_same _ _ _ _ _ _ _) y).trans <| ((reads m c t).block y).trans (phase_at _ _ _ _ _ _ (seq t) (stream t) ⟨(tile t : ℕ) * 256 + y 2, by omega⟩ (y 3)).symm

/-- The result array after the run. -/
theorem final (c : Dev nD) :
    (dats m 0 c).arrAt 7 (cfgs 0).N
      = Cert.Phase16RefIdeal.Read.val_main_v46 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  exact point m c t y

end Cert.Phase16Ideal.Result
-- ==== Proof.Dil16Value.lean ====
/- The result arrays of the dilated attention kernel at dilation 16 are the reference's. -/
module

public import proofs.«01_k».proof.Proof.Gen.Dil16Ideal.Value
public import Idealize.ShloMosaic.Lib.Pipeline.ValueKit
public import proofs.«01_k».proof.Proof.Dil16Ref

@[expose] public section

set_option maxRecDepth 16384
noncomputable section
namespace Cert.Dil16Ideal.Result
open Cert.Dil16Ideal Cert.Dil16Ideal.Gen Idealize.ShloMosaic Idealize.ShloMosaic.TcCoe Idealize.SL.Sem
open Cert.Dil4Ideal.Block
open Cert.Dil16RefIdeal.RefValue (Arr stream bits bits_eq out_stream lse_stream)

variable (m : (ℓ : Loc nD τ sig) → Buf (Elt Ideal) ℓ)

/-- The grid point's batch, stream and block. -/
def batch (t : Fin cfg0.N) : Fin 8 := grid0.coords t 0
def strand (t : Fin cfg0.N) : Fin 16 := grid0.coords t 1
def block (t : Fin cfg0.N) : Fin 2 := grid0.coords t 2

/-- Where the windows of grid point `t` lie. -/
theorem idx : ∀ t : Fin cfg0.N,
    win0_0.index t = ![(batch t : ℕ), (strand t : ℕ), (block t : ℕ), 0] ∧
    win0_1.index t = ![(batch t : ℕ), (strand t : ℕ), (block t : ℕ) - 1, 1] ∧
    win0_2.index t = ![(batch t : ℕ), (strand t : ℕ), (block t : ℕ), 1] ∧
    win0_3.index t = ![(batch t : ℕ), (strand t : ℕ), (block t : ℕ) - 1, 2] ∧
    win0_4.index t = ![(batch t : ℕ), (strand t : ℕ), (block t : ℕ), 2] ∧
    win0_5.index t = ![(batch t : ℕ), (block t : ℕ), (strand t : ℕ)] ∧
    win0_6.index t = ![(batch t : ℕ), (block t : ℕ), (strand t : ℕ)] :=
  (by decide +kernel : ∀ t : Fin grid0.N, _)

/-- The two pairs of heads are computed as the group of dilation 4 computes its first. -/
theorem first_out (M : IVec S256x256 1) (q a b v w : Pair) :
    k0_pay12 (F := Ideal) k0_pay3 M (k0_pay5 q) (k0_pay6 a b) (k0_pay7 v) w
      = Cert.Dil4Ideal.Gen.k0_pay12 Cert.Dil4Ideal.Gen.k0_pay3 M (Cert.Dil4Ideal.Gen.k0_pay5 q)
          (Cert.Dil4Ideal.Gen.k0_pay6 a b) (Cert.Dil4Ideal.Gen.k0_pay7 v) w := rfl
theorem second_out (M : IVec S256x256 1) (q a b v w : Pair) :
    k0_pay1 (F := Ideal) (k0_pay21 k0_pay3 M (k0_pay14 q) k0_pay15 a b v w)
      = Cert.Dil4Ideal.Gen.k0_pay12 Cert.Dil4Ideal.Gen.k0_pay3 M (Cert.Dil4Ideal.Gen.k0_pay5 q)
          (Cert.Dil4Ideal.Gen.k0_pay6 a b) (Cert.Dil4Ideal.Gen.k0_pay7 v) w := rfl
theorem first_lse (M : IVec S256x256 1) (q a b : Pair) :
    k0_pay13 (F := Ideal) k0_pay3 M (k0_pay5 q) (k0_pay6 a b)
      = Cert.Dil4Ideal.Gen.k0_pay13 Cert.Dil4Ideal.Gen.k0_pay3 M (Cert.Dil4Ideal.Gen.k0_pay5 q)
          (Cert.Dil4Ideal.Gen.k0_pay6 a b) := rfl
theorem second_lse (M : IVec S256x256 1) (q a b : Pair) :
    k0_pay2 (F := Ideal) k0_pay3 (k0_pay20 k0_pay3 M (k0_pay14 q) k0_pay15 a b)
      = Cert.Dil4Ideal.Gen.k0_pay13 Cert.Dil4Ideal.Gen.k0_pay3 M (Cert.Dil4Ideal.Gen.k0_pay5 q)
          (Cert.Dil4Ideal.Gen.k0_pay6 a b) := rfl

/-- The mask bit at a stacked row. -/
theorem mask_at (t : Fin cfg0.N) : BlockMask (block t) (k0_pay4 (grid0.coords t)) := by
  intro h r j
  have hi : (block t : ℕ) < 2 := (block t).isLt
  have hb := Band.kernel_bit (block t) (row h r) j (by omega) (row h r).isLt j.isLt
  have hm : (row h r : ℕ) % 128 = r := by simp only [row]; omega
  rw [hm] at hb
  unfold block at hb ⊢
  pointwise [k0_pay4]
  exact hb

section
variable {X : Arr} {t : Fin cfg0.N} {p : Fin 2} {q ka kb va vb : Pair}

/-- The first result's piece for pair `p` at its index `x` is the reference at `x`'s place in the array. -/
theorem piece_out (hR : Reads (stream X (batch t) (strand t) p) (block t) (by omega) q ka kb va vb) (hx : (stream X (batch t) (strand t) p).Finite)
    (x : S1x128x128.Idx) (w : S8x256x4096.Idx) (h0 : (w 0 : ℕ) = batch t) (h1 : (w 1 : ℕ) = block t * 128 + x 1)
    (h2 : (w 2 : ℕ) = strand t * 256 + p * 128 + x 2) :
    Cert.Dil4Ideal.Gen.k0_pay12 Cert.Dil4Ideal.Gen.k0_pay3 (k0_pay4 (grid0.coords t)) (Cert.Dil4Ideal.Gen.k0_pay5 q) (Cert.Dil4Ideal.Gen.k0_pay6 ka kb) (Cert.Dil4Ideal.Gen.k0_pay7 va) vb x
      = Cert.Dil16RefIdeal.Read.val_main_v38 (F := Ideal) X w := by
  obtain ⟨r, h, e, rfl, e1, e2⟩ := lane_split x
  have hw : w = ix3 (batch t) (w 1) (w 2) := by blk_ext
  rw [hw]
  exact (hR.out hx (by omega) (mask_at t) bits_eq h r e (w 1) h1).trans
    (out_stream X (batch t) (strand t) p h e _ _ (by rw [h2, e2]; omega)).symm

/-- The second result's piece for pair `p` at its index `x` is the reference at `x`'s place in the array. -/
theorem piece_lse (hR : Reads (stream X (batch t) (strand t) p) (block t) (by omega) q ka kb va vb) (hx : (stream X (batch t) (strand t) p).Finite)
    (x : S1x128x128.Idx) (w : S8x256x4096.Idx) (h0 : (w 0 : ℕ) = batch t) (h1 : (w 1 : ℕ) = block t * 128 + x 1)
    (h2 : (w 2 : ℕ) = strand t * 256 + p * 128 + x 2) :
    Cert.Dil4Ideal.Gen.k0_pay13 Cert.Dil4Ideal.Gen.k0_pay3 (k0_pay4 (grid0.coords t)) (Cert.Dil4Ideal.Gen.k0_pay5 q) (Cert.Dil4Ideal.Gen.k0_pay6 ka kb) x
      = Cert.Dil16RefIdeal.Read.val_main_v40 (F := Ideal) X w := by
  obtain ⟨r, h, e, rfl, e1, e2⟩ := lane_split x
  have hw : w = ix3 (batch t) (w 1) (w 2) := by blk_ext
  rw [hw]
  exact (hR.lse hx (by omega) (mask_at t) bits_eq h r e (w 1) h1).trans
    (lse_stream X (batch t) (strand t) p h e _ _ (by rw [h2, e2]; omega)).symm

end

section
variable (c : Dev nD) (hx : ∀ b s p, (stream (m ((c : Thread nD τ).loc main_arg0)) b s p).Finite)
include hx

/-- What grid point `t` leaves in the first result's block. -/
theorem point5 (t : Fin cfg0.N) (y : S1x128x256.Idx) :
    out0_5 (grid0.coords t) (iblk m c 0 t) (iblk m c 1 t) (iblk m c 2 t) (iblk m c 3 t) (iblk m c 4 t) y
      = Cert.Dil16RefIdeal.Read.val_main_v38 (F := Ideal) (m ((c : Thread nD τ).loc main_arg0))
          (((cfg0.win 5).blk t).view.emb y) := by
  canon_tiles x h
  · refine (congrFun (second_out _ _ _ _ _ _) x).trans (piece_out (p := 1) ⟨?_, ?_, ?_, ?_, ?_⟩ (hx _ _ _) x _ ?_ ?_ ?_)
    iterate 5 exact fun r l => by blk_point [iblk, V, idx t, stream]
    all_goals (blk_simp [idx t] <;> simp only [Fin.val_zero, Fin.val_one] <;> omega)
  · refine (congrFun (first_out _ _ _ _ _ _) x).trans (piece_out (p := 0) ⟨?_, ?_, ?_, ?_, ?_⟩ (hx _ _ _) x _ ?_ ?_ ?_)
    iterate 5 exact fun r l => by blk_point [iblk, V, idx t, stream]
    all_goals (blk_simp [idx t] <;> simp only [Fin.val_zero, Fin.val_one] <;> omega)

/-- What grid point `t` leaves in the second result's block. -/
theorem point6 (t : Fin cfg0.N) (y : S1x128x256.Idx) :
    out0_6 (grid0.coords t) (iblk m c 0 t) (iblk m c 1 t) (iblk m c 2 t) (iblk m c 3 t) (iblk m c 4 t) y
      = Cert.Dil16RefIdeal.Read.val_main_v40 (F := Ideal) (m ((c : Thread nD τ).loc main_arg0))
          (((cfg0.win 6).blk t).view.emb y) := by
  canon_tiles x h
  · refine (congrFun (second_lse _ _ _ _) x).trans (piece_lse (p := 1)
      (va := View.ld (iblk m c 3 t) r0_2) (vb := View.ld (iblk m c 4 t) r0_2) ⟨?_, ?_, ?_, ?_, ?_⟩ (hx _ _ _) x _ ?_ ?_ ?_)
    iterate 5 exact fun r l => by blk_point [iblk, V, idx t, stream]
    all_goals (blk_simp [idx t] <;> simp only [Fin.val_zero, Fin.val_one] <;> omega)
  · refine (congrFun (first_lse _ _ _ _) x).trans (piece_lse (p := 0)
      (va := View.ld (iblk m c 3 t) r0_0) (vb := View.ld (iblk m c 4 t) r0_0) ⟨?_, ?_, ?_, ?_, ?_⟩ (hx _ _ _) x _ ?_ ?_ ?_)
    iterate 5 exact fun r l => by blk_point [iblk, V, idx t, stream]
    all_goals (blk_simp [idx t] <;> simp only [Fin.val_zero, Fin.val_one] <;> omega)

/-- The first result array after the run. -/
theorem final5 :
    (dats m 0 c).arrAt 5 (cfgs 0).N = Cert.Dil16RefIdeal.Read.val_main_v38 (F := Ideal) (m ((c : Thread nD τ).loc main_arg0)) := by
  refine (dats m 0 c).arrAt_eq_of_covers 5 _ (by decide +kernel) fun t _ y => ?_
  blk_simp
  rw [after0_5]
  exact point5 m c hx t y

/-- The second result array after the run. -/
theorem final6 :
    (dats m 0 c).arrAt 6 (cfgs 0).N = Cert.Dil16RefIdeal.Read.val_main_v40 (F := Ideal) (m ((c : Thread nD τ).loc main_arg0)) := by
  refine (dats m 0 c).arrAt_eq_of_covers 6 _ (by decide +kernel) fun t _ y => ?_
  blk_simp
  rw [after0_6]
  exact point6 m c hx t y

end
end Cert.Dil16Ideal.Result
-- ==== Proof.Dil1Value.lean ====
/- The result arrays of the dilated attention kernel at dilation 1 are the reference's. -/
module

public import proofs.«01_k».proof.Proof.Gen.Dil1Ideal.Value
public import Idealize.ShloMosaic.Lib.Pipeline.ValueKit
public import proofs.«01_k».proof.Proof.Dil1Ref

@[expose] public section

set_option maxRecDepth 16384
noncomputable section
namespace Cert.Dil1Ideal.Result
open Cert.Dil1Ideal Cert.Dil1Ideal.Gen Idealize.ShloMosaic Idealize.ShloMosaic.TcCoe Idealize.SL.Sem
open Cert.Dil4Ideal.Block
open Cert.Dil1RefIdeal.RefValue (Keys Values stream bits bits_eq out_stream lse_stream)

variable (m : (ℓ : Loc nD τ sig) → Buf (Elt Ideal) ℓ)

/-- The grid point's batch and block. -/
def batch (t : Fin cfg0.N) : Fin 8 := grid0.coords t 0
def block (t : Fin cfg0.N) : Fin 32 := grid0.coords t 2

/-- Where the windows of grid point `t` lie. -/
theorem idx : ∀ t : Fin cfg0.N,
    win0_0.index t = ![(batch t : ℕ), 0, (block t : ℕ), 4] ∧
    win0_1.index t = ![(batch t : ℕ), 0, (block t : ℕ) - 1, 5] ∧
    win0_2.index t = ![(batch t : ℕ), 0, (block t : ℕ), 5] ∧
    win0_3.index t = ![(batch t : ℕ), 0, (block t : ℕ) - 1, 0] ∧
    win0_4.index t = ![(batch t : ℕ), 0, (block t : ℕ), 0] ∧
    win0_5.index t = ![(batch t : ℕ), (block t : ℕ), 0] ∧
    win0_6.index t = ![(batch t : ℕ), (block t : ℕ), 0] :=
  (by decide +kernel : ∀ t : Fin grid0.N, _)

/-- The two pairs of heads are computed as the group of dilation 4 computes its first. -/
theorem first_out (M : IVec S256x256 1) (q a b v w : Pair) :
    k0_pay12 (F := Ideal) k0_pay3 M (k0_pay5 q) (k0_pay6 a b) (k0_pay7 v) w
      = Cert.Dil4Ideal.Gen.k0_pay12 Cert.Dil4Ideal.Gen.k0_pay3 M (Cert.Dil4Ideal.Gen.k0_pay5 q)
          (Cert.Dil4Ideal.Gen.k0_pay6 a b) (Cert.Dil4Ideal.Gen.k0_pay7 v) w := rfl
theorem second_out (M : IVec S256x256 1) (q a b v w : Pair) :
    k0_pay1 (F := Ideal) (k0_pay21 k0_pay3 M (k0_pay14 q) k0_pay15 a b v w)
      = Cert.Dil4Ideal.Gen.k0_pay12 Cert.Dil4Ideal.Gen.k0_pay3 M (Cert.Dil4Ideal.Gen.k0_pay5 q)
          (Cert.Dil4Ideal.Gen.k0_pay6 a b) (Cert.Dil4Ideal.Gen.k0_pay7 v) w := rfl
theorem first_lse (M : IVec S256x256 1) (q a b : Pair) :
    k0_pay13 (F := Ideal) k0_pay3 M (k0_pay5 q) (k0_pay6 a b)
      = Cert.Dil4Ideal.Gen.k0_pay13 Cert.Dil4Ideal.Gen.k0_pay3 M (Cert.Dil4Ideal.Gen.k0_pay5 q)
          (Cert.Dil4Ideal.Gen.k0_pay6 a b) := rfl
theorem second_lse (M : IVec S256x256 1) (q a b : Pair) :
    k0_pay2 (F := Ideal) k0_pay3 (k0_pay20 k0_pay3 M (k0_pay14 q) k0_pay15 a b)
      = Cert.Dil4Ideal.Gen.k0_pay13 Cert.Dil4Ideal.Gen.k0_pay3 M (Cert.Dil4Ideal.Gen.k0_pay5 q)
          (Cert.Dil4Ideal.Gen.k0_pay6 a b) := rfl

/-- The mask bit at a stacked row. -/
theorem mask_at (t : Fin cfg0.N) : BlockMask (block t) (k0_pay4 (grid0.coords t)) := by
  intro h r j
  have hi : (block t : ℕ) < 32 := (block t).isLt
  have hb := Band.kernel_bit (block t) (row h r) j (by omega) (row h r).isLt j.isLt
  have hm : (row h r : ℕ) % 128 = r := by simp only [row]; omega
  rw [hm] at hb
  unfold block at hb ⊢
  pointwise [k0_pay4]
  exact hb

section
variable {X : Keys} {Y : Values} {t : Fin cfg0.N} {p : Fin 2} {q ka kb va vb : Pair}

/-- The first result's piece for pair `p` at its index `x` is the reference at `x`'s place in the array. -/
theorem piece_out (hR : Reads (stream X Y (batch t) p) (block t) (by omega) q ka kb va vb) (hx : (stream X Y (batch t) p).Finite)
    (x : S1x128x128.Idx) (w : S8x4096x256.Idx) (h0 : (w 0 : ℕ) = batch t) (h1 : (w 1 : ℕ) = block t * 128 + x 1)
    (h2 : (w 2 : ℕ) = p * 128 + x 2) :
    Cert.Dil4Ideal.Gen.k0_pay12 Cert.Dil4Ideal.Gen.k0_pay3 (k0_pay4 (grid0.coords t)) (Cert.Dil4Ideal.Gen.k0_pay5 q) (Cert.Dil4Ideal.Gen.k0_pay6 ka kb) (Cert.Dil4Ideal.Gen.k0_pay7 va) vb x
      = Cert.Dil1RefIdeal.Read.val_main_v38 (F := Ideal) X Y w := by
  obtain ⟨r, h, e, rfl, e1, e2⟩ := lane_split x
  have hw : w = ix3 (batch t) (w 1) (w 2) := by blk_ext
  rw [hw]
  exact (hR.out hx (by omega) (mask_at t) bits_eq h r e (w 1) h1).trans
    (out_stream X Y (batch t) p h e _ _ (by rw [h2, e2]; omega)).symm

/-- The second result's piece for pair `p` at its index `x` is the reference at `x`'s place in the array. -/
theorem piece_lse (hR : Reads (stream X Y (batch t) p) (block t) (by omega) q ka kb va vb) (hx : (stream X Y (batch t) p).Finite)
    (x : S1x128x128.Idx) (w : S8x4096x256.Idx) (h0 : (w 0 : ℕ) = batch t) (h1 : (w 1 : ℕ) = block t * 128 + x 1)
    (h2 : (w 2 : ℕ) = p * 128 + x 2) :
    Cert.Dil4Ideal.Gen.k0_pay13 Cert.Dil4Ideal.Gen.k0_pay3 (k0_pay4 (grid0.coords t)) (Cert.Dil4Ideal.Gen.k0_pay5 q) (Cert.Dil4Ideal.Gen.k0_pay6 ka kb) x
      = Cert.Dil1RefIdeal.Read.val_main_v40 (F := Ideal) X w := by
  obtain ⟨r, h, e, rfl, e1, e2⟩ := lane_split x
  have hw : w = ix3 (batch t) (w 1) (w 2) := by blk_ext
  rw [hw]
  exact (hR.lse hx (by omega) (mask_at t) bits_eq h r e (w 1) h1).trans
    (lse_stream X Y (batch t) p h e _ _ (by rw [h2, e2]; omega)).symm

end

section
variable (c : Dev nD) (hx : ∀ b p, (stream (m ((c : Thread nD τ).loc main_arg0)) (m ((c : Thread nD τ).loc main_arg1)) b p).Finite)
include hx

/-- What grid point `t` leaves in the first result's block. -/
theorem point5 (t : Fin cfg0.N) (y : S1x128x256.Idx) :
    out0_5 (grid0.coords t) (iblk m c 0 t) (iblk m c 1 t) (iblk m c 2 t) (iblk m c 3 t) (iblk m c 4 t) y
      = Cert.Dil1RefIdeal.Read.val_main_v38 (F := Ideal) (m ((c : Thread nD τ).loc main_arg0)) (m ((c : Thread nD τ).loc main_arg1))
          (((cfg0.win 5).blk t).view.emb y) := by
  canon_tiles x h
  · refine (congrFun (second_out _ _ _ _ _ _) x).trans (piece_out (p := 1) ⟨?_, ?_, ?_, ?_, ?_⟩ (hx _ _) x _ ?_ ?_ ?_)
    iterate 5 exact fun r l => by blk_point [iblk, V, idx t, stream]
    all_goals (blk_simp [idx t] <;> simp only [Fin.val_zero, Fin.val_one] <;> omega)
  · refine (congrFun (first_out _ _ _ _ _ _) x).trans (piece_out (p := 0) ⟨?_, ?_, ?_, ?_, ?_⟩ (hx _ _) x _ ?_ ?_ ?_)
    iterate 5 exact fun r l => by blk_point [iblk, V, idx t, stream]
    all_goals (blk_simp [idx t] <;> simp only [Fin.val_zero, Fin.val_one] <;> omega)

/-- What grid point `t` leaves in the second result's block. -/
theorem point6 (t : Fin cfg0.N) (y : S1x128x256.Idx) :
    out0_6 (grid0.coords t) (iblk m c 0 t) (iblk m c 1 t) (iblk m c 2 t) (iblk m c 3 t) (iblk m c 4 t) y
      = Cert.Dil1RefIdeal.Read.val_main_v40 (F := Ideal) (m ((c : Thread nD τ).loc main_arg0))
          (((cfg0.win 6).blk t).view.emb y) := by
  canon_tiles x h
  · refine (congrFun (second_lse _ _ _ _) x).trans (piece_lse (p := 1)
      (va := View.ld (iblk m c 3 t) r0_2) (vb := View.ld (iblk m c 4 t) r0_2) ⟨?_, ?_, ?_, ?_, ?_⟩ (hx _ _) x _ ?_ ?_ ?_)
    iterate 5 exact fun r l => by blk_point [iblk, V, idx t, stream]
    all_goals (blk_simp [idx t] <;> simp only [Fin.val_zero, Fin.val_one] <;> omega)
  · refine (congrFun (first_lse _ _ _ _) x).trans (piece_lse (p := 0)
      (va := View.ld (iblk m c 3 t) r0_0) (vb := View.ld (iblk m c 4 t) r0_0) ⟨?_, ?_, ?_, ?_, ?_⟩ (hx _ _) x _ ?_ ?_ ?_)
    iterate 5 exact fun r l => by blk_point [iblk, V, idx t, stream]
    all_goals (blk_simp [idx t] <;> simp only [Fin.val_zero, Fin.val_one] <;> omega)

/-- The first result array after the run. -/
theorem final5 :
    (dats m 0 c).arrAt 5 (cfgs 0).N = Cert.Dil1RefIdeal.Read.val_main_v38 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  exact point5 m c hx t y

/-- The second result array after the run. -/
theorem final6 :
    (dats m 0 c).arrAt 6 (cfgs 0).N = Cert.Dil1RefIdeal.Read.val_main_v40 (F := Ideal) (m ((c : Thread nD τ).loc main_arg0)) := by
  refine (dats m 0 c).arrAt_eq_of_covers 6 _ (by decide +kernel) fun t _ y => ?_
  blk_simp
  rw [after0_6]
  exact point6 m c hx t y

end
end Cert.Dil1Ideal.Result
-- ==== Proof.RopeValue.lean ====
/- The rotation's tables: what the reference holds at an entry, and what the kernel's blocks leave there. -/
module

public import Idealize.ShloMosaic.Lib.Claim
public import proofs.«01_k».proof.Proof.Gen.RopeRefIdeal.Read
public import proofs.«01_k».proof.Proof.Gen.RopeIdeal.Frame
public import Idealize.ShloMosaic.Lib.Pipeline.ValueKit
public import proofs.«01_k».proof.Proof.Lanes

@[expose] public section

set_option maxRecDepth 16384
noncomputable section
namespace Cert.RopeRefIdeal.RefValue
open Cert.RopeRefIdeal Cert.RopeRefIdeal.Gen Cert.RopeRefIdeal.Read Idealize.ShloMosaic Idealize.ShloMosaic.TcCoe Idealize.SL.Sem

/-- The positions. -/
abbrev Positions := (⟨S8x4096, .i32⟩ : BufTy).Contents (Elt Ideal)

/-- The frequency of lane `e` of half a head. -/
def freq (e : ℕ) : EReal :=
  Ideal.pow (Ideal.ofBits FTy.f32 0x461C4000#32)
    (Ideal.div (-FloatOps.sitofp (F := Ideal) FTy.f32 (BitVec.ofNat 32 e)) (Ideal.ofBits FTy.f32 0x42000000#32))

/-- A token's position as a number. -/
def place (x : Positions) (q : Fin 32768) : EReal :=
  FloatOps.sitofp (F := Ideal) FTy.f32 (x (ix2 ⟨(q : ℕ) / 4096, by omega⟩ ⟨(q : ℕ) % 4096, by omega⟩))

/-- The sine at lane `l`, minus it in a head's first half. -/
def signed (y : EReal) (l : ℕ) : EReal := if l % 64 < 32 then -y else y

theorem angle_at (x : Positions) (q : Fin 32768) (e : Fin 32) :
    val_main_v11 (F := Ideal) x (ix2 q e) = place x q * freq e := by
  unfold place freq
  pointwise [val_main_v11, val_main_v10, val_main_v9, val_main_v8, val_main_v7, val_main_v6, val_main_v5, val_main_v4,
    val_main_v3, val_main_v2, val_main_v1, val_main_v0, val_main_cst, val_main_cst_0]

/-- The two tables. -/
theorem cos_at (x : Positions) (q : Fin 32768) (l : Fin 128) :
    val_main_v14 (F := Ideal) x (ix2 q l) = Ideal.cos (place x q * freq ((l : ℕ) % 32)) := by
  pointwise [val_main_v14, val_main_v12]
  simp only [angle_at]
  split
  · exact congrArg (fun n => Ideal.cos (place x q * freq n)) (by omega)
  split
  · exact congrArg (fun n => Ideal.cos (place x q * freq n)) (by omega)
  split
  · exact congrArg (fun n => Ideal.cos (place x q * freq n)) (by omega)
  · exact congrArg (fun n => Ideal.cos (place x q * freq n)) (by omega)

theorem sin_at (x : Positions) (q : Fin 32768) (l : Fin 128) :
    val_main_v17 (F := Ideal) x (ix2 q l) = signed (Ideal.sin (place x q * freq ((l : ℕ) % 32))) l := by
  pointwise [val_main_v17, val_main_v15, val_main_v16, val_main_v13]
  simp only [angle_at]
  unfold signed
  split
  · rw [if_pos (by omega)]
    exact congrArg (fun n => -Ideal.sin (place x q * freq n)) (by omega)
  split
  · rw [if_neg (by omega)]
    exact congrArg (fun n => Ideal.sin (place x q * freq n)) (by omega)
  split
  · rw [if_pos (by omega)]
    exact congrArg (fun n => -Ideal.sin (place x q * freq n)) (by omega)
  · rw [if_neg (by omega)]
    exact congrArg (fun n => Ideal.sin (place x q * freq n)) (by omega)

end Cert.RopeRefIdeal.RefValue

namespace Cert.RopeIdeal.Block
open Cert.RopeIdeal Cert.RopeIdeal.Gen Idealize.ShloMosaic Idealize.ShloMosaic.TcCoe Idealize.SL.Sem

/-- What a block computes from what it loads. -/
theorem pay2_at (p : Vec Ideal S2048x1 .i32) (f : Vec Ideal S1x128 .f32) (r : Fin 2048) (l : Fin 128) :
    k0_pay2 (F := Ideal) p f (ix2 r l)
      = Ideal.cos (FloatOps.sitofp (F := Ideal) FTy.f32 (p (ix2 r 0)) * f (ix2 0 l)) := by
  unfold k0_pay2 k0_pay1
  pointwise

theorem pay3_at (p : Vec Ideal S2048x1 .i32) (f s : Vec Ideal S1x128 .f32) (r : Fin 2048) (l : Fin 128) :
    k0_pay3 (F := Ideal) p f s (ix2 r l)
      = Ideal.sin (FloatOps.sitofp (F := Ideal) FTy.f32 (p (ix2 r 0)) * f (ix2 0 l)) * s (ix2 0 l) := by
  unfold k0_pay3 k0_pay1
  pointwise

/-- The whole-block loads. -/
theorem ld_pos (x : Vec Ideal S2048x1 .i32) : View.ld x r0_0 = x := by
  funext j
  exact View.ld_unit_apply_of _ _ _ _ _ _ (fun a => by
    match a with
    | ⟨0, _⟩ => exact (Nat.zero_add _).symm
    | ⟨1, _⟩ => exact (Nat.zero_add _).symm)

theorem ld_row (x : Vec Ideal S1x128 .f32) : View.ld x r0_1 = x := by
  funext j
  exact View.ld_unit_apply_of _ _ _ _ _ _ (fun a => by
    match a with
    | ⟨0, _⟩ => exact (Nat.zero_add _).symm
    | ⟨1, _⟩ => exact (Nat.zero_add _).symm)

end Cert.RopeIdeal.Block

namespace Cert.RopeIdeal.Result
open Cert.RopeIdeal Cert.RopeIdeal.Gen Idealize.ShloMosaic Idealize.ShloMosaic.TcCoe Idealize.SL.Sem
open Cert.RopeIdeal.Block
open Cert.RopeRefIdeal.RefValue (freq place signed cos_at sin_at)

variable (m : (ℓ : Loc nD τ sig) → Buf (Elt Ideal) ℓ)

/-- The grid point's block. -/
def block (t : Fin cfg0.N) : Fin 16 := grid0.coords t 0

/-- Where the windows of grid point `t` lie. -/
theorem idx : ∀ t : Fin cfg0.N,
    win0_0.index t = ![(block t : ℕ), 0] ∧ win0_1.index t = ![0, 0] ∧ win0_2.index t = ![0, 0] ∧
    win0_3.index t = ![(block t : ℕ), 0] ∧ win0_4.index t = ![(block t : ℕ), 0] :=
  (by decide +kernel : ∀ t : Fin grid0.N, _)

/-- The frequencies as the region finds them. -/
theorem freq_entry (c : Dev nD) (l : Fin 128) : V m c main_v9 (ix2 0 l) = freq ((l : ℕ) % 32) := by
  show (broadcastInDim S1x128 ![1] bcast_S128_S1x128_1 (shapeCast S128 (broadcastInDim S4x32 ![0, 1] bcast_S1x32_S4x32_0_1
    (shapeCast S1x32 (Host.powf (broadcastInDim S32 ![] bcast_S_S32 (constant (F := Ideal) S_ .f32 0x461C4000#32))
      (Host.divf (Host.negf (sitofp .f32 (iotaInDim S32 32 0)))
        (broadcastInDim S32 ![] bcast_S_S32 (constant (F := Ideal) S_ .f32 0x42000000#32))))
      shapeCasts_S32_S1x32)) shapeCasts_S4x32_S128)) (ix2 0 l) = _
  unfold freq
  pointwise

/-- The signs' words. -/
theorem sign_word : ∀ l : Fin 128, lit0 l = if (l : ℕ) % 64 < 32 then 0xBF800000#32 else 0x3F800000#32 := by
  decide +kernel

theorem minus_one : Ideal.ofBits FTy.f32 0xBF800000#32 = -1 := by
  simp [Ideal.ofBits, Ideal.ieee, -EReal.coe_mul]; norm_num

theorem plus_one : Ideal.ofBits FTy.f32 0x3F800000#32 = 1 := by
  simp [Ideal.ofBits, Ideal.ieee, -EReal.coe_mul]; norm_num

/-- The signs as the region finds them. -/
theorem sign_entry (c : Dev nD) (l : Fin 128) (y : EReal) : y * V m c main_v10 (ix2 0 l) = signed y l := by
  have h : V m c main_v10 (ix2 0 l) = Ideal.ofBits FTy.f32 (lit0 l) := by
    show broadcastInDim S1x128 ![1] bcast_S128_S1x128_1
      (fun i => FloatOps.ofBits (F := Ideal) .f32 (lit0 (S128.rowMajor i))) (ix2 0 l) = _
    pointwise
    exact congrArg (fun z => Ideal.ofBits FTy.f32 (lit0 z)) (Fin.ext (rowMajor_val1 _))
  rw [h, sign_word]
  unfold signed
  by_cases hl : (l : ℕ) % 64 < 32
  · rw [if_pos hl, if_pos hl, minus_one, mul_neg, mul_one]
  · rw [if_neg hl, if_neg hl, plus_one, mul_one]

/-- The positions as the region finds them. -/
theorem pos_entry (c : Dev nD) (q : Fin 32768) :
    V m c main_v11 (ix2 q 0)
      = m ((c : Thread nD τ).loc main_arg0) (ix2 ⟨(q : ℕ) / 4096, by omega⟩ ⟨(q : ℕ) % 4096, by omega⟩) := by
  show shapeCast S32768x1 (m ((c : Thread nD τ).loc main_arg0)) shapeCasts_S8x4096_S32768x1 _ = _
  refine shapeCast_apply _ _ _ _ ((rowMajor_val2 _ 4096 rfl).trans (Eq.trans ?_ (rowMajor_val2 _ 1 rfl).symm))
  show (q : ℕ) / 4096 * 4096 + (q : ℕ) % 4096 = (q : ℕ) * 1 + 0
  omega

/-- What grid point `t` reads. -/
theorem pos_at (c : Dev nD) (t : Fin cfg0.N) (r : Fin 2048) (q : Fin 32768) (hq : (q : ℕ) = block t * 2048 + r) :
    FloatOps.sitofp (F := Ideal) FTy.f32 (iblk m c 0 t (ix2 r 0)) = place (m ((c : Thread nD τ).loc main_arg0)) q := by
  unfold place
  rw [← pos_entry m c q]
  refine congrArg (FloatOps.sitofp (F := Ideal) FTy.f32) ?_
  blk_ext [iblk, idx t]

theorem freq_at (c : Dev nD) (t : Fin cfg0.N) (l : Fin 128) : iblk m c 1 t (ix2 0 l) = freq ((l : ℕ) % 32) := by
  refine Eq.trans ?_ (freq_entry m c l)
  blk_ext [iblk, idx t]

theorem sign_at (c : Dev nD) (t : Fin cfg0.N) (l : Fin 128) (y : EReal) : y * iblk m c 2 t (ix2 0 l) = signed y l := by
  refine Eq.trans (congrArg (y * ·) ?_) (sign_entry m c l y)
  blk_ext [iblk, idx t]

/-- What grid point `t` leaves in the cosines' block. -/
theorem point3 (c : Dev nD) (t : Fin cfg0.N) (y : S2048x128.Idx) :
    out0_3 (iblk m c 0 t) (iblk m c 1 t) (iblk m c 2 t) y
      = Cert.RopeRefIdeal.Read.val_main_v14 (F := Ideal) (m ((c : Thread nD τ).loc main_arg0))
          (((cfg0.win 3).blk t).view.emb y) := by
  unfold out0_3
  generalize hw : ((cfg0.win 3).blk t).view.emb y = w
  have e0 : (w 0 : ℕ) = block t * 2048 + y 0 := by subst hw; blk_simp [idx t]
  have e1 : (w 1 : ℕ) = y 1 := by subst hw; blk_simp [idx t]
  canon_tiles x h
  have hx : x = ix2 (x 0) (x 1) := by blk_ext
  have hw' : w = ix2 (w 0) (x 1) := by blk_ext
  rw [hw', hx]
  refine ((pay2_at _ _ (x 0) (x 1)).trans ?_).trans (cos_at _ (w 0) (x 1)).symm
  rw [ld_pos, ld_row]
  exact congrArg Ideal.cos (congrArg₂ (· * ·) (pos_at m c t (x 0) (w 0) (by rw [e0, h0])) (freq_at m c t (x 1)))

/-- The cosines' array after the run. -/
theorem final3 (c : Dev nD) :
    (dats m 0 c).arrAt 3 (cfgs 0).N
      = Cert.RopeRefIdeal.Read.val_main_v14 (F := Ideal) (m ((c : Thread nD τ).loc main_arg0)) := by
  refine (dats m 0 c).arrAt_eq_of_covers 3 _ (by decide +kernel) fun t _ y => ?_
  blk_simp
  rw [after0_3]
  exact point3 m c t y

/-- What grid point `t` leaves in the sines' block. -/
theorem point4 (c : Dev nD) (t : Fin cfg0.N) (y : S2048x128.Idx) :
    out0_4 (iblk m c 0 t) (iblk m c 1 t) (iblk m c 2 t) y
      = Cert.RopeRefIdeal.Read.val_main_v17 (F := Ideal) (m ((c : Thread nD τ).loc main_arg0))
          (((cfg0.win 4).blk t).view.emb y) := by
  unfold out0_4
  generalize hw : ((cfg0.win 4).blk t).view.emb y = w
  have e0 : (w 0 : ℕ) = block t * 2048 + y 0 := by subst hw; blk_simp [idx t]
  have e1 : (w 1 : ℕ) = y 1 := by subst hw; blk_simp [idx t]
  canon_tiles x h
  have hx : x = ix2 (x 0) (x 1) := by blk_ext
  have hw' : w = ix2 (w 0) (x 1) := by blk_ext
  rw [hw', hx]
  refine ((pay3_at _ _ _ (x 0) (x 1)).trans ?_).trans (sin_at _ (w 0) (x 1)).symm
  rw [ld_pos, ld_row, ld_row]
  refine (sign_at m c t (x 1) _).trans (congrArg (fun y => signed (Ideal.sin y) (x 1)) ?_)
  exact congrArg₂ (· * ·) (pos_at m c t (x 0) (w 0) (by rw [e0, h0])) (freq_at m c t (x 1))

/-- The sines' array after the run. -/
theorem final4 (c : Dev nD) :
    (dats m 0 c).arrAt 4 (cfgs 0).N
      = Cert.RopeRefIdeal.Read.val_main_v17 (F := Ideal) (m ((c : Thread nD τ).loc main_arg0)) := by
  refine (dats m 0 c).arrAt_eq_of_covers 4 _ (by decide +kernel) fun t _ y => ?_
  blk_simp
  rw [after0_4]
  exact point4 m c t y

end Cert.RopeIdeal.Result
-- ==== Proof.CmpRef.lean ====
/- What the reference of the compression computes, read at an index. -/
module

public import proofs.«01_k».proof.Proof.Gen.CmpRefIdeal.Read
public import Idealize.ShloMosaic.Lib.Pipeline.ValueKit
public import proofs.«01_k».proof.Proof.Lanes

@[expose] public section

set_option maxRecDepth 16384
noncomputable section
namespace Cert.CmpRefIdeal.RefValue
open Cert.CmpRefIdeal Cert.CmpRefIdeal.Gen Cert.CmpRefIdeal.Read Idealize.ShloMosaic Idealize.ShloMosaic.TcCoe Idealize.SL.Sem
open Cert.Lanes

/-- The tokens' keys and values, the rotation's tables, the two halves' weights, the second layer's weights, the two halves'
    position rows and the norm's gains. -/
abbrev Tokens := (⟨S8x4096x256, .bf16⟩ : BufTy).Contents (Elt Ideal)
abbrev Angles := (⟨S8x4096x128, .f32⟩ : BufTy).Contents (Elt Ideal)
abbrev First := (⟨S4096x256, .bf16⟩ : BufTy).Contents (Elt Ideal)
abbrev Second := (⟨S256x512, .bf16⟩ : BufTy).Contents (Elt Ideal)
abbrev Places := (⟨S1x4096, .f32⟩ : BufTy).Contents (Elt Ideal)
abbrev Gains := (⟨S64, .f32⟩ : BufTy).Contents (Elt Ideal)

/-- The stride after stride `n`, the last one's being the first. -/
def next (n : Fin 256) : Fin 256 := ⟨((n : ℕ) + 1) % 256, by omega⟩

/-- Number `d` of the 16 tokens of stride `n`. -/
def tokens (x : Tokens) (b : Fin 8) (n : Fin 256) (d : Fin 4096) : EReal :=
  x (ix3 b ⟨(n : ℕ) * 16 + (d : ℕ) / 256, by omega⟩ ⟨(d : ℕ) % 256, by omega⟩)

/-- The first layer before its gate: both halves of block `n`. -/
def pre (x : Tokens) (wa wb : First) (pa pb : Places) (b : Fin 8) (n e : Fin 256) : EReal :=
  (∑ d : Fin 4096, (tokens x b n d + pa (ix2 0 d)) * wa (ix2 d e))
    + ∑ d : Fin 4096, (tokens x b (next n) d + pb (ix2 0 d)) * wb (ix2 d e)

/-- The second layer. -/
def out (x : Tokens) (wa wb : First) (w : Second) (pa pb : Places) (b : Fin 8) (n : Fin 256) (l : Fin 512) : EReal :=
  ∑ e : Fin 256, pre x wa wb pa pb b n e * Ideal.logistic (pre x wa wb pa pb b n e) * w (ix2 e l)

/-- A table's lanes at a block's last token. -/
def lastLane (c : Angles) (b : Fin 8) (n : Fin 256) (e : Fin 128) : EReal := c (ix3 b ⟨(next n : ℕ) * 16 + 15, by omega⟩ e)

theorem strides_at (x : Tokens) (b : Fin 8) (n : Fin 256) (d : Fin 4096) :
    val_main_v1 (F := Ideal) x (ix3 b n d) = tokens x b n d := by
  unfold tokens
  pointwise [val_main_v1, val_main_v0]

theorem following_at (x : Tokens) (b : Fin 8) (n : Fin 256) (d : Fin 4096) :
    val_main_v9 (F := Ideal) x (ix3 b n d) = tokens x b (next n) d := by
  pointwise [val_main_v9, val_main_v8, val_main_v7]
  simp only [strides_at]
  unfold next
  split <;> exact congrArg (fun i => tokens x b i d) (Fin.ext (by simp only; omega))

theorem pre_at (x : Tokens) (wa wb : First) (pa pb : Places) (b : Fin 8) (n e : Fin 256) :
    val_main_v15 (F := Ideal) x wa wb pa pb (ix3 b n e) = pre x wa wb pa pb b n e := by
  have h1 := strides_at x b n
  have h2 := following_at x b n
  unfold pre
  simp only [← h1, ← h2]
  pointwise [val_main_v15, val_main_v14, val_main_v13, val_main_v12, val_main_v11, val_main_v10, val_main_v6, val_main_v5,
    val_main_v4, val_main_v3, val_main_v2]

theorem out_at (x : Tokens) (wa wb : First) (w : Second) (pa pb : Places) (b : Fin 8) (n : Fin 256) (l : Fin 512) :
    val_main_v24 (F := Ideal) x wa wb w pa pb (ix3 b n l) = out x wa wb w pa pb b n l := by
  have h1 := pre_at x wa wb pa pb b n
  unfold out
  simp only [← h1]
  pointwise [val_main_v24, val_main_v23, val_main_v22, val_main_v21, val_main_v20, val_main_v19, val_main_v18, val_main_v17,
    val_main_v16, val_main_cst, val_main_cst_0]
  rfl

theorem cos_at (c : Angles) (b : Fin 8) (n : Fin 256) (e : Fin 128) :
    val_main_v32 (F := Ideal) c (ix3 b n e) = lastLane c b n e := by
  unfold lastLane
  pointwise [val_main_v32, val_main_v31, val_main_v30, val_main_v29, val_main_v28, val_main_v27]
  unfold next
  split <;> exact congrArg (fun i => c (ix3 b i e)) (Fin.ext (by simp only; omega))

theorem sin_at (c : Angles) (b : Fin 8) (n : Fin 256) (e : Fin 128) :
    val_main_v38 (F := Ideal) c (ix3 b n e) = lastLane c b n e := cos_at c b n e

theorem gain_at (g : Gains) (p o : Fin 2) (e : Fin 64) :
    val_main_v40 (F := Ideal) g (ix3 p o e) = g (ix1 e) := by
  pointwise [val_main_v40, val_main_v25]
  split
  · exact congrArg (fun i => g (ix1 i)) (Fin.ext (by simp only; omega))
  split
  · exact congrArg (fun i => g (ix1 i)) (Fin.ext (by simp only; omega))
  split
  · exact congrArg (fun i => g (ix1 i)) (Fin.ext (by simp only; omega))
  · exact congrArg (fun i => g (ix1 i)) (Fin.ext (by simp only; omega))

theorem unit_at (x : Tokens) (wa wb : First) (w : Second) (pa pb : Places) (g : Gains) (b : Fin 8) (n : Fin 256)
    (p o : Fin 2) (e : Fin 64) :
    val_main_v53 (F := Ideal) x wa wb w pa pb g (ix5 b n p o e)
      = scaled (fun i : Fin 64 => out x wa wb w pa pb b n ⟨(p : ℕ) * 128 + (o : ℕ) * 64 + i, by omega⟩)
          (Ideal.ofBits FTy.f32 0x42800000#32) (g (ix1 e)) e := by
  unfold scaled
  simp only [← out_at]
  rw [← gain_at g p o e]
  pointwise [val_main_v53, val_main_v52, val_main_v51, val_main_v50, val_main_v49, val_main_v48, val_main_v47,
    val_main_v46, val_main_v45, val_main_v44, val_main_v43, val_main_v42, val_main_v41, val_main_v39, val_main_v26,
    val_main_cst_1, val_main_cst_2, val_main_cst_3]

theorem k_at (x : Tokens) (c s : Angles) (wa wb : First) (w : Second) (pa pb : Places) (g : Gains) (b : Fin 8) (n : Fin 256)
    (p o : Fin 2) (e : Fin 64) :
    val_main_v65 (F := Ideal) x c s wa wb w pa pb g (ix3 b n ⟨(p : ℕ) * 128 + (o : ℕ) * 64 + e, by omega⟩)
      = head (fun i => out x wa wb w pa pb b n ⟨(p : ℕ) * 128 + (o : ℕ) * 64 + i, by omega⟩) (fun i => g (ix1 i))
          (fun i => lastLane c b n ⟨(o : ℕ) * 64 + i, by omega⟩) (fun i => lastLane s b n ⟨(o : ℕ) * 64 + i, by omega⟩) e := by
  unfold head
  simp only [← unit_at, ← cos_at]
  rw [cos_at s, ← sin_at s]
  pointwise [val_main_v65, val_main_v64, val_main_v63, val_main_v62, val_main_v61, val_main_v60, val_main_v59, val_main_v58,
    val_main_v57, val_main_v56, val_main_v55, val_main_v54]
  refine congrArg (_ + ·) (congrArg (· * _) ?_)
  by_cases he : (e : ℕ) < 32
  · rw [dif_pos he, other_lo e he]
  · rw [dif_neg he, other_hi e he]

theorem v_at (x : Tokens) (wa wb : First) (w : Second) (pa pb : Places) (b : Fin 8) (n l : Fin 256) :
    val_main_v67 (F := Ideal) x wa wb w pa pb (ix3 b n l) = out x wa wb w pa pb b n ⟨256 + l, by omega⟩ := by
  rw [← out_at]
  pointwise [val_main_v67, val_main_v66]

end Cert.CmpRefIdeal.RefValue
-- ==== Proof.CmpBlock.lean ====
/- What one block of the compression computes from what it loads. -/
module

public import proofs.«01_k».proof.Proof.Gen.CmpIdeal.Frame
public import Idealize.ShloMosaic.Lib.Pipeline.ValueKit
public import proofs.«01_k».proof.Proof.CmpRef

@[expose] public section

set_option maxRecDepth 16384
noncomputable section
namespace Cert.CmpIdeal.Block
open Cert.CmpIdeal Cert.CmpIdeal.Gen Idealize.ShloMosaic Idealize.ShloMosaic.TcCoe Idealize.SL.Sem
open Cert.Lanes
open Cert.CmpRefIdeal.RefValue (next)

/-- Rows turned by one: each row is the one after. -/
theorem after_row (n : Fin 256) (h : ((n : ℕ) + 256 - 255) % 256 < 256) : (⟨((n : ℕ) + 256 - 255) % 256, h⟩ : Fin 256) = next n :=
  Fin.ext (by unfold next; simp only; omega)

/-- The first layer before its gate. -/
def pre (x : Vec Ideal S1x256x4096 .bf16) (pa : Vec Ideal S1x4096 .f32) (wa : Vec Ideal S4096x256 .bf16)
    (pb : Vec Ideal S1x4096 .f32) (wb : Vec Ideal S4096x256 .bf16) (n e : Fin 256) : EReal :=
  (∑ d : Fin 4096, (x (ix3 0 n d) + pa (ix2 0 d)) * wa (ix2 d e))
    + ∑ d : Fin 4096, (x (ix3 0 (next n) d) + pb (ix2 0 d)) * wb (ix2 d e)

/-- Both layers. -/
theorem pay3_at (x : Vec Ideal S1x256x4096 .bf16) (pa : Vec Ideal S1x4096 .f32) (wa : Vec Ideal S4096x256 .bf16)
    (pb : Vec Ideal S1x4096 .f32) (wb : Vec Ideal S4096x256 .bf16) (w : Vec Ideal S256x512 .bf16) (n : Fin 256)
    (l : Fin 512) :
    k0_pay3 (F := Ideal) x pa wa pb wb w (ix2 n l)
      = ∑ e : Fin 256, pre x pa wa pb wb n e * Ideal.logistic (pre x pa wa pb wb n e) * w (ix2 e l) := by
  unfold k0_pay3 pre
  pointwise
  simp only [after_row]

/-- The keys' lanes, the first 256. -/
theorem pay6_at (x : Vec Ideal S1x256x4096 .bf16) (pa : Vec Ideal S1x4096 .f32) (wa : Vec Ideal S4096x256 .bf16)
    (pb : Vec Ideal S1x4096 .f32) (wb : Vec Ideal S4096x256 .bf16) (w : Vec Ideal S256x512 .bf16) (n l : Fin 256) :
    k0_pay6 (F := Ideal) x pa wa pb wb w (ix2 n l) = k0_pay3 (F := Ideal) x pa wa pb wb w (ix2 n ⟨l, by omega⟩) := by
  unfold k0_pay6
  pointwise

/-- The values' lanes, the last 256. -/
theorem pay2_at (z : FVec Ideal S256x512 .f32) (n l : Fin 256) :
    k0_pay2 (F := Ideal) z (ix3 0 n l) = z (ix2 n ⟨256 + l, by omega⟩) := by
  unfold k0_pay2
  pointwise

/-- The tables' rows, each the one after. -/
theorem pay4_at (c : Vec Ideal S1x256x128 .f32) (n : Fin 256) (l : Fin 128) :
    k0_pay4 (F := Ideal) c (ix2 n l) = c (ix3 0 (next n) l) := by
  unfold k0_pay4
  pointwise
  rw [after_row]

theorem pay5_at (c : Vec Ideal S1x256x128 .f32) (n : Fin 256) (l : Fin 128) :
    k0_pay5 (F := Ideal) c (ix2 n l) = c (ix3 0 (next n) l) := pay4_at c n l

/-- The matrix is taken as it is. -/
theorem pay7_at (x : Vec Ideal S256x256 .bf16) (j l : Fin 256) : k0_pay7 (F := Ideal) x (ix2 j l) = x (ix2 j l) := by
  unfold k0_pay7
  pointwise

/-- The heads' lanes after their norm. -/
def unit (y : FVec Ideal S256x256 .f32) (B : FVec Ideal S256x256 .bf16) (g : Vec Ideal S1x256 .f32) (n l : Fin 256) : EReal :=
  y (ix2 n l) * Ideal.rsqrt ((∑ j : Fin 256, y (ix2 n j) * y (ix2 n j) * B (ix2 j l)) + Ideal.ofBits FTy.f32 0x358637BD#32)
    * g (ix2 0 l)

theorem unit_at (y : FVec Ideal S256x256 .f32) (B : FVec Ideal S256x256 .bf16) (g : Vec Ideal S1x256 .f32)
    (hB : ∀ j l, B (ix2 j l) = spread j l) (n : Fin 256) (p : Fin 4) (e : Fin 64) :
    unit y B g n ⟨(p : ℕ) * 64 + e, by omega⟩
      = scaled (fun i : Fin 64 => y (ix2 n ⟨(p : ℕ) * 64 + i, by omega⟩)) (Ideal.ofBits FTy.f32 0x42800000#32)
          (g (ix2 0 ⟨(p : ℕ) * 64 + e, by omega⟩)) e := by
  unfold unit
  simp only [hB]
  rw [head_mean (fun j => y (ix2 n j) * y (ix2 n j))]
  rfl

/-- The heads, normalised against the block-diagonal matrix and rotated. -/
theorem pay1_at (C S : FVec Ideal S256x128 .f32) (y : FVec Ideal S256x256 .f32) (B : FVec Ideal S256x256 .bf16)
    (g : Vec Ideal S1x256 .f32) (hB : ∀ j l, B (ix2 j l) = spread j l) (n : Fin 256) (p : Fin 4) (e : Fin 64) :
    k0_pay1 (F := Ideal) C S y B g (ix3 0 n ⟨(p : ℕ) * 64 + e, by omega⟩)
      = head (fun i => y (ix2 n ⟨(p : ℕ) * 64 + i, by omega⟩)) (fun i => g (ix2 0 ⟨(p : ℕ) * 64 + i, by omega⟩))
          (fun i => C (ix2 n ⟨(p : ℕ) % 2 * 64 + i, by omega⟩)) (fun i => S (ix2 n ⟨(p : ℕ) % 2 * 64 + i, by omega⟩)) e := by
  unfold head
  rw [← unit_at y B g hB, ← unit_at y B g hB]
  refine Eq.trans ?_ (congrArg₂ (· + ·) (congrArg (_ * ·) (twice (fun z => C (ix2 n z)) p e))
    (congrArg₂ (· * ·) (turned (fun z => unit y B g n z) p e) (twice (fun z => S (ix2 n z)) p e)))
  unfold unit k0_pay1
  pointwise

/-- The whole-block loads. -/
theorem ld0 (x : Vec Ideal S1x256x4096 .bf16) : View.ld x r0_0 = x := by
  funext j
  exact View.ld_unit_apply_of _ _ _ _ _ _ (fun i => by
    match i with
    | ⟨0, _⟩ => exact (Nat.zero_add _).symm
    | ⟨1, _⟩ => exact (Nat.zero_add _).symm
    | ⟨2, _⟩ => exact (Nat.zero_add _).symm)

theorem ld1 (x : Vec Ideal S1x4096 .f32) : View.ld x r0_1 = x := by
  funext j
  exact View.ld_unit_apply_of _ _ _ _ _ _ (fun i => by
    match i with
    | ⟨0, _⟩ => exact (Nat.zero_add _).symm
    | ⟨1, _⟩ => exact (Nat.zero_add _).symm)

theorem ld2 (x : Vec Ideal S4096x256 .bf16) : View.ld x r0_2 = x := by
  funext j
  exact View.ld_unit_apply_of _ _ _ _ _ _ (fun i => by
    match i with
    | ⟨0, _⟩ => exact (Nat.zero_add _).symm
    | ⟨1, _⟩ => exact (Nat.zero_add _).symm)

theorem ld3 (x : Vec Ideal S256x512 .bf16) : View.ld x r0_3 = x := by
  funext j
  exact View.ld_unit_apply_of _ _ _ _ _ _ (fun i => by
    match i with
    | ⟨0, _⟩ => exact (Nat.zero_add _).symm
    | ⟨1, _⟩ => exact (Nat.zero_add _).symm)

theorem ld4 (x : Vec Ideal S1x256x128 .f32) : View.ld x r0_4 = x := by
  funext j
  exact View.ld_unit_apply_of _ _ _ _ _ _ (fun i => by
    match i with
    | ⟨0, _⟩ => exact (Nat.zero_add _).symm
    | ⟨1, _⟩ => exact (Nat.zero_add _).symm
    | ⟨2, _⟩ => exact (Nat.zero_add _).symm)

theorem ld5 (x : Vec Ideal S256x256 .bf16) : View.ld x r0_5 = x := by
  funext j
  exact View.ld_unit_apply_of _ _ _ _ _ _ (fun i => by
    match i with
    | ⟨0, _⟩ => exact (Nat.zero_add _).symm
    | ⟨1, _⟩ => exact (Nat.zero_add _).symm)

theorem ld6 (x : Vec Ideal S1x256 .f32) : View.ld x r0_6 = x := by
  funext j
  exact View.ld_unit_apply_of _ _ _ _ _ _ (fun i => by
    match i with
    | ⟨0, _⟩ => exact (Nat.zero_add _).symm
    | ⟨1, _⟩ => exact (Nat.zero_add _).symm)

end Cert.CmpIdeal.Block
-- ==== Proof.CmpValue.lean ====
/- The compression's two result arrays are the reference's. -/
module

public import Idealize.ShloMosaic.Lib.Claim
public import proofs.«01_k».proof.Proof.CmpBlock
public import proofs.«01_k».proof.Proof.HeadMatrix

@[expose] public section

set_option maxRecDepth 16384
noncomputable section
namespace Cert.CmpIdeal.Result
open Cert.CmpIdeal Cert.CmpIdeal.Gen Idealize.ShloMosaic Idealize.ShloMosaic.TcCoe Idealize.SL.Sem
open Cert.CmpIdeal.Block Cert.Lanes
open Cert.CmpRefIdeal.RefValue (Tokens Angles First Second Places Gains next tokens out lastLane k_at v_at)
open Cert.CmpRefIdeal.Read (val_main_v65 val_main_v67)

/-- What the block of sequence `b` reads of the arrays. -/
structure Reads (X : Tokens) (C S : Angles) (Wa Wb : First) (W : Second) (Pa Pb : Places) (G : Gains) (b : Fin 8)
    (x0 : Vec Ideal S1x256x4096 .bf16) (x1 x2 : Vec Ideal S1x4096 .f32) (x3 x4 : Vec Ideal S4096x256 .bf16)
    (x5 : Vec Ideal S256x512 .bf16) (x6 : Vec Ideal S256x256 .bf16) (x7 : Vec Ideal S1x256 .f32)
    (x8 x9 : Vec Ideal S1x256x128 .f32) : Prop where
  rows : ∀ (n : Fin 256) (d : Fin 4096), x0 (ix3 0 n d) = tokens X b n d
  placesA : ∀ d : Fin 4096, x1 (ix2 0 d) = Pa (ix2 0 d)
  placesB : ∀ d : Fin 4096, x2 (ix2 0 d) = Pb (ix2 0 d)
  firstA : ∀ (d : Fin 4096) (e : Fin 256), x3 (ix2 d e) = Wa (ix2 d e)
  firstB : ∀ (d : Fin 4096) (e : Fin 256), x4 (ix2 d e) = Wb (ix2 d e)
  second : ∀ (e : Fin 256) (l : Fin 512), x5 (ix2 e l) = W (ix2 e l)
  matrix : ∀ j l : Fin 256, x6 (ix2 j l) = spread j l
  heads : ∀ (p : Fin 4) (e : Fin 64), x7 (ix2 0 ⟨(p : ℕ) * 64 + e, by omega⟩) = G (ix1 e)
  cos : ∀ (n : Fin 256) (l : Fin 128), x8 (ix3 0 n l) = C (ix3 b ⟨(n : ℕ) * 16 + 15, by omega⟩ l)
  sin : ∀ (n : Fin 256) (l : Fin 128), x9 (ix3 0 n l) = S (ix3 b ⟨(n : ℕ) * 16 + 15, by omega⟩ l)

section
variable {X : Tokens} {C S : Angles} {Wa Wb : First} {W : Second} {Pa Pb : Places} {G : Gains} {b : Fin 8}
  {x0 : Vec Ideal S1x256x4096 .bf16} {x1 x2 : Vec Ideal S1x4096 .f32} {x3 x4 : Vec Ideal S4096x256 .bf16}
  {x5 : Vec Ideal S256x512 .bf16} {x6 : Vec Ideal S256x256 .bf16} {x7 : Vec Ideal S1x256 .f32}
  {x8 x9 : Vec Ideal S1x256x128 .f32}

/-- Both layers of the block are the reference's. -/
theorem Reads.both (hR : Reads X C S Wa Wb W Pa Pb G b x0 x1 x2 x3 x4 x5 x6 x7 x8 x9) (n : Fin 256) (l : Fin 512) :
    k0_pay3 (F := Ideal) (View.ld x0 r0_0) (View.ld x1 r0_1) (View.ld x3 r0_2) (View.ld x2 r0_1) (View.ld x4 r0_2)
        (View.ld x5 r0_3) (ix2 n l)
      = out X Wa Wb W Pa Pb b n l := by
  rw [pay3_at, ld0, ld1, ld1, ld2, ld2, ld3]
  unfold out pre Cert.CmpRefIdeal.RefValue.pre
  simp only [hR.rows, hR.placesA, hR.placesB, hR.firstA, hR.firstB, hR.second]

/-- Lane `e` of head `p` of the block's keys is the reference's. -/
theorem Reads.lane (hR : Reads X C S Wa Wb W Pa Pb G b x0 x1 x2 x3 x4 x5 x6 x7 x8 x9) (n : Fin 256) (p : Fin 4) (e : Fin 64)
    (l : Fin 256) (hl : (l : ℕ) = p * 64 + e) :
    k0_pay1 (F := Ideal) (k0_pay4 (View.ld x8 r0_4)) (k0_pay5 (View.ld x9 r0_4))
        (k0_pay6 (View.ld x0 r0_0) (View.ld x1 r0_1) (View.ld x3 r0_2) (View.ld x2 r0_1) (View.ld x4 r0_2) (View.ld x5 r0_3))
        (k0_pay7 (View.ld x6 r0_5)) (View.ld x7 r0_6) (ix3 0 n l)
      = val_main_v65 (F := Ideal) X C S Wa Wb W Pa Pb G (ix3 b n l) := by
  have h1 : l = ⟨(p : ℕ) * 64 + e, by omega⟩ := Fin.ext hl
  have h2 : l = ⟨((⟨(p : ℕ) / 2, by omega⟩ : Fin 2) : ℕ) * 128 + ((⟨(p : ℕ) % 2, by omega⟩ : Fin 2) : ℕ) * 64 + e,
      by simp only; omega⟩ := Fin.ext (by simp only; omega)
  refine Eq.trans ?_ (Eq.trans (k_at X C S Wa Wb W Pa Pb G b n ⟨(p : ℕ) / 2, by omega⟩ ⟨(p : ℕ) % 2, by omega⟩ e).symm
    (congrArg (fun z => val_main_v65 (F := Ideal) X C S Wa Wb W Pa Pb G (ix3 b n z)) h2.symm))
  refine (congrArg (fun z => k0_pay1 (F := Ideal) _ _ _ _ _ (ix3 0 n z)) h1).trans ?_
  rw [pay1_at _ _ _ _ _ (fun j l => by rw [pay7_at, ld5, hR.matrix])]
  have g1 : ∀ i : Fin 64, k0_pay6 (F := Ideal) (View.ld x0 r0_0) (View.ld x1 r0_1) (View.ld x3 r0_2) (View.ld x2 r0_1)
      (View.ld x4 r0_2) (View.ld x5 r0_3) (ix2 n ⟨(p : ℕ) * 64 + i, by omega⟩)
        = out X Wa Wb W Pa Pb b n ⟨(p : ℕ) / 2 * 128 + (p : ℕ) % 2 * 64 + i, by omega⟩ := fun i => by
    rw [pay6_at, hR.both]
    exact congrArg (out X Wa Wb W Pa Pb b n) (Fin.ext (by simp only; omega))
  have g2 : ∀ i : Fin 64, View.ld x7 r0_6 (ix2 0 ⟨(p : ℕ) * 64 + i, by omega⟩) = G (ix1 i) := fun i => by
    rw [ld6, hR.heads]
  have g3 : ∀ l : Fin 128, k0_pay4 (F := Ideal) (View.ld x8 r0_4) (ix2 n l) = lastLane C b n l := fun l => by
    rw [pay4_at, ld4, hR.cos]
    rfl
  have g4 : ∀ l : Fin 128, k0_pay5 (F := Ideal) (View.ld x9 r0_4) (ix2 n l) = lastLane S b n l := fun l => by
    rw [pay5_at, ld4, hR.sin]
    rfl
  exact congrFun (congr (congr (congr (congrArg head (funext g1)) (funext g2)) (funext fun i => g3 _))
    (funext fun i => g4 _)) e

/-- The block's keys and values are the reference's. -/
theorem Reads.keys (hR : Reads X C S Wa Wb W Pa Pb G b x0 x1 x2 x3 x4 x5 x6 x7 x8 x9) (n l : Fin 256) :
    k0_pay1 (F := Ideal) (k0_pay4 (View.ld x8 r0_4)) (k0_pay5 (View.ld x9 r0_4))
        (k0_pay6 (View.ld x0 r0_0) (View.ld x1 r0_1) (View.ld x3 r0_2) (View.ld x2 r0_1) (View.ld x4 r0_2) (View.ld x5 r0_3))
        (k0_pay7 (View.ld x6 r0_5)) (View.ld x7 r0_6) (ix3 0 n l)
      = val_main_v65 (F := Ideal) X C S Wa Wb W Pa Pb G (ix3 b n l) :=
  hR.lane n ⟨(l : ℕ) / 64, by omega⟩ ⟨(l : ℕ) % 64, by omega⟩ l (by simp only; omega)

theorem Reads.values (hR : Reads X C S Wa Wb W Pa Pb G b x0 x1 x2 x3 x4 x5 x6 x7 x8 x9) (n l : Fin 256) :
    k0_pay2 (F := Ideal) (k0_pay3 (View.ld x0 r0_0) (View.ld x1 r0_1) (View.ld x3 r0_2) (View.ld x2 r0_1) (View.ld x4 r0_2)
        (View.ld x5 r0_3)) (ix3 0 n l)
      = val_main_v67 (F := Ideal) X Wa Wb W Pa Pb (ix3 b n l) := by
  rw [pay2_at, hR.both, v_at]
end

variable (m : (ℓ : Loc nD τ sig) → Buf (Elt Ideal) ℓ)

/-- The grid point's sequence. -/
def seq (t : Fin cfg0.N) : Fin 8 := grid0.coords t 0

/-- Where the windows of grid point `t` lie. -/
theorem idx : ∀ t : Fin cfg0.N,
    win0_0.index t = ![(seq t : ℕ), 0, 0] ∧
    win0_1.index t = ![0, 0] ∧
    win0_2.index t = ![0, 0] ∧
    win0_3.index t = ![0, 0] ∧
    win0_4.index t = ![0, 0] ∧
    win0_5.index t = ![0, 0] ∧
    win0_6.index t = ![0, 0] ∧
    win0_7.index t = ![0, 0] ∧
    win0_8.index t = ![(seq t : ℕ), 0, 15] ∧
    win0_9.index t = ![(seq t : ℕ), 0, 15] ∧
    win0_10.index t = ![(seq t : ℕ), 0, 0] ∧
    win0_11.index t = ![(seq t : ℕ), 0, 0] :=
  (by decide +kernel : ∀ t : Fin grid0.N, _)

/-- The tokens as the region finds them: 16 to a row. -/
theorem rows_entry (c : Dev nD) (b : Fin 8) (n : Fin 256) (d : Fin 4096) :
    V m c main_v0 (ix3 b n d) = tokens (m ((c : Thread nD τ).loc main_arg0)) b n d := by
  show shapeCast S8x256x4096 (m ((c : Thread nD τ).loc main_arg0)) shapeCasts_S8x4096x256_S8x256x4096 _ = _
  refine shapeCast_apply _ _ _ _ ((rowMajor_val3 _ 1048576 256 rfl rfl).trans
    (Eq.trans ?_ (rowMajor_val3 _ 1048576 4096 rfl rfl).symm))
  simp only [ix3_0, ix3_1, ix3_2]
  omega

/-- The tables as the region finds them, at the last token of a row. -/
theorem cos_entry (c : Dev nD) (b : Fin 8) (n : Fin 256) (l : Fin 128) :
    V m c main_v1 (ix3 b n ⟨1920 + l, by omega⟩)
      = m ((c : Thread nD τ).loc main_arg1) (ix3 b ⟨(n : ℕ) * 16 + 15, by omega⟩ l) := by
  show shapeCast S8x256x2048 (m ((c : Thread nD τ).loc main_arg1)) shapeCasts_S8x4096x128_S8x256x2048 _ = _
  refine shapeCast_apply _ _ _ _ ((rowMajor_val3 _ 524288 128 rfl rfl).trans
    (Eq.trans ?_ (rowMajor_val3 _ 524288 2048 rfl rfl).symm))
  simp only [ix3_0, ix3_1, ix3_2]
  omega

theorem sin_entry (c : Dev nD) (b : Fin 8) (n : Fin 256) (l : Fin 128) :
    V m c main_v2 (ix3 b n ⟨1920 + l, by omega⟩)
      = m ((c : Thread nD τ).loc main_arg2) (ix3 b ⟨(n : ℕ) * 16 + 15, by omega⟩ l) := by
  show shapeCast S8x256x2048 (m ((c : Thread nD τ).loc main_arg2)) shapeCasts_S8x4096x128_S8x256x2048 _ = _
  refine shapeCast_apply _ _ _ _ ((rowMajor_val3 _ 524288 128 rfl rfl).trans
    (Eq.trans ?_ (rowMajor_val3 _ 524288 2048 rfl rfl).symm))
  simp only [ix3_0, ix3_1, ix3_2]
  omega

/-- The heads' gains as the region finds them. -/
theorem heads_entry (c : Dev nD) (p : Fin 4) (e : Fin 64) :
    V m c main_v8 (ix2 0 ⟨(p : ℕ) * 64 + e, by omega⟩) = m ((c : Thread nD τ).loc main_arg8) (ix1 e) := by
  show broadcastInDim S1x256 ![1] bcast_S256_S1x256_1 (shapeCast S256 (broadcastInDim S4x64 ![0, 1] bcast_S1x64_S4x64_0_1
    (shapeCast S1x64 (mulf (m ((c : Thread nD τ).loc main_arg8) : (⟨S64, .f32⟩ : BufTy).Contents (Elt Ideal))
      (broadcastInDim S64 ![] bcast_S_S64 (constant (F := Ideal) S_ .f32 0x3F800000#32)))
      shapeCasts_S64_S1x64)) shapeCasts_S4x64_S256) _ = _
  pointwise

/-- The block-diagonal matrix as the region finds it. -/
theorem matrix_entry (c : Dev nD) (j l : Fin 256) : V m c main_v20 (ix2 j l) = spread j l := by
  show Cert.ProjIdeal.HeadMatrix.matrix (ix2 j l) = _
  exact Cert.ProjIdeal.HeadMatrix.matrix_at j l

/-- What grid point `t` reads of the arguments. -/
theorem reads (c : Dev nD) (t : Fin cfg0.N) :
    Reads (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (seq t)
      (iblk m c 0 t) (iblk m c 1 t) (iblk m c 2 t) (iblk m c 3 t) (iblk m c 4 t) (iblk m c 5 t) (iblk m c 6 t)
      (iblk m c 7 t) (iblk m c 8 t) (iblk m c 9 t) where
  rows n d := by
    refine Eq.trans ?_ (rows_entry m c (seq t) n d)
    blk_ext [iblk, idx t]
  placesA d := by blk_point [iblk, V, idx t]
  placesB d := by blk_point [iblk, V, idx t]
  firstA d e := by blk_point [iblk, V, idx t]
  firstB d e := by blk_point [iblk, V, idx t]
  second e l := by blk_point [iblk, V, idx t]
  matrix j l := by
    refine Eq.trans ?_ (matrix_entry m c j l)
    blk_ext [iblk, idx t]
  heads p e := by
    refine Eq.trans ?_ (heads_entry m c p e)
    blk_ext [iblk, idx t]
  cos n l := by
    refine Eq.trans ?_ (cos_entry m c (seq t) n l)
    blk_ext [iblk, idx t]
  sin n l := by
    refine Eq.trans ?_ (sin_entry m c (seq t) n l)
    blk_ext [iblk, idx t]

/-- What grid point `t` leaves in the keys' block. -/
theorem point10 (c : Dev nD) (t : Fin cfg0.N) (y : S1x256x256.Idx) :
    out0_10 (iblk m c 0 t) (iblk m c 1 t) (iblk m c 2 t) (iblk m c 3 t) (iblk m c 4 t) (iblk m c 5 t) (iblk m c 6 t)
        (iblk m c 7 t) (iblk m c 8 t) (iblk m c 9 t) y
      = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (((cfg0.win 10).blk t).view.emb y) := by
  unfold out0_10
  generalize hw : ((cfg0.win 10).blk t).view.emb y = w
  have e0 : (w 0 : ℕ) = seq t := by subst hw; blk_simp [idx t]
  have e1 : (w 1 : ℕ) = y 1 := by subst hw; blk_simp [idx t]
  have e2 : (w 2 : ℕ) = y 2 := by subst hw; blk_simp [idx t]
  canon_tiles x h
  have hx : x = ix3 0 (x 1) (x 2) := by blk_ext
  have hw' : w = ix3 (seq t) (x 1) (x 2) := by blk_ext
  rw [hw', hx]
  exact (reads m c t).keys (x 1) (x 2)

/-- The keys' array after the run. -/
theorem final10 (c : Dev nD) :
    (dats m 0 c).arrAt 10 (cfgs 0).N
      = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  exact point10 m c t y

/-- What grid point `t` leaves in the values' block. -/
theorem point11 (c : Dev nD) (t : Fin cfg0.N) (y : S1x256x256.Idx) :
    out0_11 (iblk m c 0 t) (iblk m c 1 t) (iblk m c 2 t) (iblk m c 3 t) (iblk m c 4 t) (iblk m c 5 t) (iblk m c 6 t)
        (iblk m c 7 t) (iblk m c 8 t) (iblk m c 9 t) y
      = val_main_v67 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))
          (((cfg0.win 11).blk t).view.emb y) := by
  unfold out0_11
  generalize hw : ((cfg0.win 11).blk t).view.emb y = w
  have e0 : (w 0 : ℕ) = seq t := by subst hw; blk_simp [idx t]
  have e1 : (w 1 : ℕ) = y 1 := by subst hw; blk_simp [idx t]
  have e2 : (w 2 : ℕ) = y 2 := by subst hw; blk_simp [idx t]
  canon_tiles x h
  have hx : x = ix3 0 (x 1) (x 2) := by blk_ext
  have hw' : w = ix3 (seq t) (x 1) (x 2) := by blk_ext
  rw [hw', hx]
  exact (reads m c t).values (x 1) (x 2)

/-- The values' array after the run. -/
theorem final11 (c : Dev nD) :
    (dats m 0 c).arrAt 11 (cfgs 0).N
      = val_main_v67 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]
  exact point11 m c t y

end Cert.CmpIdeal.Result
-- ==== Proof.ConvRun.lean ====
/- The convolution module's run: one trip of its loop over a sequence's tiles, the loop, and the launch. -/
module

public import proofs.«01_k».proof.Proof.Gen.ConvIdeal
public import proofs.«01_k».proof.Proof.Gen.ConvIdeal.Frame
public import proofs.«01_k».proof.Proof.Gen.ConvIdeal.Skeleton
public import proofs.«01_k».proof.Proof.Gen.ConvIdeal.Launch
public import proofs.«01_k».proof.Proof.Gen.ConvIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ConvIdeal.Run

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch rows of trip `k`: the 32 rows before the tile (zero before the sequence's first), then the tile's 512,
    gated. -/
def scratch (x0 : Vec F S1x4096x512 .f32) (k : Fin k0_t1_loop.trips) : Vec F S544x256 .f32 :=
  View.canon [⟨Rect.unit ![0, 0] S32x256.size inb_S544x256_S32x256_0_0,
      k0_pay3 0#32 1#32 k (View.ld x0 (Rect.unit (s := S1x4096x512) (k0_off2 k) S1x32x512.size (k0_off2_inb k)))⟩,
    ⟨Rect.unit ![32, 0] S512x256.size inb_S544x256_S512x256_32_0,
      k0_pay2 (View.ld x0 (Rect.unit (s := S1x4096x512) (k0_off1 k) S1x512x512.size (k0_off1_inb k)))⟩]

/-- The 512 scratch rows from row `n`. -/
def window (x0 : Vec F S1x4096x512 .f32) (k : Fin k0_t1_loop.trips) (n : ℕ)
    (h : ∀ a, (![n, 0] : Fin 2 → ℕ) a + S512x256.size a ≤ S544x256.size a) : Vec F S512x256 .f32 :=
  View.ld (scratch x0 k) (Rect.unit (s := S544x256) ![n, 0] S512x256.size h)

/-- Tap `n`'s row of weights. -/
def row (x1 : Vec F S32x256 .f32) (n : ℕ)
    (h : ∀ a, (![n, 0] : Fin 2 → ℕ) a + S1x256.size a ≤ S32x256.size a) : Vec F S1x256 .f32 :=
  View.ld x1 (Rect.unit (s := S32x256) ![n, 0] S1x256.size h)

/-- A row held whole. -/
def line (x : Vec F S1x256 .f32) : Vec F S1x256 .f32 :=
  View.ld x (Rect.unit (s := S1x256) ![0, 0] S1x256.size inb_S1x256_S1x256_0_0)

/-- The taps up to 5 of trip `k`. -/
def taps5 (x0 : Vec F S1x4096x512 .f32) (x1 : Vec F S32x256 .f32) (x2 : Vec F S1x256 .f32) (k : Fin k0_t1_loop.trips) : FVec F S512x256 .f32 :=
  k0_pay6 (k0_pay4 (line x2)) (window x0 k 2 inb_S544x256_S512x256_2_0) (k0_pay5 (row x1 0 inb_S32x256_S1x256_0_0))
    (row x1 1 inb_S32x256_S1x256_1_0) (window x0 k 3 inb_S544x256_S512x256_3_0) (row x1 2 inb_S32x256_S1x256_2_0) (window x0 k 4 inb_S544x256_S512x256_4_0) (row x1 3 inb_S32x256_S1x256_3_0) (window x0 k 5 inb_S544x256_S512x256_5_0) (row x1 4 inb_S32x256_S1x256_4_0) (window x0 k 6 inb_S544x256_S512x256_6_0) (row x1 5 inb_S32x256_S1x256_5_0) (window x0 k 7 inb_S544x256_S512x256_7_0)

/-- The taps up to 11 of trip `k`. -/
def taps11 (x0 : Vec F S1x4096x512 .f32) (x1 : Vec F S32x256 .f32) (x2 : Vec F S1x256 .f32) (k : Fin k0_t1_loop.trips) : FVec F S512x256 .f32 :=
  k0_pay8 (taps5 x0 x1 x2 k) (window x0 k 8 inb_S544x256_S512x256_8_0) (k0_pay7 (row x1 6 inb_S32x256_S1x256_6_0))
    (row x1 7 inb_S32x256_S1x256_7_0) (window x0 k 9 inb_S544x256_S512x256_9_0) (row x1 8 inb_S32x256_S1x256_8_0) (window x0 k 10 inb_S544x256_S512x256_10_0) (row x1 9 inb_S32x256_S1x256_9_0) (window x0 k 11 inb_S544x256_S512x256_11_0) (row x1 10 inb_S32x256_S1x256_10_0) (window x0 k 12 inb_S544x256_S512x256_12_0) (row x1 11 inb_S32x256_S1x256_11_0) (window x0 k 13 inb_S544x256_S512x256_13_0)

/-- The taps up to 17 of trip `k`. -/
def taps17 (x0 : Vec F S1x4096x512 .f32) (x1 : Vec F S32x256 .f32) (x2 : Vec F S1x256 .f32) (k : Fin k0_t1_loop.trips) : FVec F S512x256 .f32 :=
  k0_pay10 (taps11 x0 x1 x2 k) (window x0 k 14 inb_S544x256_S512x256_14_0) (k0_pay9 (row x1 12 inb_S32x256_S1x256_12_0))
    (row x1 13 inb_S32x256_S1x256_13_0) (window x0 k 15 inb_S544x256_S512x256_15_0) (row x1 14 inb_S32x256_S1x256_14_0) (window x0 k 16 inb_S544x256_S512x256_16_0) (row x1 15 inb_S32x256_S1x256_15_0) (window x0 k 17 inb_S544x256_S512x256_17_0) (row x1 16 inb_S32x256_S1x256_16_0) (window x0 k 18 inb_S544x256_S512x256_18_0) (row x1 17 inb_S32x256_S1x256_17_0) (window x0 k 19 inb_S544x256_S512x256_19_0)

/-- The taps up to 23 of trip `k`. -/
def taps23 (x0 : Vec F S1x4096x512 .f32) (x1 : Vec F S32x256 .f32) (x2 : Vec F S1x256 .f32) (k : Fin k0_t1_loop.trips) : FVec F S512x256 .f32 :=
  k0_pay12 (taps17 x0 x1 x2 k) (window x0 k 20 inb_S544x256_S512x256_20_0) (k0_pay11 (row x1 18 inb_S32x256_S1x256_18_0))
    (row x1 19 inb_S32x256_S1x256_19_0) (window x0 k 21 inb_S544x256_S512x256_21_0) (row x1 20 inb_S32x256_S1x256_20_0) (window x0 k 22 inb_S544x256_S512x256_22_0) (row x1 21 inb_S32x256_S1x256_21_0) (window x0 k 23 inb_S544x256_S512x256_23_0) (row x1 22 inb_S32x256_S1x256_22_0) (window x0 k 24 inb_S544x256_S512x256_24_0) (row x1 23 inb_S32x256_S1x256_23_0) (window x0 k 25 inb_S544x256_S512x256_25_0)

/-- The taps up to 29 of trip `k`. -/
def taps29 (x0 : Vec F S1x4096x512 .f32) (x1 : Vec F S32x256 .f32) (x2 : Vec F S1x256 .f32) (k : Fin k0_t1_loop.trips) : FVec F S512x256 .f32 :=
  k0_pay14 (taps23 x0 x1 x2 k) (window x0 k 26 inb_S544x256_S512x256_26_0) (k0_pay13 (row x1 24 inb_S32x256_S1x256_24_0))
    (row x1 25 inb_S32x256_S1x256_25_0) (window x0 k 27 inb_S544x256_S512x256_27_0) (row x1 26 inb_S32x256_S1x256_26_0) (window x0 k 28 inb_S544x256_S512x256_28_0) (row x1 27 inb_S32x256_S1x256_27_0) (window x0 k 29 inb_S544x256_S512x256_29_0) (row x1 28 inb_S32x256_S1x256_28_0) (window x0 k 30 inb_S544x256_S512x256_30_0) (row x1 29 inb_S32x256_S1x256_29_0) (window x0 k 31 inb_S544x256_S512x256_31_0)

/-- What trip `k` stores. -/
def tile (x0 : Vec F S1x4096x512 .f32) (x1 : Vec F S32x256 .f32) (x2 : Vec F S1x256 .f32) (x3 : Vec F S1x256 .f32) (x4 : Vec F S1x256 .f32) (x5 : Vec F S256x256 .bf16) (x6 : Vec F S1x256 .f32) (k : Fin k0_t1_loop.trips) : FVec F S1x512x256 .bf16 :=
  k0_pay1 (k0_pay16 (taps29 x0 x1 x2 k) (window x0 k 32 inb_S544x256_S512x256_32_0) (k0_pay15 (row x1 30 inb_S32x256_S1x256_30_0)) (line x3) (line x4)
    (View.ld x5 (Rect.unit (s := S256x256) ![0, 0] S256x256.size inb_S256x256_S256x256_0_0)) (line x6))

/-- The pieces the first `n` trips store, the last first. -/
def pieces (x0 : Vec F S1x4096x512 .f32) (x1 : Vec F S32x256 .f32) (x2 : Vec F S1x256 .f32) (x3 : Vec F S1x256 .f32) (x4 : Vec F S1x256 .f32) (x5 : Vec F S256x256 .bf16) (x6 : Vec F S1x256 .f32) : ℕ → List (View.Piece (Elt F) S1x4096x256 .bf16)
  | 0 => []
  | n + 1 => if h : n < k0_t1_loop.trips then
      ⟨Rect.unit (s := S1x4096x256) (k0_off3 ⟨n, h⟩) S1x512x256.size (k0_off3_inb ⟨n, h⟩), tile x0 x1 x2 x3 x4 x5 x6 ⟨n, h⟩⟩ :: pieces x0 x1 x2 x3 x4 x5 x6 n
    else pieces x0 x1 x2 x3 x4 x5 x6 n

theorem pieces_succ (x0 : Vec F S1x4096x512 .f32) (x1 : Vec F S32x256 .f32) (x2 : Vec F S1x256 .f32) (x3 : Vec F S1x256 .f32) (x4 : Vec F S1x256 .f32) (x5 : Vec F S256x256 .bf16) (x6 : Vec F S1x256 .f32) (k : Fin k0_t1_loop.trips) :
    pieces x0 x1 x2 x3 x4 x5 x6 (k.val + 1)
      = ⟨Rect.unit (s := S1x4096x256) (k0_off3 k) S1x512x256.size (k0_off3_inb k), tile x0 x1 x2 x3 x4 x5 x6 k⟩ :: pieces x0 x1 x2 x3 x4 x5 x6 k.val :=
  dif_pos k.isLt

/-- Before trip `n`: the inputs as they were, the tiles before `n` stored, the scratch at anything. -/
def Inv (c : Dev nD) (arg1 : Memref sig .tc .vmem S1x4096x512 .f32) (arg2 : Memref sig .tc .vmem S32x256 .f32) (arg3 : Memref sig .tc .vmem S1x256 .f32) (arg4 : Memref sig .tc .vmem S1x256 .f32) (arg5 : Memref sig .tc .vmem S1x256 .f32) (arg6 : Memref sig .tc .vmem S256x256 .bf16) (arg7 : Memref sig .tc .vmem S1x256 .f32) (arg8 : Memref sig .tc .vmem S1x4096x256 .bf16) (arg9 : Memref sig .tc .vmem S544x256 .f32)
    (f0 : arg1.view.ty.Contents (Elt F)) (f1 : arg2.view.ty.Contents (Elt F)) (f2 : arg3.view.ty.Contents (Elt F)) (f3 : arg4.view.ty.Contents (Elt F)) (f4 : arg5.view.ty.Contents (Elt F)) (f5 : arg6.view.ty.Contents (Elt F)) (f6 : arg7.view.ty.Contents (Elt F)) (f7 : arg8.view.ty.Contents (Elt F)) (n : ℕ) (_ : Unit) : sProp 𝕄 :=
  iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6)
    ∗ (arg8.view.loc (c : Thread nD τ) ↦[arg8.view.set]{fullShare} (arg8.view.writes (Elt F) f7 (pieces (arg1.view.read (Elt F) f0) (arg2.view.read (Elt F) f1) (arg3.view.read (Elt F) f2) (arg4.view.read (Elt F) f3) (arg5.view.read (Elt F) f4) (arg6.view.read (Elt F) f5) (arg7.view.read (Elt F) f6) n))) ∗ (∃ f, (arg9.view.loc (c : Thread nD τ) ↦[arg9.view.set]{fullShare} f)))

set_option maxHeartbeats 1000000 in
/-- One trip stores its tile. -/
theorem trip_sound (c : Dev nD) (E : Set ℕ) (i : grid0.Coords) (arg1 : Memref sig .tc .vmem S1x4096x512 .f32) (harg1 : arg1.IsWhole) (arg2 : Memref sig .tc .vmem S32x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S544x256 .f32) (harg9 : arg9.IsWhole)
    (f0 : arg1.view.ty.Contents (Elt F)) (f1 : arg2.view.ty.Contents (Elt F)) (f2 : arg3.view.ty.Contents (Elt F)) (f3 : arg4.view.ty.Contents (Elt F)) (f4 : arg5.view.ty.Contents (Elt F)) (f5 : arg6.view.ty.Contents (Elt F)) (f6 : arg7.view.ty.Contents (Elt F)) (f7 : arg8.view.ty.Contents (Elt F)) (k : Fin k0_t1_loop.trips) (u : Unit) :
    Inv c arg1 arg2 arg3 arg4 arg5 arg6 arg7 arg8 arg9 f0 f1 f2 f3 f4 f5 f6 f7 k.val u
      ⊢ wp frame (wpE (defs₀ (F := F)) Variants.none c none) E (k0_t1_body i arg1 harg1 arg2 harg2 arg3 harg3 arg4 harg4 arg5 harg5 arg6 harg6 arg7 harg7 arg8 harg8 arg9 harg9 k u)
        (Inv c arg1 arg2 arg3 arg4 arg5 arg6 arg7 arg8 arg9 f0 f1 f2 f3 f4 f5 f6 f7 (k.val + 1)) := by
  unfold k0_t1_body Inv
  simp only [k0_part1_eq_skeleton, k0_part2_eq_skeleton, k0_part3_eq_skeleton, k0_part4_eq_skeleton, k0_part5_eq_skeleton,
    k0_part6_eq_skeleton, k0_part7_eq_skeleton]
  iintro ⟨H0, H1, H2, H3, H4, H5, H6, H7, ⟨%f8, H8⟩⟩
  generalize hP : pieces (arg1.view.read (Elt F) f0) (arg2.view.read (Elt F) f1) (arg3.view.read (Elt F) f2) (arg4.view.read (Elt F) f3) (arg5.view.read (Elt F) f4) (arg6.view.read (Elt F) f5) (arg7.view.read (Elt F) f6) k.val = P
  sl_exec
  sl_step
  rw [pieces_succ, hP]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · have h : k0_pay1 (trip_sound.sl.r_12 arg1 arg2 arg3 arg4 arg5 arg6 arg7 arg9 f0 f1 f2 f3 f4 f5 f6 k) = tile (arg1.view.read (Elt F) f0) (arg2.view.read (Elt F) f1) (arg3.view.read (Elt F) f2) (arg4.view.read (Elt F) f3) (arg5.view.read (Elt F) f4) (arg6.view.read (Elt F) f5) (arg7.view.read (Elt F) f6) k := by
      delta trip_sound.sl.r_12
      delta trip_sound.sl.r_10 trip_sound.sl.r_11 trip_sound.sl.v216
      delta trip_sound.sl.r_8 trip_sound.sl.r_9 trip_sound.sl.v180 trip_sound.sl.v186 trip_sound.sl.v192 trip_sound.sl.v198 trip_sound.sl.v204 trip_sound.sl.v210
      delta trip_sound.sl.r_6 trip_sound.sl.r_7 trip_sound.sl.v144 trip_sound.sl.v150 trip_sound.sl.v156 trip_sound.sl.v162 trip_sound.sl.v168 trip_sound.sl.v174
      delta trip_sound.sl.r_4 trip_sound.sl.r_5 trip_sound.sl.v108 trip_sound.sl.v114 trip_sound.sl.v120 trip_sound.sl.v126 trip_sound.sl.v132 trip_sound.sl.v138
      delta trip_sound.sl.r_2 trip_sound.sl.r_3 trip_sound.sl.v72 trip_sound.sl.v78 trip_sound.sl.v84 trip_sound.sl.v90 trip_sound.sl.v96 trip_sound.sl.v102
      delta trip_sound.sl.r trip_sound.sl.r_1 trip_sound.sl.v36 trip_sound.sl.v42 trip_sound.sl.v48 trip_sound.sl.v54 trip_sound.sl.v60 trip_sound.sl.v66
      simp only [View.readCov_eq_canon']
      rfl
    rw [h]
    iexact H7
  iexists _; iexact H8

/-- Every trip's piece is among them. -/
theorem mem_pieces (x0 : Vec F S1x4096x512 .f32) (x1 : Vec F S32x256 .f32) (x2 : Vec F S1x256 .f32) (x3 : Vec F S1x256 .f32) (x4 : Vec F S1x256 .f32) (x5 : Vec F S256x256 .bf16) (x6 : Vec F S1x256 .f32) (k : Fin k0_t1_loop.trips) (n : ℕ) (h : k.val < n) :
    (⟨Rect.unit (s := S1x4096x256) (k0_off3 k) S1x512x256.size (k0_off3_inb k), tile x0 x1 x2 x3 x4 x5 x6 k⟩ : View.Piece (Elt F) S1x4096x256 .bf16) ∈ pieces x0 x1 x2 x3 x4 x5 x6 n := by
  induction n with
  | zero => omega
  | succ n ih =>
    unfold pieces
    by_cases hn : n < k0_t1_loop.trips
    · rw [dif_pos hn]
      by_cases hk : k.val = n
      · have : k = ⟨n, hn⟩ := Fin.ext hk
        subst this
        exact List.mem_cons_self
      · exact List.mem_cons_of_mem _ (ih (by omega))
    · rw [dif_neg hn]
      exact ih (by have := k.isLt; omega)

/-- Trip `k` stores rows `512k` on. -/
theorem off3 : ∀ k : Fin k0_t1_loop.trips, k0_off3 k = ![0, 512 * k.val, 0] := by decide +kernel

theorem trips_eq : k0_t1_loop.trips = 8 := by decide +kernel

/-- The rows trip `k` stores. -/
theorem mem_off3 (k : Fin k0_t1_loop.trips) (y : S1x4096x256.Idx) :
    y ∈ (Rect.unit (s := S1x4096x256) (k0_off3 k) S1x512x256.size (k0_off3_inb k)).set ↔ 512 * k.val ≤ (y 1 : ℕ) ∧ (y 1 : ℕ) < 512 * k.val + 512 := by
  have e := off3 k
  have y0 : (y 0 : ℕ) < 1 := (y 0).isLt
  have y2 : (y 2 : ℕ) < 256 := (y 2).isLt
  rw [Rect.mem_set_unit]
  rw [e]
  constructor
  · intro h
    exact h 1
  · intro h a
    fin_cases a
    · exact ⟨Nat.zero_le _, by show (y 0 : ℕ) < 0 + 1; omega⟩
    · exact h
    · exact ⟨Nat.zero_le _, by show (y 2 : ℕ) < 0 + 256; omega⟩

/-- The trips' pieces cover the block. -/
theorem pieces_cover (x0 : Vec F S1x4096x512 .f32) (x1 : Vec F S32x256 .f32) (x2 : Vec F S1x256 .f32) (x3 : Vec F S1x256 .f32) (x4 : Vec F S1x256 .f32) (x5 : Vec F S256x256 .bf16) (x6 : Vec F S1x256 .f32) (y : S1x4096x256.Idx) : ∃ pc ∈ pieces x0 x1 x2 x3 x4 x5 x6 k0_t1_loop.trips, y ∈ pc.1.set := by
  have y1 : (y 1 : ℕ) < 4096 := (y 1).isLt
  have ht := trips_eq
  exact ⟨_, mem_pieces x0 x1 x2 x3 x4 x5 x6 ⟨(y 1 : ℕ) / 512, by omega⟩ _ (by simp only; omega), (mem_off3 _ y).mpr (by simp only; omega)⟩

/-- The output block after the body. -/
def out0_7 (x0 : Vec F S1x4096x512 .f32) (x1 : Vec F S32x256 .f32) (x2 : Vec F S1x256 .f32) (x3 : Vec F S1x256 .f32) (x4 : Vec F S1x256 .f32) (x5 : Vec F S256x256 .bf16) (x6 : Vec F S1x256 .f32) : Vec F S1x4096x256 .bf16 := View.canon (pieces x0 x1 x2 x3 x4 x5 x6 k0_t1_loop.trips)

set_option maxHeartbeats 1000000 in
/-- The body on whole staging memrefs and the scratch at anything. -/
theorem sound_kernel (c : Dev nD) (E : Set ℕ) (i : grid0.Coords) (arg1 : Memref sig .tc .vmem S1x4096x512 .f32) (harg1 : arg1.IsWhole) (arg2 : Memref sig .tc .vmem S32x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S544x256 .f32) (harg9 : arg9.IsWhole)
    (x0 : Vec F S1x4096x512 .f32) (x1 : Vec F S32x256 .f32) (x2 : Vec F S1x256 .f32) (x3 : Vec F S1x256 .f32) (x4 : Vec F S1x256 .f32) (x5 : Vec F S256x256 .bf16) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (∃ f, (arg9.view.loc (c : Thread nD τ) ↦[arg9.view.set]{fullShare} f))
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)
            ∗ (∃ f, (arg9.view.loc (c : Thread nD τ) ↦[arg9.view.set]{fullShare} f))) -∗ K ⟨⟩))
      ⊢ wp frame (wpE (defs₀ (F := F)) Variants.none c none) E (cc0_conv_module i arg1 harg1 arg2 harg2 arg3 harg3 arg4 harg4 arg5 harg5 arg6 harg6 arg7 harg7 arg8 harg8 arg9 harg9) K := by
  simp only [cc0_conv_module_eq_skeleton]; unfold cc0_conv_module_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, Hk⟩
  subst hf0 hf1 hf2 hf3 hf4 hf5 hf6
  iapply (Scf.wp_for_bind frame (wpE (defs₀ (F := F)) Variants.none c none) E _ _ _ k0_t1_ok _ _
    (Inv c arg1 arg2 arg3 arg4 arg5 arg6 arg7 arg8 arg9 f0 f1 f2 f3 f4 f5 f6 f7) (trip_sound c E i arg1 harg1 arg2 harg2 arg3 harg3 arg4 harg4 arg5 harg5 arg6 harg6 arg7 harg7 arg8 harg8 arg9 harg9 f0 f1 f2 f3 f4 f5 f6 f7)) $$ [H0 H1 H2 H3 H4 H5 H6 H7 H8]
  · unfold Inv
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists f8; iexact H8
  iintro %u Hinv
  unfold Inv
  icases Hinv with ⟨H0, H1, H2, H3, H4, H5, H6, H7, H8⟩
  rw [show ∀ x : PUnit, (pure x : Prog (TpuEff nD τ sig (Elt F) Λ₀ .tc) PUnit) = .ret x from fun _ => rfl, wp_ret]
  imodintro
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (pieces_cover (arg1.view.read (Elt F) f0) (arg2.view.read (Elt F) f1) (arg3.view.read (Elt F) f2) (arg4.view.read (Elt F) f3) (arg5.view.read (Elt F) f4) (arg6.view.read (Elt F) f5) (arg7.view.read (Elt F) f6))
  iexact H8

variable (m : (ℓ : Loc nD τ sig) → Buf (Elt F) ℓ) (ρ : Dev nD → PrngReg)

/-- The proof data of the pipeline: each input's buffer at its block, the output's at `out0_7` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point, its scratch taken out of the scoped rest and given back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold Pipeline.ΦA
  rw [scopedRest0_eq]
  simp only [← View.set_whole cc0_scratch0]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexact HS
  iintro ⟨H0, H1, H2, H3, H4, H5, H6, H7, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.ConvIdeal.Run

end
-- ==== Proof.ConvRef.lean ====
/- What the reference of the convolution module computes, read at an index. -/
module

public import proofs.«01_k».proof.Proof.Gen.ConvRefIdeal.Read
public import Idealize.ShloMosaic.Lib.Pipeline.ValueKit
public import proofs.«01_k».proof.Proof.Lanes

@[expose] public section

set_option maxRecDepth 16384
noncomputable section
namespace Cert.ConvRefIdeal.RefValue
open Cert.ConvRefIdeal Cert.ConvRefIdeal.Gen Cert.ConvRefIdeal.Read Idealize.ShloMosaic Idealize.ShloMosaic.TcCoe Idealize.SL.Sem

/-- The tokens, the taps' weights, the lanes' biases and gains, and the last product's weights. -/
abbrev Tokens := (⟨S8x4096x512, .f32⟩ : BufTy).Contents (Elt Ideal)
abbrev Taps := (⟨S31x256, .f32⟩ : BufTy).Contents (Elt Ideal)
abbrev Lane := (⟨S256, .f32⟩ : BufTy).Contents (Elt Ideal)
abbrev Weights := (⟨S256x256, .f32⟩ : BufTy).Contents (Elt Ideal)

/-- A token's lane after its gate. -/
def gate (x : Tokens) (b : Fin 8) (t : Fin 4096) (l : Fin 256) : EReal :=
  x (ix3 b t ⟨l, by omega⟩) * Ideal.logistic (x (ix3 b t ⟨256 + l, by omega⟩))

/-- The gated tokens behind 30 rows of zeros, at row `s`. -/
def padded (x : Tokens) (b : Fin 8) (s : ℕ) (l : Fin 256) : EReal :=
  if h : 30 ≤ s ∧ s < 4126 then gate x b ⟨s - 30, by omega⟩ l else 0

/-- Tap `n`'s weight. -/
def weight (w : Taps) (l : Fin 256) (n : ℕ) : EReal := if h : n < 31 then w (ix2 ⟨n, h⟩ l) else 0

/-- The first `n` taps, added up in order from `a`. -/
def taps (a : EReal) (w p : ℕ → EReal) : ℕ → EReal
  | 0 => a
  | n + 1 => taps a w p n + w n * p n

/-- The convolution at a token's lane, its first `n` taps. -/
def conv (x : Tokens) (w : Taps) (d : Lane) (b : Fin 8) (t : ℕ) (l : Fin 256) (n : ℕ) : EReal :=
  taps (d (ix1 l)) (weight w l) (fun n => padded x b (n + t) l) n

/-- A row of 256 lanes centred on its mean. -/
def centred (y : Fin 256 → EReal) (l : Fin 256) : EReal :=
  y l - Ideal.div (∑ j, y j) (Ideal.ofBits FTy.f32 0x43800000#32)

/-- The row after its norm, its gain and its bias. -/
def normed (y g h : Fin 256 → EReal) (l : Fin 256) : EReal :=
  centred y l * Ideal.rsqrt (Ideal.div (∑ j, centred y j * centred y j) (Ideal.ofBits FTy.f32 0x43800000#32)
      + Ideal.ofBits FTy.f32 0x358637BD#32) * g l + h l

/-- The row after the second gate and the last product. -/
def mixed (y g h : Fin 256 → EReal) (w : Fin 256 → Fin 256 → EReal) (d : Fin 256 → EReal) (l : Fin 256) : EReal :=
  (∑ j, normed y g h j * Ideal.logistic (normed y g h j) * w j l) + d l

theorem gate_at (x : Tokens) (b : Fin 8) (t : Fin 4096) (l : Fin 256) :
    val_main_v8 (F := Ideal) x (ix3 b t l) = gate x b t l := by
  unfold gate
  pointwise [val_main_v8, val_main_v7, val_main_v6, val_main_v5, val_main_v4, val_main_v3, val_main_v2, val_main_v1,
    val_main_v0, val_main_cst, val_main_cst_0]
  rfl

theorem padded_at (x : Tokens) (b : Fin 8) (s : Fin 4126) (l : Fin 256) :
    val_main_v10 (F := Ideal) x (ix3 b s l) = padded x b s l := by
  unfold padded
  simp only [← gate_at]
  pointwise [val_main_v10, val_main_v9, val_main_cst_1]
  split <;> split <;> first | rfl | (exfalso; omega)

theorem start_at (d : Lane) (b : Fin 8) (t : Fin 4096) (l : Fin 256) :
    val_main_v14 (F := Ideal) d (ix3 b t l) = d (ix1 l) := by
  pointwise [val_main_v14, val_main_v13, val_main_v12, val_main_v11, val_main_cst_2]

theorem taps6_at (x : Tokens) (w : Taps) (d : Lane) (b : Fin 8) (t : Fin 4096) (l : Fin 256) :
    val_main_v56 (F := Ideal) x w d (ix3 b t l) = conv x w d b t l 6 := by
  have h0 : val_main_v14 (F := Ideal) d (ix3 b t l) = conv x w d b t l 0 := start_at d b t l
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15]
  rw [h0]
  simp only [padded_at, conv, taps, Nat.zero_add]
  rfl

theorem taps12_at (x : Tokens) (w : Taps) (d : Lane) (b : Fin 8) (t : Fin 4096) (l : Fin 256) :
    val_main_v98 (F := Ideal) x w d (ix3 b t l) = conv x w d b t l 12 := by
  have h0 : val_main_v56 (F := Ideal) x w d (ix3 b t l) = conv x w d b t l 6 := taps6_at x w d b t l
  pointwise [val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57]
  rw [h0]
  simp only [padded_at, conv, taps, Nat.zero_add]
  rfl

theorem taps18_at (x : Tokens) (w : Taps) (d : Lane) (b : Fin 8) (t : Fin 4096) (l : Fin 256) :
    val_main_v140 (F := Ideal) x w d (ix3 b t l) = conv x w d b t l 18 := by
  have h0 : val_main_v98 (F := Ideal) x w d (ix3 b t l) = conv x w d b t l 12 := taps12_at x w d b t l
  pointwise [val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99]
  rw [h0]
  simp only [padded_at, conv, taps, Nat.zero_add]
  rfl

theorem taps24_at (x : Tokens) (w : Taps) (d : Lane) (b : Fin 8) (t : Fin 4096) (l : Fin 256) :
    val_main_v182 (F := Ideal) x w d (ix3 b t l) = conv x w d b t l 24 := by
  have h0 : val_main_v140 (F := Ideal) x w d (ix3 b t l) = conv x w d b t l 18 := taps18_at x w d b t l
  pointwise [val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141]
  rw [h0]
  simp only [padded_at, conv, taps, Nat.zero_add]
  rfl

theorem taps30_at (x : Tokens) (w : Taps) (d : Lane) (b : Fin 8) (t : Fin 4096) (l : Fin 256) :
    val_main_v224 (F := Ideal) x w d (ix3 b t l) = conv x w d b t l 30 := by
  have h0 : val_main_v182 (F := Ideal) x w d (ix3 b t l) = conv x w d b t l 24 := taps24_at x w d b t l
  pointwise [val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183]
  rw [h0]
  simp only [padded_at, conv, taps, Nat.zero_add]
  rfl

theorem taps31_at (x : Tokens) (w : Taps) (d : Lane) (b : Fin 8) (t : Fin 4096) (l : Fin 256) :
    val_main_v231 (F := Ideal) x w d (ix3 b t l) = conv x w d b t l 31 := by
  have h0 : val_main_v224 (F := Ideal) x w d (ix3 b t l) = conv x w d b t l 30 := taps30_at x w d b t l
  pointwise [val_main_v231, val_main_v230, val_main_v229, val_main_v228, val_main_v227, val_main_v226, val_main_v225]
  rw [h0]
  simp only [padded_at, conv, taps, Nat.zero_add]
  rfl

/-- The reference's result. -/
theorem out_at (x : Tokens) (w : Taps) (d g h : Lane) (p : Weights) (e : Lane) (b : Fin 8) (t : Fin 4096) (l : Fin 256) :
    val_main_v265 (F := Ideal) x w d g h p e (ix3 b t l)
      = mixed (fun j => conv x w d b t j 31) (fun j => g (ix1 j)) (fun j => h (ix1 j)) (fun i j => p (ix2 i j))
          (fun j => e (ix1 j)) l := by
  unfold mixed normed centred
  simp only [← taps31_at]
  pointwise [val_main_v265, val_main_v264, val_main_v263, val_main_v262, val_main_v261, val_main_v260, val_main_v259, val_main_v258, val_main_v257, val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_v232, val_main_cst_3, val_main_cst_4, val_main_cst_5,
    val_main_cst_6, val_main_cst_7, val_main_cst_8, val_main_cst_9]
  rfl

end Cert.ConvRefIdeal.RefValue
-- ==== Proof.ConvBlock.lean ====
/- What one block of the convolution module computes from what it loads. -/
module

public import proofs.«01_k».proof.Proof.ConvRun
public import proofs.«01_k».proof.Proof.ConvRef
public import proofs.«01_k».proof.Proof.Window
public import Idealize.ShloMosaic.Lib.Pipeline.ValueKit

@[expose] public section

set_option maxRecDepth 16384
noncomputable section
namespace Cert.ConvIdeal.Block
open Cert.ConvIdeal Cert.ConvIdeal.Gen Cert.ConvIdeal.Run Idealize.ShloMosaic Idealize.ShloMosaic.TcCoe Idealize.SL.Sem
open Cert.ConvRefIdeal.RefValue (gate padded weight taps conv centred normed mixed Tokens Taps Lane Weights)

/-- A block's gated lane. -/
def own (x0 : Vec Ideal S1x4096x512 .f32) (t : Fin 4096) (l : Fin 256) : EReal :=
  x0 (ix3 0 t ⟨l, by omega⟩) * Ideal.logistic (x0 (ix3 0 t ⟨256 + l, by omega⟩))

theorem pay2_at (v : Vec Ideal S1x512x512 .f32) (r : Fin 512) (l : Fin 256) :
    k0_pay2 (F := Ideal) v (ix2 r l)
      = v (ix3 0 r ⟨l, by omega⟩) * Ideal.logistic (v (ix3 0 r ⟨256 + l, by omega⟩)) := by
  unfold k0_pay2
  pointwise

/-- Only the first trip has no rows before its own. -/
theorem first_trip : ∀ k : Fin k0_t1_loop.trips,
    Scalar.cmpi .sgt (Scf.iv 0#32 1#32 k.val) 0#32 = if k.val = 0 then 0#1 else 1#1 := by decide +kernel

/-- The halo's rows begin 32 before the tile's, but for the first trip's. -/
theorem off2 : ∀ k : Fin k0_t1_loop.trips, k0_off2 k = ![0, 512 * k.val - 32, 0] := by decide +kernel

theorem pay3_at (k : Fin k0_t1_loop.trips) (v : Vec Ideal S1x32x512 .f32) (r : Fin 32) (l : Fin 256) :
    k0_pay3 (F := Ideal) 0#32 1#32 k v (ix2 r l)
      = if k.val = 0 then 0 else v (ix3 0 r ⟨l, by omega⟩) * Ideal.logistic (v (ix3 0 r ⟨256 + l, by omega⟩)) := by
  unfold k0_pay3
  pointwise
  rw [first_trip]
  by_cases h : k.val = 0
  · rw [if_pos h, if_pos h]
    exact Cert.Window.select_zero (by decide) _ _
  · rw [if_neg h, if_neg h]
    exact Cert.Window.select_one rfl _ _

/-- Where a rectangle of unit strides holds its element. -/
theorem unit_at {s : Shape} (off size : Fin s.rank → ℕ) (h : ∀ a, off a + size a ≤ s.size a)
    (x : (Rect.unit (s := s) off size h).shape.Idx) (a : Fin s.rank) :
    (((Rect.unit (s := s) off size h).idx x a : Fin _) : ℕ) = off a + (x a : ℕ) :=
  congrArg (off a + ·) (Nat.one_mul _)

theorem load1 (x0 : Vec Ideal S1x4096x512 .f32) (k : Fin k0_t1_loop.trips) (r : Fin 512) (l : Fin 512)
    (h : 512 * k.val + r < 4096) :
    View.ld x0 (Rect.unit (s := S1x4096x512) (k0_off1 k) S1x512x512.size (k0_off1_inb k)) (ix3 0 r l)
      = x0 (ix3 0 ⟨512 * k.val + r, h⟩ l) := by
  refine congrArg x0 (funext fun a => Fin.ext ((unit_at _ _ _ _ a).trans
    ((congrArg (· + _) (congrFun (k0_off1_eq k) a)).trans ?_)))
  fin_cases a
  · rfl
  · rfl
  · exact Nat.zero_add _

theorem load2 (x0 : Vec Ideal S1x4096x512 .f32) (k : Fin k0_t1_loop.trips) (r : Fin 32) (l : Fin 512)
    (h : 512 * k.val - 32 + r < 4096) :
    View.ld x0 (Rect.unit (s := S1x4096x512) (k0_off2 k) S1x32x512.size (k0_off2_inb k)) (ix3 0 r l)
      = x0 (ix3 0 ⟨512 * k.val - 32 + r, h⟩ l) := by
  refine congrArg x0 (funext fun a => Fin.ext ((unit_at _ _ _ _ a).trans
    ((congrArg (· + _) (congrFun (off2 k) a)).trans ?_)))
  fin_cases a
  · rfl
  · rfl
  · exact Nat.zero_add _

/-- The scratch's row `s`: the gated token 32 rows before, or zero before the sequence's first. -/
theorem scratch_at (x0 : Vec Ideal S1x4096x512 .f32) (k : Fin k0_t1_loop.trips) (s : Fin 544) (l : Fin 256) :
    scratch x0 k (ix2 s l)
      = if h : 32 ≤ 512 * k.val + s then own x0 ⟨512 * k.val + s - 32, by have := k.isLt; have := trips_eq; omega⟩ l else 0 := by
  have hk := k.isLt
  have ht := trips_eq
  unfold scratch
  by_cases hs : (s : ℕ) < 32
  · have e : ix2 s l = (Rect.unit (s := S544x256) ![0, 0] S32x256.size inb_S544x256_S32x256_0_0).emb
        (ix2 (⟨s, hs⟩ : Fin 32) l) := by
      refine funext fun a => Fin.ext (Eq.trans ?_ (unit_at _ _ _ _ a).symm)
      fin_cases a <;> exact (Nat.zero_add _).symm
    rw [e, View.canon_cons_emb, pay3_at]
    by_cases h0 : k.val = 0
    · rw [if_pos h0, dif_neg (by omega)]
    · rw [if_neg h0, dif_pos (by omega), load2 x0 k _ _ (by simp only; omega), load2 x0 k _ _ (by simp only; omega)]
      unfold own
      have e2 : (⟨512 * k.val - 32 + s, by omega⟩ : Fin 4096) = ⟨512 * k.val + s - 32, by omega⟩ :=
        Fin.ext (by simp only; omega)
      simp only [e2]
  · have e : ix2 s l = (Rect.unit (s := S544x256) ![32, 0] S512x256.size inb_S544x256_S512x256_32_0).emb
        (ix2 (⟨(s : ℕ) - 32, by omega⟩ : Fin 512) l) := by
      refine funext fun a => Fin.ext (Eq.trans ?_ (unit_at _ _ _ _ a).symm)
      fin_cases a
      · show (s : ℕ) = 32 + ((s : ℕ) - 32)
        omega
      · exact (Nat.zero_add _).symm
    rw [View.canon_cons_of_not_mem _ _ (fun hm => by
      rw [Rect.mem_set_unit] at hm
      have h1 := (hm 0).2
      have h2 : (s : ℕ) < 0 + 32 := h1
      omega), e, View.canon_cons_emb, pay2_at, load1 x0 k _ _ (by simp only; omega), load1 x0 k _ _ (by simp only; omega),
      dif_pos (by omega)]
    unfold own
    have e2 : (⟨512 * k.val + ((s : ℕ) - 32), by omega⟩ : Fin 4096) = ⟨512 * k.val + s - 32, by omega⟩ :=
      Fin.ext (by simp only; omega)
    simp only [e2]

theorem line_at (x : Vec Ideal S1x256 .f32) (l : Fin 256) : line x (ix2 0 l) = x (ix2 0 l) := by
  refine congrArg x (funext fun a => Fin.ext ((unit_at _ _ _ _ a).trans ?_))
  fin_cases a
  · rfl
  · exact Nat.zero_add _

theorem row_at (x1 : Vec Ideal S32x256 .f32) (n : ℕ) (h) (l : Fin 256) (hn : n < 32) :
    row x1 n h (ix2 0 l) = x1 (ix2 ⟨n, hn⟩ l) := by
  refine congrArg x1 (funext fun a => Fin.ext ((unit_at _ _ _ _ a).trans ?_))
  fin_cases a
  · rfl
  · exact Nat.zero_add _

theorem window_at (x0 : Vec Ideal S1x4096x512 .f32) (k : Fin k0_t1_loop.trips) (n : ℕ) (h) (r : Fin 512) (l : Fin 256)
    (hn : n + r < 544) :
    window x0 k n h (ix2 r l) = scratch x0 k (ix2 ⟨n + r, hn⟩ l) := by
  refine congrArg (scratch x0 k) (funext fun a => Fin.ext ((unit_at _ _ _ _ a).trans ?_))
  fin_cases a
  · rfl
  · exact Nat.zero_add _

/-- What the block of sequence `b` reads of the arrays. -/
structure Reads (X : Tokens) (W : Taps) (D G H : Lane) (P : Weights) (E : Lane) (b : Fin 8)
    (x0 : Vec Ideal S1x4096x512 .f32) (x1 : Vec Ideal S32x256 .f32) (x2 x3 x4 : Vec Ideal S1x256 .f32)
    (x5 : Vec Ideal S256x256 .bf16) (x6 : Vec Ideal S1x256 .f32) : Prop where
  tokens : ∀ (t : Fin 4096) (l : Fin 512), x0 (ix3 0 t l) = X (ix3 b t l)
  taps : ∀ (n : Fin 31) (l : Fin 256), x1 (ix2 ⟨n, by omega⟩ l) = W (ix2 n l)
  bias : ∀ l : Fin 256, x2 (ix2 0 l) = D (ix1 l)
  gains : ∀ l : Fin 256, x3 (ix2 0 l) = G (ix1 l)
  offsets : ∀ l : Fin 256, x4 (ix2 0 l) = H (ix1 l)
  weights : ∀ i l : Fin 256, x5 (ix2 i l) = P (ix2 i l)
  ends : ∀ l : Fin 256, x6 (ix2 0 l) = E (ix1 l)

section
variable {X : Tokens} {W : Taps} {D G H : Lane} {P : Weights} {E : Lane} {b : Fin 8}
  {x0 : Vec Ideal S1x4096x512 .f32} {x1 : Vec Ideal S32x256 .f32} {x2 x3 x4 : Vec Ideal S1x256 .f32}
  {x5 : Vec Ideal S256x256 .bf16} {x6 : Vec Ideal S1x256 .f32}

/-- A tap's weights and its window, as the reference has them. -/
theorem Reads.row_is (hR : Reads X W D G H P E b x0 x1 x2 x3 x4 x5 x6) (n : ℕ) (h) (l : Fin 256) (hn : n < 31) :
    row x1 n h (ix2 0 l) = weight W l n := by
  unfold weight
  rw [row_at x1 n h l (by omega), dif_pos hn]
  exact hR.taps ⟨n, hn⟩ l

theorem Reads.window_is (hR : Reads X W D G H P E b x0 x1 x2 x3 x4 x5 x6) (k : Fin k0_t1_loop.trips) (n : ℕ) (h)
    (r : Fin 512) (l : Fin 256) (h2 : 2 ≤ n) (hn : n ≤ 32) :
    window x0 k n h (ix2 r l) = padded X b (n - 2 + (512 * k.val + r)) l := by
  have hk := k.isLt
  have ht := trips_eq
  rw [window_at x0 k n h r l (by omega), scratch_at]
  unfold padded
  by_cases h0 : 32 ≤ 512 * k.val + (n + r)
  · rw [dif_pos h0, dif_pos (by omega)]
    unfold own gate
    rw [hR.tokens, hR.tokens]
    have e : (⟨512 * k.val + (n + r) - 32, by omega⟩ : Fin 4096) = ⟨n - 2 + (512 * k.val + r) - 30, by omega⟩ :=
      Fin.ext (by simp only; omega)
    simp only [e]
  · rw [dif_neg h0, dif_neg (by omega)]

theorem Reads.taps5_is (hR : Reads X W D G H P E b x0 x1 x2 x3 x4 x5 x6) (k : Fin k0_t1_loop.trips) (r : Fin 512)
    (l : Fin 256) :
    taps5 (F := Ideal) x0 x1 x2 k (ix2 r l) = conv X W D b (512 * k.val + r) l 6 := by
  unfold taps5 k0_pay6 k0_pay5 k0_pay4
  pointwise
  rw [line_at, hR.bias]
  rw [hR.row_is 0 _ l (by omega), hR.window_is k 2 _ r l (by omega) (by omega), hR.row_is 1 _ l (by omega), hR.window_is k 3 _ r l (by omega) (by omega), hR.row_is 2 _ l (by omega), hR.window_is k 4 _ r l (by omega) (by omega), hR.row_is 3 _ l (by omega), hR.window_is k 5 _ r l (by omega) (by omega), hR.row_is 4 _ l (by omega), hR.window_is k 6 _ r l (by omega) (by omega), hR.row_is 5 _ l (by omega), hR.window_is k 7 _ r l (by omega) (by omega)]
  simp only [conv, Nat.reduceSub]
  rfl

theorem Reads.taps11_is (hR : Reads X W D G H P E b x0 x1 x2 x3 x4 x5 x6) (k : Fin k0_t1_loop.trips) (r : Fin 512)
    (l : Fin 256) :
    taps11 (F := Ideal) x0 x1 x2 k (ix2 r l) = conv X W D b (512 * k.val + r) l 12 := by
  have h0 := hR.taps5_is k r l
  unfold taps11 k0_pay8 k0_pay7
  pointwise
  rw [h0]
  rw [hR.row_is 6 _ l (by omega), hR.window_is k 8 _ r l (by omega) (by omega), hR.row_is 7 _ l (by omega), hR.window_is k 9 _ r l (by omega) (by omega), hR.row_is 8 _ l (by omega), hR.window_is k 10 _ r l (by omega) (by omega), hR.row_is 9 _ l (by omega), hR.window_is k 11 _ r l (by omega) (by omega), hR.row_is 10 _ l (by omega), hR.window_is k 12 _ r l (by omega) (by omega), hR.row_is 11 _ l (by omega), hR.window_is k 13 _ r l (by omega) (by omega)]
  simp only [conv, Nat.reduceSub]
  rfl

theorem Reads.taps17_is (hR : Reads X W D G H P E b x0 x1 x2 x3 x4 x5 x6) (k : Fin k0_t1_loop.trips) (r : Fin 512)
    (l : Fin 256) :
    taps17 (F := Ideal) x0 x1 x2 k (ix2 r l) = conv X W D b (512 * k.val + r) l 18 := by
  have h0 := hR.taps11_is k r l
  unfold taps17 k0_pay10 k0_pay9
  pointwise
  rw [h0]
  rw [hR.row_is 12 _ l (by omega), hR.window_is k 14 _ r l (by omega) (by omega), hR.row_is 13 _ l (by omega), hR.window_is k 15 _ r l (by omega) (by omega), hR.row_is 14 _ l (by omega), hR.window_is k 16 _ r l (by omega) (by omega), hR.row_is 15 _ l (by omega), hR.window_is k 17 _ r l (by omega) (by omega), hR.row_is 16 _ l (by omega), hR.window_is k 18 _ r l (by omega) (by omega), hR.row_is 17 _ l (by omega), hR.window_is k 19 _ r l (by omega) (by omega)]
  simp only [conv, Nat.reduceSub]
  rfl

theorem Reads.taps23_is (hR : Reads X W D G H P E b x0 x1 x2 x3 x4 x5 x6) (k : Fin k0_t1_loop.trips) (r : Fin 512)
    (l : Fin 256) :
    taps23 (F := Ideal) x0 x1 x2 k (ix2 r l) = conv X W D b (512 * k.val + r) l 24 := by
  have h0 := hR.taps17_is k r l
  unfold taps23 k0_pay12 k0_pay11
  pointwise
  rw [h0]
  rw [hR.row_is 18 _ l (by omega), hR.window_is k 20 _ r l (by omega) (by omega), hR.row_is 19 _ l (by omega), hR.window_is k 21 _ r l (by omega) (by omega), hR.row_is 20 _ l (by omega), hR.window_is k 22 _ r l (by omega) (by omega), hR.row_is 21 _ l (by omega), hR.window_is k 23 _ r l (by omega) (by omega), hR.row_is 22 _ l (by omega), hR.window_is k 24 _ r l (by omega) (by omega), hR.row_is 23 _ l (by omega), hR.window_is k 25 _ r l (by omega) (by omega)]
  simp only [conv, Nat.reduceSub]
  rfl

theorem Reads.taps29_is (hR : Reads X W D G H P E b x0 x1 x2 x3 x4 x5 x6) (k : Fin k0_t1_loop.trips) (r : Fin 512)
    (l : Fin 256) :
    taps29 (F := Ideal) x0 x1 x2 k (ix2 r l) = conv X W D b (512 * k.val + r) l 30 := by
  have h0 := hR.taps23_is k r l
  unfold taps29 k0_pay14 k0_pay13
  pointwise
  rw [h0]
  rw [hR.row_is 24 _ l (by omega), hR.window_is k 26 _ r l (by omega) (by omega), hR.row_is 25 _ l (by omega), hR.window_is k 27 _ r l (by omega) (by omega), hR.row_is 26 _ l (by omega), hR.window_is k 28 _ r l (by omega) (by omega), hR.row_is 27 _ l (by omega), hR.window_is k 29 _ r l (by omega) (by omega), hR.row_is 28 _ l (by omega), hR.window_is k 30 _ r l (by omega) (by omega), hR.row_is 29 _ l (by omega), hR.window_is k 31 _ r l (by omega) (by omega)]
  simp only [conv, Nat.reduceSub]
  rfl

/-- The norm, the second gate and the last product, on one row. -/
theorem pay16_at (a w v : FVec Ideal S512x256 .f32) (x3 x4 : Vec Ideal S1x256 .f32) (x5 : Vec Ideal S256x256 .bf16)
    (x6 : Vec Ideal S1x256 .f32) (r : Fin 512) (l : Fin 256) :
    k0_pay16 (F := Ideal) a w v x3 x4 x5 x6 (ix2 r l)
      = mixed (fun j => a (ix2 r j) + v (ix2 r j) * w (ix2 r j)) (fun j => x3 (ix2 0 j)) (fun j => x4 (ix2 0 j))
          (fun i j => x5 (ix2 i j)) (fun j => x6 (ix2 0 j)) l := by
  unfold k0_pay16 mixed normed centred
  pointwise

theorem pay15_at (v : Vec Ideal S1x256 .f32) (r : Fin 512) (l : Fin 256) :
    k0_pay15 (F := Ideal) v (ix2 r l) = v (ix2 0 l) := by
  unfold k0_pay15
  pointwise

theorem pay1_at (v : FVec Ideal S512x256 .bf16) (r : Fin 512) (l : Fin 256) :
    k0_pay1 (F := Ideal) v (ix3 0 r l) = v (ix2 r l) := by
  unfold k0_pay1
  pointwise

theorem whole_at (x5 : Vec Ideal S256x256 .bf16) (i j : Fin 256) :
    View.ld x5 (Rect.unit (s := S256x256) ![0, 0] S256x256.size inb_S256x256_S256x256_0_0) (ix2 i j) = x5 (ix2 i j) := by
  refine congrArg x5 (funext fun a => Fin.ext ((unit_at _ _ _ _ a).trans ?_))
  fin_cases a <;> exact Nat.zero_add _

/-- A tile is the reference's rows. -/
theorem Reads.tile_is (hR : Reads X W D G H P E b x0 x1 x2 x3 x4 x5 x6) (k : Fin k0_t1_loop.trips) (r : Fin 512)
    (l : Fin 256) (h : 512 * k.val + r < 4096) :
    tile (F := Ideal) x0 x1 x2 x3 x4 x5 x6 k (ix3 0 r l)
      = Cert.ConvRefIdeal.Read.val_main_v265 (F := Ideal) X W D G H P E (ix3 b ⟨512 * k.val + r, h⟩ l) := by
  unfold tile
  rw [Cert.ConvRefIdeal.RefValue.out_at, pay1_at, pay16_at]
  simp only [line_at, whole_at, hR.gains, hR.offsets, hR.ends, pay15_at, hR.taps29_is]
  refine congrArg₂ (fun y w => mixed y (fun j => G (ix1 j)) (fun j => H (ix1 j)) w (fun j => E (ix1 j)) l)
    (funext fun j => ?_) (funext₂ fun i j => (whole_at x5 i j).trans (hR.weights i j))
  rw [hR.row_is 30 _ j (by omega), hR.window_is k 32 _ r j (by omega) (by omega)]
  rfl

/-- Every piece is some trip's. -/
theorem of_mem_pieces (n : ℕ) (p : View.Piece (Elt Ideal) S1x4096x256 .bf16) (h : p ∈ pieces x0 x1 x2 x3 x4 x5 x6 n) :
    ∃ k : Fin k0_t1_loop.trips, p = ⟨Rect.unit (s := S1x4096x256) (k0_off3 k) S1x512x256.size (k0_off3_inb k),
      tile x0 x1 x2 x3 x4 x5 x6 k⟩ := by
  induction n with
  | zero => exact absurd h List.not_mem_nil
  | succ n ih =>
    unfold pieces at h
    by_cases hn : n < k0_t1_loop.trips
    · rw [dif_pos hn] at h
      rcases List.mem_cons.mp h with rfl | h
      · exact ⟨_, rfl⟩
      · exact ih h
    · rw [dif_neg hn] at h
      exact ih h

/-- The output block is the reference's rows. -/
theorem Reads.out_is (hR : Reads X W D G H P E b x0 x1 x2 x3 x4 x5 x6) (t : Fin 4096) (l : Fin 256) :
    out0_7 (F := Ideal) x0 x1 x2 x3 x4 x5 x6 (ix3 0 t l)
      = Cert.ConvRefIdeal.Read.val_main_v265 (F := Ideal) X W D G H P E (ix3 b t l) := by
  unfold out0_7
  refine View.canon_eq_of_allAt _ _ _ (pieces_cover x0 x1 x2 x3 x4 x5 x6 _) ?_
  intro p hp x hx
  obtain ⟨k, rfl⟩ := of_mem_pieces _ p hp
  have hk := k.isLt
  have ht := trips_eq
  have hv : ∀ a, k0_off3 k a + (x a : ℕ) = (ix3 (0 : Fin 1) t l a : ℕ) := fun a =>
    (unit_at (s := S1x4096x256) (k0_off3 k) S1x512x256.size (k0_off3_inb k) x a).symm.trans (congrArg (fun i : S1x4096x256.Idx => (i a : ℕ)) hx)
  have h1 : 512 * k.val + (x 1 : ℕ) = t := (congrArg (· + _) (congrFun (k0_off3_eq k) 1)).symm.trans (hv 1)
  have h2 : (x 2 : ℕ) = l := (Nat.zero_add _).symm.trans
    ((congrArg (· + _) (congrFun (k0_off3_eq k) 2)).symm.trans (hv 2))
  have x1l : (x 1 : ℕ) < 512 := (x 1).isLt
  have hxe : x = ix3 (0 : Fin 1) (⟨(x 1 : ℕ), x1l⟩ : Fin 512) l := by
    refine funext fun a => Fin.ext ?_
    fin_cases a
    · have : (x 0 : ℕ) < 1 := (x 0).isLt
      show (x 0 : ℕ) = 0
      omega
    · rfl
    · exact h2
  have ht' : t = ⟨512 * k.val + ((⟨(x 1 : ℕ), x1l⟩ : Fin 512) : ℕ), by simp only; omega⟩ := Fin.ext h1.symm
  show tile x0 x1 x2 x3 x4 x5 x6 k x = _
  rw [hxe]
  refine (hR.tile_is k _ l (by simp only; omega)).trans ?_
  exact congrArg (fun t => Cert.ConvRefIdeal.Read.val_main_v265 (F := Ideal) X W D G H P E (ix3 b t l)) ht'.symm
end

end Cert.ConvIdeal.Block
-- ==== Proof.ConvValue.lean ====
/- The convolution module's result array is the reference's. -/
module

public import Idealize.ShloMosaic.Lib.Claim
public import Idealize.ShloMosaic.Lib.KernelVsHost
public import proofs.«01_k».proof.Proof.ConvBlock

@[expose] public section

set_option maxRecDepth 16384
noncomputable section
namespace Cert.ConvIdeal.Result
open Cert.ConvIdeal Cert.ConvIdeal.Gen Cert.ConvIdeal.Run Idealize.ShloMosaic Idealize.ShloMosaic.TcCoe Idealize.SL.Sem
open Cert.ConvIdeal.Block
open Cert.ConvRefIdeal.Read (val_main_v265)

variable (m : (ℓ : Loc nD τ sig) → Buf (Elt Ideal) ℓ)

/-- The grid point's sequence. -/
def seq (t : Fin cfg0.N) : Fin 8 := grid0.coords t 0

/-- Where the windows of grid point `t` lie. -/
theorem idx : ∀ t : Fin cfg0.N,
    win0_0.index t = ![(seq t : ℕ), 0, 0] ∧
    win0_1.index t = ![0, 0] ∧
    win0_2.index t = ![0, 0] ∧
    win0_3.index t = ![0, 0] ∧
    win0_4.index t = ![0, 0] ∧
    win0_5.index t = ![0, 0] ∧
    win0_6.index t = ![0, 0] ∧
    win0_7.index t = ![(seq t : ℕ), 0, 0] :=
  (by decide +kernel : ∀ t : Fin grid0.N, _)

/-- The taps' weights as the region finds them, under a row of zeros. -/
theorem taps_entry (c : Dev nD) (n : Fin 31) (l : Fin 256) :
    V m c main_v0 (ix2 ⟨n, by omega⟩ l) = m ((c : Thread nD τ).loc main_arg1) (ix2 n l) := by
  show pad S32x256 ![0, 0] ![1, 0] ![0, 0] (m ((c : Thread nD τ).loc main_arg1)) _ pads_S31x256_S32x256_010_000 h_S_ _ = _
  refine pad_apply_of_inside _ _ _ _ _ _ _ _ (ix2 n l) fun a => ?_
  fin_cases a
  · show (n : ℕ) = 0 + (n : ℕ) * (0 + 1)
    omega
  · show (l : ℕ) = 0 + (l : ℕ) * (0 + 1)
    omega

/-- The bias as the region finds it, as one row. -/
theorem bias_entry (c : Dev nD) (l : Fin 256) :
    V m c main_v1 (ix2 0 l) = m ((c : Thread nD τ).loc main_arg2) (ix1 l) := by
  show broadcastInDim S1x256 ![1] bcast_S256_S1x256_1 (m ((c : Thread nD τ).loc main_arg2)) _ = _
  pointwise

/-- The gains as the region finds them, as one row. -/
theorem gains_entry (c : Dev nD) (l : Fin 256) :
    V m c main_v2 (ix2 0 l) = m ((c : Thread nD τ).loc main_arg3) (ix1 l) := by
  show broadcastInDim S1x256 ![1] bcast_S256_S1x256_1 (m ((c : Thread nD τ).loc main_arg3)) _ = _
  pointwise

/-- The offsets as the region finds them, as one row. -/
theorem offsets_entry (c : Dev nD) (l : Fin 256) :
    V m c main_v3 (ix2 0 l) = m ((c : Thread nD τ).loc main_arg4) (ix1 l) := by
  show broadcastInDim S1x256 ![1] bcast_S256_S1x256_1 (m ((c : Thread nD τ).loc main_arg4)) _ = _
  pointwise

/-- The second bias as the region finds it, as one row. -/
theorem ends_entry (c : Dev nD) (l : Fin 256) :
    V m c main_v5 (ix2 0 l) = m ((c : Thread nD τ).loc main_arg6) (ix1 l) := by
  show broadcastInDim S1x256 ![1] bcast_S256_S1x256_1 (m ((c : Thread nD τ).loc main_arg6)) _ = _
  pointwise

/-- What grid point `t` reads of the arguments. -/
theorem reads (c : Dev nD) (t : Fin cfg0.N) :
    Reads (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (seq t)
      (iblk m c 0 t) (iblk m c 1 t) (iblk m c 2 t) (iblk m c 3 t) (iblk m c 4 t) (iblk m c 5 t) (iblk m c 6 t) where
  tokens n l := by blk_point [iblk, V, idx t]
  taps n l := by
    refine Eq.trans ?_ (taps_entry m c n l)
    blk_ext [iblk, idx t]
  bias l := by
    refine Eq.trans ?_ (bias_entry m c l)
    blk_ext [iblk, idx t]
  gains l := by
    refine Eq.trans ?_ (gains_entry m c l)
    blk_ext [iblk, idx t]
  offsets l := by
    refine Eq.trans ?_ (offsets_entry m c l)
    blk_ext [iblk, idx t]
  weights i l := by blk_point [iblk, V, idx t]
  ends l := by
    refine Eq.trans ?_ (ends_entry m c l)
    blk_ext [iblk, idx t]

/-- What grid point `t` leaves in the result's block. -/
theorem point7 (c : Dev nD) (t : Fin cfg0.N) (y : S1x4096x256.Idx) :
    out0_7 (iblk m c 0 t) (iblk m c 1 t) (iblk m c 2 t) (iblk m c 3 t) (iblk m c 4 t) (iblk m c 5 t) (iblk m c 6 t) y
      = val_main_v265 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (((cfg0.win 7).blk t).view.emb y) := by
  generalize hw : ((cfg0.win 7).blk t).view.emb y = w
  have e0 : (w 0 : ℕ) = seq t := by subst hw; blk_simp [idx t]
  have e1 : (w 1 : ℕ) = y 1 := by subst hw; blk_simp [idx t]
  have e2 : (w 2 : ℕ) = y 2 := by subst hw; blk_simp [idx t]
  have hy : y = ix3 0 (y 1) (y 2) := by blk_ext
  have hw' : w = ix3 (seq t) (y 1) (y 2) := by blk_ext
  rw [hw', hy]
  exact (reads m c t).out_is (y 1) (y 2)

/-- The result's array after the run. -/
theorem final7 (c : Dev nD) :
    (dats m 0 c).arrAt 7 (cfgs 0).N
      = val_main_v265 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  exact point7 m c t y

end Cert.ConvIdeal.Result
-- ==== Proof.lean ====
module

public import proofs.«01_k».proof.Defs
public import proofs.«01_k».proof.Proof.Gen.Dil4
public import proofs.«01_k».proof.Proof.Gen.Dil4.Skeleton
public import proofs.«01_k».proof.Proof.Gen.Dil4.Launch
public import proofs.«01_k».proof.Proof.Gen.Dil4.Points
public import proofs.«01_k».proof.Proof.Gen.Dil4.Frame
public import proofs.«01_k».proof.Proof.Gen.Dil4Ideal
public import proofs.«01_k».proof.Proof.Gen.Dil4Ideal.Skeleton
public import proofs.«01_k».proof.Proof.Gen.Dil4Ideal.Launch
public import proofs.«01_k».proof.Proof.Gen.Dil4Ideal.Points
public import proofs.«01_k».proof.Proof.Gen.Dil4Ideal.Frame
public import proofs.«01_k».proof.Proof.Gen.Dil4RefIdeal
public import proofs.«01_k».proof.Proof.Gen.Pre_finite
public import proofs.«01_k».proof.Proof.Gen.Dil4Ideal.Value
public import proofs.«01_k».proof.Proof.Gen.Dil4RefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Read
public import proofs.«01_k».proof.Proof.DilValue
public import proofs.«01_k».proof.Proof.Finite
public import proofs.«01_k».proof.Proof.FfnValue
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixIdeal.Value
public import proofs.«01_k».proof.Proof.Gen.MixRefIdeal.Read
public import proofs.«01_k».proof.Proof.MixValue
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Read
public import proofs.«01_k».proof.Proof.ProjValue
public import proofs.«01_k».proof.Proof.Gen.Phase4
public import proofs.«01_k».proof.Proof.Gen.Phase4.Skeleton
public import proofs.«01_k».proof.Proof.Gen.Phase4.Launch
public import proofs.«01_k».proof.Proof.Gen.Phase4.Points
public import proofs.«01_k».proof.Proof.Gen.Phase4.Frame
public import proofs.«01_k».proof.Proof.Gen.Phase4Ideal
public import proofs.«01_k».proof.Proof.Gen.Phase4Ideal.Skeleton
public import proofs.«01_k».proof.Proof.Gen.Phase4Ideal.Launch
public import proofs.«01_k».proof.Proof.Gen.Phase4Ideal.Points
public import proofs.«01_k».proof.Proof.Gen.Phase4Ideal.Frame
public import proofs.«01_k».proof.Proof.Gen.Phase4RefIdeal
public import proofs.«01_k».proof.Proof.Gen.Phase4Ideal.Value
public import proofs.«01_k».proof.Proof.Gen.Phase4RefIdeal.Read
public import proofs.«01_k».proof.Proof.Phase4Value
public import proofs.«01_k».proof.Proof.Gen.Phase16
public import proofs.«01_k».proof.Proof.Gen.Phase16.Skeleton
public import proofs.«01_k».proof.Proof.Gen.Phase16.Launch
public import proofs.«01_k».proof.Proof.Gen.Phase16.Points
public import proofs.«01_k».proof.Proof.Gen.Phase16.Frame
public import proofs.«01_k».proof.Proof.Gen.Phase16Ideal
public import proofs.«01_k».proof.Proof.Gen.Phase16Ideal.Skeleton
public import proofs.«01_k».proof.Proof.Gen.Phase16Ideal.Launch
public import proofs.«01_k».proof.Proof.Gen.Phase16Ideal.Points
public import proofs.«01_k».proof.Proof.Gen.Phase16Ideal.Frame
public import proofs.«01_k».proof.Proof.Gen.Phase16RefIdeal
public import proofs.«01_k».proof.Proof.Gen.Phase16Ideal.Value
public import proofs.«01_k».proof.Proof.Gen.Phase16RefIdeal.Read
public import proofs.«01_k».proof.Proof.Phase16Value
public import proofs.«01_k».proof.Proof.Gen.Dil16
public import proofs.«01_k».proof.Proof.Gen.Dil16.Skeleton
public import proofs.«01_k».proof.Proof.Gen.Dil16.Launch
public import proofs.«01_k».proof.Proof.Gen.Dil16.Points
public import proofs.«01_k».proof.Proof.Gen.Dil16.Frame
public import proofs.«01_k».proof.Proof.Gen.Dil16Ideal
public import proofs.«01_k».proof.Proof.Gen.Dil16Ideal.Skeleton
public import proofs.«01_k».proof.Proof.Gen.Dil16Ideal.Launch
public import proofs.«01_k».proof.Proof.Gen.Dil16Ideal.Points
public import proofs.«01_k».proof.Proof.Gen.Dil16Ideal.Frame
public import proofs.«01_k».proof.Proof.Gen.Dil16RefIdeal
public import proofs.«01_k».proof.Proof.Gen.Pre_finite16
public import proofs.«01_k».proof.Proof.Gen.Dil16Ideal.Value
public import proofs.«01_k».proof.Proof.Gen.Dil16RefIdeal.Read
public import proofs.«01_k».proof.Proof.Gen.Dil1
public import proofs.«01_k».proof.Proof.Gen.Dil1.Skeleton
public import proofs.«01_k».proof.Proof.Gen.Dil1.Launch
public import proofs.«01_k».proof.Proof.Gen.Dil1.Points
public import proofs.«01_k».proof.Proof.Gen.Dil1.Frame
public import proofs.«01_k».proof.Proof.Gen.Dil1Ideal
public import proofs.«01_k».proof.Proof.Gen.Dil1Ideal.Skeleton
public import proofs.«01_k».proof.Proof.Gen.Dil1Ideal.Launch
public import proofs.«01_k».proof.Proof.Gen.Dil1Ideal.Points
public import proofs.«01_k».proof.Proof.Gen.Dil1Ideal.Frame
public import proofs.«01_k».proof.Proof.Gen.Dil1RefIdeal
public import proofs.«01_k».proof.Proof.Gen.Pre_finite1
public import proofs.«01_k».proof.Proof.Gen.Dil1Ideal.Value
public import proofs.«01_k».proof.Proof.Gen.Dil1RefIdeal.Read
public import proofs.«01_k».proof.Proof.Dil16Value
public import proofs.«01_k».proof.Proof.Dil1Value
public import Idealize.ShloMosaic.Lib.Claim
public import Idealize.ShloMosaic.Adequacy
public import Idealize.ShloMosaic.Init
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeRefIdeal.Read
public import proofs.«01_k».proof.Proof.Gen.Cmp
public import proofs.«01_k».proof.Proof.Gen.Cmp.Skeleton
public import proofs.«01_k».proof.Proof.Gen.Cmp.Launch
public import proofs.«01_k».proof.Proof.Gen.Cmp.Points
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Points
public import proofs.«01_k».proof.Proof.Gen.CmpIdeal.Frame
public import proofs.«01_k».proof.Proof.Gen.CmpRefIdeal
public import proofs.«01_k».proof.Proof.Gen.CmpIdeal.Value
public import proofs.«01_k».proof.Proof.Gen.CmpRefIdeal.Read
public import proofs.«01_k».proof.Proof.RopeValue
public import proofs.«01_k».proof.Proof.CmpValue
public import proofs.«01_k».proof.Proof.ConvValue
public import proofs.«01_k».proof.Proof.ConvBitsRun

@[expose] public section

set_option maxRecDepth 16384

noncomputable section

namespace Cert.Proof

open Idealize.ShloMosaic Idealize.SL.Sem

/-- The reference of the dilated attention runs and leaves its argument as it was; it declares no semaphore. -/
theorem frame_dil_ref : Cert.quiescent_Dil4RefIdeal := by
  intro m ρ _
  exact (θ_run Cert.Dil4RefIdeal.defs _ _).mono
    (fun r h => ⟨fun c => (h c).2.2, sem_eq_zero_of_no_sems (by decide) r.2⟩) (Cert.Dil4RefIdeal.Value.run (F := Ideal) m ρ)

/-- That reference's run, its two results at the terms they are read by. -/
theorem run_dil_ref (m : (ℓ : Loc Cert.Dil4RefIdeal.nD Cert.Dil4RefIdeal.τ Cert.Dil4RefIdeal.sig) → Buf (Elt Ideal) ℓ)
    (ρ : Dev Cert.Dil4RefIdeal.nD → PrngReg) :
    θ_run Cert.Dil4RefIdeal.defs (onTc (τ := Cert.Dil4RefIdeal.τ) (Cert.Dil4RefIdeal.main (F := Ideal)))
      ⟨m, fun _ => 0, ρ⟩ fun r => ∀ c : Dev Cert.Dil4RefIdeal.nD,
        r.2.mem ((c.tc : Thread _ Cert.Dil4RefIdeal.τ).loc Cert.Dil4RefIdeal.main_v38)
          = Cert.Dil4RefIdeal.Read.val_main_v38 (m ((c.tc : Thread _ Cert.Dil4RefIdeal.τ).loc Cert.Dil4RefIdeal.main_arg0))
        ∧ r.2.mem ((c.tc : Thread _ Cert.Dil4RefIdeal.τ).loc Cert.Dil4RefIdeal.main_v40)
          = Cert.Dil4RefIdeal.Read.val_main_v40 (m ((c.tc : Thread _ Cert.Dil4RefIdeal.τ).loc Cert.Dil4RefIdeal.main_arg0))
        ∧ r.2.mem ((c.tc : Thread _ Cert.Dil4RefIdeal.τ).loc Cert.Dil4RefIdeal.main_arg0)
          = m ((c.tc : Thread _ Cert.Dil4RefIdeal.τ).loc Cert.Dil4RefIdeal.main_arg0) :=
  (θ_run Cert.Dil4RefIdeal.defs _ _).mono
    (fun r h c => ⟨(h c).1.trans (Cert.Dil4RefIdeal.Read.val_main_v38_eq m c),
      (h c).2.1.trans (Cert.Dil4RefIdeal.Read.val_main_v40_eq m c), (h c).2.2⟩)
    (Cert.Dil4RefIdeal.Value.run (F := Ideal) m ρ)

/-- The dilated attention's two results at dilation 4 are the reference's, for finite queries and keys. -/
theorem dil_value : Cert.algebraic_Dil4Ideal_Dil4RefIdeal_pre_finite := by
  pair_intro
  · run_from Cert.Dil4Ideal.Gen.run_main m g
  · have hf := fun c => Cert.Finite.at4 _ (hpre c)
    exact (θ_run Cert.Dil4RefIdeal.defs _ _).mono
      (fun r h c => ⟨(h c).1.trans ((congrArg Cert.Dil4RefIdeal.Read.val_main_v38 (hagree c)).trans
          (Cert.Dil4Ideal.Result.final5 m c (hf c)).symm),
        (h c).2.1.trans ((congrArg Cert.Dil4RefIdeal.Read.val_main_v40 (hagree c)).trans
          (Cert.Dil4Ideal.Result.final6 m c (hf c)).symm), (h c).2.2⟩)
      (run_dil_ref m' g')

/-- The reference of the feed-forward block runs and leaves its arguments as they were; it declares no semaphore. -/
theorem frame_ffn_ref : Cert.quiescent_FfnRefIdeal := by
  intro m ρ _
  exact (θ_run Cert.FfnRefIdeal.defs _ _).mono
    (fun r h => ⟨fun c => (h c).2, sem_eq_zero_of_no_sems (by decide) r.2⟩) (Cert.FfnRefIdeal.Value.run (F := Ideal) m ρ)

/-- The feed-forward block's result is the reference's. -/
theorem ffn_value : Cert.algebraic_FfnIdeal_FfnRefIdeal := by
  pair_intro
  · exact Cert.FfnIdeal.Value.run_blocks m g
  · refine (θ_run Cert.FfnRefIdeal.defs _ _).mono (fun r h c => ⟨(h c).1.trans ?_, (h c).2⟩)
      (Cert.FfnRefIdeal.Value.run (F := Ideal) m' g')
    refine (Cert.FfnRefIdeal.Read.val_main_v51_eq m' c).trans ?_
    rw [(hagree c).1, (hagree c).2.1, (hagree c).2.2.1, (hagree c).2.2.2.1, (hagree c).2.2.2.2.1, (hagree c).2.2.2.2.2]
    exact (Cert.FfnIdeal.Result.final m c).symm

/-- The reference of the output projection runs and leaves its arguments as they were; it declares no semaphore. -/
theorem frame_mix_ref : Cert.quiescent_MixRefIdeal := by
  intro m ρ _
  exact (θ_run Cert.MixRefIdeal.defs _ _).mono
    (fun r h => ⟨fun c => (h c).2, sem_eq_zero_of_no_sems (by decide) r.2⟩) (Cert.MixRefIdeal.Value.run (F := Ideal) m ρ)

/-- The output projection's result is the reference's. -/
theorem mix_value : Cert.algebraic_MixIdeal_MixRefIdeal := by
  pair_intro
  · exact Cert.MixIdeal.Value.run_blocks m g
  · refine (θ_run Cert.MixRefIdeal.defs _ _).mono (fun r h c => ⟨(h c).1.trans ?_, (h c).2⟩)
      (Cert.MixRefIdeal.Value.run (F := Ideal) m' g')
    refine (Cert.MixRefIdeal.Read.val_main_v35_eq m' c).trans ?_
    obtain ⟨h0, h1, h2, h3, h4, h5, h6, h7, h8, h9⟩ := hagree c
    rw [h0, h1, h2, h3, h4, h5, h6, h7, h8, h9]
    exact (Cert.MixIdeal.Result.final m c).symm

/-- The reference of the projection runs and leaves its arguments as they were; it declares no semaphore. -/
theorem frame_proj_ref : Cert.quiescent_ProjRefIdeal := by
  intro m ρ _
  exact (θ_run Cert.ProjRefIdeal.defs _ _).mono
    (fun r h => ⟨fun c => (h c).2.2.2.2.2, sem_eq_zero_of_no_sems (by decide) r.2⟩)
    (Cert.ProjRefIdeal.Value.run (F := Ideal) m ρ)

/-- The projection's five results are the reference's. -/
theorem proj_value : Cert.algebraic_ProjIdeal_ProjRefIdeal := by
  pair_intro
  · exact Cert.ProjIdeal.Value.run_blocks m g
  · refine (θ_run Cert.ProjRefIdeal.defs _ _).mono
      (fun r h c => ⟨(h c).1.trans ?_, (h c).2.1.trans ?_, (h c).2.2.1.trans ?_, (h c).2.2.2.1.trans ?_,
        (h c).2.2.2.2.1.trans ?_, (h c).2.2.2.2.2⟩)
      (Cert.ProjRefIdeal.Value.run (F := Ideal) m' g')
    · refine (Cert.ProjRefIdeal.Read.val_main_v42_eq m' c).trans ?_
      obtain ⟨h0, h1, h2, h3, h4, h5⟩ := hagree c
      rw [h0, h1, h2, h3, h4, h5]
      exact (Cert.ProjIdeal.Result.final7 m c).symm
    all_goals obtain ⟨h0, -, -, h3, h4, -⟩ := hagree c
    · refine (Cert.ProjRefIdeal.Read.val_main_v44_eq _ _ _).trans ?_
      rw [h0, h3, h4]
      exact (Cert.ProjIdeal.Result.final8 m c).symm
    · refine (Cert.ProjRefIdeal.Read.val_main_v46_eq _ _ _).trans ?_
      rw [h0, h3, h4]
      exact (Cert.ProjIdeal.Result.final9 m c).symm
    · refine (Cert.ProjRefIdeal.Read.val_main_v47_eq _ _ _).trans ?_
      rw [h0, h3, h4]
      exact (Cert.ProjIdeal.Result.final10 m c).symm
    · refine (Cert.ProjRefIdeal.Read.val_main_v48_eq _ _ _).trans ?_
      rw [h0, h3, h4]
      exact (Cert.ProjIdeal.Result.final11 m c).symm

/-- The reference of the projection at dilation 4 leaves its arguments alone. -/
theorem frame_phase4_ref : Cert.quiescent_Phase4RefIdeal := by
  intro m ρ _
  exact (θ_run Cert.Phase4RefIdeal.defs _ _).mono
    (fun r h => ⟨fun c => (h c).2, sem_eq_zero_of_no_sems (by decide) r.2⟩) (Cert.Phase4RefIdeal.Value.run (F := Ideal) m ρ)

/-- The result of the projection at dilation 4 is the reference's. -/
theorem phase4_value : Cert.algebraic_Phase4Ideal_Phase4RefIdeal := by
  pair_intro
  · exact Cert.Phase4Ideal.Value.run_blocks m g
  · refine (θ_run Cert.Phase4RefIdeal.defs _ _).mono (fun r h c => ⟨(h c).1.trans ?_, (h c).2⟩)
      (Cert.Phase4RefIdeal.Value.run (F := Ideal) m' g')
    refine (Cert.Phase4RefIdeal.Read.val_main_v46_eq m' c).trans ?_
    obtain ⟨h0, h1, h2, h3, h4, h5⟩ := hagree c
    rw [h0, h1, h2, h3, h4, h5]
    exact (Cert.Phase4Ideal.Result.final m c).symm

/-- The reference of the projection at dilation 16 leaves its arguments alone. -/
theorem frame_phase16_ref : Cert.quiescent_Phase16RefIdeal := by
  intro m ρ _
  exact (θ_run Cert.Phase16RefIdeal.defs _ _).mono
    (fun r h => ⟨fun c => (h c).2, sem_eq_zero_of_no_sems (by decide) r.2⟩) (Cert.Phase16RefIdeal.Value.run (F := Ideal) m ρ)

/-- The result of the projection at dilation 16 is the reference's. -/
theorem phase16_value : Cert.algebraic_Phase16Ideal_Phase16RefIdeal := by
  pair_intro
  · exact Cert.Phase16Ideal.Value.run_blocks m g
  · refine (θ_run Cert.Phase16RefIdeal.defs _ _).mono (fun r h c => ⟨(h c).1.trans ?_, (h c).2⟩)
      (Cert.Phase16RefIdeal.Value.run (F := Ideal) m' g')
    refine (Cert.Phase16RefIdeal.Read.val_main_v46_eq m' c).trans ?_
    obtain ⟨h0, h1, h2, h3, h4, h5⟩ := hagree c
    rw [h0, h1, h2, h3, h4, h5]
    exact (Cert.Phase16Ideal.Result.final m c).symm

/-- The reference of the dilated attention at dilation 16 leaves its arguments alone. -/
theorem frame_dil16_ref : Cert.quiescent_Dil16RefIdeal := by
  intro m ρ _
  exact (θ_run Cert.Dil16RefIdeal.defs _ _).mono
    (fun r h => ⟨fun c => (h c).2.2, sem_eq_zero_of_no_sems (by decide) r.2⟩) (Cert.Dil16RefIdeal.Value.run (F := Ideal) m ρ)

/-- The dilated attention's two results at dilation 16 are the reference's, for finite queries and keys. -/
theorem dil16_value : Cert.algebraic_Dil16Ideal_Dil16RefIdeal_pre_finite16 := by
  pair_intro
  · run_from Cert.Dil16Ideal.Gen.run_main m g
  · refine (θ_run Cert.Dil16RefIdeal.defs _ _).mono (fun r h c => ⟨(h c).1.trans ?_, (h c).2.1.trans ?_, (h c).2.2⟩)
      (Cert.Dil16RefIdeal.Value.run (F := Ideal) m' g')
    · refine (Cert.Dil16RefIdeal.Read.val_main_v38_eq m' c).trans ?_
      rw [hagree c]
      exact (Cert.Dil16Ideal.Result.final5 m c (Cert.Finite.at16 _ (hpre c))).symm
    · refine (Cert.Dil16RefIdeal.Read.val_main_v40_eq m' c).trans ?_
      rw [hagree c]
      exact (Cert.Dil16Ideal.Result.final6 m c (Cert.Finite.at16 _ (hpre c))).symm

/-- The reference of the dilated attention at dilation 1 leaves its arguments alone. -/
theorem frame_dil1_ref : Cert.quiescent_Dil1RefIdeal := by
  intro m ρ _
  exact (θ_run Cert.Dil1RefIdeal.defs _ _).mono
    (fun r h => ⟨fun c => (h c).2.2, sem_eq_zero_of_no_sems (by decide) r.2⟩) (Cert.Dil1RefIdeal.Value.run (F := Ideal) m ρ)

/-- The dilated attention's two results at dilation 1 are the reference's, for finite queries and keys. -/
theorem dil1_value : Cert.algebraic_Dil1Ideal_Dil1RefIdeal_pre_finite1 := by
  pair_intro
  · run_from Cert.Dil1Ideal.Gen.run_main m g
  · refine (θ_run Cert.Dil1RefIdeal.defs _ _).mono (fun r h c => ⟨(h c).1.trans ?_, (h c).2.1.trans ?_, (h c).2.2⟩)
      (Cert.Dil1RefIdeal.Value.run (F := Ideal) m' g')
    · refine (Cert.Dil1RefIdeal.Read.val_main_v38_eq m' c).trans ?_
      rw [(hagree c).1, (hagree c).2]
      exact (Cert.Dil1Ideal.Result.final5 m c (Cert.Finite.at1 _ _ (hpre c))).symm
    · refine (Cert.Dil1RefIdeal.Read.val_main_v40_eq _ _).trans ?_
      rw [(hagree c).1]
      exact (Cert.Dil1Ideal.Result.final6 m c (Cert.Finite.at1 _ _ (hpre c))).symm

/-- The reference of the rotation's tables leaves its argument alone. -/
theorem frame_rope_ref : Cert.quiescent_RopeRefIdeal := by
  intro m ρ _
  exact (θ_run Cert.RopeRefIdeal.defs _ _).mono
    (fun r h => ⟨fun c => (h c).2.2, sem_eq_zero_of_no_sems (by decide) r.2⟩) (Cert.RopeRefIdeal.Value.run (F := Ideal) m ρ)

/-- The rotation's two tables are the reference's. -/
theorem rope_value : Cert.algebraic_RopeIdeal_RopeRefIdeal := by
  pair_intro
  · run_from Cert.RopeIdeal.Gen.run_main m g
  · refine (θ_run Cert.RopeRefIdeal.defs _ _).mono (fun r h c => ⟨(h c).1.trans ?_, (h c).2.1.trans ?_, (h c).2.2⟩)
      (Cert.RopeRefIdeal.Value.run (F := Ideal) m' g')
    · refine (Cert.RopeRefIdeal.Read.val_main_v14_eq _).trans ?_
      rw [hagree c]
      exact (Cert.RopeIdeal.Result.final3 m c).symm
    · refine (Cert.RopeRefIdeal.Read.val_main_v17_eq _).trans ?_
      rw [hagree c]
      exact (Cert.RopeIdeal.Result.final4 m c).symm

/-- The reference of the compression leaves its arguments alone. -/
theorem frame_cmp_ref : Cert.quiescent_CmpRefIdeal := by
  intro m ρ _
  exact (θ_run Cert.CmpRefIdeal.defs _ _).mono
    (fun r h => ⟨fun c => (h c).2.2, sem_eq_zero_of_no_sems (by decide) r.2⟩) (Cert.CmpRefIdeal.Value.run (F := Ideal) m ρ)

/-- The compression's keys and values are the reference's. -/
theorem cmp_value : Cert.algebraic_CmpIdeal_CmpRefIdeal := by
  pair_intro
  · exact Cert.CmpIdeal.Value.run_blocks m g
  · refine (θ_run Cert.CmpRefIdeal.defs _ _).mono (fun r h c => ⟨(h c).1.trans ?_, (h c).2.1.trans ?_, (h c).2.2⟩)
      (Cert.CmpRefIdeal.Value.run (F := Ideal) m' g')
    all_goals obtain ⟨h0, h1, h2, h3, h4, h5, h6, h7, h8⟩ := hagree c
    · refine (Cert.CmpRefIdeal.Read.val_main_v65_eq m' c).trans ?_
      rw [h0, h1, h2, h3, h4, h5, h6, h7, h8]
      exact (Cert.CmpIdeal.Result.final10 m c).symm
    · refine (Cert.CmpRefIdeal.Read.val_main_v67_eq _ _ _ _ _ _).trans ?_
      rw [h0, h3, h4, h5, h6, h7]
      exact (Cert.CmpIdeal.Result.final11 m c).symm

/-- The reference of the convolution module leaves its arguments alone. -/
theorem frame_conv_ref : Cert.quiescent_ConvRefIdeal := by
  intro m ρ _
  exact (θ_run Cert.ConvRefIdeal.defs _ _).mono
    (fun r h => ⟨fun c => (h c).2, sem_eq_zero_of_no_sems (by decide) r.2⟩) (Cert.ConvRefIdeal.Value.run (F := Ideal) m ρ)

/-- The convolution module's result is the reference's. -/
theorem conv_value : Cert.algebraic_ConvIdeal_ConvRefIdeal := by
  pair_intro
  · run_from Cert.ConvIdeal.Run.unchanged m g & Cert.ConvIdeal.Run.run_main m g
  · refine (θ_run Cert.ConvRefIdeal.defs _ _).mono (fun r h c => ⟨(h c).1.trans ?_, (h c).2⟩)
      (Cert.ConvRefIdeal.Value.run (F := Ideal) m' g')
    obtain ⟨h0, h1, h2, h3, h4, h5, h6⟩ := hagree c
    refine (Cert.ConvRefIdeal.Read.val_main_v265_eq _).trans ?_
    rw [show StableHlo.launchContents m' c (Proc.devRef .tc Cert.ConvRefIdeal.main_arg0) = _ from h0,
      show StableHlo.launchContents m' c (Proc.devRef .tc Cert.ConvRefIdeal.main_arg1) = _ from h1,
      show StableHlo.launchContents m' c (Proc.devRef .tc Cert.ConvRefIdeal.main_arg2) = _ from h2,
      show StableHlo.launchContents m' c (Proc.devRef .tc Cert.ConvRefIdeal.main_arg3) = _ from h3,
      show StableHlo.launchContents m' c (Proc.devRef .tc Cert.ConvRefIdeal.main_arg4) = _ from h4,
      show StableHlo.launchContents m' c (Proc.devRef .tc Cert.ConvRefIdeal.main_arg5) = _ from h5,
      show StableHlo.launchContents m' c (Proc.devRef .tc Cert.ConvRefIdeal.main_arg6) = _ from h6]
    exact (Cert.ConvIdeal.Result.final7 m c).symm

theorem claim : Cert.Claim :=
  ⟨Cert.Dil4.Gen.facts, Cert.Dil4Ideal.Gen.facts, Cert.Dil4RefIdeal.Gen.facts, Cert.Ffn.Gen.facts, Cert.FfnIdeal.Gen.facts,
    Cert.FfnRefIdeal.Gen.facts, Cert.Mix.Gen.facts, Cert.MixIdeal.Gen.facts, Cert.MixRefIdeal.Gen.facts,
    Cert.Proj.Gen.facts, Cert.ProjIdeal.Gen.facts, Cert.ProjRefIdeal.Gen.facts, Cert.Phase4.Gen.facts, Cert.Phase4Ideal.Gen.facts,
    Cert.Phase4RefIdeal.Gen.facts, Cert.Phase16.Gen.facts, Cert.Phase16Ideal.Gen.facts, Cert.Phase16RefIdeal.Gen.facts,
    Cert.Dil16.Gen.facts, Cert.Dil16Ideal.Gen.facts, Cert.Dil16RefIdeal.Gen.facts, Cert.Dil1.Gen.facts,
    Cert.Dil1Ideal.Gen.facts, Cert.Dil1RefIdeal.Gen.facts,
    Cert.Rope.Gen.facts, Cert.RopeIdeal.Gen.facts, Cert.RopeRefIdeal.Gen.facts, Cert.Cmp.Gen.facts, Cert.CmpIdeal.Gen.facts,
    Cert.CmpRefIdeal.Gen.facts, Cert.Conv.Gen.facts, Cert.ConvIdeal.Gen.facts, Cert.ConvRefIdeal.Gen.facts,
    Cert.Pre_finite.Gen.facts, Cert.Pre_finite16.Gen.facts,
    Cert.Pre_finite1.Gen.facts,
    fun m ρ _ => Cert.Dil4.Gen.frame m ρ, fun m ρ _ => Cert.Dil4Ideal.Gen.frame m ρ,
    fun m ρ _ => Cert.Dil4Ideal.Gen.frame m ρ, frame_dil_ref, fun m ρ _ => frame_dil_ref m ρ trivial,
    fun m ρ _ => Cert.Ffn.Gen.frame m ρ, fun m ρ _ => Cert.FfnIdeal.Gen.frame m ρ, frame_ffn_ref,
    fun m ρ _ => Cert.Mix.Gen.frame m ρ, fun m ρ _ => Cert.MixIdeal.Gen.frame m ρ, frame_mix_ref,
    fun m ρ _ => Cert.Proj.Gen.frame m ρ, fun m ρ _ => Cert.ProjIdeal.Gen.frame m ρ, frame_proj_ref,
    fun m ρ _ => Cert.Phase4.Gen.frame m ρ, fun m ρ _ => Cert.Phase4Ideal.Gen.frame m ρ, frame_phase4_ref,
    fun m ρ _ => Cert.Phase16.Gen.frame m ρ, fun m ρ _ => Cert.Phase16Ideal.Gen.frame m ρ, frame_phase16_ref,
    fun m ρ _ => Cert.Dil16.Gen.frame m ρ, fun m ρ _ => Cert.Dil16Ideal.Gen.frame m ρ,
    fun m ρ _ => Cert.Dil16Ideal.Gen.frame m ρ, frame_dil16_ref, fun m ρ _ => frame_dil16_ref m ρ trivial,
    fun m ρ _ => Cert.Dil1.Gen.frame m ρ, fun m ρ _ => Cert.Dil1Ideal.Gen.frame m ρ,
    fun m ρ _ => Cert.Dil1Ideal.Gen.frame m ρ, frame_dil1_ref, fun m ρ _ => frame_dil1_ref m ρ trivial,
    fun m ρ _ => Cert.Rope.Gen.frame m ρ, fun m ρ _ => Cert.RopeIdeal.Gen.frame m ρ, frame_rope_ref,
    fun m ρ _ => Cert.Cmp.Gen.frame m ρ, fun m ρ _ => Cert.CmpIdeal.Gen.frame m ρ, frame_cmp_ref,
    fun m ρ _ => Cert.Conv.Run.frame m ρ, fun m ρ _ => Cert.ConvIdeal.Run.frame m ρ, frame_conv_ref,
    trivial, dil_value, trivial, ffn_value, trivial, mix_value, trivial, proj_value,
    trivial, phase4_value, trivial, phase16_value, trivial, dil16_value,
    trivial, dil1_value, trivial, rope_value, trivial, cmp_value,
    trivial, conv_value⟩

end Cert.Proof

end
